-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)) (v2 : (c : Dev Cert.KernelIdeal.nD) → Buf (Elt Ideal) ((c.tc : Thread Cert.KernelIdeal.nD Cert.KernelIdeal.τ).loc Cert.KernelIdeal.main_v25_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_v25_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2)) (v1 : (c : Dev Cert.Kernel2Ideal.nD) → Buf (Elt Ideal) ((c.tc : Thread Cert.Kernel2Ideal.nD Cert.Kernel2Ideal.τ).loc Cert.Kernel2Ideal.main_v7_0)) (v2 : (c : Dev Cert.Kernel2Ideal.nD) → Buf (Elt Ideal) ((c.tc : Thread Cert.Kernel2Ideal.nD Cert.Kernel2Ideal.τ).loc Cert.Kernel2Ideal.main_v7_2)) (v3 : (c : Dev Cert.Kernel2Ideal.nD) → Buf (Elt Ideal) ((c.tc : Thread Cert.Kernel2Ideal.nD Cert.Kernel2Ideal.τ).loc Cert.Kernel2Ideal.main_v6)) (v4 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_v7_0) = v1 c
          ∧ r.2.mem ((c.tc : Thread Cert.Kernel2Ideal.nD Cert.Kernel2Ideal.τ).loc Cert.Kernel2Ideal.main_v7_2) = v2 c
          ∧ r.2.mem ((c.tc : Thread Cert.Kernel2Ideal.nD Cert.Kernel2Ideal.τ).loc Cert.Kernel2Ideal.main_v6) = v3 c
          ∧ r.2.mem ((c.tc : Thread Cert.Kernel2Ideal.nD Cert.Kernel2Ideal.τ).loc Cert.Kernel2Ideal.main_v5) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_v58) = v1 c
          ∧ r.2.mem ((c.tc : Thread Cert.Reference2Ideal.nD Cert.Reference2Ideal.τ).loc Cert.Reference2Ideal.main_v41) = v2 c
          ∧ r.2.mem ((c.tc : Thread Cert.Reference2Ideal.nD Cert.Reference2Ideal.τ).loc Cert.Reference2Ideal.main_v59) = v3 c
          ∧ r.2.mem ((c.tc : Thread Cert.Reference2Ideal.nD Cert.Reference2Ideal.τ).loc Cert.Reference2Ideal.main_v60) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v54_0)) (v1 : (c : Dev Cert.Kernel3Ideal.nD) → Buf (Elt Ideal) ((c.tc : Thread Cert.Kernel3Ideal.nD Cert.Kernel3Ideal.τ).loc Cert.Kernel3Ideal.main_v54_1)) (v2 : (c : Dev Cert.Kernel3Ideal.nD) → Buf (Elt Ideal) ((c.tc : Thread Cert.Kernel3Ideal.nD Cert.Kernel3Ideal.τ).loc Cert.Kernel3Ideal.main_v54_2)) (v3 : (c : Dev Cert.Kernel3Ideal.nD) → Buf (Elt Ideal) ((c.tc : Thread Cert.Kernel3Ideal.nD Cert.Kernel3Ideal.τ).loc Cert.Kernel3Ideal.main_v54_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v54_0) = v0 c
          ∧ r.2.mem ((c.tc : Thread Cert.Kernel3Ideal.nD Cert.Kernel3Ideal.τ).loc Cert.Kernel3Ideal.main_v54_1) = v1 c
          ∧ r.2.mem ((c.tc : Thread Cert.Kernel3Ideal.nD Cert.Kernel3Ideal.τ).loc Cert.Kernel3Ideal.main_v54_2) = v2 c
          ∧ r.2.mem ((c.tc : Thread Cert.Kernel3Ideal.nD Cert.Kernel3Ideal.τ).loc Cert.Kernel3Ideal.main_v54_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v95) = v0 c
          ∧ r.2.mem ((c.tc : Thread Cert.Reference3Ideal.nD Cert.Reference3Ideal.τ).loc Cert.Reference3Ideal.main_v93) = v1 c
          ∧ r.2.mem ((c.tc : Thread Cert.Reference3Ideal.nD Cert.Reference3Ideal.τ).loc Cert.Reference3Ideal.main_v91) = v2 c
          ∧ r.2.mem ((c.tc : Thread Cert.Reference3Ideal.nD Cert.Reference3Ideal.τ).loc Cert.Reference3Ideal.main_v96) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
-- ==== Pre_finite.lean ====
abbrev S4096x3072 : Shape := ⟨2, ![4096, 3072]⟩
abbrev S4096x1024 : Shape := ⟨2, ![4096, 1024]⟩
abbrev S_ : Shape := ⟨0, ![]⟩

class Facts : Prop where
  bitsLt_bf16_f32 : FTy.bits .bf16 < FTy.bits .f32
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x3072 .bf16) (main_arg1 : FVec F S4096x1024 .f32) : IVec S_ 1 :=
  let main_v0 : FVec F S4096x3072 .f32 := (extf .f32 · bitsLt_bf16_f32) main_arg0
  let main_v1 : FVec F S4096x3072 .f32 := Host.absf main_v0
  let main_cst : FVec F S_ .f32 := constant S_ .f32 0x7F800000#32
  let main_v2 : FVec F S4096x3072 .f32 := broadcastInDim S4096x3072 ![] bcast_S_S4096x3072 main_cst
  let main_v3 : IVec S4096x3072 1 := cmpf .olt main_v1 main_v2
  let main_c : IVec S_ 1 := constantI S_ 1 1#1
  let main_v4 : IVec S_ 1 := (fun x v => Host.reduce IntOp.andi x v reducesTo_S4096x3072_S_d0_1 h_S_) main_v3 main_c
  let main_v5 : FVec F S4096x1024 .f32 := Host.absf main_arg1
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_c_1 : IVec S_ 1 := constantI S_ 1 1#1
  let main_v8 : IVec S_ 1 := (fun x v => Host.reduce IntOp.andi x v reducesTo_S4096x1024_S_d0_1 h_S_) main_v7 main_c_1
  let main_v9 : IVec S_ 1 := andi main_v4 main_v8
  main_v9
-- ==== Pre_finite3.lean ====
abbrev S4096x512 : Shape := ⟨2, ![4096, 512]⟩
abbrev S4096x128 : Shape := ⟨2, ![4096, 128]⟩
abbrev S_ : Shape := ⟨0, ![]⟩
abbrev S4096x4 : Shape := ⟨2, ![4096, 4]⟩

class Facts : Prop where
  bitsLt_bf16_f32 : FTy.bits .bf16 < FTy.bits .f32
  bcast_S_S4096x512 : S_.BroadcastsInDim S4096x512 (![] : Fin 0 → Fin S4096x512.rank)
  reducesTo_S4096x512_S_d0_1 : S4096x512.ReducesTo [0, 1] S_
  h_S_ : 0 < S_.numel
  slices_S4096x128_S4096x4_0_8 : S4096x128.Slices ![0, 8] S4096x4
  bcast_S_S4096x4 : S_.BroadcastsInDim S4096x4 (![] : Fin 0 → Fin S4096x4.rank)
  reducesTo_S4096x4_S_d0_1 : S4096x4.ReducesTo [0, 1] S_

variable [Facts]

def fn_part1 {F : FTy → Type} [FloatOps F] (main_arg4 : FVec F S4096x512 .f32) (main_v16 : IVec S_ 1) (main_v17 : FVec F S4096x4 .f32) : IVec S_ 1 :=
  let main_v18 : FVec F S4096x4 .f32 := Host.absf main_v17
  let main_cst_4 : FVec F S_ .f32 := constant S_ .f32 0x7F800000#32
  let main_v19 : FVec F S4096x4 .f32 := broadcastInDim S4096x4 ![] bcast_S_S4096x4 main_cst_4
  let main_v20 : IVec S4096x4 1 := cmpf .olt main_v18 main_v19
  let main_c_5 : IVec S_ 1 := constantI S_ 1 1#1
  let main_v21 : IVec S_ 1 := (fun x v => Host.reduce IntOp.andi x v reducesTo_S4096x4_S_d0_1 h_S_) main_v20 main_c_5
  let main_v22 : IVec S_ 1 := andi main_v16 main_v21
  let main_v23 : FVec F S4096x512 .f32 := Host.absf main_arg4
  let main_cst_6 : FVec F S_ .f32 := constant S_ .f32 0x7F800000#32
  let main_v24 : FVec F S4096x512 .f32 := broadcastInDim S4096x512 ![] bcast_S_S4096x512 main_cst_6
  let main_v25 : IVec S4096x512 1 := cmpf .olt main_v23 main_v24
  let main_c_7 : IVec S_ 1 := constantI S_ 1 1#1
  let main_v26 : IVec S_ 1 := (fun x v => Host.reduce IntOp.andi x v reducesTo_S4096x512_S_d0_1 h_S_) main_v25 main_c_7
  let main_v27 : IVec S_ 1 := andi main_v22 main_v26
  main_v27

def fn {F : FTy → Type} [FloatOps F] (main_arg0 : FVec F S4096x512 .bf16) (main_arg1 : FVec F S4096x512 .bf16) (main_arg2 : FVec F S4096x512 .bf16) (main_arg3 : FVec F S4096x128 .f32) (main_arg4 : FVec F S4096x512 .f32) : IVec S_ 1 :=
  let main_v0 : FVec F S4096x512 .f32 := (extf .f32 · bitsLt_bf16_f32) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_c : IVec S_ 1 := constantI S_ 1 1#1
  let main_v4 : IVec S_ 1 := (fun x v => Host.reduce IntOp.andi x v reducesTo_S4096x512_S_d0_1 h_S_) main_v3 main_c
  let main_v5 : FVec F S4096x512 .f32 := (extf .f32 · bitsLt_bf16_f32) main_arg1
  let main_v6 : FVec F S4096x512 .f32 := Host.absf main_v5
  let main_cst_0 : FVec F S_ .f32 := constant S_ .f32 0x7F800000#32
  let main_v7 : FVec F S4096x512 .f32 := broadcastInDim S4096x512 ![] bcast_S_S4096x512 main_cst_0
  let main_v8 : IVec S4096x512 1 := cmpf .olt main_v6 main_v7
  let main_c_1 : IVec S_ 1 := constantI S_ 1 1#1
  let main_v9 : IVec S_ 1 := (fun x v => Host.reduce IntOp.andi x v reducesTo_S4096x512_S_d0_1 h_S_) main_v8 main_c_1
  let main_v10 : IVec S_ 1 := andi main_v4 main_v9
  let main_v11 : FVec F S4096x512 .f32 := (extf .f32 · bitsLt_bf16_f32) main_arg2
  let main_v12 : FVec F S4096x512 .f32 := Host.absf main_v11
  let main_cst_2 : FVec F S_ .f32 := constant S_ .f32 0x7F800000#32
  let main_v13 : FVec F S4096x512 .f32 := broadcastInDim S4096x512 ![] bcast_S_S4096x512 main_cst_2
  let main_v14 : IVec S4096x512 1 := cmpf .olt main_v12 main_v13
  let main_c_3 : IVec S_ 1 := constantI S_ 1 1#1
  let main_v15 : IVec S_ 1 := (fun x v => Host.reduce IntOp.andi x v reducesTo_S4096x512_S_d0_1 h_S_) main_v14 main_c_3
  let main_v16 : IVec S_ 1 := andi main_v10 main_v15
  let main_v17 : FVec F S4096x4 .f32 := (extractStridedSlice S4096x4 ![0, 8] · slices_S4096x128_S4096x4_0_8) main_arg3
  fn_part1 (F := F) main_arg4 main_v16 main_v17
-- ==== Kernel.lean ====
abbrev S4096x3072 : Shape := ⟨2, ![4096, 3072]⟩
abbrev S4096x1024 : Shape := ⟨2, ![4096, 1024]⟩
abbrev S4096x8x128 : Shape := ⟨3, ![4096, 8, 128]⟩
abbrev S8x4096x128 : Shape := ⟨3, ![8, 4096, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096x16 : Shape := ⟨3, ![8, 4096, 16]⟩
abbrev S8x16x4096 : Shape := ⟨3, ![8, 16, 4096]⟩
abbrev S128x4096 : Shape := ⟨2, ![128, 4096]⟩
abbrev S512x128 : Shape := ⟨2, ![512, 128]⟩
abbrev S4096x128 : Shape := ⟨2, ![4096, 128]⟩
abbrev S16x512 : Shape := ⟨2, ![16, 512]⟩
abbrev S256x256 : Shape := ⟨2, ![256, 256]⟩
abbrev S128x128 : Shape := ⟨2, ![128, 128]⟩
abbrev S128x256 : Shape := ⟨2, ![128, 256]⟩
abbrev S128x1 : Shape := ⟨2, ![128, 1]⟩
abbrev S256x128 : Shape := ⟨2, ![256, 128]⟩
abbrev S1x512 : Shape := ⟨2, ![1, 512]⟩
abbrev S1x128 : Shape := ⟨2, ![1, 128]⟩
abbrev S128 : Shape := ⟨1, ![128]⟩

abbrev nBuf : Space → Nat
  | .hbm => 52
  | .vmem => 16
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .f32⟩
  | .hbm, ⟨2, _⟩ => ⟨S4096x3072, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x8x128, .f32⟩
  | .hbm, ⟨7, _⟩ => ⟨S8x4096x128, .f32⟩
  | .hbm, ⟨8, _⟩ => ⟨S4096x8x128, .f32⟩
  | .hbm, ⟨9, _⟩ => ⟨S8x4096x128, .f32⟩
  | .hbm, ⟨10, _⟩ => ⟨S8x4096x4096, .f32⟩
  | .hbm, ⟨11, _⟩ => ⟨S_, .f32⟩
  | .hbm, ⟨12, _⟩ => ⟨S8x4096x4096, .f32⟩
  | .hbm, ⟨13, _⟩ => ⟨S8x4096x4096, .f32⟩
  | .hbm, ⟨14, _⟩ => ⟨S4096, .i32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S8x4096x4096, .i1⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S_, .f32⟩
  | .hbm, ⟨38, _⟩ => ⟨S_, .f32⟩
  | .hbm, ⟨39, _⟩ => ⟨S8x4096x4096, .i1⟩
  | .hbm, ⟨40, _⟩ => ⟨S8x4096x4096, .f32⟩
  | .hbm, ⟨41, _⟩ => ⟨S8x4096x4096, .f32⟩
  | .hbm, ⟨42, _⟩ => ⟨S_, .f32⟩
  | .hbm, ⟨43, _⟩ => ⟨S_, .f32⟩
  | .hbm, ⟨44, _⟩ => ⟨S8x4096x4096, .f32⟩
  | .hbm, ⟨45, _⟩ => ⟨S8x4096x4096, .f32⟩
  | .hbm, ⟨46, _⟩ => ⟨S8x4096x16, .f32⟩
  | .hbm, ⟨47, _⟩ => ⟨S8x16x4096, .f32⟩
  | .hbm, ⟨48, _⟩ => ⟨S128x4096, .f32⟩
  | .hbm, ⟨49, _⟩ => ⟨S4096x1024, .f32⟩
  | .hbm, ⟨50, _⟩ => ⟨S4096x1024, .f32⟩
  | .hbm, ⟨51, _⟩ => ⟨S4096x1024, .f32⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S16x512, .f32⟩
  | .local _ .vmem, ⟨7, _⟩ => ⟨S16x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v18 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v19 : Ref sig .tc := ⟨.hbm, 41, rfl⟩
abbrev main_call2_cst : Ref sig .tc := ⟨.hbm, 42, rfl⟩
abbrev main_call2_v0 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25_0 : Ref sig .tc := ⟨.hbm, 49, rfl⟩
abbrev main_v25_1 : Ref sig .tc := ⟨.hbm, 50, rfl⟩
abbrev main_v25_2 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_22 : BitVec 32 := 0#32
  let arg1 : BitVec 32 := BitVec.ofNat 32 (i 1).val
  let c2_i32 : BitVec 32 := 2#32
  let v63 : BitVec 32 := Scalar.muli arg1 c2_i32
  let v64 : BitVec 32 := Scalar.subi v63 c0_i32_22
  let c1_i32 : BitVec 32 := 1#32
  let v66 : BitVec 32 := Scalar.divsi v64 c1_i32
  let v67 : BitVec 32 := Scalar.muli v66 c1_i32
  let v68 : BitVec 32 := Scalar.addi c0_i32_22 v67
  let c1_i32_23 : BitVec 32 := 1#32
  ⟨c0_i32_22, v68, c1_i32_23⟩
def k0_mult1 (i : grid0.Coords) (k0_t1 : Fin (k0_t1_loop i).trips) : BitVec 32 :=
  let c0_i32_22 : BitVec 32 := 0#32
  let c1_i32_23 : BitVec 32 := 1#32
  let arg10 : BitVec 32 := Scf.iv c0_i32_22 c1_i32_23 k0_t1
  let c256_i32_149 : BitVec 32 := 256#32
  let v429 : BitVec 32 := Scalar.muli arg10 c256_i32_149
  v429
def k0_off1 (i : grid0.Coords) (k0_t1 : Fin (k0_t1_loop i).trips) : Fin 2 → Nat :=
  let c0_i32_22 : BitVec 32 := 0#32
  let c1_i32_23 : BitVec 32 := 1#32
  let arg10 : BitVec 32 := Scf.iv c0_i32_22 c1_i32_23 k0_t1
  let c256_i32_149 : BitVec 32 := 256#32
  let v429 : BitVec 32 := Scalar.muli arg10 c256_i32_149
  let v430 : BitVec 32 := v429
  let v431 : Index := Scalar.indexCast v430
  let c0_150 : Index := 0#32
  ![v431.toNat, 0]
def k0_off2 (i : grid0.Coords) (k0_t1 : Fin (k0_t1_loop i).trips) : Fin 2 → Nat :=
  let c0_i32_22 : BitVec 32 := 0#32
  let c1_i32_23 : BitVec 32 := 1#32
  let arg10 : BitVec 32 := Scf.iv c0_i32_22 c1_i32_23 k0_t1
  let v483 : Index := Scalar.indexCast arg10
  let c0_168 : Index := 0#32
  ![v483.toNat, 0]
@[reducible] def k0_t2_loop (i : grid0.Coords) : Scf.Loop 32 :=
  let c0_i32_22 : BitVec 32 := 0#32
  let arg1 : BitVec 32 := BitVec.ofNat 32 (i 1).val
  let c2_i32 : BitVec 32 := 2#32
  let v63 : BitVec 32 := Scalar.muli arg1 c2_i32
  let v64 : BitVec 32 := Scalar.subi v63 c0_i32_22
  let c1_i32 : BitVec 32 := 1#32
  let v66 : BitVec 32 := Scalar.divsi v64 c1_i32
  let v67 : BitVec 32 := Scalar.muli v66 c1_i32
  let v68 : BitVec 32 := Scalar.addi c0_i32_22 v67
  let v65 : BitVec 32 := Scalar.addi c0_i32_22 v64
  let c1_i32_24 : BitVec 32 := 1#32
  ⟨v68, v65, c1_i32_24⟩
def k0_mult2 (i : grid0.Coords) (k0_t2 : Fin (k0_t2_loop i).trips) : BitVec 32 :=
  let c0_i32_22 : BitVec 32 := 0#32
  let arg1 : BitVec 32 := BitVec.ofNat 32 (i 1).val
  let c2_i32 : BitVec 32 := 2#32
  let v63 : BitVec 32 := Scalar.muli arg1 c2_i32
  let v64 : BitVec 32 := Scalar.subi v63 c0_i32_22
  let c1_i32 : BitVec 32 := 1#32
  let v66 : BitVec 32 := Scalar.divsi v64 c1_i32
  let v67 : BitVec 32 := Scalar.muli v66 c1_i32
  let v68 : BitVec 32 := Scalar.addi c0_i32_22 v67
  let c1_i32_24 : BitVec 32 := 1#32
  let arg10 : BitVec 32 := Scf.iv v68 c1_i32_24 k0_t2
  let c256_i32_149 : BitVec 32 := 256#32
  let v429 : BitVec 32 := Scalar.muli arg10 c256_i32_149
  v429
def k0_off3 (i : grid0.Coords) (k0_t2 : Fin (k0_t2_loop i).trips) : Fin 2 → Nat :=
  let c0_i32_22 : BitVec 32 := 0#32
  let arg1 : BitVec 32 := BitVec.ofNat 32 (i 1).val
  let c2_i32 : BitVec 32 := 2#32
  let v63 : BitVec 32 := Scalar.muli arg1 c2_i32
  let v64 : BitVec 32 := Scalar.subi v63 c0_i32_22
  let c1_i32 : BitVec 32 := 1#32
  let v66 : BitVec 32 := Scalar.divsi v64 c1_i32
  let v67 : BitVec 32 := Scalar.muli v66 c1_i32
  let v68 : BitVec 32 := Scalar.addi c0_i32_22 v67
  let c1_i32_24 : BitVec 32 := 1#32
  let arg10 : BitVec 32 := Scf.iv v68 c1_i32_24 k0_t2
  let c256_i32_149 : BitVec 32 := 256#32
  let v429 : BitVec 32 := Scalar.muli arg10 c256_i32_149
  let v430 : BitVec 32 := v429
  let v431 : Index := Scalar.indexCast v430
  let c0_150 : Index := 0#32
  ![v431.toNat, 0]
def k0_off4 (i : grid0.Coords) (k0_t2 : Fin (k0_t2_loop i).trips) : Fin 2 → Nat :=
  let c0_i32_22 : BitVec 32 := 0#32
  let arg1 : BitVec 32 := BitVec.ofNat 32 (i 1).val
  let c2_i32 : BitVec 32 := 2#32
  let v63 : BitVec 32 := Scalar.muli arg1 c2_i32
  let v64 : BitVec 32 := Scalar.subi v63 c0_i32_22
  let c1_i32 : BitVec 32 := 1#32
  let v66 : BitVec 32 := Scalar.divsi v64 c1_i32
  let v67 : BitVec 32 := Scalar.muli v66 c1_i32
  let v68 : BitVec 32 := Scalar.addi c0_i32_22 v67
  let c1_i32_24 : BitVec 32 := 1#32
  let arg10 : BitVec 32 := Scf.iv v68 c1_i32_24 k0_t2
  let v483 : Index := Scalar.indexCast arg10
  let c0_168 : Index := 0#32
  ![v483.toNat, 0]
def k0_mult3 (i : grid0.Coords) : BitVec 32 :=
  let arg1 : BitVec 32 := BitVec.ofNat 32 (i 1).val
  let c2_i32_25 : BitVec 32 := 2#32
  let v71 : BitVec 32 := Scalar.muli arg1 c2_i32_25
  let c0_i32_26 : BitVec 32 := 0#32
  let v72 : BitVec 32 := Scalar.addi v71 c0_i32_26
  let c256_i32_27 : BitVec 32 := 256#32
  let v73 : BitVec 32 := Scalar.muli v72 c256_i32_27
  v73
def k0_off5 (i : grid0.Coords) (c0_i32_26 : BitVec 32) : Fin 2 → Nat :=
  let arg1 : BitVec 32 := BitVec.ofNat 32 (i 1).val
  let c2_i32_25 : BitVec 32 := 2#32
  let v71 : BitVec 32 := Scalar.muli arg1 c2_i32_25
  let v72 : BitVec 32 := Scalar.addi v71 c0_i32_26
  let c256_i32_27 : BitVec 32 := 256#32
  let v73 : BitVec 32 := Scalar.muli v72 c256_i32_27
  let v74 : BitVec 32 := v73
  let v75 : Index := Scalar.indexCast v74
  let c0_28 : Index := 0#32
  ![v75.toNat, 0]
def k0_off6 (i : grid0.Coords) (c0_i32_26 : BitVec 32) : Fin 2 → Nat :=
  let arg1 : BitVec 32 := BitVec.ofNat 32 (i 1).val
  let c2_i32_25 : BitVec 32 := 2#32
  let v71 : BitVec 32 := Scalar.muli arg1 c2_i32_25
  let v72 : BitVec 32 := Scalar.addi v71 c0_i32_26
  let v143 : Index := Scalar.indexCast v72
  let c0_51 : Index := 0#32
  ![v143.toNat, 0]
def k0_mult4 (i : grid0.Coords) : BitVec 32 :=
  let arg1 : BitVec 32 := BitVec.ofNat 32 (i 1).val
  let c2_i32_96 : BitVec 32 := 2#32
  let v294 : BitVec 32 := Scalar.muli arg1 c2_i32_96
  let c1_i32_97 : BitVec 32 := 1#32
  let v295 : BitVec 32 := Scalar.addi v294 c1_i32_97
  let c256_i32_98 : BitVec 32 := 256#32
  let v296 : BitVec 32 := Scalar.muli v295 c256_i32_98
  v296
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S4096x3072 : Shape := ⟨2, ![4096, 3072]⟩
abbrev S4096x1024 : Shape := ⟨2, ![4096, 1024]⟩
abbrev S4096x8x128 : Shape := ⟨3, ![4096, 8, 128]⟩
abbrev S8x4096x128 : Shape := ⟨3, ![8, 4096, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x128x4096 : Shape := ⟨3, ![8, 128, 4096]⟩

abbrev nBuf : Space → Nat
  | .hbm => 178
  | .vmem => 0
  | .smem => 0
  | _ => 0

abbrev hbmTy0_0 (i : Nat) : BufTy := match i % 128 with
  | 0 => ⟨S4096x3072, .bf16⟩
  | 1 => ⟨S4096x1024, .f32⟩
  | 2 => ⟨S4096x3072, .f32⟩
  | 3 => ⟨S4096x1024, .f32⟩
  | 4 => ⟨S4096x1024, .f32⟩
  | 5 => ⟨S4096x1024, .f32⟩
  | 6 => ⟨S4096x8x128, .f32⟩
  | 7 => ⟨S8x4096x128, .f32⟩
  | 8 => ⟨S4096x8x128, .f32⟩
  | 9 => ⟨S8x4096x128, .f32⟩
  | 10 => ⟨S4096x8x128, .f32⟩
  | 11 => ⟨S8x4096x128, .f32⟩
  | 12 => ⟨S8x4096x4096, .f32⟩
  | 13 => ⟨S_, .f32⟩
  | 14 => ⟨S8x4096x4096, .f32⟩
  | 15 => ⟨S8x4096x4096, .f32⟩
  | 16 => ⟨S4096, .i32⟩
  | 17 => ⟨S1x4096, .i32⟩
  | 18 => ⟨S4096x1, .i32⟩
  | 19 => ⟨S4096x4096, .i32⟩
  | 20 => ⟨S4096x4096, .i32⟩
  | 21 => ⟨S4096x4096, .i1⟩
  | 22 => ⟨S8x4096x4096, .f32⟩
  | 23 => ⟨S8x4096x4096, .f32⟩
  | 24 => ⟨S_, .f32⟩
  | 25 => ⟨S8x4096x4096, .f32⟩
  | 26 => ⟨S8x4096x4096, .f32⟩
  | 27 => ⟨S8x4096x4096, .f32⟩
  | 28 => ⟨S8x4096x4096, .f32⟩
  | 29 => ⟨S8x4096x4096, .i1⟩
  | 30 => ⟨S8x4096x4096, .f32⟩
  | 31 => ⟨S8x4096x4096, .f32⟩
  | 32 => ⟨S8x4096x4096, .f32⟩
  | 33 => ⟨S8x4096x4096, .f32⟩
  | 34 => ⟨S8x4096x4096, .f32⟩
  | 35 => ⟨S8x4096x4096, .f32⟩
  | 36 => ⟨S8x4096x4096, .f32⟩
  | 37 => ⟨S8x4096x4096, .f32⟩
  | 38 => ⟨S_, .f32⟩
  | 39 => ⟨S8x4096x4096, .f32⟩
  | 40 => ⟨S8x4096x4096, .i1⟩
  | 41 => ⟨S_, .f32⟩
  | 42 => ⟨S8x4096x4096, .f32⟩
  | 43 => ⟨S8x4096x4096, .f32⟩
  | 44 => ⟨S_, .f32⟩
  | 45 => ⟨S8x4096x4096, .f32⟩
  | 46 => ⟨S8x4096x4096, .i1⟩
  | 47 => ⟨S_, .f32⟩
  | 48 => ⟨S8x4096x4096, .f32⟩
  | 49 => ⟨S8x4096x4096, .f32⟩
  | 50 => ⟨S8x4096x4096, .f32⟩
  | 51 => ⟨S8x4096x4096, .f32⟩
  | 52 => ⟨S_, .f32⟩
  | 53 => ⟨S_, .f32⟩
  | 54 => ⟨S_, .i1⟩
  | 55 => ⟨S_, .f32⟩
  | 56 => ⟨S_, .f32⟩
  | 57 => ⟨S_, .f32⟩
  | 58 => ⟨S_, .f32⟩
  | 59 => ⟨S8x4096x4096, .f32⟩
  | 60 => ⟨S8x4096x4096, .i1⟩
  | 61 => ⟨S_, .f32⟩
  | 62 => ⟨S8x4096x4096, .f32⟩
  | 63 => ⟨S8x4096x4096, .f32⟩
  | 64 => ⟨S8x4096x4096, .f32⟩
  | 65 => ⟨S8x4096x4096, .f32⟩
  | 66 => ⟨S8x4096x4096, .f32⟩
  | 67 => ⟨S_, .f32⟩
  | 68 => ⟨S8x4096x4096, .f32⟩
  | 69 => ⟨S8x4096x4096, .f32⟩
  | 70 => ⟨S8x4096x4096, .f32⟩
  | 71 => ⟨S_, .f32⟩
  | 72 => ⟨S_, .f32⟩
  | 73 => ⟨S8x4096x4096, .i1⟩
  | 74 => ⟨S8x4096x4096, .f32⟩
  | 75 => ⟨S8x4096x4096, .f32⟩
  | 76 => ⟨S_, .f32⟩
  | 77 => ⟨S8x4096x4096, .f32⟩
  | 78 => ⟨S_, .f32⟩
  | 79 => ⟨S_, .f32⟩
  | 80 => ⟨S8x4096x4096, .f32⟩
  | 81 => ⟨S8x4096x4096, .f32⟩
  | 82 => ⟨S8x4096x4096, .f32⟩
  | 83 => ⟨S_, .f32⟩
  | 84 => ⟨S8x4096x4096, .f32⟩
  | 85 => ⟨S8x4096x4096, .f32⟩
  | 86 => ⟨S8x4096x4096, .f32⟩
  | 87 => ⟨S8x4096x4096, .f32⟩
  | 88 => ⟨S8x4096x4096, .i1⟩
  | 89 => ⟨S8x4096x4096, .f32⟩
  | 90 => ⟨S8x4096x4096, .f32⟩
  | 91 => ⟨S8x4096x4096, .f32⟩
  | 92 => ⟨S8x4096x4096, .f32⟩
  | 93 => ⟨S8x4096x4096, .f32⟩
  | 94 => ⟨S8x4096x4096, .f32⟩
  | 95 => ⟨S8x4096x4096, .f32⟩
  | 96 => ⟨S8x4096x4096, .f32⟩
  | 97 => ⟨S_, .f32⟩
  | 98 => ⟨S8x4096x4096, .f32⟩
  | 99 => ⟨S8x4096x4096, .i1⟩
  | 100 => ⟨S_, .f32⟩
  | 101 => ⟨S8x4096x4096, .f32⟩
  | 102 => ⟨S8x4096x4096, .f32⟩
  | 103 => ⟨S_, .f32⟩
  | 104 => ⟨S8x4096x4096, .f32⟩
  | 105 => ⟨S8x4096x4096, .i1⟩
  | 106 => ⟨S_, .f32⟩
  | 107 => ⟨S8x4096x4096, .f32⟩
  | 108 => ⟨S8x4096x4096, .f32⟩
  | 109 => ⟨S8x4096x4096, .f32⟩
  | 110 => ⟨S8x4096x4096, .f32⟩
  | 111 => ⟨S_, .f32⟩
  | 112 => ⟨S_, .f32⟩
  | 113 => ⟨S_, .i1⟩
  | 114 => ⟨S_, .f32⟩
  | 115 => ⟨S_, .f32⟩
  | 116 => ⟨S_, .f32⟩
  | 117 => ⟨S_, .f32⟩
  | 118 => ⟨S8x4096x4096, .f32⟩
  | 119 => ⟨S8x4096x4096, .i1⟩
  | 120 => ⟨S_, .f32⟩
  | 121 => ⟨S8x4096x4096, .f32⟩
  | 122 => ⟨S8x4096x4096, .f32⟩
  | 123 => ⟨S8x4096x4096, .f32⟩
  | 124 => ⟨S8x4096x4096, .f32⟩
  | 125 => ⟨S8x4096x4096, .f32⟩
  | 126 => ⟨S_, .f32⟩
  | 127 => ⟨S8x4096x4096, .f32⟩
  | _ => ⟨S4096x3072, .bf16⟩

abbrev hbmTy0_1 (i : Nat) : BufTy := match i % 128 with
  | 0 => ⟨S8x4096x4096, .f32⟩
  | 1 => ⟨S8x4096x4096, .f32⟩
  | 2 => ⟨S8x4096x4096, .f32⟩
  | 3 => ⟨S8x4096x4096, .f32⟩
  | 4 => ⟨S_, .f32⟩
  | 5 => ⟨S_, .f32⟩
  | 6 => ⟨S8x4096x4096, .i1⟩
  | 7 => ⟨S8x4096x4096, .f32⟩
  | 8 => ⟨S8x4096x4096, .f32⟩
  | 9 => ⟨S_, .f32⟩
  | 10 => ⟨S8x4096x4096, .f32⟩
  | 11 => ⟨S8x4096x128, .f32⟩
  | 12 => ⟨S4096x8x128, .f32⟩
  | 13 => ⟨S4096x1024, .f32⟩
  | 14 => ⟨S4096x8x128, .f32⟩
  | 15 => ⟨S8x4096x128, .f32⟩
  | 16 => ⟨S8x128x4096, .f32⟩
  | 17 => ⟨S8x4096x128, .f32⟩
  | 18 => ⟨S8x4096x4096, .f32⟩
  | 19 => ⟨S_, .f32⟩
  | 20 => ⟨S8x4096x4096, .f32⟩
  | 21 => ⟨S8x4096x4096, .f32⟩
  | 22 => ⟨S8x4096x4096, .f32⟩
  | 23 => ⟨S8x4096x4096, .f32⟩
  | 24 => ⟨S8x4096x4096, .f32⟩
  | 25 => ⟨S8x4096x4096, .f32⟩
  | 26 => ⟨S8x4096x4096, .f32⟩
  | 27 => ⟨S_, .f32⟩
  | 28 => ⟨S_, .f32⟩
  | 29 => ⟨S8x4096x4096, .f32⟩
  | 30 => ⟨S8x4096x4096, .f32⟩
  | 31 => ⟨S_, .f32⟩
  | 32 => ⟨S8x4096x4096, .f32⟩
  | 33 => ⟨S8x4096x4096, .f32⟩
  | 34 => ⟨S8x4096x4096, .f32⟩
  | 35 => ⟨S8x4096x4096, .f32⟩
  | 36 => ⟨S8x4096x4096, .f32⟩
  | 37 => ⟨S8x4096x4096, .f32⟩
  | 38 => ⟨S8x4096x4096, .f32⟩
  | 39 => ⟨S_, .f32⟩
  | 40 => ⟨S8x4096x4096, .f32⟩
  | 41 => ⟨S8x4096x4096, .f32⟩
  | 42 => ⟨S8x4096x128, .f32⟩
  | 43 => ⟨S8x4096x128, .f32⟩
  | 44 => ⟨S4096x8x128, .f32⟩
  | 45 => ⟨S4096x1024, .f32⟩
  | 46 => ⟨S4096x8x128, .f32⟩
  | 47 => ⟨S4096x1024, .f32⟩
  | 48 => ⟨S4096x8x128, .f32⟩
  | 49 => ⟨S4096x1024, .f32⟩
  | _ => ⟨S4096x3072, .bf16⟩

abbrev hbmTy (i : Nat) : BufTy := match i / 128 with
  | 0 => hbmTy0_0 i
  | 1 => hbmTy0_1 i
  | _ => ⟨S4096x3072, .bf16⟩

abbrev bufTy : (tb : Table) → Fin (tcTables nBuf tb) → BufTy
  | .hbm, ⟨i, _⟩ => hbmTy i
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1_0 : Ref sig .tc := ⟨.hbm, 37, rfl⟩
abbrev main_call0_call0_cst_0 : Ref sig .tc := ⟨.hbm, 38, rfl⟩
abbrev main_call0_call0_v13 : Ref sig .tc := ⟨.hbm, 39, rfl⟩
abbrev main_call0_call0_v14 : Ref sig .tc := ⟨.hbm, 40, rfl⟩
abbrev main_call0_call0_cst_1 : Ref sig .tc := ⟨.hbm, 41, rfl⟩
abbrev main_call0_call0_v15 : Ref sig .tc := ⟨.hbm, 42, rfl⟩
abbrev main_call0_call0_v16 : Ref sig .tc := ⟨.hbm, 43, rfl⟩
abbrev main_call0_call0_cst_2 : Ref sig .tc := ⟨.hbm, 44, rfl⟩
abbrev main_call0_call0_v17 : Ref sig .tc := ⟨.hbm, 45, rfl⟩
abbrev main_call0_call0_v18 : Ref sig .tc := ⟨.hbm, 46, rfl⟩
abbrev main_call0_call0_cst_3 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_v21 : Ref sig .tc := ⟨.hbm, 50, rfl⟩
abbrev main_v20_1 : Ref sig .tc := ⟨.hbm, 51, rfl⟩
abbrev main_call0_call0_cst_4 : Ref sig .tc := ⟨.hbm, 52, rfl⟩
abbrev main_call0_call0_cst_5 : Ref sig .tc := ⟨.hbm, 53, rfl⟩
abbrev main_call0_call0_v23 : Ref sig .tc := ⟨.hbm, 54, rfl⟩
abbrev main_call0_call0_cst_6 : Ref sig .tc := ⟨.hbm, 55, rfl⟩
abbrev main_call0_call0_cst_7 : Ref sig .tc := ⟨.hbm, 56, rfl⟩
abbrev main_call0_call0_v24 : Ref sig .tc := ⟨.hbm, 57, rfl⟩
abbrev main_call0_call0_cst_8 : Ref sig .tc := ⟨.hbm, 58, rfl⟩
abbrev main_call0_call0_v25 : Ref sig .tc := ⟨.hbm, 59, rfl⟩
abbrev main_call0_call0_v26 : Ref sig .tc := ⟨.hbm, 60, rfl⟩
abbrev main_call0_call0_cst_9 : Ref sig .tc := ⟨.hbm, 61, rfl⟩
abbrev main_call0_call0_v27 : Ref sig .tc := ⟨.hbm, 62, rfl⟩
abbrev main_call0_call0_v28 : Ref sig .tc := ⟨.hbm, 63, rfl⟩
abbrev main_call0_call0_v29 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_cst_10 : Ref sig .tc := ⟨.hbm, 67, rfl⟩
abbrev main_call0_call0_v32 : Ref sig .tc := ⟨.hbm, 68, rfl⟩
abbrev main_v20_2 : Ref sig .tc := ⟨.hbm, 69, rfl⟩
abbrev main_v20_0 : Ref sig .tc := ⟨.hbm, 70, rfl⟩
abbrev main_cst_0 : Ref sig .tc := ⟨.hbm, 71, rfl⟩
abbrev main_call1_v0 : Ref sig .tc := ⟨.hbm, 72, rfl⟩
abbrev main_v21_1 : Ref sig .tc := ⟨.hbm, 73, rfl⟩
abbrev main_call1_v2 : Ref sig .tc := ⟨.hbm, 74, rfl⟩
abbrev main_v21_0 : Ref sig .tc := ⟨.hbm, 75, rfl⟩
abbrev main_call1_cst : Ref sig .tc := ⟨.hbm, 76, rfl⟩
abbrev main_v21_2 : Ref sig .tc := ⟨.hbm, 77, rfl⟩
abbrev main_call2_cst : Ref sig .tc := ⟨.hbm, 78, rfl⟩
abbrev main_call2_v0 : Ref sig .tc := ⟨.hbm, 79, rfl⟩
abbrev main_v22 : Ref sig .tc := ⟨.hbm, 80, rfl⟩
abbrev main_v23 : Ref sig .tc := ⟨.hbm, 81, rfl⟩
abbrev main_call3_v0 : Ref sig .tc := ⟨.hbm, 82, rfl⟩
abbrev main_call3_call0_cst : Ref sig .tc := ⟨.hbm, 83, rfl⟩
abbrev main_call3_call0_v0 : Ref sig .tc := ⟨.hbm, 84, rfl⟩
abbrev main_call3_call0_v1 : Ref sig .tc := ⟨.hbm, 85, rfl⟩
abbrev main_call3_call0_v2 : Ref sig .tc := ⟨.hbm, 86, rfl⟩
abbrev main_call3_call0_v3 : Ref sig .tc := ⟨.hbm, 87, rfl⟩
abbrev main_call3_call0_v4 : Ref sig .tc := ⟨.hbm, 88, rfl⟩
abbrev main_call3_call0_v5 : Ref sig .tc := ⟨.hbm, 89, rfl⟩
abbrev main_call3_call0_v6 : Ref sig .tc := ⟨.hbm, 90, rfl⟩
abbrev main_call3_call0_v7 : Ref sig .tc := ⟨.hbm, 91, rfl⟩
abbrev main_call3_call0_v8 : Ref sig .tc := ⟨.hbm, 92, rfl⟩
abbrev main_call3_call0_v9 : Ref sig .tc := ⟨.hbm, 93, rfl⟩
abbrev main_call3_call0_v10 : Ref sig .tc := ⟨.hbm, 94, rfl⟩
abbrev main_call3_call0_v11 : Ref sig .tc := ⟨.hbm, 95, rfl⟩
abbrev main_call3_v1_0 : Ref sig .tc := ⟨.hbm, 96, rfl⟩
abbrev main_call3_call0_cst_0 : Ref sig .tc := ⟨.hbm, 97, rfl⟩
abbrev main_call3_call0_v13 : Ref sig .tc := ⟨.hbm, 98, rfl⟩
abbrev main_call3_call0_v14 : Ref sig .tc := ⟨.hbm, 99, rfl⟩
abbrev main_call3_call0_cst_1 : Ref sig .tc := ⟨.hbm, 100, rfl⟩
abbrev main_call3_call0_v15 : Ref sig .tc := ⟨.hbm, 101, rfl⟩
abbrev main_call3_call0_v16 : Ref sig .tc := ⟨.hbm, 102, rfl⟩
abbrev main_call3_call0_cst_2 : Ref sig .tc := ⟨.hbm, 103, rfl⟩
abbrev main_call3_call0_v17 : Ref sig .tc := ⟨.hbm, 104, rfl⟩
abbrev main_call3_call0_v18 : Ref sig .tc := ⟨.hbm, 105, rfl⟩
abbrev main_call3_call0_cst_3 : Ref sig .tc := ⟨.hbm, 106, rfl⟩
abbrev main_call3_call0_v19 : Ref sig .tc := ⟨.hbm, 107, rfl⟩
abbrev main_call3_call0_v20 : Ref sig .tc := ⟨.hbm, 108, rfl⟩
abbrev main_call3_call0_v21 : Ref sig .tc := ⟨.hbm, 109, rfl⟩
abbrev main_v24_1 : Ref sig .tc := ⟨.hbm, 110, rfl⟩
abbrev main_call3_call0_cst_4 : Ref sig .tc := ⟨.hbm, 111, rfl⟩
abbrev main_call3_call0_cst_5 : Ref sig .tc := ⟨.hbm, 112, rfl⟩
abbrev main_call3_call0_v23 : Ref sig .tc := ⟨.hbm, 113, rfl⟩
abbrev main_call3_call0_cst_6 : Ref sig .tc := ⟨.hbm, 114, rfl⟩
abbrev main_call3_call0_cst_7 : Ref sig .tc := ⟨.hbm, 115, rfl⟩
abbrev main_call3_call0_v24 : Ref sig .tc := ⟨.hbm, 116, rfl⟩
abbrev main_call3_call0_cst_8 : Ref sig .tc := ⟨.hbm, 117, rfl⟩
abbrev main_call3_call0_v25 : Ref sig .tc := ⟨.hbm, 118, rfl⟩
abbrev main_call3_call0_v26 : Ref sig .tc := ⟨.hbm, 119, rfl⟩
abbrev main_call3_call0_cst_9 : Ref sig .tc := ⟨.hbm, 120, rfl⟩
abbrev main_call3_call0_v27 : Ref sig .tc := ⟨.hbm, 121, rfl⟩
abbrev main_call3_call0_v28 : Ref sig .tc := ⟨.hbm, 122, rfl⟩
abbrev main_call3_call0_v29 : Ref sig .tc := ⟨.hbm, 123, rfl⟩
abbrev main_call3_call0_v30 : Ref sig .tc := ⟨.hbm, 124, rfl⟩
abbrev main_call3_call0_v31 : Ref sig .tc := ⟨.hbm, 125, rfl⟩
abbrev main_call3_call0_cst_10 : Ref sig .tc := ⟨.hbm, 126, rfl⟩
abbrev main_call3_call0_v32 : Ref sig .tc := ⟨.hbm, 127, rfl⟩
abbrev main_v24_2 : Ref sig .tc := ⟨.hbm, 128, rfl⟩
abbrev main_v24_0 : Ref sig .tc := ⟨.hbm, 129, rfl⟩
abbrev main_v25 : Ref sig .tc := ⟨.hbm, 130, rfl⟩
abbrev main_v26 : Ref sig .tc := ⟨.hbm, 131, rfl⟩
abbrev main_cst_1 : Ref sig .tc := ⟨.hbm, 132, rfl⟩
abbrev main_call4_v0 : Ref sig .tc := ⟨.hbm, 133, rfl⟩
abbrev main_v27_1 : Ref sig .tc := ⟨.hbm, 134, rfl⟩
abbrev main_call4_v2 : Ref sig .tc := ⟨.hbm, 135, rfl⟩
abbrev main_v27_0 : Ref sig .tc := ⟨.hbm, 136, rfl⟩
abbrev main_call4_cst : Ref sig .tc := ⟨.hbm, 137, rfl⟩
abbrev main_v27_2 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_call5_cst : Ref sig .tc := ⟨.hbm, 147, rfl⟩
abbrev main_call5_v0 : Ref sig .tc := ⟨.hbm, 148, rfl⟩
abbrev main_v36 : Ref sig .tc := ⟨.hbm, 149, rfl⟩
abbrev main_v37 : Ref sig .tc := ⟨.hbm, 150, rfl⟩
abbrev main_call6_v0 : Ref sig .tc := ⟨.hbm, 151, rfl⟩
abbrev main_call6_v1 : Ref sig .tc := ⟨.hbm, 152, rfl⟩
abbrev main_v38 : Ref sig .tc := ⟨.hbm, 153, rfl⟩
abbrev main_v39 : Ref sig .tc := ⟨.hbm, 154, rfl⟩
abbrev main_call7_cst : Ref sig .tc := ⟨.hbm, 155, rfl⟩
abbrev main_call7_v0 : Ref sig .tc := ⟨.hbm, 156, rfl⟩
abbrev main_v40 : Ref sig .tc := ⟨.hbm, 157, rfl⟩
abbrev main_v41 : Ref sig .tc := ⟨.hbm, 158, rfl⟩
abbrev main_call8_cst : Ref sig .tc := ⟨.hbm, 159, rfl⟩
abbrev main_call8_v0 : Ref sig .tc := ⟨.hbm, 160, rfl⟩
abbrev main_v42 : Ref sig .tc := ⟨.hbm, 161, rfl⟩
abbrev main_call9_v0 : Ref sig .tc := ⟨.hbm, 162, rfl⟩
abbrev main_call9_v1 : Ref sig .tc := ⟨.hbm, 163, rfl⟩
abbrev main_v43 : Ref sig .tc := ⟨.hbm, 164, rfl⟩
abbrev main_v44 : Ref sig .tc := ⟨.hbm, 165, rfl⟩
abbrev main_v45 : Ref sig .tc := ⟨.hbm, 166, rfl⟩
abbrev main_cst_2 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S1024x6144 : Shape := ⟨2, ![1024, 6144]⟩
abbrev S3072x1024 : Shape := ⟨2, ![3072, 1024]⟩
abbrev S512x1024 : Shape := ⟨2, ![512, 1024]⟩
abbrev S512 : Shape := ⟨1, ![512]⟩
abbrev S512x1 : Shape := ⟨2, ![512, 1]⟩
abbrev S2x4096x3072 : Shape := ⟨3, ![2, 4096, 3072]⟩
abbrev S4096x3072 : Shape := ⟨2, ![4096, 3072]⟩
abbrev S1024x1024 : Shape := ⟨2, ![1024, 1024]⟩
abbrev S1024x768 : Shape := ⟨2, ![1024, 768]⟩
abbrev S2x1024x768 : Shape := ⟨3, ![2, 1024, 768]⟩
abbrev S1x1024x768 : Shape := ⟨3, ![1, 1024, 768]⟩
abbrev S512x3072 : Shape := ⟨2, ![512, 3072]⟩
abbrev S768x1024 : Shape := ⟨2, ![768, 1024]⟩
abbrev S4096x512 : Shape := ⟨2, ![4096, 512]⟩
abbrev S1x4096x768 : Shape := ⟨3, ![1, 4096, 768]⟩
abbrev S4096x768 : Shape := ⟨2, ![4096, 768]⟩
abbrev S1x512x3072 : Shape := ⟨3, ![1, 512, 3072]⟩
abbrev S1024x3072 : Shape := ⟨2, ![1024, 3072]⟩
abbrev S1024 : Shape := ⟨1, ![1024]⟩

abbrev nBuf : Space → Nat
  | .hbm => 16
  | .vmem => 56
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x6144, .bf16⟩
  | .hbm, ⟨3, _⟩ => ⟨S3072x1024, .bf16⟩
  | .hbm, ⟨4, _⟩ => ⟨S4096x1024, .f32⟩
  | .hbm, ⟨5, _⟩ => ⟨S4096x1024, .bf16⟩
  | .hbm, ⟨6, _⟩ => ⟨S2x4096x3072, .bf16⟩
  | .hbm, ⟨7, _⟩ => ⟨S4096x3072, .bf16⟩
  | .hbm, ⟨8, _⟩ => ⟨S4096x1024, .f32⟩
  | .hbm, ⟨9, _⟩ => ⟨S4096x1024, .bf16⟩
  | .hbm, ⟨10, _⟩ => ⟨S2x4096x3072, .bf16⟩
  | .hbm, ⟨11, _⟩ => ⟨S3072x1024, .bf16⟩
  | .hbm, ⟨12, _⟩ => ⟨S1024x6144, .bf16⟩
  | .hbm, ⟨13, _⟩ => ⟨S4096x1024, .f32⟩
  | .hbm, ⟨14, _⟩ => ⟨S4096x1024, .bf16⟩
  | .hbm, ⟨15, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x768, .bf16⟩
  | .local _ .vmem, ⟨8, _⟩ => ⟨S1024x768, .bf16⟩
  | .local _ .vmem, ⟨9, _⟩ => ⟨S1024x768, .bf16⟩
  | .local _ .vmem, ⟨10, _⟩ => ⟨S1024x768, .bf16⟩
  | .local _ .vmem, ⟨11, _⟩ => ⟨S2x1024x768, .bf16⟩
  | .local _ .vmem, ⟨12, _⟩ => ⟨S2x1024x768, .bf16⟩
  | .local _ .vmem, ⟨13, _⟩ => ⟨S1024x768, .bf16⟩
  | .local _ .vmem, ⟨14, _⟩ => ⟨S1024x768, .bf16⟩
  | .local _ .vmem, ⟨15, _⟩ => ⟨S512x3072, .bf16⟩
  | .local _ .vmem, ⟨16, _⟩ => ⟨S512x3072, .bf16⟩
  | .local _ .vmem, ⟨17, _⟩ => ⟨S3072x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S1024x1024, .bf16⟩
  | .local _ .vmem, ⟨23, _⟩ => ⟨S1024x1024, .bf16⟩
  | .local _ .vmem, ⟨24, _⟩ => ⟨S768x1024, .bf16⟩
  | .local _ .vmem, ⟨25, _⟩ => ⟨S768x1024, .bf16⟩
  | .local _ .vmem, ⟨26, _⟩ => ⟨S2x1024x768, .bf16⟩
  | .local _ .vmem, ⟨27, _⟩ => ⟨S2x1024x768, .bf16⟩
  | .local _ .vmem, ⟨28, _⟩ => ⟨S2x1024x768, .bf16⟩
  | .local _ .vmem, ⟨29, _⟩ => ⟨S2x1024x768, .bf16⟩
  | .local _ .vmem, ⟨30, _⟩ => ⟨S4096x512, .bf16⟩
  | .local _ .vmem, ⟨31, _⟩ => ⟨S4096x512, .bf16⟩
  | .local _ .vmem, ⟨32, _⟩ => ⟨S4096x1024, .bf16⟩
  | .local _ .vmem, ⟨33, _⟩ => ⟨S512x1024, .bf16⟩
  | .local _ .vmem, ⟨34, _⟩ => ⟨S512x1024, .bf16⟩
  | .local _ .vmem, ⟨35, _⟩ => ⟨S4096x1024, .bf16⟩
  | .local _ .vmem, ⟨36, _⟩ => ⟨S1x4096x768, .bf16⟩
  | .local _ .vmem, ⟨37, _⟩ => ⟨S1x4096x768, .bf16⟩
  | .local _ .vmem, ⟨38, _⟩ => ⟨S1024x768, .bf16⟩
  | .local _ .vmem, ⟨39, _⟩ => ⟨S1024x768, .bf16⟩
  | .local _ .vmem, ⟨40, _⟩ => ⟨S1x512x3072, .bf16⟩
  | .local _ .vmem, ⟨41, _⟩ => ⟨S1x512x3072, .bf16⟩
  | .local _ .vmem, ⟨42, _⟩ => ⟨S1024x3072, .bf16⟩
  | .local _ .vmem, ⟨43, _⟩ => ⟨S1x512x3072, .bf16⟩
  | .local _ .vmem, ⟨44, _⟩ => ⟨S1x512x3072, .bf16⟩
  | .local _ .vmem, ⟨45, _⟩ => ⟨S1024x3072, .bf16⟩
  | .local _ .vmem, ⟨46, _⟩ => ⟨S512x1024, .f32⟩
  | .local _ .vmem, ⟨47, _⟩ => ⟨S512x1024, .f32⟩
  | .local _ .vmem, ⟨48, _⟩ => ⟨S1x1024, .f32⟩
  | .local _ .vmem, ⟨49, _⟩ => ⟨S512x1024, .f32⟩
  | .local _ .vmem, ⟨50, _⟩ => ⟨S512x1024, .f32⟩
  | .local _ .vmem, ⟨51, _⟩ => ⟨S512x1024, .f32⟩
  | .local _ .vmem, ⟨52, _⟩ => ⟨S512x1024, .f32⟩
  | .local _ .vmem, ⟨53, _⟩ => ⟨S512x1024, .bf16⟩
  | .local _ .vmem, ⟨54, _⟩ => ⟨S512x1024, .bf16⟩
  | .local _ .vmem, ⟨55, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc5_stg0_0 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg2_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg2_1 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg4_1 : Ref sig .tc := ⟨.vmem, 47, rfl⟩
abbrev cc6_stg5_0 : Ref sig .tc := ⟨.vmem, 48, rfl⟩
abbrev cc6_stg6_0 : Ref sig .tc := ⟨.vmem, 49, rfl⟩
abbrev cc6_stg6_1 : Ref sig .tc := ⟨.vmem, 50, rfl⟩
abbrev cc6_stg7_0 : Ref sig .tc := ⟨.vmem, 51, rfl⟩
abbrev cc6_stg7_1 : Ref sig .tc := ⟨.vmem, 52, rfl⟩
abbrev cc6_stg8_0 : Ref sig .tc := ⟨.vmem, 53, rfl⟩
abbrev cc6_stg8_1 : Ref sig .tc := ⟨.vmem, 54, rfl⟩
abbrev cc6_stg9_0 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem2_1 : DmaSem sig := 34
abbrev cc5_sem0_0 : DmaSem sig := 35
abbrev cc5_sem1_0 : DmaSem sig := 36
abbrev cc5_sem1_1 : DmaSem sig := 37
abbrev cc5_sem2_0 : DmaSem sig := 38
abbrev cc5_sem2_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem2_1 : DmaSem sig := 44
abbrev cc6_sem3_0 : DmaSem sig := 45
abbrev cc6_sem4_0 : DmaSem sig := 46
abbrev cc6_sem4_1 : DmaSem sig := 47
abbrev cc6_sem5_0 : DmaSem sig := 48
abbrev cc6_sem6_0 : DmaSem sig := 49
abbrev cc6_sem6_1 : DmaSem sig := 50
abbrev cc6_sem7_0 : DmaSem sig := 51
abbrev cc6_sem7_1 : DmaSem sig := 52
abbrev cc6_sem8_0 : DmaSem sig := 53
abbrev cc6_sem8_1 : DmaSem sig := 54
abbrev cc6_sem9_0 : DmaSem sig := 55

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2x1024x768 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x768 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![1, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x3072 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S3072x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![4, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S768x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S2x1024x768 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S2x1024x768 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![1, 6], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S4096x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 1 → Memref sig .tc .vmem S4096x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true, false]

abbrev stage4_2 : Fin 2 → Memref sig .tc .vmem S512x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![8, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_1 (i : grid5.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 1 → Memref sig .tc .vmem S4096x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false, true]

abbrev stage5_1 : Fin 2 → Memref sig .tc .vmem S1x4096x768 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S1024x768 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨1, ![8], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc6_transform_3 (i : grid6.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S1x512x3072 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1024x3072 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1x512x3072 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1024x3072 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S512x1024 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S1x1024 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S512x1024 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S512x1024 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S512x1024 .bf16 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev stage6_9 : Fin 1 → Memref sig .tc .vmem S1x1024 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]
-- ==== Reference2Ideal.lean ====
abbrev S4096x1024 : Shape := ⟨2, ![4096, 1024]⟩
abbrev S1x1024 : Shape := ⟨2, ![1, 1024]⟩
abbrev S1024x6144 : Shape := ⟨2, ![1024, 6144]⟩
abbrev S3072x1024 : Shape := ⟨2, ![3072, 1024]⟩
abbrev S_ : Shape := ⟨0, ![]⟩
abbrev S4096 : Shape := ⟨1, ![4096]⟩
abbrev S4096x1 : Shape := ⟨2, ![4096, 1]⟩
abbrev S4096x6144 : Shape := ⟨2, ![4096, 6144]⟩
abbrev S4096x3072 : Shape := ⟨2, ![4096, 3072]⟩
abbrev S1024x3072 : Shape := ⟨2, ![1024, 3072]⟩
abbrev S6144x1024 : Shape := ⟨2, ![6144, 1024]⟩
abbrev S1024 : Shape := ⟨1, ![1024]⟩

abbrev nBuf : Space → Nat
  | .hbm => 91
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x6144, .bf16⟩
  | .hbm, ⟨3, _⟩ => ⟨S3072x1024, .bf16⟩
  | .hbm, ⟨4, _⟩ => ⟨S4096x1024, .f32⟩
  | .hbm, ⟨5, _⟩ => ⟨S1024x6144, .f32⟩
  | .hbm, ⟨6, _⟩ => ⟨S3072x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x6144, .f32⟩
  | .hbm, ⟨27, _⟩ => ⟨S4096x3072, .f32⟩
  | .hbm, ⟨28, _⟩ => ⟨S4096x3072, .f32⟩
  | .hbm, ⟨29, _⟩ => ⟨S4096x3072, .f32⟩
  | .hbm, ⟨30, _⟩ => ⟨S4096x3072, .f32⟩
  | .hbm, ⟨31, _⟩ => ⟨S_, .f32⟩
  | .hbm, ⟨32, _⟩ => ⟨S4096x3072, .f32⟩
  | .hbm, ⟨33, _⟩ => ⟨S4096x3072, .f32⟩
  | .hbm, ⟨34, _⟩ => ⟨S_, .f32⟩
  | .hbm, ⟨35, _⟩ => ⟨S4096x3072, .f32⟩
  | .hbm, ⟨36, _⟩ => ⟨S4096x3072, .f32⟩
  | .hbm, ⟨37, _⟩ => ⟨S_, .f32⟩
  | .hbm, ⟨38, _⟩ => ⟨S4096x3072, .f32⟩
  | .hbm, ⟨39, _⟩ => ⟨S4096x3072, .f32⟩
  | .hbm, ⟨40, _⟩ => ⟨S4096x3072, .f32⟩
  | .hbm, ⟨41, _⟩ => ⟨S4096x3072, .f32⟩
  | .hbm, ⟨42, _⟩ => ⟨S4096x3072, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S1024x3072, .f32⟩
  | .hbm, ⟨53, _⟩ => ⟨S3072x1024, .f32⟩
  | .hbm, ⟨54, _⟩ => ⟨S4096x3072, .f32⟩
  | .hbm, ⟨55, _⟩ => ⟨S4096x3072, .f32⟩
  | .hbm, ⟨56, _⟩ => ⟨S4096x3072, .f32⟩
  | .hbm, ⟨57, _⟩ => ⟨S4096x3072, .f32⟩
  | .hbm, ⟨58, _⟩ => ⟨S4096x3072, .f32⟩
  | .hbm, ⟨59, _⟩ => ⟨S4096x3072, .f32⟩
  | .hbm, ⟨60, _⟩ => ⟨S4096x3072, .f32⟩
  | .hbm, ⟨61, _⟩ => ⟨S4096x6144, .f32⟩
  | .hbm, ⟨62, _⟩ => ⟨S6144x1024, .f32⟩
  | .hbm, ⟨63, _⟩ => ⟨S1024x6144, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S_, .f32⟩
  | .hbm, ⟨83, _⟩ => ⟨S4096, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S1024x6144, .bf16⟩
  | .hbm, ⟨90, _⟩ => ⟨S3072x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v20_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v20_1 : Ref sig .tc := ⟨.hbm, 40, rfl⟩
abbrev main_v20_0 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_5 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_6 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_7 : Ref sig .tc := ⟨.hbm, 79, rfl⟩
abbrev main_v51 : Ref sig .tc := ⟨.hbm, 80, rfl⟩
abbrev main_v52 : Ref sig .tc := ⟨.hbm, 81, rfl⟩
abbrev main_cst_8 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩

abbrev nD : Nat := 1
abbrev τ : Topo := Topo.v7x

variable {F : FTy → Type} [FloatOps F]
-- ==== Kernel3.lean ====
abbrev S4096x512 : Shape := ⟨2, ![4096, 512]⟩
abbrev S4096x128 : Shape := ⟨2, ![4096, 128]⟩
abbrev S4096x4x128 : Shape := ⟨3, ![4096, 4, 128]⟩
abbrev S4x4096x128 : Shape := ⟨3, ![4, 4096, 128]⟩
abbrev S4096x4 : Shape := ⟨2, ![4096, 4]⟩
abbrev S4x4096 : Shape := ⟨2, ![4, 4096]⟩
abbrev S4x4096x4096 : Shape := ⟨3, ![4, 4096, 4096]⟩
abbrev S_ : Shape := ⟨0, ![]⟩
abbrev S4x4096x1 : Shape := ⟨3, ![4, 4096, 1]⟩
abbrev S4x1x4096 : Shape := ⟨3, ![4, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S128x4096 : Shape := ⟨2, ![128, 4096]⟩
abbrev S512x128 : Shape := ⟨2, ![512, 128]⟩
abbrev S8x4096 : Shape := ⟨2, ![8, 4096]⟩
abbrev S128x128 : Shape := ⟨2, ![128, 128]⟩
abbrev S1x128 : Shape := ⟨2, ![1, 128]⟩
abbrev S128 : Shape := ⟨1, ![128]⟩
abbrev S128x1 : Shape := ⟨2, ![128, 1]⟩
abbrev S128x256 : Shape := ⟨2, ![128, 256]⟩
abbrev S256x128 : Shape := ⟨2, ![256, 128]⟩
abbrev S1x256 : Shape := ⟨2, ![1, 256]⟩
abbrev S256 : Shape := ⟨1, ![256]⟩
abbrev S1x512 : Shape := ⟨2, ![1, 512]⟩

abbrev nBuf : Space → Nat
  | .hbm => 73
  | .vmem => 22
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x128, .f32⟩
  | .hbm, ⟨4, _⟩ => ⟨S4096x512, .f32⟩
  | .hbm, ⟨5, _⟩ => ⟨S4096x512, .f32⟩
  | .hbm, ⟨6, _⟩ => ⟨S4096x4x128, .f32⟩
  | .hbm, ⟨7, _⟩ => ⟨S4x4096x128, .f32⟩
  | .hbm, ⟨8, _⟩ => ⟨S4096x512, .f32⟩
  | .hbm, ⟨9, _⟩ => ⟨S4096x4x128, .f32⟩
  | .hbm, ⟨10, _⟩ => ⟨S4x4096x128, .f32⟩
  | .hbm, ⟨11, _⟩ => ⟨S4096x512, .f32⟩
  | .hbm, ⟨12, _⟩ => ⟨S4096x4x128, .f32⟩
  | .hbm, ⟨13, _⟩ => ⟨S4x4096x128, .f32⟩
  | .hbm, ⟨14, _⟩ => ⟨S4096x4, .f32⟩
  | .hbm, ⟨15, _⟩ => ⟨S4x4096, .f32⟩
  | .hbm, ⟨16, _⟩ => ⟨S4x4096x4096, .f32⟩
  | .hbm, ⟨17, _⟩ => ⟨S_, .f32⟩
  | .hbm, ⟨18, _⟩ => ⟨S4x4096x4096, .f32⟩
  | .hbm, ⟨19, _⟩ => ⟨S4x4096x4096, .f32⟩
  | .hbm, ⟨20, _⟩ => ⟨S4x4096x1, .f32⟩
  | .hbm, ⟨21, _⟩ => ⟨S4x1x4096, .f32⟩
  | .hbm, ⟨22, _⟩ => ⟨S4x4096x4096, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S4096, .i32⟩
  | .hbm, ⟨27, _⟩ => ⟨S1x4096, .i32⟩
  | .hbm, ⟨28, _⟩ => ⟨S4096x1, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S_, .f32⟩
  | .hbm, ⟨33, _⟩ => ⟨S_, .f32⟩
  | .hbm, ⟨34, _⟩ => ⟨S4x4096x4096, .i1⟩
  | .hbm, ⟨35, _⟩ => ⟨S4x4096x4096, .f32⟩
  | .hbm, ⟨36, _⟩ => ⟨S4x4096x4096, .f32⟩
  | .hbm, ⟨37, _⟩ => ⟨S_, .f32⟩
  | .hbm, ⟨38, _⟩ => ⟨S4x4096, .f32⟩
  | .hbm, ⟨39, _⟩ => ⟨S_, .f32⟩
  | .hbm, ⟨40, _⟩ => ⟨S4x4096, .f32⟩
  | .hbm, ⟨41, _⟩ => ⟨S4x4096, .f32⟩
  | .hbm, ⟨42, _⟩ => ⟨S4x4096x1, .f32⟩
  | .hbm, ⟨43, _⟩ => ⟨S4x4096x4096, .f32⟩
  | .hbm, ⟨44, _⟩ => ⟨S4x4096x4096, .f32⟩
  | .hbm, ⟨45, _⟩ => ⟨S4x4096x4096, .f32⟩
  | .hbm, ⟨46, _⟩ => ⟨S_, .f32⟩
  | .hbm, ⟨47, _⟩ => ⟨S4x4096, .f32⟩
  | .hbm, ⟨48, _⟩ => ⟨S4x4096x1, .f32⟩
  | .hbm, ⟨49, _⟩ => ⟨S4x4096x4096, .f32⟩
  | .hbm, ⟨50, _⟩ => ⟨S4x4096x4096, .f32⟩
  | .hbm, ⟨51, _⟩ => ⟨S4x4096x128, .f32⟩
  | .hbm, ⟨52, _⟩ => ⟨S4096x4x128, .f32⟩
  | .hbm, ⟨53, _⟩ => ⟨S4096x512, .f32⟩
  | .hbm, ⟨54, _⟩ => ⟨S_, .f32⟩
  | .hbm, ⟨55, _⟩ => ⟨S4x4096, .f32⟩
  | .hbm, ⟨56, _⟩ => ⟨S4x4096x1, .f32⟩
  | .hbm, ⟨57, _⟩ => ⟨S4x4096x4096, .f32⟩
  | .hbm, ⟨58, _⟩ => ⟨S4x4096x4096, .f32⟩
  | .hbm, ⟨59, _⟩ => ⟨S4x4096x4096, .f32⟩
  | .hbm, ⟨60, _⟩ => ⟨S_, .f32⟩
  | .hbm, ⟨61, _⟩ => ⟨S4x4096, .f32⟩
  | .hbm, ⟨62, _⟩ => ⟨S4x4096x1, .f32⟩
  | .hbm, ⟨63, _⟩ => ⟨S4x4096x1, .f32⟩
  | .hbm, ⟨64, _⟩ => ⟨S4x4096x1, .f32⟩
  | .hbm, ⟨65, _⟩ => ⟨S128x4096, .f32⟩
  | .hbm, ⟨66, _⟩ => ⟨S4x4096x128, .f32⟩
  | .hbm, ⟨67, _⟩ => ⟨S4096x4x128, .f32⟩
  | .hbm, ⟨68, _⟩ => ⟨S4096x512, .f32⟩
  | .hbm, ⟨69, _⟩ => ⟨S4096x512, .f32⟩
  | .hbm, ⟨70, _⟩ => ⟨S4096x512, .f32⟩
  | .hbm, ⟨71, _⟩ => ⟨S4096x512, .f32⟩
  | .hbm, ⟨72, _⟩ => ⟨S128x4096, .f32⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x128, .f32⟩
  | .local _ .vmem, ⟨7, _⟩ => ⟨S512x128, .f32⟩
  | .local _ .vmem, ⟨8, _⟩ => ⟨S8x4096, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | .local _ .vmem, ⟨20, _⟩ => ⟨S4096x128, .f32⟩
  | .local _ .vmem, ⟨21, _⟩ => ⟨S128x4096, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54_0 : Ref sig .tc := ⟨.hbm, 69, rfl⟩
abbrev main_v54_1 : Ref sig .tc := ⟨.hbm, 70, rfl⟩
abbrev main_v54_2 : Ref sig .tc := ⟨.hbm, 71, rfl⟩
abbrev main_v54_3 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32_64 : BitVec 32 := 0#32
  let arg1 : BitVec 32 := BitVec.ofNat 32 (i 1).val
  let c2_i32 : BitVec 32 := 2#32
  let v134 : BitVec 32 := Scalar.muli arg1 c2_i32
  let v135 : BitVec 32 := Scalar.subi v134 c0_i32_64
  let c1_i32 : BitVec 32 := 1#32
  let v137 : BitVec 32 := Scalar.divsi v135 c1_i32
  let v138 : BitVec 32 := Scalar.muli v137 c1_i32
  let v139 : BitVec 32 := Scalar.addi c0_i32_64 v138
  let c1_i32_65 : BitVec 32 := 1#32
  ⟨c0_i32_64, v139, c1_i32_65⟩
def k0_mult1 (i : grid0.Coords) (k0_t1 : Fin (k0_t1_loop i).trips) : BitVec 32 :=
  let c0_i32_64 : BitVec 32 := 0#32
  let c1_i32_65 : BitVec 32 := 1#32
  let arg14 : BitVec 32 := Scf.iv c0_i32_64 c1_i32_65 k0_t1
  let c256_i32_159 : BitVec 32 := 256#32
  let v426 : BitVec 32 := Scalar.muli arg14 c256_i32_159
  v426
def k0_off1 (i : grid0.Coords) (k0_t1 : Fin (k0_t1_loop i).trips) : Fin 2 → Nat :=
  let c0_i32_64 : BitVec 32 := 0#32
  let c1_i32_65 : BitVec 32 := 1#32
  let arg14 : BitVec 32 := Scf.iv c0_i32_64 c1_i32_65 k0_t1
  let c256_i32_159 : BitVec 32 := 256#32
  let v426 : BitVec 32 := Scalar.muli arg14 c256_i32_159
  let v427 : BitVec 32 := v426
  let v428 : Index := Scalar.indexCast v427
  let c0_160 : Index := 0#32
  ![v428.toNat, 0]
def k0_off2 (i : grid0.Coords) (k0_t1 : Fin (k0_t1_loop i).trips) : Fin 2 → Nat :=
  let c0_i32_162 : BitVec 32 := 0#32
  let arg0 : BitVec 32 := BitVec.ofNat 32 (i 0).val
  let v432 : BitVec 32 := Scalar.addi c0_i32_162 arg0
  let v433 : Index := Scalar.indexCast v432
  let c0_i32_64 : BitVec 32 := 0#32
  let c1_i32_65 : BitVec 32 := 1#32
  let arg14 : BitVec 32 := Scf.iv c0_i32_64 c1_i32_65 k0_t1
  let c256_i32_159 : BitVec 32 := 256#32
  let v426 : BitVec 32 := Scalar.muli arg14 c256_i32_159
  let v427 : BitVec 32 := v426
  let v434 : Index := Scalar.indexCast v427
  ![v433.toNat, v434.toNat]
def k0_off3 (i : grid0.Coords) (k0_t1 : Fin (k0_t1_loop i).trips) : Fin 2 → Nat :=
  let c8_i32_185 : BitVec 32 := 8#32
  let arg0 : BitVec 32 := BitVec.ofNat 32 (i 0).val
  let v523 : BitVec 32 := Scalar.addi c8_i32_185 arg0
  let v524 : Index := Scalar.indexCast v523
  let c0_i32_64 : BitVec 32 := 0#32
  let c1_i32_65 : BitVec 32 := 1#32
  let arg14 : BitVec 32 := Scf.iv c0_i32_64 c1_i32_65 k0_t1
  let c256_i32_159 : BitVec 32 := 256#32
  let v426 : BitVec 32 := Scalar.muli arg14 c256_i32_159
  let v427 : BitVec 32 := v426
  let v525 : Index := Scalar.indexCast v427
  ![v524.toNat, v525.toNat]
@[reducible] def k0_t2_loop (i : grid0.Coords) : Scf.Loop 32 :=
  let c0_i32_64 : BitVec 32 := 0#32
  let arg1 : BitVec 32 := BitVec.ofNat 32 (i 1).val
  let c2_i32 : BitVec 32 := 2#32
  let v134 : BitVec 32 := Scalar.muli arg1 c2_i32
  let v135 : BitVec 32 := Scalar.subi v134 c0_i32_64
  let c1_i32 : BitVec 32 := 1#32
  let v137 : BitVec 32 := Scalar.divsi v135 c1_i32
  let v138 : BitVec 32 := Scalar.muli v137 c1_i32
  let v139 : BitVec 32 := Scalar.addi c0_i32_64 v138
  let v136 : BitVec 32 := Scalar.addi c0_i32_64 v135
  let c1_i32_66 : BitVec 32 := 1#32
  ⟨v139, v136, c1_i32_66⟩
def k0_mult2 (i : grid0.Coords) (k0_t2 : Fin (k0_t2_loop i).trips) : BitVec 32 :=
  let c0_i32_64 : BitVec 32 := 0#32
  let arg1 : BitVec 32 := BitVec.ofNat 32 (i 1).val
  let c2_i32 : BitVec 32 := 2#32
  let v134 : BitVec 32 := Scalar.muli arg1 c2_i32
  let v135 : BitVec 32 := Scalar.subi v134 c0_i32_64
  let c1_i32 : BitVec 32 := 1#32
  let v137 : BitVec 32 := Scalar.divsi v135 c1_i32
  let v138 : BitVec 32 := Scalar.muli v137 c1_i32
  let v139 : BitVec 32 := Scalar.addi c0_i32_64 v138
  let c1_i32_66 : BitVec 32 := 1#32
  let arg14 : BitVec 32 := Scf.iv v139 c1_i32_66 k0_t2
  let c256_i32_159 : BitVec 32 := 256#32
  let v426 : BitVec 32 := Scalar.muli arg14 c256_i32_159
  v426
def k0_off4 (i : grid0.Coords) (k0_t2 : Fin (k0_t2_loop i).trips) : Fin 2 → Nat :=
  let c0_i32_64 : BitVec 32 := 0#32
  let arg1 : BitVec 32 := BitVec.ofNat 32 (i 1).val
  let c2_i32 : BitVec 32 := 2#32
  let v134 : BitVec 32 := Scalar.muli arg1 c2_i32
  let v135 : BitVec 32 := Scalar.subi v134 c0_i32_64
  let c1_i32 : BitVec 32 := 1#32
  let v137 : BitVec 32 := Scalar.divsi v135 c1_i32
  let v138 : BitVec 32 := Scalar.muli v137 c1_i32
  let v139 : BitVec 32 := Scalar.addi c0_i32_64 v138
  let c1_i32_66 : BitVec 32 := 1#32
  let arg14 : BitVec 32 := Scf.iv v139 c1_i32_66 k0_t2
  let c256_i32_159 : BitVec 32 := 256#32
  let v426 : BitVec 32 := Scalar.muli arg14 c256_i32_159
  let v427 : BitVec 32 := v426
  let v428 : Index := Scalar.indexCast v427
  let c0_160 : Index := 0#32
  ![v428.toNat, 0]
def k0_off5 (i : grid0.Coords) (k0_t2 : Fin (k0_t2_loop i).trips) : Fin 2 → Nat :=
  let c0_i32_162 : BitVec 32 := 0#32
  let arg0 : BitVec 32 := BitVec.ofNat 32 (i 0).val
  let v432 : BitVec 32 := Scalar.addi c0_i32_162 arg0
  let v433 : Index := Scalar.indexCast v432
  let c0_i32_64 : BitVec 32 := 0#32
  let arg1 : BitVec 32 := BitVec.ofNat 32 (i 1).val
  let c2_i32 : BitVec 32 := 2#32
  let v134 : BitVec 32 := Scalar.muli arg1 c2_i32
  let v135 : BitVec 32 := Scalar.subi v134 c0_i32_64
  let c1_i32 : BitVec 32 := 1#32
  let v137 : BitVec 32 := Scalar.divsi v135 c1_i32
  let v138 : BitVec 32 := Scalar.muli v137 c1_i32
  let v139 : BitVec 32 := Scalar.addi c0_i32_64 v138
  let c1_i32_66 : BitVec 32 := 1#32
  let arg14 : BitVec 32 := Scf.iv v139 c1_i32_66 k0_t2
  let c256_i32_159 : BitVec 32 := 256#32
  let v426 : BitVec 32 := Scalar.muli arg14 c256_i32_159
  let v427 : BitVec 32 := v426
  let v434 : Index := Scalar.indexCast v427
  ![v433.toNat, v434.toNat]
def k0_off6 (i : grid0.Coords) (k0_t2 : Fin (k0_t2_loop i).trips) : Fin 2 → Nat :=
  let c8_i32_185 : BitVec 32 := 8#32
  let arg0 : BitVec 32 := BitVec.ofNat 32 (i 0).val
  let v523 : BitVec 32 := Scalar.addi c8_i32_185 arg0
  let v524 : Index := Scalar.indexCast v523
  let c0_i32_64 : BitVec 32 := 0#32
  let arg1 : BitVec 32 := BitVec.ofNat 32 (i 1).val
  let c2_i32 : BitVec 32 := 2#32
  let v134 : BitVec 32 := Scalar.muli arg1 c2_i32
  let v135 : BitVec 32 := Scalar.subi v134 c0_i32_64
  let c1_i32 : BitVec 32 := 1#32
  let v137 : BitVec 32 := Scalar.divsi v135 c1_i32
  let v138 : BitVec 32 := Scalar.muli v137 c1_i32
  let v139 : BitVec 32 := Scalar.addi c0_i32_64 v138
  let c1_i32_66 : BitVec 32 := 1#32
  let arg14 : BitVec 32 := Scf.iv v139 c1_i32_66 k0_t2
  let c256_i32_159 : BitVec 32 := 256#32
  let v426 : BitVec 32 := Scalar.muli arg14 c256_i32_159
  let v427 : BitVec 32 := v426
  let v525 : Index := Scalar.indexCast v427
  ![v524.toNat, v525.toNat]
def k0_mult3 (i : grid0.Coords) : BitVec 32 :=
  let arg1 : BitVec 32 := BitVec.ofNat 32 (i 1).val
  let c2_i32_67 : BitVec 32 := 2#32
  let v142 : BitVec 32 := Scalar.muli arg1 c2_i32_67
  let c0_i32_68 : BitVec 32 := 0#32
  let v143 : BitVec 32 := Scalar.addi v142 c0_i32_68
  let c256_i32_69 : BitVec 32 := 256#32
  let v144 : BitVec 32 := Scalar.muli v143 c256_i32_69
  v144
def k0_off7 (i : grid0.Coords) (c0_i32_68 : BitVec 32) : Fin 2 → Nat :=
  let arg1 : BitVec 32 := BitVec.ofNat 32 (i 1).val
  let c2_i32_67 : BitVec 32 := 2#32
  let v142 : BitVec 32 := Scalar.muli arg1 c2_i32_67
  let v143 : BitVec 32 := Scalar.addi v142 c0_i32_68
  let c256_i32_69 : BitVec 32 := 256#32
  let v144 : BitVec 32 := Scalar.muli v143 c256_i32_69
  let v145 : BitVec 32 := v144
  let v146 : Index := Scalar.indexCast v145
  let c0_70 : Index := 0#32
  ![v146.toNat, 0]
def k0_off8 (i : grid0.Coords) (c0_i32_68 : BitVec 32) : Fin 2 → Nat :=
  let c0_i32_72 : BitVec 32 := 0#32
  let arg0 : BitVec 32 := BitVec.ofNat 32 (i 0).val
  let v150 : BitVec 32 := Scalar.addi c0_i32_72 arg0
  let v151 : Index := Scalar.indexCast v150
  let arg1 : BitVec 32 := BitVec.ofNat 32 (i 1).val
  let c2_i32_67 : BitVec 32 := 2#32
  let v142 : BitVec 32 := Scalar.muli arg1 c2_i32_67
  let v143 : BitVec 32 := Scalar.addi v142 c0_i32_68
  let c256_i32_69 : BitVec 32 := 256#32
  let v144 : BitVec 32 := Scalar.muli v143 c256_i32_69
  let v145 : BitVec 32 := v144
  let v152 : Index := Scalar.indexCast v145
  ![v151.toNat, v152.toNat]
def k0_off9 (i : grid0.Coords) (c0_i32_68 : BitVec 32) : Fin 2 → Nat :=
  let c8_i32_100 : BitVec 32 := 8#32
  let arg0 : BitVec 32 := BitVec.ofNat 32 (i 0).val
  let v257 : BitVec 32 := Scalar.addi c8_i32_100 arg0
  let v258 : Index := Scalar.indexCast v257
  let arg1 : BitVec 32 := BitVec.ofNat 32 (i 1).val
  let c2_i32_67 : BitVec 32 := 2#32
  let v142 : BitVec 32 := Scalar.muli arg1 c2_i32_67
  let v143 : BitVec 32 := Scalar.addi v142 c0_i32_68
  let c256_i32_69 : BitVec 32 := 256#32
  let v144 : BitVec 32 := Scalar.muli v143 c256_i32_69
  let v145 : BitVec 32 := v144
  let v259 : Index := Scalar.indexCast v145
  ![v258.toNat, v259.toNat]
def k0_mult4 (i : grid0.Coords) : BitVec 32 :=
  let arg1 : BitVec 32 := BitVec.ofNat 32 (i 1).val
  let c2_i32_114 : BitVec 32 := 2#32
  let v299 : BitVec 32 := Scalar.muli arg1 c2_i32_114
  let c1_i32_115 : BitVec 32 := 1#32
  let v300 : BitVec 32 := Scalar.addi v299 c1_i32_115
  let c256_i32_116 : BitVec 32 := 256#32
  let v301 : BitVec 32 := Scalar.muli v300 c256_i32_116
  v301
def k0_mult5 (i : grid0.Coords) : BitVec 32 :=
  let arg1 : BitVec 32 := BitVec.ofNat 32 (i 1).val
  let c512_i32_158 : BitVec 32 := 512#32
  let v411 : BitVec 32 := Scalar.muli arg1 c512_i32_158
  v411
def k0_off10 (i : grid0.Coords) : Fin 2 → Nat :=
  let c8_i32_157 : BitVec 32 := 8#32
  let arg0 : BitVec 32 := BitVec.ofNat 32 (i 0).val
  let v410 : BitVec 32 := Scalar.addi c8_i32_157 arg0
  let v413 : Index := Scalar.indexCast v410
  let arg1 : BitVec 32 := BitVec.ofNat 32 (i 1).val
  let c512_i32_158 : BitVec 32 := 512#32
  let v411 : BitVec 32 := Scalar.muli arg1 c512_i32_158
  let v412 : BitVec 32 := v411
  let v414 : Index := Scalar.indexCast v412
  ![v413.toNat, v414.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S8x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S4096x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S128x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== Reference3Ideal.lean ====
abbrev S4096x512 : Shape := ⟨2, ![4096, 512]⟩
abbrev S4096x128 : Shape := ⟨2, ![4096, 128]⟩
abbrev S4096x4x128 : Shape := ⟨3, ![4096, 4, 128]⟩
abbrev S4x4096x128 : Shape := ⟨3, ![4, 4096, 128]⟩
abbrev S4096x4 : Shape := ⟨2, ![4096, 4]⟩
abbrev S4x4096 : Shape := ⟨2, ![4, 4096]⟩
abbrev S4x4096x4096 : Shape := ⟨3, ![4, 4096, 4096]⟩
abbrev S_ : Shape := ⟨0, ![]⟩
abbrev S4x4096x1 : Shape := ⟨3, ![4, 4096, 1]⟩
abbrev S4x1x4096 : Shape := ⟨3, ![4, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x128x4096 : Shape := ⟨3, ![4, 128, 4096]⟩
abbrev S128x4096 : Shape := ⟨2, ![128, 4096]⟩

abbrev nBuf : Space → Nat
  | .hbm => 129
  | .vmem => 0
  | .smem => 0
  | _ => 0

abbrev hbmTy0_0 (i : Nat) : BufTy := match i % 128 with
  | 0 => ⟨S4096x512, .bf16⟩
  | 1 => ⟨S4096x512, .bf16⟩
  | 2 => ⟨S4096x512, .bf16⟩
  | 3 => ⟨S4096x128, .f32⟩
  | 4 => ⟨S4096x512, .f32⟩
  | 5 => ⟨S4096x512, .f32⟩
  | 6 => ⟨S4096x512, .f32⟩
  | 7 => ⟨S4096x512, .f32⟩
  | 8 => ⟨S4096x4x128, .f32⟩
  | 9 => ⟨S4x4096x128, .f32⟩
  | 10 => ⟨S4096x4x128, .f32⟩
  | 11 => ⟨S4x4096x128, .f32⟩
  | 12 => ⟨S4096x4x128, .f32⟩
  | 13 => ⟨S4x4096x128, .f32⟩
  | 14 => ⟨S4096x4, .f32⟩
  | 15 => ⟨S4x4096, .f32⟩
  | 16 => ⟨S4x4096x4096, .f32⟩
  | 17 => ⟨S_, .f32⟩
  | 18 => ⟨S4x4096x4096, .f32⟩
  | 19 => ⟨S4x4096x4096, .f32⟩
  | 20 => ⟨S4x4096x1, .f32⟩
  | 21 => ⟨S4x1x4096, .f32⟩
  | 22 => ⟨S4x4096x4096, .f32⟩
  | 23 => ⟨S4x4096x4096, .f32⟩
  | 24 => ⟨S4x4096x4096, .f32⟩
  | 25 => ⟨S4x4096x4096, .f32⟩
  | 26 => ⟨S4096, .i32⟩
  | 27 => ⟨S1x4096, .i32⟩
  | 28 => ⟨S4096x1, .i32⟩
  | 29 => ⟨S4096x4096, .i32⟩
  | 30 => ⟨S4096x4096, .i32⟩
  | 31 => ⟨S4096x4096, .i1⟩
  | 32 => ⟨S_, .f32⟩
  | 33 => ⟨S_, .f32⟩
  | 34 => ⟨S4x4096x4096, .i1⟩
  | 35 => ⟨S4x4096x4096, .f32⟩
  | 36 => ⟨S4x4096x4096, .f32⟩
  | 37 => ⟨S_, .f32⟩
  | 38 => ⟨S4x4096x4096, .f32⟩
  | 39 => ⟨S_, .f32⟩
  | 40 => ⟨S4x4096, .f32⟩
  | 41 => ⟨S4x4096x1, .f32⟩
  | 42 => ⟨S4x4096x4096, .f32⟩
  | 43 => ⟨S4x4096x4096, .i1⟩
  | 44 => ⟨S4x4096x4096, .f32⟩
  | 45 => ⟨S_, .f32⟩
  | 46 => ⟨S4x4096, .f32⟩
  | 47 => ⟨S_, .f32⟩
  | 48 => ⟨S4x4096, .f32⟩
  | 49 => ⟨S4x4096, .f32⟩
  | 50 => ⟨S_, .f32⟩
  | 51 => ⟨S4x4096, .f32⟩
  | 52 => ⟨S4x4096, .i1⟩
  | 53 => ⟨S_, .f32⟩
  | 54 => ⟨S4x4096, .f32⟩
  | 55 => ⟨S4x4096, .i1⟩
  | 56 => ⟨S_, .f32⟩
  | 57 => ⟨S4x4096, .f32⟩
  | 58 => ⟨S_, .f32⟩
  | 59 => ⟨S4x4096, .f32⟩
  | 60 => ⟨S_, .f32⟩
  | 61 => ⟨S4x4096, .f32⟩
  | 62 => ⟨S4x4096, .f32⟩
  | 63 => ⟨S4x4096, .f32⟩
  | 64 => ⟨S4x4096x1, .f32⟩
  | 65 => ⟨S4x4096x4096, .f32⟩
  | 66 => ⟨S4x4096x4096, .f32⟩
  | 67 => ⟨S4x4096x4096, .f32⟩
  | 68 => ⟨S_, .f32⟩
  | 69 => ⟨S4x4096, .f32⟩
  | 70 => ⟨S4x4096x1, .f32⟩
  | 71 => ⟨S4x4096x4096, .f32⟩
  | 72 => ⟨S4x4096x4096, .f32⟩
  | 73 => ⟨S4x4096x1, .f32⟩
  | 74 => ⟨S_, .f32⟩
  | 75 => ⟨S4x4096x1, .f32⟩
  | 76 => ⟨S4x4096x1, .f32⟩
  | 77 => ⟨S4x4096x128, .f32⟩
  | 78 => ⟨S4096x4x128, .f32⟩
  | 79 => ⟨S4096x512, .f32⟩
  | 80 => ⟨S4096x4x128, .f32⟩
  | 81 => ⟨S4x4096x128, .f32⟩
  | 82 => ⟨S4x128x4096, .f32⟩
  | 83 => ⟨S4x4096x128, .f32⟩
  | 84 => ⟨S4x4096x4096, .f32⟩
  | 85 => ⟨S4x4096x4096, .f32⟩
  | 86 => ⟨S4x4096x4096, .f32⟩
  | 87 => ⟨S4x4096x4096, .f32⟩
  | 88 => ⟨S_, .f32⟩
  | 89 => ⟨S4x4096, .f32⟩
  | 90 => ⟨S4x4096x1, .f32⟩
  | 91 => ⟨S4x4096x1, .f32⟩
  | 92 => ⟨S4x4096x4096, .f32⟩
  | 93 => ⟨S4x4096x4096, .f32⟩
  | 94 => ⟨S_, .f32⟩
  | 95 => ⟨S4x4096, .f32⟩
  | 96 => ⟨S4x4096x4096, .f32⟩
  | 97 => ⟨S4x4096x4096, .f32⟩
  | 98 => ⟨S4x4096x4096, .f32⟩
  | 99 => ⟨S_, .f32⟩
  | 100 => ⟨S4x4096x4096, .f32⟩
  | 101 => ⟨S4x4096x4096, .f32⟩
  | 102 => ⟨S_, .f32⟩
  | 103 => ⟨S4x4096, .f32⟩
  | 104 => ⟨S4x4096x1, .f32⟩
  | 105 => ⟨S4x4096x4096, .f32⟩
  | 106 => ⟨S_, .f32⟩
  | 107 => ⟨S4x4096, .f32⟩
  | 108 => ⟨S4x1x4096, .f32⟩
  | 109 => ⟨S_, .f32⟩
  | 110 => ⟨S4x4096, .f32⟩
  | 111 => ⟨S_, .f32⟩
  | 112 => ⟨S4x4096, .f32⟩
  | 113 => ⟨S4x4096, .f32⟩
  | 114 => ⟨S_, .f32⟩
  | 115 => ⟨S4x4096x4096, .f32⟩
  | 116 => ⟨S4x4096x4096, .f32⟩
  | 117 => ⟨S4x4096x128, .f32⟩
  | 118 => ⟨S4x4096x128, .f32⟩
  | 119 => ⟨S4096x4, .f32⟩
  | 120 => ⟨S_, .f32⟩
  | 121 => ⟨S4096x128, .f32⟩
  | 122 => ⟨S4096x4x128, .f32⟩
  | 123 => ⟨S4096x512, .f32⟩
  | 124 => ⟨S4096x4x128, .f32⟩
  | 125 => ⟨S4096x512, .f32⟩
  | 126 => ⟨S4096x4x128, .f32⟩
  | 127 => ⟨S4096x512, .f32⟩
  | _ => ⟨S4096x512, .bf16⟩

abbrev hbmTy0_1 (i : Nat) : BufTy := match i % 128 with
  | 0 => ⟨S128x4096, .f32⟩
  | _ => ⟨S4096x512, .bf16⟩

abbrev hbmTy (i : Nat) : BufTy := match i / 128 with
  | 0 => hbmTy0_0 i
  | 1 => hbmTy0_1 i
  | _ => ⟨S4096x512, .bf16⟩

abbrev bufTy : (tb : Table) → Fin (tcTables nBuf tb) → BufTy
  | .hbm, ⟨i, _⟩ => hbmTy i
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_0 : Ref sig .tc := ⟨.hbm, 32, rfl⟩
abbrev main_call0_v0 : Ref sig .tc := ⟨.hbm, 33, rfl⟩
abbrev main_v26_1 : Ref sig .tc := ⟨.hbm, 34, rfl⟩
abbrev main_call0_v2 : Ref sig .tc := ⟨.hbm, 35, rfl⟩
abbrev main_v26_0 : Ref sig .tc := ⟨.hbm, 36, rfl⟩
abbrev main_call0_cst : Ref sig .tc := ⟨.hbm, 37, rfl⟩
abbrev main_v26_2 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_11 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_12 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_call1_cst : Ref sig .tc := ⟨.hbm, 99, rfl⟩
abbrev main_call1_v0 : Ref sig .tc := ⟨.hbm, 100, rfl⟩
abbrev main_v75 : Ref sig .tc := ⟨.hbm, 101, rfl⟩
abbrev main_cst_13 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_14 : Ref sig .tc := ⟨.hbm, 106, rfl⟩
abbrev main_v79 : Ref sig .tc := ⟨.hbm, 107, rfl⟩
abbrev main_v80 : Ref sig .tc := ⟨.hbm, 108, rfl⟩
abbrev main_cst_15 : Ref sig .tc := ⟨.hbm, 109, rfl⟩
abbrev main_v81 : Ref sig .tc := ⟨.hbm, 110, rfl⟩
abbrev main_cst_16 : Ref sig .tc := ⟨.hbm, 111, rfl⟩
abbrev main_v82 : Ref sig .tc := ⟨.hbm, 112, rfl⟩
abbrev main_v83 : Ref sig .tc := ⟨.hbm, 113, rfl⟩
abbrev main_cst_17 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_18 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩

abbrev nD : Nat := 1
abbrev τ : Topo := Topo.v7x

variable {F : FTy → Type} [FloatOps F]
-- ==== Proof.Head.lean ====
module
public import Mathlib.Analysis.SpecialFunctions.Log.Basic
public import Mathlib.Algebra.BigOperators.Intervals
public import Mathlib.Algebra.BigOperators.Fin

/-! The gradient of one head of stick-breaking attention, over the real numbers.

Rows `t` (queries) and `j` (keys) are natural numbers; only those below 4096 matter. -/

@[expose] public section

noncomputable section

namespace StickBreaking

open Finset

/-- The score scale: the single-precision neighbour of `1/√128` both programs multiply by. -/
def sc : ℝ := 11863283 / 134217728

/-- `log (sigmoid x)`, in the form that never overflows. -/
def logsig (x : ℝ) : ℝ := min x 0 - Real.log (1 + Real.exp (-|x|))

theorem exp_logsig (x : ℝ) : Real.exp (logsig x) = 1 / (1 + Real.exp (-x)) := by
  unfold logsig
  have h1 : (0:ℝ) < 1 + Real.exp (-|x|) := by positivity
  have h2 : (0:ℝ) < 1 + Real.exp (-x) := by positivity
  rw [Real.exp_sub, Real.exp_log h1]
  rcases le_total x 0 with h | h
  · rw [min_eq_left h, abs_of_nonpos h, neg_neg, div_eq_div_iff (by positivity) h2.ne', mul_add, ← Real.exp_add]
    simp [add_comm]
  · rw [min_eq_right h, abs_of_nonneg h, Real.exp_zero]

/-- One minus the sigmoid. -/
theorem exp_logsig_sub (x : ℝ) : Real.exp (logsig x - x) = 1 - Real.exp (logsig x) := by
  have h2 : (0:ℝ) < 1 + Real.exp (-x) := by positivity
  rw [sub_eq_add_neg, Real.exp_add, exp_logsig]
  field_simp
  ring

/-- `max x 0 + log (1 + exp (-|x|))`, the softplus the reference differentiates. -/
def softplus (x : ℝ) : ℝ := max x 0 + Real.log (1 + Real.exp (-|x|))

theorem neg_softplus (x : ℝ) : -softplus x = logsig x - x := by
  unfold softplus logsig
  rcases le_total x 0 with h | h
  · rw [min_eq_left h, max_eq_right h]; ring
  · rw [min_eq_right h, max_eq_left h]; ring

theorem neg_softplus_neg (x : ℝ) : -softplus (-x) = logsig x := by
  unfold softplus logsig
  rw [abs_neg]
  rcases le_total x 0 with h | h
  · rw [min_eq_left h, max_eq_left (by linarith)]; ring
  · rw [min_eq_right h, max_eq_right (by linarith)]; ring

/-- The arrays of one head: queries, keys, values and the gradient that arrives. -/
structure Head where
  q : ℕ → ℕ → ℝ
  k : ℕ → ℕ → ℝ
  v : ℕ → ℕ → ℝ
  g : ℕ → ℕ → ℝ

namespace Head

variable (h : Head)

/-- The score of query `t` on key `j`. -/
def z (t j : ℕ) : ℝ := ∑ d ∈ range 128, h.q t d * sc * h.k j d
/-- `log (1 - sigmoid)` of a score strictly before the query. -/
def lm (t j : ℕ) : ℝ := if j < t then logsig (h.z t j) - h.z t j else 0
/-- Its sum over the keys after `j`. -/
def tail (t j : ℕ) : ℝ := ∑ j' ∈ Ico (j + 1) 4096, h.lm t j'
/-- The attention weight. -/
def a (t j : ℕ) : ℝ := if j < t then Real.exp (logsig (h.z t j) + h.tail t j) else 0
/-- The weight's logarithm's gradient: the weight times the gradient of the weight. -/
def e (t j : ℕ) : ℝ := (∑ d ∈ range 128, h.g t d * h.v j d) * h.a t j
/-- Its sum over the keys before `j`. -/
def ce (t j : ℕ) : ℝ := ∑ j' ∈ range j, h.e t j'
/-- The gradient of the score. -/
def dz (t j : ℕ) : ℝ :=
  if j < t then h.e t j * (1 - Real.exp (logsig (h.z t j))) - h.ce t j * Real.exp (logsig (h.z t j)) else 0
/-- The query gradient before its scale, over the first `n` keys. -/
def dq (n t d : ℕ) : ℝ := ∑ j ∈ range n, h.dz t j * h.k j d
/-- The key gradient over the first `n` queries. -/
def dk (n j d : ℕ) : ℝ := ∑ t ∈ range n, h.dz t j * (h.q t d * sc)
/-- The value gradient over the first `n` queries. -/
def dv (n j d : ℕ) : ℝ := ∑ t ∈ range n, h.a t j * h.g t d

theorem a_zero {t j : ℕ} (H : t ≤ j) : h.a t j = 0 := if_neg (by omega)
theorem e_zero {t j : ℕ} (H : t ≤ j) : h.e t j = 0 := by rw [e, h.a_zero H, mul_zero]
theorem dz_zero {t j : ℕ} (H : t ≤ j) : h.dz t j = 0 := if_neg (by omega)

/-- The keys after `j0 + c`: those of the tile, then those after the tile. -/
theorem tail_tile (t j0 c : ℕ) (hc : c < 256) (hj : j0 + 256 ≤ 4096) :
    h.tail t (j0 + c) = (∑ c' ∈ range 256, h.lm t (j0 + c') * (if c < c' then 1 else 0)) + h.tail t (j0 + 255) := by
  unfold tail
  rw [← sum_Ico_consecutive _ (show j0 + c + 1 ≤ j0 + 255 + 1 by omega) (show j0 + 255 + 1 ≤ 4096 by omega)]
  congr 1
  simp only [mul_ite, mul_one, mul_zero]
  rw [← sum_filter]
  have : filter (fun c' => c < c') (range 256) = Ico (c + 1) 256 := by
    ext x; simp only [mem_filter, mem_range, mem_Ico]; omega
  rw [this, sum_Ico_add (fun x => h.lm t x) (c + 1) 256 j0]
  congr 1
  ext x; simp only [mem_Ico]; omega

/-- The keys before `j0 + c`: those before the tile, then those of the tile. -/
theorem ce_tile (t j0 c : ℕ) (hc : c < 256) :
    h.ce t (j0 + c) = h.ce t j0 + ∑ c' ∈ range 256, h.e t (j0 + c') * (if c' < c then 1 else 0) := by
  unfold ce
  rw [sum_range_add]
  congr 1
  simp only [mul_ite, mul_one, mul_zero]
  rw [← sum_filter]
  congr 1
  ext x; simp only [mem_filter, mem_range]; omega

theorem ce_add (t j0 n : ℕ) : h.ce t (j0 + n) = h.ce t j0 + ∑ c ∈ range n, h.e t (j0 + c) := sum_range_add _ _ _
theorem dq_add (j0 n t d : ℕ) : h.dq (j0 + n) t d = h.dq j0 t d + ∑ c ∈ range n, h.dz t (j0 + c) * h.k (j0 + c) d :=
  sum_range_add _ _ _

/-- Keys at or after the query give nothing. -/
theorem dq_stop (t n m d : ℕ) (h1 : t ≤ n) (h2 : n ≤ m) : h.dq m t d = h.dq n t d := by
  obtain ⟨k, rfl⟩ := Nat.exists_eq_add_of_le h2
  rw [dq_add, sum_eq_zero, add_zero]
  intro c _
  rw [h.dz_zero (by omega), zero_mul]

/-- Four runs of 128 rows. -/
theorem sum_four (f : ℕ → ℝ) (n : ℕ) :
    ∑ t ∈ range (n + 512), f t = ∑ t ∈ range n, f t + ((((0 + ∑ r ∈ range 128, f (n + r)) + ∑ r ∈ range 128, f (n + 128 + r))
      + ∑ r ∈ range 128, f (n + 256 + r)) + ∑ r ∈ range 128, f (n + 384 + r)) := by
  rw [show n + 512 = n + 128 + 128 + 128 + 128 by omega, sum_range_add, sum_range_add, sum_range_add, sum_range_add]
  ring

theorem dk_four (n j d : ℕ) : h.dk (n + 512) j d = h.dk n j d +
    ((((0 + ∑ r ∈ range 128, h.dz (n + r) j * (h.q (n + r) d * sc)) + ∑ r ∈ range 128, h.dz (n + 128 + r) j * (h.q (n + 128 + r) d * sc))
      + ∑ r ∈ range 128, h.dz (n + 256 + r) j * (h.q (n + 256 + r) d * sc)) + ∑ r ∈ range 128, h.dz (n + 384 + r) j * (h.q (n + 384 + r) d * sc)) :=
  sum_four (fun t => h.dz t j * (h.q t d * sc)) n

theorem dv_four (n j d : ℕ) : h.dv (n + 512) j d = h.dv n j d +
    ((((0 + ∑ r ∈ range 128, h.a (n + r) j * h.g (n + r) d) + ∑ r ∈ range 128, h.a (n + 128 + r) j * h.g (n + 128 + r) d)
      + ∑ r ∈ range 128, h.a (n + 256 + r) j * h.g (n + 256 + r) d) + ∑ r ∈ range 128, h.a (n + 384 + r) j * h.g (n + 384 + r) d) :=
  sum_four (fun t => h.a t j * h.g t d) n

/-- A key of the block's second half meets only the block's second half of queries. -/
theorem dk_two (n j d : ℕ) (hj : n + 256 ≤ j) : h.dk (n + 512) j d = h.dk n j d +
    ((0 + ∑ r ∈ range 128, h.dz (n + 256 + r) j * (h.q (n + 256 + r) d * sc)) + ∑ r ∈ range 128, h.dz (n + 384 + r) j * (h.q (n + 384 + r) d * sc)) := by
  rw [dk_four, sum_eq_zero (s := range 128) (f := fun r => h.dz (n + r) j * (h.q (n + r) d * sc)),
    sum_eq_zero (s := range 128) (f := fun r => h.dz (n + 128 + r) j * (h.q (n + 128 + r) d * sc))]
  · simp only [add_zero]
  · intro r hr; rw [mem_range] at hr; rw [h.dz_zero (by omega), zero_mul]
  · intro r hr; rw [mem_range] at hr; rw [h.dz_zero (by omega), zero_mul]

theorem dv_two (n j d : ℕ) (hj : n + 256 ≤ j) : h.dv (n + 512) j d = h.dv n j d +
    ((0 + ∑ r ∈ range 128, h.a (n + 256 + r) j * h.g (n + 256 + r) d) + ∑ r ∈ range 128, h.a (n + 384 + r) j * h.g (n + 384 + r) d) := by
  rw [dv_four, sum_eq_zero (s := range 128) (f := fun r => h.a (n + r) j * h.g (n + r) d),
    sum_eq_zero (s := range 128) (f := fun r => h.a (n + 128 + r) j * h.g (n + 128 + r) d)]
  · simp only [add_zero]
  · intro r hr; rw [mem_range] at hr; rw [h.a_zero (by omega), zero_mul]
  · intro r hr; rw [mem_range] at hr; rw [h.a_zero (by omega), zero_mul]

/-- Keys at or after the block's last query are left alone. -/
theorem dk_none (n j d : ℕ) (hj : n + 512 ≤ j) : h.dk (n + 512) j d = h.dk n j d := by
  unfold dk
  rw [sum_range_add, sum_eq_zero (s := range 512), add_zero]
  intro r hr; rw [mem_range] at hr; rw [h.dz_zero (by omega), zero_mul]

theorem dv_none (n j d : ℕ) (hj : n + 512 ≤ j) : h.dv (n + 512) j d = h.dv n j d := by
  unfold dv
  rw [sum_range_add, sum_eq_zero (s := range 512), add_zero]
  intro r hr; rw [mem_range] at hr; rw [h.a_zero (by omega), zero_mul]

end Head

end StickBreaking
-- ==== Proof.Ops.lean ====
module
public import proofs.«01_k».proof.Proof.Gen.KernelIdeal.Skeleton
public import proofs.«01_k».proof.Proof.Head
public import Idealize.ShloMosaic.PureOps.Ideal.Laws
public import Idealize.ShloMosaic.Lib.ValueIdx
public import Idealize.ShloMosaic.Lib.Pipeline.Value
public import Idealize.ShloMosaic.Lib.MatmulPlain

/-! The kernel's array operations on arrays of finite reals.

`Rep x f` says that a two-axis array of extended reals is the array of the reals `f row column`; each lemma below carries
it through one operation of the kernel's body. -/

@[expose] public section

noncomputable section

namespace StickBreaking

open Idealize.ShloMosaic Idealize.ShloMosaic.ValueIdx Cert.KernelIdeal Cert.KernelIdeal.Gen
open Finset

/-- The array `x` holds the reals `f`. -/
def Rep {m n : ℕ} (x : (⟨2, ![m, n]⟩ : Shape).Idx → EReal) (f : ℕ → ℕ → ℝ) : Prop :=
  ∀ (r : Fin m) (c : Fin n), x (ix2 r c) = ((f r c : ℝ) : EReal)

theorem Rep.congr {m n : ℕ} {x : (⟨2, ![m, n]⟩ : Shape).Idx → EReal} {f g : ℕ → ℕ → ℝ} (h : Rep x f)
    (e : ∀ r c, r < m → c < n → f r c = g r c) : Rep x g := fun r c => by
  rw [h r c, e r c r.isLt c.isLt]

theorem ofBits_one : Ideal.ofBits .f32 0x3F800000#32 = ((1 : ℝ) : EReal) := by
  simp [Ideal.ofBits, Ideal.ieee]
  rw [← EReal.coe_mul, ← EReal.coe_one]
  norm_num

theorem ofBits_sc : Ideal.ofBits .f32 0x3DB504F3#32 = ((sc : ℝ) : EReal) := by
  unfold sc
  simp [Ideal.ofBits, Ideal.ieee]
  rw [← EReal.coe_mul]
  norm_num

theorem ofBits_zero : Ideal.ofBits .f32 0x00000000#32 = ((0 : ℝ) : EReal) := by
  rw [Ideal.ofBits_zero_f32]; rfl

/-- A sum of finite reals is the finite real sum. -/
theorem coe_sum_fin {n : ℕ} (f : ℕ → ℝ) : ∑ i : Fin n, ((f i : ℝ) : EReal) = ((∑ i ∈ range n, f i : ℝ) : EReal) := by
  induction n with
  | zero => simp
  | succ n ih => rw [Fin.sum_univ_castSucc, sum_range_succ, EReal.coe_add, ← ih]; rfl

theorem Ideal_exp_coe (r : ℝ) : Ideal.exp (r : EReal) = ((Real.exp r : ℝ) : EReal) := rfl
theorem Ideal_log_coe {r : ℝ} (h : 0 < r) : Ideal.log (r : EReal) = ((Real.log r : ℝ) : EReal) := if_neg (not_le.2 h)

theorem max_coe (a b : ℝ) : max (a : EReal) (b : EReal) = ((max a b : ℝ) : EReal) := (EReal.coe_strictMono.monotone.map_max).symm
theorem min_coe (a b : ℝ) : min (a : EReal) (b : EReal) = ((min a b : ℝ) : EReal) := (EReal.coe_strictMono.monotone.map_min).symm

/-! ## The four products -/

variable {φ₁ φ₂ : FTy}

theorem Rep.dotNT {x : FVec Ideal S128x128 φ₁} {y : FVec Ideal S256x128 φ₂} {f g : ℕ → ℕ → ℝ} (hx : Rep x f) (hy : Rep y g) :
    Rep (matmul dot_S128x128_S256x128_S128x256_1_1_0_0_n_n none x y (constant S128x256 .f32 0x00000000#32))
      (fun r c => ∑ d ∈ range 128, f r d * g c d) := fun r c => by
  refine (Ideal.matmul_transposedRhs_apply none x y (constant S128x256 .f32 0x00000000#32) r c).trans ?_
  rw [constant_apply, Ideal.ofBits_zero_f32, zero_add, ← coe_sum_fin]
  exact Finset.sum_congr rfl fun k _ => by rw [hx, hy, EReal.coe_mul]

theorem Rep.dotNN {x : FVec Ideal S128x256 φ₁} {y : FVec Ideal S256x256 φ₂} {f g : ℕ → ℕ → ℝ} (hx : Rep x f) (hy : Rep y g) :
    Rep (matmul dot_S128x256_S256x256_S128x256_1_0_0_1_n_n none x y (constant S128x256 .f32 0x00000000#32))
      (fun r c => ∑ d ∈ range 256, f r d * g d c) := fun r c => by
  refine (Ideal.matmul_plain_apply none x y (constant S128x256 .f32 0x00000000#32) r c).trans ?_
  rw [constant_apply, Ideal.ofBits_zero_f32, zero_add, ← coe_sum_fin (fun k => f r k * g k c)]
  exact Finset.sum_congr rfl fun k _ => by rw [hx, hy, EReal.coe_mul]

theorem Rep.dotNN' {x : FVec Ideal S128x256 φ₁} {y : FVec Ideal S256x128 φ₂} {f g : ℕ → ℕ → ℝ} (hx : Rep x f) (hy : Rep y g) :
    Rep (matmul dot_S128x256_S256x128_S128x128_1_0_0_1_n_n none x y (constant S128x128 .f32 0x00000000#32))
      (fun r c => ∑ d ∈ range 256, f r d * g d c) := fun r c => by
  refine (Ideal.matmul_plain_apply none x y (constant S128x128 .f32 0x00000000#32) r c).trans ?_
  rw [constant_apply, Ideal.ofBits_zero_f32, zero_add, ← coe_sum_fin (fun k => f r k * g k c)]
  exact Finset.sum_congr rfl fun k _ => by rw [hx, hy, EReal.coe_mul]

theorem dotTN_contr : (dot_S128x256_S128x128_S256x128_0_0_1_1_n_n).contr.rank = 1 := rfl

theorem Rep.dotTN {x : FVec Ideal S128x256 φ₁} {y : FVec Ideal S128x128 φ₂} {f g : ℕ → ℕ → ℝ} (hx : Rep x f) (hy : Rep y g) :
    Rep (matmul dot_S128x256_S128x128_S256x128_0_0_1_1_n_n none x y (constant S256x128 .f32 0x00000000#32))
      (fun r c => ∑ d ∈ range 128, f d r * g d c) := fun r c => by
  let D := dot_S128x256_S128x128_S256x128_0_0_1_1_n_n
  let E := contrEquiv1 D 128 rfl rfl
  refine (Ideal.matmul_constant_zero_apply D none x y (ix2 r c)).trans ?_
  rw [← Equiv.sum_comp E.symm, ← coe_sum_fin (fun k => f k r * g k c)]
  refine Finset.sum_congr rfl fun k _ => ?_
  have hk := contrEquiv1_symm_val D 128 rfl rfl k
  have el : D.lhsIdx (ix2 r c) (E.symm k) = ix2 k r := by
    funext a; apply Fin.ext
    match a with
    | ⟨0, _⟩ => exact hk
    | ⟨1, _⟩ => rfl
  have er : D.rhsIdx (ix2 r c) (E.symm k) = ix2 k c := by
    funext a; apply Fin.ext
    match a with
    | ⟨0, _⟩ => exact hk
    | ⟨1, _⟩ => rfl
  rw [el, er, hx, hy, EReal.coe_mul]

/-! ## Elementwise operations -/

variable {m n : ℕ} {φ : FTy} {x y : FVec Ideal ⟨2, ![m, n]⟩ φ} {f g : ℕ → ℕ → ℝ}

theorem Rep.add (hx : Rep x f) (hy : Rep y g) : Rep (addf x y) (fun r c => f r c + g r c) := fun r c => by
  rw [addf_apply, hx, hy, EReal.coe_add]
theorem Rep.sub (hx : Rep x f) (hy : Rep y g) : Rep (subf x y) (fun r c => f r c - g r c) := fun r c => by
  rw [subf_apply, hx, hy, EReal.coe_sub]
theorem Rep.mul (hx : Rep x f) (hy : Rep y g) : Rep (mulf x y) (fun r c => f r c * g r c) := fun r c => by
  rw [mulf_apply, hx, hy, EReal.coe_mul]
theorem Rep.exp (hx : Rep x f) : Rep (Idealize.ShloMosaic.exp x) (fun r c => Real.exp (f r c)) := fun r c => by
  show Ideal.exp (x (ix2 r c)) = _
  rw [hx, Ideal_exp_coe]
theorem Rep.log (hx : Rep x f) (hf : ∀ r c, 0 < f r c) : Rep (Idealize.ShloMosaic.log x) (fun r c => Real.log (f r c)) := fun r c => by
  show Ideal.log (x (ix2 r c)) = _
  rw [hx, Ideal_log_coe (hf r c)]
theorem Rep.abs (hx : Rep x f) : Rep (absf x) (fun r c => |f r c|) := fun r c => by
  show max (x (ix2 r c)) (-(x (ix2 r c))) = _
  rw [hx, ← EReal.coe_neg, max_coe]; rfl
theorem Rep.min (hx : Rep x f) (hy : Rep y g) : Rep (minimumf x y) (fun r c => min (f r c) (g r c)) := fun r c => by
  rw [minimumf_apply, hx, hy, min_coe]
theorem Rep.zero : Rep (broadcast (⟨2, ![m, n]⟩ : Shape) (Scalar.ofBits (F := Ideal) .f32 0x00000000#32)) (fun _ _ => 0) := fun _ _ => ofBits_zero
theorem Rep.one : Rep (broadcast (⟨2, ![m, n]⟩ : Shape) (Scalar.ofBits (F := Ideal) .f32 0x3F800000#32)) (fun _ _ => 1) := fun _ _ => ofBits_one
theorem Rep.scale : Rep (broadcast (⟨2, ![m, n]⟩ : Shape) (Scalar.ofBits (F := Ideal) .f32 0x3DB504F3#32)) (fun _ _ => sc) := fun _ _ => ofBits_sc
theorem Rep.trunc {ψ : FTy} (h : ψ.bits < φ.bits) (hx : Rep x f) : Rep (truncf ψ x h) f := hx
theorem Rep.ext {ψ : FTy} (h : φ.bits < ψ.bits) (hx : Rep x f) : Rep (extf ψ x h) f := hx

/-- A choice by a mask that is one exactly where `p` holds. -/
theorem Rep.select {ok : IVec ⟨2, ![m, n]⟩ 1} {p : ℕ → ℕ → Prop} [∀ r c, Decidable (p r c)]
    (hok : ∀ (r : Fin m) (c : Fin n), ok (ix2 r c) = if p r c then 1#1 else 0#1) (hx : Rep x f) (hy : Rep y g) :
    Rep (Idealize.ShloMosaic.select ok x y) (fun r c => if p r c then f r c else g r c) := fun r c => by
  rw [select_apply, hok]
  by_cases h : p r c
  · rw [if_pos h, select_one, hx]; simp only [if_pos h]
  · rw [if_neg h, select_zero, hy]; simp only [if_neg h]

/-! ## Rows and columns of the tile -/

/-- A column spread over the tile's lanes. -/
theorem Rep.spread {x : FVec Ideal S128x1 .f32} {f : ℕ → ℕ → ℝ} (hx : Rep x f) :
    Rep (broadcastTo S128x256 x broadcasts_S128x1_S128x256) (fun r _ => f r 0) := fun r c => by
  rw [broadcastTo_apply x _ (ix2 r c) (ix2 r (0 : Fin 1)) (fun a => by match a with | ⟨0, _⟩ => rfl | ⟨1, _⟩ => rfl)]
  exact hx r 0

/-- The lanes' sum, as a column. -/
theorem Rep.laneSum {x : FVec Ideal S128x256 .f32} {f : ℕ → ℕ → ℝ} (hx : Rep x f) :
    Rep (shapeCast S128x1 (multiReduction .add [1] S128 x 0x00000000#32 reduces_S128x256_S128 (.inl rfl) rfl) shapeCasts_S128_S128x1)
      (fun r _ => ∑ c ∈ range 256, f r c) := fun r c => by
  rw [shapeCast_apply _ _ (ix2 r c) (ix1 r) (by
    rw [Shape.rowMajor_val_one, Shape.rowMajor_val_two]; have := c.isLt; simp)]
  refine (Ideal.multiReduction_add_single x _ reduces_S128x256_S128 (.inl rfl) rfl (ix1 r)).trans ?_
  rw [← coe_sum_fin]
  refine Finset.sum_congr rfl fun k _ => ?_
  have : reduces_S128x256_S128.lift (ix1 r) k = ix2 r k := by
    funext a; apply Fin.ext
    match a with
    | ⟨0, _⟩ => rfl
    | ⟨1, _⟩ => rfl
  rw [this]; exact hx r k

/-- 128 lanes of a row from lane `o` on, stood up as a column. -/
theorem Rep.column {x : FVec Ideal S1x512 .f32} {f : ℕ → ℕ → ℝ} (hx : Rep x f) (o : ℕ) (h : S1x512.Slices ![0, o] S1x128)
    (ho : o + 128 ≤ 512) :
    Rep (transpose S128x1 [1, 0] (extractStridedSlice S1x128 ![0, o] (shapeCast S1x512 x shapeCasts_S1x512_S1x512) h) transposes_S1x128_p1_0_S128x1)
      (fun r _ => f 0 (o + r)) := fun r c => by
  rw [transpose_apply _ _ _ (ix2 r c) (ix2 c r) (fun b => by match b with | ⟨0, _⟩ => rfl | ⟨1, _⟩ => rfl),
    extractStridedSlice_apply _ _ _ (ix2 c r) (ix2 c (⟨o + r.val, by have := r.isLt; omega⟩ : Fin 512))
      (fun a => by match a with | ⟨0, _⟩ => simp | ⟨1, _⟩ => rfl), shapeCast_self]
  have h0 : c = 0 := Subsingleton.elim _ _
  rw [h0]
  exact hx 0 ⟨o + r.val, by have := r.isLt; omega⟩

end StickBreaking
-- ==== Proof.Tile.lean ====
module
public import proofs.«01_k».proof.Proof.Ops

/-! One tile of the sweep: 128 queries from row `t0` on against 256 keys from row `j0` on.

First the kernel's operations on a tile, one definition per value of the body; then what each holds when its operands hold
a head's numbers. -/

@[expose] public section

noncomputable section

namespace StickBreaking

open Idealize.ShloMosaic Idealize.ShloMosaic.ValueIdx Cert.KernelIdeal Cert.KernelIdeal.Gen
open Finset

/-- A tile of scores, weights or gradients. -/
abbrev T := FVec Ideal S128x256 .f32
/-- 128 rows of a head. -/
abbrev R128 := FVec Ideal S128x128 .bf16
/-- 256 rows of a head. -/
abbrev R256 := FVec Ideal S256x128 .bf16
/-- A matrix of zeros and ones on a tile's keys. -/
abbrev Tri := FVec Ideal S256x256 .bf16
/-- One number per query. -/
abbrev Col := FVec Ideal S128x1 .f32

/-- The scores. -/
def zT (q : R128) (k : R256) : T :=
  matmul dot_S128x128_S256x128_S128x256_1_1_0_0_n_n none q k (constant S128x256 .f32 0x00000000#32)

/-- The scores' log-sigmoids. -/
def lsT (z : T) : T :=
  subf (minimumf z (broadcast S128x256 (Scalar.ofBits .f32 0x00000000#32)))
    (log (addf (broadcast S128x256 (Scalar.ofBits .f32 0x3F800000#32))
      (exp (subf (broadcast S128x256 (Scalar.ofBits .f32 0x00000000#32)) (absf z)))))

/-- A choice against zero. -/
def selT (ok : IVec S128x256 1) (x : T) : T := select ok x (broadcast S128x256 (Scalar.ofBits (F := Ideal) .f32 0x00000000#32))

/-- The weights. -/
def aT (after : Tri) (ls lm : T) (tail : Col) : T :=
  exp (addf (addf ls (matmul dot_S128x256_S256x256_S128x256_1_0_0_1_n_n none (truncf .bf16 lm bitsLt_bf16_f32) after
    (constant S128x256 .f32 0x00000000#32))) (broadcastTo S128x256 tail broadcasts_S128x1_S128x256))

/-- The weights times their gradients. -/
def eT (g : R128) (v : R256) (a : T) : T :=
  mulf (matmul dot_S128x128_S256x128_S128x256_1_1_0_0_n_n none g v (constant S128x256 .f32 0x00000000#32)) a

/-- The scores' gradients. -/
def dT (before : Tri) (pe : Col) (ls e : T) : T :=
  subf (mulf e (subf (broadcast S128x256 (Scalar.ofBits .f32 0x3F800000#32)) (exp ls)))
    (mulf (addf (broadcastTo S128x256 pe broadcasts_S128x1_S128x256)
      (matmul dot_S128x256_S256x256_S128x256_1_0_0_1_n_n none (truncf .bf16 e bitsLt_bf16_f32) before (constant S128x256 .f32 0x00000000#32)))
      (exp ls))

/-- The running sum of weights times gradients. -/
def peT (pe : Col) (e : T) : Col :=
  addf pe (shapeCast S128x1 (multiReduction .add [1] S128 e 0x00000000#32 reduces_S128x256_S128 (.inl rfl) rfl) shapeCasts_S128_S128x1)

/-- The running query gradient. -/
def dqT (dq : FVec Ideal S128x128 .f32) (d : FVec Ideal S128x256 .bf16) (k : R256) : FVec Ideal S128x128 .f32 :=
  addf dq (matmul dot_S128x256_S256x128_S128x128_1_0_0_1_n_n none d k (constant S128x128 .f32 0x00000000#32))

/-- What a sub-block adds to a key or value gradient. -/
def upT (d : FVec Ideal S128x256 .bf16) (q : R128) : FVec Ideal S256x128 .f32 :=
  matmul dot_S128x256_S128x128_S256x128_0_0_1_1_n_n none d q (constant S256x128 .f32 0x00000000#32)

/-- A key or value gradient's rows after four sub-blocks. -/
def up4 (old : FVec Ideal S256x128 .f32) (d0 d1 d2 d3 : FVec Ideal S128x256 .bf16) (q0 q1 q2 q3 : R128) : FVec Ideal S256x128 .f32 :=
  addf (shapeCast S256x128 old shapeCasts_S256x128_S256x128)
    (addf (addf (addf (addf (broadcast S256x128 (Scalar.ofBits .f32 0x00000000#32)) (upT d0 q0)) (upT d1 q1)) (upT d2 q2)) (upT d3 q3))

/-- The same after the last two only. -/
def up2 (old : FVec Ideal S256x128 .f32) (d2 d3 : FVec Ideal S128x256 .bf16) (q2 q3 : R128) : FVec Ideal S256x128 .f32 :=
  addf (shapeCast S256x128 old shapeCasts_S256x128_S256x128)
    (addf (addf (broadcast S256x128 (Scalar.ofBits .f32 0x00000000#32)) (upT d2 q2)) (upT d3 q3))

/-- 128 tails of a row, as a column. -/
def colT (o : ℕ) (h : S1x512.Slices ![0, o] S1x128) (x : FVec Ideal S1x512 .f32) : Col :=
  transpose S128x1 [1, 0] (extractStridedSlice S1x128 ![0, o] (shapeCast S1x512 x shapeCasts_S1x512_S1x512) h) transposes_S1x128_p1_0_S128x1

/-- Scaled queries. -/
def sqT (q : FVec Ideal S128x128 .bf16) : R128 :=
  truncf .bf16 (mulf (extf .f32 q bitsLt_bf16_f32) (broadcast S128x128 (Scalar.ofBits .f32 0x3DB504F3#32))) bitsLt_bf16_f32

/-- The query gradient with its scale. -/
def finT (dq : FVec Ideal S128x128 .f32) : FVec Ideal S128x128 .f32 := mulf dq (broadcast S128x128 (Scalar.ofBits .f32 0x3DB504F3#32))

/-! ## What they hold -/

theorem lsT_rep {z : T} {f : ℕ → ℕ → ℝ} (hz : Rep z f) : Rep (lsT z) (fun r c => logsig (f r c)) := by
  have h := (hz.min Rep.zero).sub ((Rep.one.add ((Rep.zero (m := 128) (n := 256)).sub hz.abs).exp).log (fun r c => by positivity))
  exact h.congr fun r c _ _ => by unfold logsig; rw [zero_sub]

theorem sqT_rep {q : FVec Ideal S128x128 .bf16} {f : ℕ → ℕ → ℝ} (hq : Rep q f) : Rep (sqT q) (fun r c => f r c * sc) :=
  ((hq.ext bitsLt_bf16_f32).mul Rep.scale).trunc bitsLt_bf16_f32

theorem finT_rep {q : FVec Ideal S128x128 .f32} {f : ℕ → ℕ → ℝ} (hq : Rep q f) : Rep (finT q) (fun r c => f r c * sc) := hq.mul Rep.scale

theorem upT_rep {d : FVec Ideal S128x256 .bf16} {q : R128} {f g : ℕ → ℕ → ℝ} (hd : Rep d f) (hq : Rep q g) :
    Rep (upT d q) (fun r c => ∑ t ∈ range 128, f t r * g t c) := hd.dotTN hq

/-- What a sub-block reads: queries from `t0` on, keys from `j0` on, the two matrices. -/
structure SubIn (h : Head) (t0 j0 : ℕ) (after before : Tri) (q g : R128) (k v : R256) (tail pe : Col) : Prop where
  after : Rep after (fun r c => if c < r then 1 else 0)
  before : Rep before (fun r c => if r < c then 1 else 0)
  q : Rep q (fun r d => h.q (t0 + r) d * sc)
  g : Rep g (fun r d => h.g (t0 + r) d)
  k : Rep k (fun c d => h.k (j0 + c) d)
  v : Rep v (fun c d => h.v (j0 + c) d)
  tail : Rep tail (fun r _ => h.tail (t0 + r) (j0 + 255))
  pe : Rep pe (fun r _ => h.ce (t0 + r) j0)

namespace SubIn

variable {h : Head} {t0 j0 : ℕ} {after before : Tri} {q g : R128} {k v : R256} {tail pe : Col}
variable (H : SubIn h t0 j0 after before q g k v tail pe)
include H

theorem z_rep : Rep (zT q k) (fun r c => h.z (t0 + r) (j0 + c)) := H.q.dotNT H.k

theorem ls_rep : Rep (lsT (zT q k)) (fun r c => logsig (h.z (t0 + r) (j0 + c))) := lsT_rep H.z_rep

theorem a_raw {lm : T} (hj : j0 + 256 ≤ 4096) (hl : Rep lm (fun r c => h.lm (t0 + r) (j0 + c))) :
    Rep (aT after (lsT (zT q k)) lm tail) (fun r c => Real.exp (logsig (h.z (t0 + r) (j0 + c)) + h.tail (t0 + r) (j0 + c))) :=
  (((H.ls_rep.add ((hl.trunc bitsLt_bf16_f32).dotNN H.after)).add H.tail.spread).exp).congr fun r c _ hc => by
    rw [h.tail_tile (t0 + r) j0 c hc hj, add_assoc]

theorem e_rep {a : T} (ha : Rep a (fun r c => h.a (t0 + r) (j0 + c))) : Rep (eT g v a) (fun r c => h.e (t0 + r) (j0 + c)) :=
  (H.g.dotNT H.v).mul ha

theorem d_raw {e : T} (he : Rep e (fun r c => h.e (t0 + r) (j0 + c))) :
    Rep (dT before pe (lsT (zT q k)) e) (fun r c => h.e (t0 + r) (j0 + c) * (1 - Real.exp (logsig (h.z (t0 + r) (j0 + c))))
      - h.ce (t0 + r) (j0 + c) * Real.exp (logsig (h.z (t0 + r) (j0 + c)))) :=
  ((he.mul (Rep.one.sub H.ls_rep.exp)).sub ((H.pe.spread.add ((he.trunc bitsLt_bf16_f32).dotNN H.before)).mul H.ls_rep.exp)).congr
    fun r c _ hc => by rw [h.ce_tile (t0 + r) j0 c hc]

theorem pe_rep {e : T} (he : Rep e (fun r c => h.e (t0 + r) (j0 + c))) :
    Rep (peT pe e) (fun r _ => h.ce (t0 + r) (j0 + 256)) :=
  (H.pe.add he.laneSum).congr fun r c _ hc => by rw [h.ce_add]

theorem dq_rep {d : FVec Ideal S128x256 .bf16} {dq : FVec Ideal S128x128 .f32} (hd : Rep d (fun r c => h.dz (t0 + r) (j0 + c)))
    (hq : Rep dq (fun r c => h.dq j0 (t0 + r) c)) : Rep (dqT dq d k) (fun r c => h.dq (j0 + 256) (t0 + r) c) :=
  (hq.add (hd.dotNN' H.k)).congr fun r c _ _ => by rw [h.dq_add]

/-! ### A tile wholly before the diagonal -/

theorem lm_full (hlt : j0 + 256 ≤ t0) : Rep (subf (lsT (zT q k)) (zT q k)) (fun r c => h.lm (t0 + r) (j0 + c)) :=
  (H.ls_rep.sub H.z_rep).congr fun r c _ hc => by unfold Head.lm; rw [if_pos (by omega)]

theorem a_full (hj : j0 + 256 ≤ 4096) (hlt : j0 + 256 ≤ t0) :
    Rep (aT after (lsT (zT q k)) (subf (lsT (zT q k)) (zT q k)) tail) (fun r c => h.a (t0 + r) (j0 + c)) :=
  (H.a_raw hj (H.lm_full hlt)).congr fun r c _ hc => by unfold Head.a; rw [if_pos (by omega)]

theorem d_full (hlt : j0 + 256 ≤ t0) {e : T} (he : Rep e (fun r c => h.e (t0 + r) (j0 + c))) :
    Rep (dT before pe (lsT (zT q k)) e) (fun r c => h.dz (t0 + r) (j0 + c)) :=
  (H.d_raw he).congr fun r c _ hc => by unfold Head.dz; rw [if_pos (by omega)]

/-! ### A tile on the diagonal -/

variable {ok : IVec S128x256 1}
  (hok : ∀ (r : Fin 128) (c : Fin 256), ok (ix2 r c) = if j0 + c.val < t0 + r.val then 1#1 else 0#1)
include hok

theorem lm_mask : Rep (selT ok (subf (lsT (zT q k)) (zT q k))) (fun r c => h.lm (t0 + r) (j0 + c)) :=
  Rep.select (p := fun r c => j0 + c < t0 + r) hok (H.ls_rep.sub H.z_rep) Rep.zero

theorem a_mask (hj : j0 + 256 ≤ 4096) :
    Rep (selT ok (aT after (lsT (zT q k)) (selT ok (subf (lsT (zT q k)) (zT q k))) tail)) (fun r c => h.a (t0 + r) (j0 + c)) :=
  Rep.select (p := fun r c => j0 + c < t0 + r) hok (H.a_raw hj (H.lm_mask hok)) Rep.zero

theorem d_mask {e : T} (he : Rep e (fun r c => h.e (t0 + r) (j0 + c))) :
    Rep (selT ok (dT before pe (lsT (zT q k)) e)) (fun r c => h.dz (t0 + r) (j0 + c)) :=
  Rep.select (p := fun r c => j0 + c < t0 + r) hok (H.d_raw he) Rep.zero

end SubIn

/-! ## The constants -/

theorem slt_ofNat (a b : ℕ) (ha : a < 4096) (hb : b < 4096) :
    IntOp.cmpi .slt (BitVec.ofNat 32 a) (BitVec.ofNat 32 b) = if a < b then 1#1 else 0#1 := by
  have h1 : (BitVec.ofNat 32 a).toInt = a := by rw [BitVec.toInt_eq_toNat_cond, BitVec.toNat_ofNat, Nat.mod_eq_of_lt (by omega), if_pos (by omega)]
  have h2 : (BitVec.ofNat 32 b).toInt = b := by rw [BitVec.toInt_eq_toNat_cond, BitVec.toNat_ofNat, Nat.mod_eq_of_lt (by omega), if_pos (by omega)]
  unfold IntOp.cmpi
  simp only [BitVec.slt, h1, h2]
  by_cases h : a < b
  · simp [h]
  · simp [h]

theorem sgt_ofNat (a b : ℕ) (ha : a < 4096) (hb : b < 4096) :
    IntOp.cmpi .sgt (BitVec.ofNat 32 a) (BitVec.ofNat 32 b) = if b < a then 1#1 else 0#1 :=
  slt_ofNat b a hb ha

theorem iota_one {s : Shape} (d : Fin s.rank) (h : s.Iotas .tc 32 [d]) (i : s.Idx) : iota .tc s 32 [d] h i = BitVec.ofNat 32 (i d).val := by
  show BitVec.ofNat 32 (0 * _ + (i d).val) = _
  rw [zero_mul, zero_add]

/-- The diagonal's mask. -/
theorem mask_apply (t0 j0 : ℕ) (ht : t0 + 128 ≤ 4096) (hj : j0 + 256 ≤ 4096) (row col : BitVec 32)
    (hr : row = BitVec.ofNat 32 t0) (hc : col = BitVec.ofNat 32 j0) (r : Fin 128) (c : Fin 256) :
    cmpi .slt (addi (broadcast S128x256 col) (iota .tc S128x256 32 [1] iota_S128x256_d1_w32))
      (addi (broadcast S128x256 row) (iota .tc S128x256 32 [0] iota_S128x256_d0_w32)) (ix2 r c)
      = if j0 + c.val < t0 + r.val then 1#1 else 0#1 := by
  subst hr hc
  refine Eq.trans ?_ (slt_ofNat (j0 + c.val) (t0 + r.val) (by omega) (by omega))
  rw [BitVec.ofNat_add, BitVec.ofNat_add]
  show IntOp.cmpi .slt (BitVec.ofNat 32 j0 + iota .tc S128x256 32 [1] iota_S128x256_d1_w32 (ix2 r c))
    (BitVec.ofNat 32 t0 + iota .tc S128x256 32 [0] iota_S128x256_d0_w32 (ix2 r c)) = _
  rw [iota_one, iota_one]

theorem after_rep : Rep (k0_pay57 (F := Ideal)) (fun r c => if c < r then 1 else 0) := fun r c => by
  show ((((IntOp.cmpi .sgt (iota .tc S256x256 32 [0] iota_S256x256_d0_w32 (ix2 r c)) (iota .tc S256x256 32 [1] iota_S256x256_d1_w32 (ix2 r c))).setWidth 32).toInt : ℝ) : EReal) = _
  rw [iota_one, iota_one]
  show ((((IntOp.cmpi .sgt (BitVec.ofNat 32 r.val) (BitVec.ofNat 32 c.val)).setWidth 32).toInt : ℝ) : EReal) = _
  rw [sgt_ofNat _ _ (by omega) (by omega)]
  by_cases h : c.val < r.val <;> simp [h]

theorem before_rep : Rep (k0_pay58 (F := Ideal)) (fun r c => if r < c then 1 else 0) := fun r c => by
  show ((((IntOp.cmpi .slt (iota .tc S256x256 32 [0] iota_S256x256_d0_w32 (ix2 r c)) (iota .tc S256x256 32 [1] iota_S256x256_d1_w32 (ix2 r c))).setWidth 32).toInt : ℝ) : EReal) = _
  rw [iota_one, iota_one]
  show ((((IntOp.cmpi .slt (BitVec.ofNat 32 r.val) (BitVec.ofNat 32 c.val)).setWidth 32).toInt : ℝ) : EReal) = _
  rw [slt_ofNat _ _ (by omega) (by omega)]
  by_cases h : r.val < c.val <;> simp [h]

end StickBreaking
-- ==== Proof.Elem.lean ====
module
public import proofs.«01_k».proof.Proof.Head
public import Idealize.ShloMosaic.PureOps.Ideal.Laws
public import Idealize.ShloMosaic.Lib.ValueIdx

/-! The reference's elementwise operations and running sums on arrays of finite reals. -/

@[expose] public section

noncomputable section

namespace StickBreaking

open Idealize.ShloMosaic Idealize.ShloMosaic.ValueIdx
open Finset

/-- The array `x` holds the reals `f`, by index. -/
def On {s : Shape} (x : s.Idx → EReal) (f : s.Idx → ℝ) : Prop := ∀ i, x i = ((f i : ℝ) : EReal)

section
variable {s : Shape} {x y : FVec Ideal s .f32} {f g : s.Idx → ℝ}

theorem On.congr (hx : On x f) (e : ∀ i, f i = g i) : On x g := fun i => by rw [hx i, e i]
theorem On.add (hx : On x f) (hy : On y g) : On (addf x y) (fun i => f i + g i) := fun i => by
  rw [addf_apply, hx, hy, EReal.coe_add]
theorem On.sub (hx : On x f) (hy : On y g) : On (subf x y) (fun i => f i - g i) := fun i => by
  rw [subf_apply, hx, hy, EReal.coe_sub]
theorem On.mul (hx : On x f) (hy : On y g) : On (mulf x y) (fun i => f i * g i) := fun i => by
  rw [mulf_apply, hx, hy, EReal.coe_mul]
theorem On.neg (hx : On x f) : On (Host.negf x) (fun i => -f i) := fun i => by
  show -(x i) = _
  rw [hx, EReal.coe_neg]
theorem On.abs (hx : On x f) : On (Host.absf x) (fun i => |f i|) := fun i => by
  show max (x i) (-(x i)) = _
  rw [hx, ← EReal.coe_neg, ← EReal.coe_strictMono.monotone.map_max]
  rfl
theorem On.exp (hx : On x f) : On (Host.exp x) (fun i => Real.exp (f i)) := fun i => by
  show Ideal.exp (x i) = _
  rw [hx]
  rfl
theorem On.log1p (hx : On x f) (hf : ∀ i, 0 < 1 + f i) : On (Host.log1p x) (fun i => Real.log (1 + f i)) := fun i => by
  show Ideal.log (1 + x i) = _
  rw [hx, ← EReal.coe_one, ← EReal.coe_add]
  exact if_neg (not_le.2 (hf i))
theorem On.max (hx : On x f) (hy : On y g) : On (maximumf x y) (fun i => max (f i) (g i)) := fun i => by
  show Max.max (x i) (y i) = _
  rw [hx, hy, ← EReal.coe_strictMono.monotone.map_max]
theorem On.select {m : IVec s 1} {p : s.Idx → Prop} [∀ i, Decidable (p i)] (hm : ∀ i, m i = if p i then 1#1 else 0#1) (hx : On x f) (hy : On y g) :
    On (select m x y) (fun i => if p i then f i else g i) := fun i => by
  show (if m i = 1#1 then x i else y i) = _
  rw [hm]
  by_cases h : p i
  · simp only [h, if_true]; exact hx i
  · simp only [h, if_false]; exact hy i
/-- No finite real differs from itself. -/
theorem On.une_self (hx : On x f) (i : s.Idx) : cmpf .une x x i = 0#1 := by
  show Ideal.cmp .une (x i) (x i) = 0#1
  simp [Ideal.cmp]
/-- No finite real is the infinity. -/
theorem On.oeq_top (hx : On x f) (hy : ∀ i, y i = ⊤) (i : s.Idx) : cmpf .oeq x y i = 0#1 := by
  show Ideal.cmp .oeq (x i) (y i) = 0#1
  rw [hx, hy]
  simp [Ideal.cmp]
theorem On.select_false {m : IVec s 1} (hm : ∀ i, m i = 0#1) (hy : On y g) : On (Idealize.ShloMosaic.select m x y) g := fun i => by
  show (if m i = 1#1 then x i else y i) = _
  rw [hm, if_neg (by decide)]
  exact hy i

/-- The reference's guarded softplus. -/
theorem On.softplus (hx : On x f) {z z' : FVec Ideal s .f32} (hz : On z (fun _ => 0)) :
    On (Idealize.ShloMosaic.select (cmpf .une (subf x z) (subf x z)) z' (addf (maximumf x z) (Host.log1p (Host.exp (Host.negf (Host.absf (subf x z)))))))
      (fun i => StickBreaking.softplus (f i)) :=
  On.select_false (hx.sub hz).une_self
    (((hx.max hz).add ((hx.sub hz).abs.neg.exp.log1p fun i => by positivity)).congr fun i => by
      unfold StickBreaking.softplus; rw [sub_zero])

/-- The derivative of softplus, as the reference takes it: `exp (x - softplus x)`. -/
theorem On.dsoftplus (hx : On x f) (hy : On y (fun i => StickBreaking.softplus (f i))) {t z t' z' : FVec Ideal s .f32} (ht : ∀ i, t i = ⊤) (ht' : ∀ i, t' i = ⊤) :
    On (Host.exp (subf (Idealize.ShloMosaic.select (cmpf .oeq x t) z x) (Idealize.ShloMosaic.select (cmpf .oeq y t') z' y)))
      (fun i => Real.exp (f i - StickBreaking.softplus (f i))) :=
  ((On.select_false (hx.oeq_top ht) hx).sub (On.select_false (hy.oeq_top ht') hy)).exp

end

/-! ## Running sums -/

theorem foldl_add_eq {m : ℕ} (l : List (Fin m)) (v : EReal) (g : Fin m → EReal) : l.foldl (fun r n => r + g n) v = v + (l.map g).sum := by
  induction l generalizing v with
  | nil => simp
  | cons a l ih => rw [List.foldl_cons, ih, List.map_cons, List.sum_cons, add_assoc]

theorem sum_real {n : ℕ} (f : ℕ → ℝ) : ∑ i : Fin n, ((f i : ℝ) : EReal) = ((∑ i ∈ range n, f i : ℝ) : EReal) := by
  induction n with
  | zero => simp
  | succ n ih => rw [Fin.sum_univ_castSucc, sum_range_succ, EReal.coe_add, ← ih]; rfl

/-- The indices of a window along the last axis alone. -/
def lastAxis (n : ℕ) : Fin n ≃ (⟨3, ![1, 1, n]⟩ : Shape).Idx where
  toFun k := ix3 0 0 k
  invFun w := w 2
  left_inv k := rfl
  right_inv w := by
    funext a
    match a with
    | ⟨0, _⟩ => exact Fin.ext (by have h : (w 0).val < 1 := (w 0).isLt; show 0 = (w 0).val; omega)
    | ⟨1, _⟩ => exact Fin.ext (by have h : (w 1).val < 1 := (w 1).isLt; show 0 = (w 1).val; omega)
    | ⟨2, _⟩ => rfl

/-- A window sum along the last of three axes. -/
theorem window_last {A B C : ℕ} (lo hi : Fin 3 → ℕ) (lo2 : ℕ) (hlo : lo = ![0, 0, lo2])
    (h : (⟨3, ![A, B, C]⟩ : Shape).ReduceWindows ![1, 1, C] ![1, 1, 1] lo hi ⟨3, ![A, B, C]⟩)
    (x : (⟨3, ![A, B, C]⟩ : Shape).Idx → EReal) (F : ℕ → ℕ → ℕ → ℝ)
    (hx : ∀ i : (⟨3, ![A, B, C]⟩ : Shape).Idx, x i = ((F (i 0).val (i 1).val (i 2).val : ℝ) : EReal)) (i : (⟨3, ![A, B, C]⟩ : Shape).Idx) :
    Ideal.hostReduceWindowAdd ![1, 1, C] ![1, 1, 1] lo hi h x 0 i
      = ((∑ n ∈ range C, (if lo2 ≤ (i 2).val + n ∧ (i 2).val + n - lo2 < C then F (i 0).val (i 1).val ((i 2).val + n - lo2) else 0) : ℝ) : EReal) := by
  subst hlo
  have h0 : (i 0).val < A := (i 0).isLt
  have h1 : (i 1).val < B := (i 1).isLt
  let G : (⟨3, ![1, 1, C]⟩ : Shape).Idx → EReal := fun w =>
    if hin : ∀ a : Fin 3, (![0, 0, lo2] : Fin 3 → ℕ) a ≤ (i a).val * (![1, 1, 1] : Fin 3 → ℕ) a + (w a).val
      ∧ (i a).val * (![1, 1, 1] : Fin 3 → ℕ) a + (w a).val - (![0, 0, lo2] : Fin 3 → ℕ) a < (![A, B, C] : Fin 3 → ℕ) a
    then x (fun a => ⟨(i a).val * (![1, 1, 1] : Fin 3 → ℕ) a + (w a).val - (![0, 0, lo2] : Fin 3 → ℕ) a, (hin a).2⟩) else 0
  have e : Ideal.hostReduceWindowAdd ![1, 1, C] ![1, 1, 1] ![0, 0, lo2] hi h x 0 i = ∑ k : Fin C, G (lastAxis C k) := by
    rw [Equiv.sum_comp (lastAxis C) G, ← Equiv.sum_comp (⟨3, ![1, 1, C]⟩ : Shape).rowMajor.symm G, Fin.sum_univ_def,
      ← zero_add (List.sum _), ← foldl_add_eq]
    rfl
  rw [e, ← sum_real]
  refine sum_congr rfl fun k _ => ?_
  dsimp only [G]
  by_cases hin : lo2 ≤ (i 2).val + k.val ∧ (i 2).val + k.val - lo2 < C
  · rw [if_pos hin, dif_pos]
    · rw [hx]
      have e0 : (i 0).val * 1 + 0 - 0 = (i 0).val := by omega
      have e1 : (i 1).val * 1 + 0 - 0 = (i 1).val := by omega
      have e2 : (i 2).val * 1 + k.val - lo2 = (i 2).val + k.val - lo2 := by omega
      show ((F ((i 0).val * 1 + 0 - 0) ((i 1).val * 1 + 0 - 0) ((i 2).val * 1 + k.val - lo2) : ℝ) : EReal) = _
      rw [e0, e1, e2]
    · intro a
      match a with
      | ⟨0, _⟩ => show 0 ≤ (i 0).val * 1 + 0 ∧ (i 0).val * 1 + 0 - 0 < A; omega
      | ⟨1, _⟩ => show 0 ≤ (i 1).val * 1 + 0 ∧ (i 1).val * 1 + 0 - 0 < B; omega
      | ⟨2, _⟩ => show lo2 ≤ (i 2).val * 1 + k.val ∧ (i 2).val * 1 + k.val - lo2 < C; omega
  · rw [if_neg hin, dif_neg]
    · rfl
    · intro hall
      have := hall ⟨2, by decide⟩
      have : lo2 ≤ (i 2).val * 1 + k.val ∧ (i 2).val * 1 + k.val - lo2 < C := this
      omega

/-- The sum over the entries from the window's own on. -/
theorem suffix_sum (F : ℕ → ℝ) (j : ℕ) (hj : j < 4096) :
    ∑ n ∈ range 4096, (if 0 ≤ j + n ∧ j + n - 0 < 4096 then F (j + n - 0) else 0) = ∑ n ∈ Ico j 4096, F n := by
  rw [← sum_filter]
  refine sum_bij' (fun n _ => j + n) (fun n _ => n - j) ?_ ?_ ?_ ?_ ?_
  · intro n hn; rw [mem_filter, mem_range] at hn; rw [mem_Ico]; omega
  · intro n hn; rw [mem_Ico] at hn; rw [mem_filter, mem_range]; omega
  · intro n _; omega
  · intro n hn; rw [mem_Ico] at hn; omega
  · intro n _; rw [Nat.sub_zero]

/-- The sum over the entries up to the window's own. -/
theorem prefix_sum (F : ℕ → ℝ) (j : ℕ) (hj : j < 4096) :
    ∑ n ∈ range 4096, (if 4095 ≤ j + n ∧ j + n - 4095 < 4096 then F (j + n - 4095) else 0) = ∑ n ∈ range (j + 1), F n := by
  rw [← sum_filter]
  refine sum_bij' (fun n _ => j + n - 4095) (fun n _ => n + 4095 - j) ?_ ?_ ?_ ?_ ?_
  · intro n hn; rw [mem_filter, mem_range] at hn; rw [mem_range]; omega
  · intro n hn; rw [mem_range] at hn; rw [mem_filter, mem_range]; omega
  · intro n hn; rw [mem_filter, mem_range] at hn; omega
  · intro n hn; rw [mem_range] at hn; omega
  · intro n _; rfl

end StickBreaking
-- ==== Proof.Ref.lean ====
module
public import proofs.«01_k».proof.Proof.Gen.ReferenceIdeal.Read
public import proofs.«01_k».proof.Proof.Tile
public import proofs.«01_k».proof.Proof.Elem

/-! What the reference computes from finite arguments: per head, the gradients of `Head`. -/

@[expose] public section

noncomputable section

namespace StickBreaking

open Idealize.ShloMosaic Idealize.ShloMosaic.ValueIdx Cert.ReferenceIdeal Cert.ReferenceIdeal.Gen Cert.ReferenceIdeal.Read
open Finset

/-- Head `n` of the packed projections `A` (queries, keys and values side by side) and the arriving gradient `G`. -/
def headOf (A G : ℕ → ℕ → ℝ) (n : ℕ) : Head :=
  ⟨fun t d => A t (128 * n + d), fun t d => A t (1024 + (128 * n + d)), fun t d => A t (2048 + (128 * n + d)), fun t d => G t (128 * n + d)⟩

/-- An index of a two-axis array by its coordinates' numbers. -/
theorem Rep.at {m n : ℕ} {x : (⟨2, ![m, n]⟩ : Shape).Idx → EReal} {f : ℕ → ℕ → ℝ} (h : Rep x f) (i : (⟨2, ![m, n]⟩ : Shape).Idx) {a b : ℕ}
    (ha : (i 0).val = a) (hb : (i 1).val = b) : x i = ((f a b : ℝ) : EReal) := by
  have := h (i 0) (i 1)
  rw [← ha, ← hb, ← this]
  congr 1
  exact eq_ix2 i

theorem ofBits_top : Ideal.ofBits .f32 0x7F800000#32 = ⊤ := by
  simp [Ideal.ofBits, Ideal.ieee]

/-- A constant held by every entry. -/
theorem on_const {s : Shape} {x : s.Idx → EReal} {b : BitVec 32} {r : ℝ} (hb : Ideal.ofBits .f32 b = (r : EReal)) (hx : ∀ i, x i = Ideal.ofBits .f32 b) :
    On x (fun _ => r) := fun i => (hx i).trans hb

section
variable {x0 : (⟨S4096x3072, .bf16⟩ : BufTy).Contents (Elt Ideal)} {x1 : (⟨S4096x1024, .f32⟩ : BufTy).Contents (Elt Ideal)} {A G : ℕ → ℕ → ℝ}

theorem ref_q (hx0 : Rep x0 A) : On (val_main_v5 (F := Ideal) x0) (fun i => (headOf A G (i 0).val).q (i 1).val (i 2).val) := fun i => by
  have h0 : (i 0).val < 8 := (i 0).isLt
  have h1 : (i 1).val < 4096 := (i 1).isLt
  have h2 : (i 2).val < 128 := (i 2).isLt
  rw [val_main_v5_apply, val_main_v4_apply, val_main_v1_apply, val_main_v0_apply]
  refine hx0.at _ ?_ ?_
  · show (((i 1).val * 8 + (i 0).val) * 128 + (i 2).val) / 1024 = (i 1).val; omega
  · show (((i 1).val * 8 + (i 0).val) * 128 + (i 2).val) % 1024 = 128 * (i 0).val + (i 2).val; omega

theorem ref_k (hx0 : Rep x0 A) : On (val_main_v7 (F := Ideal) x0) (fun i => (headOf A G (i 0).val).k (i 1).val (i 2).val) := fun i => by
  have h0 : (i 0).val < 8 := (i 0).isLt
  have h1 : (i 1).val < 4096 := (i 1).isLt
  have h2 : (i 2).val < 128 := (i 2).isLt
  rw [val_main_v7_apply, val_main_v6_apply, val_main_v2_apply, val_main_v0_apply]
  refine hx0.at _ ?_ ?_
  · show (((i 1).val * 8 + (i 0).val) * 128 + (i 2).val) / 1024 = (i 1).val; omega
  · show 1024 + (((i 1).val * 8 + (i 0).val) * 128 + (i 2).val) % 1024 = 1024 + (128 * (i 0).val + (i 2).val); omega

theorem ref_v (hx0 : Rep x0 A) : On (val_main_v9 (F := Ideal) x0) (fun i => (headOf A G (i 0).val).v (i 1).val (i 2).val) := fun i => by
  have h0 : (i 0).val < 8 := (i 0).isLt
  have h1 : (i 1).val < 4096 := (i 1).isLt
  have h2 : (i 2).val < 128 := (i 2).isLt
  rw [val_main_v9_apply, val_main_v8_apply, val_main_v3_apply, val_main_v0_apply]
  refine hx0.at _ ?_ ?_
  · show (((i 1).val * 8 + (i 0).val) * 128 + (i 2).val) / 1024 = (i 1).val; omega
  · show 2048 + (((i 1).val * 8 + (i 0).val) * 128 + (i 2).val) % 1024 = 2048 + (128 * (i 0).val + (i 2).val); omega

theorem ref_g (hx1 : Rep x1 G) : On (val_main_v32 (F := Ideal) x1) (fun i => (headOf A G (i 0).val).g (i 1).val (i 2).val) := fun i => by
  have h0 : (i 0).val < 8 := (i 0).isLt
  have h1 : (i 1).val < 4096 := (i 1).isLt
  have h2 : (i 2).val < 128 := (i 2).isLt
  rw [val_main_v32_apply, val_main_v31_apply]
  refine hx1.at _ ?_ ?_
  · show (((i 1).val * 8 + (i 0).val) * 128 + (i 2).val) / 1024 = (i 1).val; omega
  · show (((i 1).val * 8 + (i 0).val) * 128 + (i 2).val) % 1024 = 128 * (i 0).val + (i 2).val; omega

/-- A sum of products of finite entries. -/
theorem sum_mul_real {n : ℕ} {a b : Fin n → EReal} (f g : ℕ → ℝ) (ha : ∀ k, a k = ((f k : ℝ) : EReal)) (hb : ∀ k, b k = ((g k : ℝ) : EReal)) :
    ∑ k, a k * b k = ((∑ k ∈ range n, f k * g k : ℝ) : EReal) := by
  rw [← sum_real]
  refine sum_congr rfl fun k _ => ?_
  rw [ha, hb, EReal.coe_mul]

theorem ref_z (hx0 : Rep x0 A) : On (val_main_v12 (F := Ideal) x0) (fun i => (headOf A G (i 0).val).z (i 1).val (i 2).val) := by
  have h10 : On (val_main_v10 (F := Ideal) x0) (fun i => ∑ d ∈ range 128, (headOf A G (i 0).val).q (i 1).val d * (headOf A G (i 0).val).k (i 2).val d) := fun i => by
    rw [val_main_v10_apply]
    exact sum_mul_real (fun d => (headOf A G (i 0).val).q (i 1).val d) (fun d => (headOf A G (i 0).val).k (i 2).val d)
      (fun k => ref_q (G := G) hx0 (lidx_main_v10 i k)) (fun k => ref_k (G := G) hx0 (ridx_main_v10 i k))
  have h11 : On (val_main_v11 (F := Ideal)) (fun _ => sc) := on_const ofBits_sc fun _ => rfl
  refine (h10.mul h11).congr fun i => ?_
  unfold Head.z
  rw [sum_mul]
  exact sum_congr rfl fun d _ => by ring

theorem ref_mask (i : S8x4096x4096.Idx) : val_main_v21_1 (F := Ideal) i = if (i 2).val < (i 1).val then 1#1 else 0#1 := by
  have h1 : (i 1).val < 4096 := (i 1).isLt
  have h2 : (i 2).val < 4096 := (i 2).isLt
  rw [val_main_v21_1_apply, val_main_v18_apply, val_main_v16_apply, val_main_v17_apply, val_main_v14_apply, val_main_v15_apply,
    val_main_v13_apply, val_main_v13_apply]
  exact slt_ofNat (i 2).val (i 1).val h2 h1

theorem ref_mask' (i : S8x4096x4096.Idx) : val_main_v27_1 (F := Ideal) i = if (i 2).val < (i 1).val then 1#1 else 0#1 := by
  rw [← ref_mask, val_main_v27_1_apply, val_main_v21_1_apply]

theorem ref_softplus (hx0 : Rep x0 A) :
    On (val_main_call0_v1_0 (F := Ideal) x0) (fun i => softplus ((headOf A G (i 0).val).z (i 1).val (i 2).val)) := by
  have h : On (val_main_call0_v0 (F := Ideal) x0) (fun i => (headOf A G (i 0).val).z (i 1).val (i 2).val) :=
    ((ref_z (G := G) hx0).neg.neg).congr fun i => neg_neg _
  exact h.softplus (on_const ofBits_zero fun _ => rfl)

/-- The sigmoid of the score. -/
theorem ref_sig (hx0 : Rep x0 A) :
    On (val_main_v20_1 (F := Ideal) x0) (fun i => Real.exp (logsig ((headOf A G (i 0).val).z (i 1).val (i 2).val))) := by
  have h : On (val_main_call0_v0 (F := Ideal) x0) (fun i => (headOf A G (i 0).val).z (i 1).val (i 2).val) :=
    ((ref_z (G := G) hx0).neg.neg).congr fun i => neg_neg _
  refine (h.dsoftplus (ref_softplus hx0) (fun _ => ofBits_top) (fun _ => ofBits_top)).congr fun i => ?_
  have := neg_softplus ((headOf A G (i 0).val).z (i 1).val (i 2).val)
  congr 1
  linarith

theorem ref_lm (hx0 : Rep x0 A) : On (val_main_v21_0 (F := Ideal) x0) (fun i => (headOf A G (i 0).val).lm (i 1).val (i 2).val) :=
  (On.select ref_mask (ref_softplus (G := G) hx0).neg (on_const ofBits_zero fun _ => rfl)).congr fun i => by
    unfold Head.lm
    rw [neg_softplus]

/-- The host's window sum, at the extended reals. -/
theorem hostReduceWindowAdd_eq {s si : Shape} (window strides lo hi : Fin s.rank → ℕ) (x : FVec Ideal s .f32) (init : FVec Ideal si .f32)
    (h : s.ReduceWindows window strides lo hi s) (hu : 0 < si.numel) :
    Host.reduceWindowAdd window strides lo hi x init h hu = Ideal.hostReduceWindowAdd window strides lo hi h x (init (Shape.Idx.first hu)) := rfl

/-- The reference's reversed running sum, its own entry included. -/
theorem ref_suffix (hx0 : Rep x0 A) :
    On (val_main_v22 (F := Ideal) x0) (fun i => ∑ j ∈ Ico (i 2).val 4096, (headOf A G (i 0).val).lm (i 1).val j) := fun i => by
  have h2 : (i 2).val < 4096 := (i 2).isLt
  beta_reduce
  rw [← suffix_sum _ _ h2]
  have hz : val_main_call2_v0 (F := Ideal) (Shape.Idx.first h_S_) = (0 : EReal) := ofBits_zero
  have hw := window_last ![0, 0, 0] ![0, 0, 4095] 0 rfl reduceWindows_S8x4096x4096_S8x4096x4096_w1s1p0_0_w1s1p0_0_w4096s1p0_4095 (val_main_v21_0 (F := Ideal) x0)
    (fun n t j => (headOf A G n).lm t j) (ref_lm hx0) i
  rw [← hz] at hw
  rw [← hw, val_main_v22]
  exact congrFun (hostReduceWindowAdd_eq _ _ _ _ _ _ _ _) i

theorem ref_tail (hx0 : Rep x0 A) : On (val_main_v23 (F := Ideal) x0) (fun i => (headOf A G (i 0).val).tail (i 1).val (i 2).val) :=
  ((ref_suffix (G := G) hx0).sub (ref_lm hx0)).congr fun i => by
    have h2 : (i 2).val < 4096 := (i 2).isLt
    unfold Head.tail
    rw [sum_eq_sum_Ico_succ_bot h2, add_sub_cancel_left]

theorem ref_softplus' (hx0 : Rep x0 A) :
    On (val_main_call3_v1_0 (F := Ideal) x0) (fun i => softplus (-(headOf A G (i 0).val).z (i 1).val (i 2).val)) :=
  (ref_z (G := G) hx0).neg.softplus (on_const ofBits_zero fun _ => rfl)

/-- One minus the sigmoid of the score. -/
theorem ref_sig' (hx0 : Rep x0 A) :
    On (val_main_v24_1 (F := Ideal) x0) (fun i => 1 - Real.exp (logsig ((headOf A G (i 0).val).z (i 1).val (i 2).val))) := by
  refine ((ref_z (G := G) hx0).neg.dsoftplus (ref_softplus' hx0) (fun _ => ofBits_top) (fun _ => ofBits_top)).congr fun i => ?_
  have := neg_softplus_neg ((headOf A G (i 0).val).z (i 1).val (i 2).val)
  rw [← exp_logsig_sub]
  congr 1
  linarith

/-- The weight before its mask. -/
theorem ref_w (hx0 : Rep x0 A) :
    On (val_main_v26 (F := Ideal) x0) (fun i => Real.exp (logsig ((headOf A G (i 0).val).z (i 1).val (i 2).val) + (headOf A G (i 0).val).tail (i 1).val (i 2).val)) :=
  ((ref_softplus' (G := G) hx0).neg.add (ref_tail hx0)).exp.congr fun i => by
    rw [neg_softplus_neg]

theorem ref_a (hx0 : Rep x0 A) : On (val_main_v27_0 (F := Ideal) x0) (fun i => (headOf A G (i 0).val).a (i 1).val (i 2).val) :=
  On.select ref_mask' (ref_w (G := G) hx0) (on_const ofBits_zero fun _ => rfl)

theorem ref_e (hx0 : Rep x0 A) (hx1 : Rep x1 G) :
    On (val_main_v37 (F := Ideal) x0 x1) (fun i => (headOf A G (i 0).val).e (i 1).val (i 2).val) := by
  have h35 : On (val_main_v35 (F := Ideal) x0 x1) (fun i => ∑ d ∈ range 128, (headOf A G (i 0).val).g (i 1).val d * (headOf A G (i 0).val).v (i 2).val d) := fun i => by
    rw [val_main_v35_apply]
    exact sum_mul_real (fun d => (headOf A G (i 0).val).g (i 1).val d) (fun d => (headOf A G (i 0).val).v (i 2).val d)
      (fun k => ref_g (A := A) hx1 (lidx_main_v35 i k)) (fun k => ref_v (G := G) hx0 (ridx_main_v35 i k))
  refine ((On.select ref_mask' h35 (on_const ofBits_zero fun _ => rfl)).mul (ref_w (G := G) hx0)).congr fun i => ?_
  unfold Head.e Head.a
  split_ifs
  · rfl
  · rw [zero_mul, mul_zero]

/-- The reference's running sum, its own entry included. -/
theorem ref_prefix (hx0 : Rep x0 A) (hx1 : Rep x1 G) :
    On (val_main_v40 (F := Ideal) x0 x1) (fun i => ∑ j ∈ range ((i 2).val + 1), (headOf A G (i 0).val).e (i 1).val j) := fun i => by
  have h2 : (i 2).val < 4096 := (i 2).isLt
  beta_reduce
  rw [← prefix_sum _ _ h2]
  have hz : val_main_call7_v0 (F := Ideal) (Shape.Idx.first h_S_) = (0 : EReal) := ofBits_zero
  have hw := window_last ![0, 0, 4095] ![0, 0, 0] 4095 rfl reduceWindows_S8x4096x4096_S8x4096x4096_w1s1p0_0_w1s1p0_0_w4096s1p4095_0 (val_main_v37 (F := Ideal) x0 x1)
    (fun n t j => (headOf A G n).e t j) (ref_e hx0 hx1) i
  rw [← hz] at hw
  rw [← hw, val_main_v40]
  exact congrFun (hostReduceWindowAdd_eq _ _ _ _ _ _ _ _) i

/-- The gradient of the score before its scale. -/
theorem ref_dz (hx0 : Rep x0 A) (hx1 : Rep x1 G) :
    On (val_main_v45 (F := Ideal) x0 x1) (fun i => (headOf A G (i 0).val).dz (i 1).val (i 2).val) := by
  have h38 := ((ref_e hx0 hx1).neg.mul (ref_sig' (G := G) hx0)).neg
  have h41 : On (val_main_v41 (F := Ideal) x0 x1) (fun i => (headOf A G (i 0).val).ce (i 1).val (i 2).val) :=
    ((ref_e hx0 hx1).neg.add (ref_prefix hx0 hx1)).congr fun i => by
      unfold Head.ce
      rw [sum_range_succ]
      ring
  have h42 := On.select ref_mask h41 (on_const (x := val_main_call8_v0 (F := Ideal)) ofBits_zero fun _ => rfl)
  refine (h38.add ((h42.neg.mul (ref_sig (G := G) hx0)).neg.neg)).congr fun i => ?_
  unfold Head.dz
  split_ifs with h
  · ring
  · rw [(headOf A G (i 0).val).e_zero (not_lt.1 h)]
    ring

theorem ref_dzs (hx0 : Rep x0 A) (hx1 : Rep x1 G) :
    On (val_main_v47 (F := Ideal) x0 x1) (fun i => (headOf A G (i 0).val).dz (i 1).val (i 2).val * sc) :=
  (ref_dz hx0 hx1).mul (on_const ofBits_sc fun _ => rfl)

/-! ## The three results -/

theorem ref_dq (hx0 : Rep x0 A) (hx1 : Rep x1 G) :
    Rep (val_main_v55 (F := Ideal) x0 x1) (fun t c => (headOf A G (c / 128)).dq 4096 t (c % 128) * sc) := fun t c => by
  have h49 : On (val_main_v49 (F := Ideal) x0 x1) (fun i => (headOf A G (i 0).val).dq 4096 (i 1).val (i 2).val * sc) := fun i => by
    rw [val_main_v49_apply]
    refine (sum_mul_real (fun j => (headOf A G (i 0).val).dz (i 1).val j * sc) (fun j => (headOf A G (i 0).val).k j (i 2).val)
      (fun k => ref_dzs hx0 hx1 (lidx_main_v49 i k)) (fun k => ref_k (G := G) hx0 (ridx_main_v49 i k))).trans ?_
    unfold Head.dq
    beta_reduce
    rw [sum_mul]
    exact congrArg _ (sum_congr rfl fun j _ => by ring)
  rw [val_main_v55_apply, val_main_v54_apply, h49]
  have e0 : (t.val * 1024 + c.val) / 128 % 8 = c.val / 128 := by omega
  have e1 : (t.val * 1024 + c.val) / 1024 = t.val := by omega
  have e2 : (t.val * 1024 + c.val) % 128 = c.val % 128 := by omega
  show (((headOf A G ((t.val * 1024 + c.val) / 128 % 8)).dq 4096 ((t.val * 1024 + c.val) / 1024) ((t.val * 1024 + c.val) % 128) * sc : ℝ) : EReal) = _
  rw [e0, e1, e2]

theorem ref_dk (hx0 : Rep x0 A) (hx1 : Rep x1 G) :
    Rep (val_main_v53 (F := Ideal) x0 x1) (fun t c => (headOf A G (c / 128)).dk 4096 t (c % 128)) := fun t c => by
  have h48 : On (val_main_v48 (F := Ideal) x0 x1) (fun i => (headOf A G (i 0).val).dk 4096 (i 1).val (i 2).val) := fun i => by
    rw [val_main_v48_apply]
    refine (sum_mul_real (fun j => (headOf A G (i 0).val).dz j (i 1).val * sc) (fun j => (headOf A G (i 0).val).q j (i 2).val)
      (fun k => ref_dzs hx0 hx1 (lidx_main_v48 i k)) (fun k => ref_q (G := G) hx0 (ridx_main_v48 i k))).trans ?_
    unfold Head.dk
    exact congrArg _ (sum_congr rfl fun j _ => by ring)
  rw [val_main_v53_apply, val_main_v52_apply, h48]
  have e0 : (t.val * 1024 + c.val) / 128 % 8 = c.val / 128 := by omega
  have e1 : (t.val * 1024 + c.val) / 1024 = t.val := by omega
  have e2 : (t.val * 1024 + c.val) % 128 = c.val % 128 := by omega
  show (((headOf A G ((t.val * 1024 + c.val) / 128 % 8)).dk 4096 ((t.val * 1024 + c.val) / 1024) ((t.val * 1024 + c.val) % 128) : ℝ) : EReal) = _
  rw [e0, e1, e2]

theorem ref_dv (hx0 : Rep x0 A) (hx1 : Rep x1 G) :
    Rep (val_main_v51 (F := Ideal) x0 x1) (fun t c => (headOf A G (c / 128)).dv 4096 t (c % 128)) := fun t c => by
  have h33 : On (val_main_v33 (F := Ideal) x0 x1) (fun i => (headOf A G (i 0).val).dv 4096 (i 2).val (i 1).val) := fun i => by
    rw [val_main_v33_apply]
    refine (sum_mul_real (fun j => (headOf A G (i 0).val).g j (i 1).val) (fun j => (headOf A G (i 0).val).a j (i 2).val)
      (fun k => ref_g (A := A) hx1 (lidx_main_v33 i k)) (fun k => ref_a (G := G) hx0 (ridx_main_v33 i k))).trans ?_
    unfold Head.dv
    exact congrArg _ (sum_congr rfl fun j _ => by ring)
  rw [val_main_v51_apply, val_main_v50_apply, val_main_v34_apply, h33]
  have e0 : (t.val * 1024 + c.val) / 128 % 8 = c.val / 128 := by omega
  have e1 : (t.val * 1024 + c.val) / 1024 = t.val := by omega
  have e2 : (t.val * 1024 + c.val) % 128 = c.val % 128 := by omega
  show (((headOf A G ((t.val * 1024 + c.val) / 128 % 8)).dv 4096 ((t.val * 1024 + c.val) / 1024) ((t.val * 1024 + c.val) % 128) : ℝ) : EReal) = _
  rw [e0, e1, e2]

end

end StickBreaking
-- ==== Proof.Tails.lean ====
module
public import proofs.«01_k».proof.Proof.Ref
public import proofs.«01_k».proof.Proof.Gen.KernelIdeal.Frame.Runs

/-! The tails the kernel's host lines hand to the call: each head's running sums at the last key of every tile. -/

@[expose] public section

set_option maxRecDepth 16384

noncomputable section

namespace StickBreaking

open Idealize.ShloMosaic Idealize.ShloMosaic.ValueIdx Idealize.ShloMosaic.TcCoe Idealize.ShloMosaic.StableHlo Cert.KernelIdeal Cert.KernelIdeal.Gen
open Cert.ReferenceIdeal.Read (val_main_v23)
open Finset

variable (m : (ℓ : Loc nD τ sig) → Buf (Elt Ideal) ℓ) (c : Dev nD)

set_option maxHeartbeats 40000000 in
/-- The call's fourth argument is the reference's reversed running sum at every 256th key, heads and tiles together. -/
theorem V_tails : V m c main_v24
    = shapeCast _ (transpose S8x16x4096 [0, 2, 1] (Host.slice S8x4096x16 ![0, 0, 255] ![1, 1, 256] (val_main_v23 (F := Ideal) (m ((c : Thread nD τ).loc main_arg0)))
        slicesBy_S8x4096x4096_S8x4096x16_0s1_0s1_255s256) transposes_S8x4096x16_S8x16x4096_0_2_1) shapeCasts_S8x16x4096_S128x4096 := by
  simp only [V, hostOps0, hostOps0_1, hostOps0_2, hostOps0_3, hostOps0_4, hostOps0_5, List.flatten_cons, List.flatten_nil, List.append_nil, List.cons_append, List.nil_append,
    TRef.binary, TRef.nullary, TRef.ternary, TRef.unary, TRef.toBuf, TRef.ofBuf, cast_eq]
  after_results_simp <;> rfl

/-- … so its row `16·head + tile` holds that head's running sum at the tile's last key. -/
theorem tails_rep {A : ℕ → ℕ → ℝ} (G : ℕ → ℕ → ℝ) (hx0 : Rep (m ((c : Thread nD τ).loc main_arg0) : Vec Ideal S4096x3072 .bf16) A) :
    Rep (V m c main_v24 : Vec Ideal S128x4096 .f32) (fun b t => (headOf A G (b / 16)).tail t (256 * (b % 16) + 255)) := by
  intro b t
  rw [V_tails]
  rw [shapeCast_apply _ _ (ix2 b t) (ix3 (⟨b.val / 16, by omega⟩ : Fin 8) (⟨b.val % 16, by omega⟩ : Fin 16) t) (by
    rw [Shape.rowMajor_val_three, Shape.rowMajor_val_two]
    show (b.val / 16 * 16 + b.val % 16) * 4096 + t.val = b.val * 4096 + t.val
    omega)]
  rw [transpose_apply [0, 2, 1] _ _ (ix3 (⟨b.val / 16, by omega⟩ : Fin 8) (⟨b.val % 16, by omega⟩ : Fin 16) t) (ix3 (⟨b.val / 16, by omega⟩ : Fin 8) t (⟨b.val % 16, by omega⟩ : Fin 16))
    (fun a => match a with | ⟨0, _⟩ => rfl | ⟨1, _⟩ => rfl | ⟨2, _⟩ => rfl)]
  refine Eq.trans (?_ : _ = val_main_v23 (F := Ideal) (m ((c : Thread nD τ).loc main_arg0)) (ix3 (⟨b.val / 16, by omega⟩ : Fin 8) t (⟨255 + 256 * (b.val % 16), by omega⟩ : Fin 4096))) ?_
  · unfold Host.slice
    exact congrArg _ (funext fun a => Fin.ext (match a with
      | ⟨0, _⟩ => by show 0 + 1 * (b.val / 16) = b.val / 16; omega
      | ⟨1, _⟩ => by show 0 + 1 * t.val = t.val; omega
      | ⟨2, _⟩ => rfl))
  · refine ((ref_tail (G := G) hx0) _).trans ?_
    show ((((headOf A G (b.val / 16)).tail t.val (255 + 256 * (b.val % 16)) : ℝ)) : EReal) = _
    rw [Nat.add_comm 255]

end StickBreaking
-- ==== Proof.Trip.lean ====
module
public import proofs.«01_k».proof.Proof.Gen.KernelIdeal.Loops
public import proofs.«01_k».proof.Proof.Tile

/-! One trip of the sweep over the tiles before the diagonal, as the tile operations of `Tile`. -/

@[expose] public section

set_option maxRecDepth 16384

noncomputable section

namespace StickBreaking

open Idealize.ShloMosaic Idealize.ShloMosaic.ValueIdx Idealize.ShloMosaic.TcCoe Idealize.ShloMosaic.Tactic Cert.KernelIdeal Cert.KernelIdeal.Gen

/-- The weights of a tile before the diagonal. -/
def fA (after : Tri) (q : R128) (k : R256) (tail : Col) : T := aT after (lsT (zT q k)) (subf (lsT (zT q k)) (zT q k)) tail
/-- The weights times their gradients. -/
def fE (after : Tri) (q g : R128) (k v : R256) (tail : Col) : T := eT g v (fA after q k tail)
/-- The score gradients. -/
def fD (after before : Tri) (q g : R128) (k v : R256) (tail pe : Col) : T := dT before pe (lsT (zT q k)) (fE after q g k v tail)

/-- The values the sweep carries: the four running sums and the four query gradients. -/
abbrev Acc := Col × Col × Col × Col × FVec Ideal S128x128 .f32 × FVec Ideal S128x128 .f32 × FVec Ideal S128x128 .f32 × FVec Ideal S128x128 .f32

/-- The carried values after one tile before the diagonal. -/
def stepAcc (after before : Tri) (q0 q1 q2 q3 g0 g1 g2 g3 : R128) (k v : R256) (row : FVec Ideal S1x512 .f32) (acc : Acc) : Acc :=
  let t0 := colT 0 slices_S1x512_o0_0_S1x128 row
  let t1 := colT 128 slices_S1x512_o0_128_S1x128 row
  let t2 := colT 256 slices_S1x512_o0_256_S1x128 row
  let t3 := colT 384 slices_S1x512_o0_384_S1x128 row
  (peT acc.1 (fE after q0 g0 k v t0), peT acc.2.1 (fE after q1 g1 k v t1), peT acc.2.2.1 (fE after q2 g2 k v t2),
    peT acc.2.2.2.1 (fE after q3 g3 k v t3), dqT acc.2.2.2.2.1 (fD after before q0 g0 k v t0 acc.1) k,
    dqT acc.2.2.2.2.2.1 (fD after before q1 g1 k v t1 acc.2.1) k, dqT acc.2.2.2.2.2.2.1 (fD after before q2 g2 k v t2 acc.2.2.1) k,
    dqT acc.2.2.2.2.2.2.2 (fD after before q3 g3 k v t3 acc.2.2.2.1) k)

/-- The key gradient's rows after one tile before the diagonal. -/
def stepDk (after before : Tri) (q0 q1 q2 q3 g0 g1 g2 g3 : R128) (k v : R256) (row : FVec Ideal S1x512 .f32) (acc : Acc) (old : FVec Ideal S256x128 .f32) :
    FVec Ideal S256x128 .f32 :=
  up4 old (fD after before q0 g0 k v (colT 0 slices_S1x512_o0_0_S1x128 row) acc.1) (fD after before q1 g1 k v (colT 128 slices_S1x512_o0_128_S1x128 row) acc.2.1)
    (fD after before q2 g2 k v (colT 256 slices_S1x512_o0_256_S1x128 row) acc.2.2.1) (fD after before q3 g3 k v (colT 384 slices_S1x512_o0_384_S1x128 row) acc.2.2.2.1)
    q0 q1 q2 q3

/-- The value gradient's rows after one tile before the diagonal. -/
def stepDv (after : Tri) (q0 q1 q2 q3 g0 g1 g2 g3 : R128) (k : R256) (row : FVec Ideal S1x512 .f32) (old : FVec Ideal S256x128 .f32) :
    FVec Ideal S256x128 .f32 :=
  up4 old (fA after q0 k (colT 0 slices_S1x512_o0_0_S1x128 row)) (fA after q1 k (colT 128 slices_S1x512_o0_128_S1x128 row))
    (fA after q2 k (colT 256 slices_S1x512_o0_256_S1x128 row)) (fA after q3 k (colT 384 slices_S1x512_o0_384_S1x128 row)) g0 g1 g2 g3

section
variable (𝒱 : Variants) (c : Dev nD) (bd : Option 𝒱.V) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S16x512 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S4096x128 .f32) (harg8 : arg8.IsWhole) (arg9 : Memref sig .tc .vmem S4096x128 .f32) (harg9 : arg9.IsWhole) (arg1 : BitVec 32) (v8 : FVec Ideal S256x256 .bf16) (v12 : FVec Ideal S256x256 .bf16) (v17 v22 v27 v32 v34 v36 : FVec Ideal S128x128 .bf16) (v37 : Vec Ideal S128x128 .f32) (v39 : Vec Ideal S128x128 .f32)
  (X3 : BufTy.Contents (Elt Ideal) arg3.view.ty) (X4 : BufTy.Contents (Elt Ideal) arg4.view.ty) (X5 : BufTy.Contents (Elt Ideal) arg5.view.ty) (k : Fin (k0_t1_loop i).trips)
  (acc : Acc) (f8 : BufTy.Contents (Elt Ideal) arg8.view.ty) (f9 : BufTy.Contents (Elt Ideal) arg9.view.ty)

/-- The tile's rectangle of a whole-sequence array. -/
abbrev tileRect : Rect S4096x128 := Rect.unit (s := S4096x128) (k0_off1 i k) S256x128.size (k0_off1_inb i k)
/-- The tile's row of the tails. -/
abbrev rowRect : Rect S16x512 := Rect.unit (s := S16x512) (k0_off2 i k) S1x512.size (k0_off2_inb i k)

theorem tripR_eq :
    tripR_k0_t1 (F := Ideal) 𝒱 c bd i arg2 harg2 arg3 harg3 arg4 harg4 arg5 harg5 arg6 harg6 arg7 harg7 arg8 harg8 arg9 harg9 arg1 v8 v12 v17 v22 v27 v32 v34 v36 v37 v39 X3 X4 X5 k acc f8 f9
      = stepAcc v8 v12 v17 v22 v27 v32 v34 v36 (k0_pay65 v37) (k0_pay66 v39) (arg3.view.readAt (Elt Ideal) (tileRect i k).toLoadRect X3)
          (arg4.view.readAt (Elt Ideal) (tileRect i k).toLoadRect X4) (arg5.view.readAt (Elt Ideal) (rowRect i k).toLoadRect X5) acc := by
  unfold tripR_k0_t1 trip_k0_t1
  dsimp only
  sl_unfold_words
  rfl

theorem tripL_eq :
    tripL_k0_t1 (F := Ideal) 𝒱 c bd i arg2 harg2 arg3 harg3 arg4 harg4 arg5 harg5 arg6 harg6 arg7 harg7 arg8 harg8 arg9 harg9 arg1 v8 v12 v17 v22 v27 v32 v34 v36 v37 v39 X3 X4 X5 k acc f8 f9
      = ([⟨tileRect i k, stepDk v8 v12 v17 v22 v27 v32 v34 v36 (k0_pay65 v37) (k0_pay66 v39) (arg3.view.readAt (Elt Ideal) (tileRect i k).toLoadRect X3)
          (arg4.view.readAt (Elt Ideal) (tileRect i k).toLoadRect X4) (arg5.view.readAt (Elt Ideal) (rowRect i k).toLoadRect X5) acc
          (arg8.view.readAt (Elt Ideal) (tileRect i k).toLoadRect f8)⟩],
        [⟨tileRect i k, stepDv v8 v17 v22 v27 v32 v34 v36 (k0_pay65 v37) (k0_pay66 v39) (arg3.view.readAt (Elt Ideal) (tileRect i k).toLoadRect X3)
          (arg5.view.readAt (Elt Ideal) (rowRect i k).toLoadRect X5)
          (arg9.view.readAt (Elt Ideal) (tileRect i k).toLoadRect f9)⟩]) := by
  unfold tripL_k0_t1 trip_k0_t1
  dsimp only
  sl_unfold_words
  rfl

end

end StickBreaking
-- ==== Proof.Point.lean ====
module
public import proofs.«01_k».proof.Proof.Gen.KernelIdeal.Frame
public import proofs.«01_k».proof.Proof.Trip

/-! The body at one grid point, as the tile operations of `Tile`: the sweep over the tiles before the diagonal, then the
two tiles on it. -/

@[expose] public section

set_option maxRecDepth 16384

noncomputable section

namespace StickBreaking

open Idealize.ShloMosaic Idealize.ShloMosaic.ValueIdx Idealize.ShloMosaic.TcCoe Idealize.ShloMosaic.Tactic Cert.KernelIdeal Cert.KernelIdeal.Gen

/-! ## A tile on the diagonal -/

/-- The mask: the keys from `col` on against the queries from `row` on. -/
def okT (row col : BitVec 32) : IVec S128x256 1 :=
  cmpi .slt (addi (broadcast S128x256 col) (iota .tc S128x256 32 [1] iota_S128x256_d1_w32))
    (addi (broadcast S128x256 row) (iota .tc S128x256 32 [0] iota_S128x256_d0_w32))
/-- The weights. -/
def mA (ok : IVec S128x256 1) (after : Tri) (q : R128) (k : R256) (tail : Col) : T :=
  selT ok (aT after (lsT (zT q k)) (selT ok (subf (lsT (zT q k)) (zT q k))) tail)
/-- The weights times their gradients. -/
def mE (ok : IVec S128x256 1) (after : Tri) (q g : R128) (k v : R256) (tail : Col) : T := eT g v (mA ok after q k tail)
/-- The score gradients. -/
def mD (ok : IVec S128x256 1) (after before : Tri) (q g : R128) (k v : R256) (tail pe : Col) : T :=
  selT ok (dT before pe (lsT (zT q k)) (mE ok after q g k v tail))

section
variable (m0 m1 m2 m3 : IVec S128x256 1) (after before : Tri) (q0 q1 q2 q3 g0 g1 g2 g3 : R128) (k v : R256) (row : FVec Ideal S1x512 .f32) (acc : Acc)
  (old : FVec Ideal S256x128 .f32)

/-- The carried values after the first tile of the diagonal. -/
def diagAcc : Acc :=
  (peT acc.1 (mE m0 after q0 g0 k v (colT 0 slices_S1x512_o0_0_S1x128 row)), peT acc.2.1 (mE m1 after q1 g1 k v (colT 128 slices_S1x512_o0_128_S1x128 row)), peT acc.2.2.1 (mE m2 after q2 g2 k v (colT 256 slices_S1x512_o0_256_S1x128 row)), peT acc.2.2.2.1 (mE m3 after q3 g3 k v (colT 384 slices_S1x512_o0_384_S1x128 row)),
    dqT acc.2.2.2.2.1 (mD m0 after before q0 g0 k v (colT 0 slices_S1x512_o0_0_S1x128 row) acc.1) k, dqT acc.2.2.2.2.2.1 (mD m1 after before q1 g1 k v (colT 128 slices_S1x512_o0_128_S1x128 row) acc.2.1) k, dqT acc.2.2.2.2.2.2.1 (mD m2 after before q2 g2 k v (colT 256 slices_S1x512_o0_256_S1x128 row) acc.2.2.1) k, dqT acc.2.2.2.2.2.2.2 (mD m3 after before q3 g3 k v (colT 384 slices_S1x512_o0_384_S1x128 row) acc.2.2.2.1) k)
/-- The key gradient's rows after it. -/
def diagDk : FVec Ideal S256x128 .f32 :=
  up4 old (mD m0 after before q0 g0 k v (colT 0 slices_S1x512_o0_0_S1x128 row) acc.1) (mD m1 after before q1 g1 k v (colT 128 slices_S1x512_o0_128_S1x128 row) acc.2.1) (mD m2 after before q2 g2 k v (colT 256 slices_S1x512_o0_256_S1x128 row) acc.2.2.1) (mD m3 after before q3 g3 k v (colT 384 slices_S1x512_o0_384_S1x128 row) acc.2.2.2.1) q0 q1 q2 q3
/-- The value gradient's rows after it. -/
def diagDv : FVec Ideal S256x128 .f32 :=
  up4 old (mA m0 after q0 k (colT 0 slices_S1x512_o0_0_S1x128 row)) (mA m1 after q1 k (colT 128 slices_S1x512_o0_128_S1x128 row)) (mA m2 after q2 k (colT 256 slices_S1x512_o0_256_S1x128 row)) (mA m3 after q3 k (colT 384 slices_S1x512_o0_384_S1x128 row)) g0 g1 g2 g3
/-- The key gradient's rows after the second tile, which only the last two sub-blocks meet. -/
def lastDk : FVec Ideal S256x128 .f32 :=
  up2 old (mD m2 after before q2 g2 k v (colT 256 slices_S1x512_o0_256_S1x128 row) acc.2.2.1) (mD m3 after before q3 g3 k v (colT 384 slices_S1x512_o0_384_S1x128 row) acc.2.2.2.1) q2 q3
/-- The value gradient's rows after it. -/
def lastDv : FVec Ideal S256x128 .f32 :=
  up2 old (mA m2 after q2 k (colT 256 slices_S1x512_o0_256_S1x128 row)) (mA m3 after q3 k (colT 384 slices_S1x512_o0_384_S1x128 row)) g2 g3
/-- The last two sub-blocks' query gradients after it. -/
def lastQ2 : FVec Ideal S128x128 .f32 := dqT acc.2.2.2.2.2.2.1 (mD m2 after before q2 g2 k v (colT 256 slices_S1x512_o0_256_S1x128 row) acc.2.2.1) k
def lastQ3 : FVec Ideal S128x128 .f32 := dqT acc.2.2.2.2.2.2.2 (mD m3 after before q3 g3 k v (colT 384 slices_S1x512_o0_384_S1x128 row) acc.2.2.2.1) k

end

/-! ## The grid point -/

/-- 128 rows of a block. -/
def rows512 {ε : EltTy} (a : Memref sig .tc .vmem S512x128 ε) (f : BufTy.Contents (Elt Ideal) a.view.ty) (o : ℕ)
    (h : ∀ b, (![o, 0] : Fin 2 → ℕ) b + S128x128.size b ≤ S512x128.size b) : Vec Ideal S128x128 ε :=
  a.view.readAt (Elt Ideal) (Rect.unit (s := S512x128) ![o, 0] S128x128.size h).toLoadRect f
/-- The arriving gradient's rows, in the products' format. -/
def toB (x : Vec Ideal S128x128 .f32) : R128 := truncf .bf16 x bitsLt_bf16_f32

/-- The diagonal's tiles and their rows of the tails. -/
abbrev dTile (i : grid0.Coords) (r : Fin 2) : Rect S4096x128 := Rect.unit (s := S4096x128) (k0_off5 i (BitVec.ofNat 32 r.val)) S256x128.size (k0_off5_inb i r)
abbrev dRow (i : grid0.Coords) (r : Fin 2) : Rect S16x512 := Rect.unit (s := S16x512) (k0_off6 i (BitVec.ofNat 32 r.val)) S1x512.size (k0_off6_inb i r)

/-- First query of sub-block `o` and first key of diagonal tile `r`, as the body computes them. -/
def rowW (i : grid0.Coords) (o : BitVec 32) : BitVec 32 := Scalar.addi (Scalar.muli (BitVec.ofNat 32 (i 1).val) 512#32) o
def colW (i : grid0.Coords) (r : BitVec 32) : BitVec 32 := Scalar.muli (Scalar.addi (Scalar.muli (BitVec.ofNat 32 (i 1).val) 2#32) r) 256#32

/-- The carried values at the start. -/
def acc0 : Acc := (k0_pay71, k0_pay71, k0_pay71, k0_pay71, k0_pay72, k0_pay72, k0_pay72, k0_pay72)

section
variable  (c : Dev nD) (i : grid0.Coords) (arg2 : Memref sig .tc .vmem S512x128 .bf16) (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S16x512 .f32) (harg5 : arg5.IsWhole)
  (arg6 : Memref sig .tc .vmem S512x128 .f32) (harg6 : arg6.IsWhole) (arg7 : Memref sig .tc .vmem S512x128 .f32) (harg7 : arg7.IsWhole)
  (arg8 : Memref sig .tc .vmem S4096x128 .f32) (harg8 : arg8.IsWhole) (arg9 : Memref sig .tc .vmem S4096x128 .f32) (harg9 : arg9.IsWhole)
  (x0 : Vec Ideal S512x128 .bf16) (x1 : Vec Ideal S4096x128 .bf16) (x2 : Vec Ideal S4096x128 .bf16) (x3 : Vec Ideal S16x512 .f32) (x4 : Vec Ideal S512x128 .f32)
  (f8 : BufTy.Contents (Elt Ideal) arg8.view.ty) (f9 : BufTy.Contents (Elt Ideal) arg9.view.ty)

/-- The sweep before the diagonal after `n` trips. -/
def sweep (n : ℕ) : Acc × List (View.Piece (Elt Ideal) S4096x128 .f32) × List (View.Piece (Elt Ideal) S4096x128 .f32) :=
  st_k0_t1 (F := Ideal) Variants.none c none i arg2 harg2 arg3 harg3 arg4 harg4 arg5 harg5 arg6 harg6 arg7 harg7 arg8 harg8 arg9 harg9 (BitVec.ofNat 32 (i 1).val) k0_pay57 k0_pay58
    (sqT (rows512 arg2 (harg2.unread x0) 0 inb_S512x128_S128x128_0_0)) (sqT (rows512 arg2 (harg2.unread x0) 128 inb_S512x128_S128x128_128_0)) (sqT (rows512 arg2 (harg2.unread x0) 256 inb_S512x128_S128x128_256_0)) (sqT (rows512 arg2 (harg2.unread x0) 384 inb_S512x128_S128x128_384_0))
    (toB (rows512 arg6 (harg6.unread x4) 0 inb_S512x128_S128x128_0_0)) (toB (rows512 arg6 (harg6.unread x4) 128 inb_S512x128_S128x128_128_0)) (rows512 arg6 (harg6.unread x4) 256 inb_S512x128_S128x128_256_0) (rows512 arg6 (harg6.unread x4) 384 inb_S512x128_S128x128_384_0) (harg3.unread x1) (harg4.unread x2) (harg5.unread x3) f8 f9 acc0 n

/-- The remainder of the sweep, which has no trips. -/
def rest : Acc × List (View.Piece (Elt Ideal) S4096x128 .f32) × List (View.Piece (Elt Ideal) S4096x128 .f32) :=
  st_k0_t2 (F := Ideal) Variants.none c none i arg2 harg2 arg3 harg3 arg4 harg4 arg5 harg5 arg6 harg6 arg7 harg7 arg8 harg8 arg9 harg9 (BitVec.ofNat 32 (i 1).val) k0_pay57 k0_pay58
    (sqT (rows512 arg2 (harg2.unread x0) 0 inb_S512x128_S128x128_0_0)) (sqT (rows512 arg2 (harg2.unread x0) 128 inb_S512x128_S128x128_128_0)) (sqT (rows512 arg2 (harg2.unread x0) 256 inb_S512x128_S128x128_256_0)) (sqT (rows512 arg2 (harg2.unread x0) 384 inb_S512x128_S128x128_384_0))
    (toB (rows512 arg6 (harg6.unread x4) 0 inb_S512x128_S128x128_0_0)) (toB (rows512 arg6 (harg6.unread x4) 128 inb_S512x128_S128x128_128_0)) (rows512 arg6 (harg6.unread x4) 256 inb_S512x128_S128x128_256_0) (rows512 arg6 (harg6.unread x4) 384 inb_S512x128_S128x128_384_0) (k0_t2_loop i).lb (harg3.unread x1) (harg4.unread x2) (harg5.unread x3)
    (arg8.view.writes (Elt Ideal) f8 (sweep c i arg2 harg2 arg3 harg3 arg4 harg4 arg5 harg5 arg6 harg6 arg7 harg7 arg8 harg8 arg9 harg9 x0 x1 x2 x3 x4 f8 f9 (k0_t1_loop i).trips).2.1)
    (arg9.view.writes (Elt Ideal) f9 (sweep c i arg2 harg2 arg3 harg3 arg4 harg4 arg5 harg5 arg6 harg6 arg7 harg7 arg8 harg8 arg9 harg9 x0 x1 x2 x3 x4 f8 f9 (k0_t1_loop i).trips).2.2)
    (sweep c i arg2 harg2 arg3 harg3 arg4 harg4 arg5 harg5 arg6 harg6 arg7 harg7 arg8 harg8 arg9 harg9 x0 x1 x2 x3 x4 f8 f9 (k0_t1_loop i).trips).1 (k0_t2_loop i).trips

end

section
variable (i : grid0.Coords) (arg2 : Memref sig .tc .vmem S512x128 .bf16) (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S16x512 .f32) (harg5 : arg5.IsWhole)
  (arg6 : Memref sig .tc .vmem S512x128 .f32) (harg6 : arg6.IsWhole)
  (x0 : Vec Ideal S512x128 .bf16) (x1 : Vec Ideal S4096x128 .bf16) (x2 : Vec Ideal S4096x128 .bf16) (x3 : Vec Ideal S16x512 .f32) (x4 : Vec Ideal S512x128 .f32)
  (acc : Acc) (old : FVec Ideal S256x128 .f32)

/-- Keys, values and tails of diagonal tile `r`. -/
def dK (r : Fin 2) : R256 := arg3.view.readAt (Elt Ideal) (dTile i r).toLoadRect (harg3.unread x1)
def dV (r : Fin 2) : R256 := arg4.view.readAt (Elt Ideal) (dTile i r).toLoadRect (harg4.unread x2)
def dTl (r : Fin 2) : FVec Ideal S1x512 .f32 := arg5.view.readAt (Elt Ideal) (dRow i r).toLoadRect (harg5.unread x3)
/-- The point's carried values after the diagonal's first tile. -/
def fAcc : Acc := diagAcc (okT (rowW i 0#32) (colW i 0#32)) (okT (rowW i 128#32) (colW i 0#32)) (okT (rowW i 256#32) (colW i 0#32)) (okT (rowW i 384#32) (colW i 0#32)) k0_pay57 k0_pay58 (sqT (rows512 arg2 (harg2.unread x0) 0 inb_S512x128_S128x128_0_0)) (sqT (rows512 arg2 (harg2.unread x0) 128 inb_S512x128_S128x128_128_0)) (sqT (rows512 arg2 (harg2.unread x0) 256 inb_S512x128_S128x128_256_0)) (sqT (rows512 arg2 (harg2.unread x0) 384 inb_S512x128_S128x128_384_0)) (toB (rows512 arg6 (harg6.unread x4) 0 inb_S512x128_S128x128_0_0)) (toB (rows512 arg6 (harg6.unread x4) 128 inb_S512x128_S128x128_128_0)) (toB (rows512 arg6 (harg6.unread x4) 256 inb_S512x128_S128x128_256_0)) (toB (rows512 arg6 (harg6.unread x4) 384 inb_S512x128_S128x128_384_0)) (dK i arg3 harg3 x1 0) (dV i arg4 harg4 x2 0) (dTl i arg5 harg5 x3 0) acc
/-- The key gradient's rows after it. -/
def fDk : FVec Ideal S256x128 .f32 := diagDk (okT (rowW i 0#32) (colW i 0#32)) (okT (rowW i 128#32) (colW i 0#32)) (okT (rowW i 256#32) (colW i 0#32)) (okT (rowW i 384#32) (colW i 0#32)) k0_pay57 k0_pay58 (sqT (rows512 arg2 (harg2.unread x0) 0 inb_S512x128_S128x128_0_0)) (sqT (rows512 arg2 (harg2.unread x0) 128 inb_S512x128_S128x128_128_0)) (sqT (rows512 arg2 (harg2.unread x0) 256 inb_S512x128_S128x128_256_0)) (sqT (rows512 arg2 (harg2.unread x0) 384 inb_S512x128_S128x128_384_0)) (toB (rows512 arg6 (harg6.unread x4) 0 inb_S512x128_S128x128_0_0)) (toB (rows512 arg6 (harg6.unread x4) 128 inb_S512x128_S128x128_128_0)) (toB (rows512 arg6 (harg6.unread x4) 256 inb_S512x128_S128x128_256_0)) (toB (rows512 arg6 (harg6.unread x4) 384 inb_S512x128_S128x128_384_0)) (dK i arg3 harg3 x1 0) (dV i arg4 harg4 x2 0) (dTl i arg5 harg5 x3 0) acc old
/-- The value gradient's rows after it. -/
def fDv : FVec Ideal S256x128 .f32 := diagDv (okT (rowW i 0#32) (colW i 0#32)) (okT (rowW i 128#32) (colW i 0#32)) (okT (rowW i 256#32) (colW i 0#32)) (okT (rowW i 384#32) (colW i 0#32)) k0_pay57 (sqT (rows512 arg2 (harg2.unread x0) 0 inb_S512x128_S128x128_0_0)) (sqT (rows512 arg2 (harg2.unread x0) 128 inb_S512x128_S128x128_128_0)) (sqT (rows512 arg2 (harg2.unread x0) 256 inb_S512x128_S128x128_256_0)) (sqT (rows512 arg2 (harg2.unread x0) 384 inb_S512x128_S128x128_384_0)) (toB (rows512 arg6 (harg6.unread x4) 0 inb_S512x128_S128x128_0_0)) (toB (rows512 arg6 (harg6.unread x4) 128 inb_S512x128_S128x128_128_0)) (toB (rows512 arg6 (harg6.unread x4) 256 inb_S512x128_S128x128_256_0)) (toB (rows512 arg6 (harg6.unread x4) 384 inb_S512x128_S128x128_384_0)) (dK i arg3 harg3 x1 0) (dTl i arg5 harg5 x3 0) old
/-- The same after the diagonal's second tile. -/
def sDk : FVec Ideal S256x128 .f32 := lastDk (okT (rowW i 256#32) (colW i 1#32)) (okT (rowW i 384#32) (colW i 1#32)) k0_pay57 k0_pay58 (sqT (rows512 arg2 (harg2.unread x0) 256 inb_S512x128_S128x128_256_0)) (sqT (rows512 arg2 (harg2.unread x0) 384 inb_S512x128_S128x128_384_0)) (toB (rows512 arg6 (harg6.unread x4) 256 inb_S512x128_S128x128_256_0)) (toB (rows512 arg6 (harg6.unread x4) 384 inb_S512x128_S128x128_384_0)) (dK i arg3 harg3 x1 1) (dV i arg4 harg4 x2 1) (dTl i arg5 harg5 x3 1) acc old
/-- The same for the value gradient. -/
def sDv : FVec Ideal S256x128 .f32 := lastDv (okT (rowW i 256#32) (colW i 1#32)) (okT (rowW i 384#32) (colW i 1#32)) k0_pay57 (sqT (rows512 arg2 (harg2.unread x0) 256 inb_S512x128_S128x128_256_0)) (sqT (rows512 arg2 (harg2.unread x0) 384 inb_S512x128_S128x128_384_0)) (toB (rows512 arg6 (harg6.unread x4) 256 inb_S512x128_S128x128_256_0)) (toB (rows512 arg6 (harg6.unread x4) 384 inb_S512x128_S128x128_384_0)) (dK i arg3 harg3 x1 1) (dTl i arg5 harg5 x3 1) old
/-- The third sub-block's query gradient at the end. -/
def sQ2 : FVec Ideal S128x128 .f32 := lastQ2 (okT (rowW i 256#32) (colW i 1#32)) k0_pay57 k0_pay58 (sqT (rows512 arg2 (harg2.unread x0) 256 inb_S512x128_S128x128_256_0)) (toB (rows512 arg6 (harg6.unread x4) 256 inb_S512x128_S128x128_256_0)) (dK i arg3 harg3 x1 1) (dV i arg4 harg4 x2 1) (dTl i arg5 harg5 x3 1) acc
/-- The fourth's. -/
def sQ3 : FVec Ideal S128x128 .f32 := lastQ3 (okT (rowW i 384#32) (colW i 1#32)) k0_pay57 k0_pay58 (sqT (rows512 arg2 (harg2.unread x0) 384 inb_S512x128_S128x128_384_0)) (toB (rows512 arg6 (harg6.unread x4) 384 inb_S512x128_S128x128_384_0)) (dK i arg3 harg3 x1 1) (dV i arg4 harg4 x2 1) (dTl i arg5 harg5 x3 1) acc

end

section
variable  (i : grid0.Coords) (arg2 : Memref sig .tc .vmem S512x128 .bf16) (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S16x512 .f32) (harg5 : arg5.IsWhole)
  (arg6 : Memref sig .tc .vmem S512x128 .f32) (harg6 : arg6.IsWhole) (arg7 : Memref sig .tc .vmem S512x128 .f32) (harg7 : arg7.IsWhole)
  (arg8 : Memref sig .tc .vmem S4096x128 .f32) (harg8 : arg8.IsWhole) (arg9 : Memref sig .tc .vmem S4096x128 .f32) (harg9 : arg9.IsWhole)
  (x0 : Vec Ideal S512x128 .bf16) (x1 : Vec Ideal S4096x128 .bf16) (x2 : Vec Ideal S4096x128 .bf16) (x3 : Vec Ideal S16x512 .f32) (x4 : Vec Ideal S512x128 .f32)

/-- The point's stores to the query gradient, last first, from the carried values after the diagonal's first tile. -/
def storesQ (acc : Acc) : List (View.Piece (Elt Ideal) S512x128 .f32) :=
  [⟨Rect.unit (s := S512x128) ![384, 0] S128x128.size inb_S512x128_S128x128_384_0, finT (sQ3 i arg2 harg2 arg3 harg3 arg4 harg4 arg5 harg5 arg6 harg6 x0 x1 x2 x3 x4 acc)⟩,
   ⟨Rect.unit (s := S512x128) ![256, 0] S128x128.size inb_S512x128_S128x128_256_0, finT (sQ2 i arg2 harg2 arg3 harg3 arg4 harg4 arg5 harg5 arg6 harg6 x0 x1 x2 x3 x4 acc)⟩,
   ⟨Rect.unit (s := S512x128) ![128, 0] S128x128.size inb_S512x128_S128x128_128_0, finT acc.2.2.2.2.2.1⟩,
   ⟨Rect.unit (s := S512x128) ![0, 0] S128x128.size inb_S512x128_S128x128_0_0, finT acc.2.2.2.2.1⟩]

section
variable (acc : Acc) (f : BufTy.Contents (Elt Ideal) arg8.view.ty) (L : List (View.Piece (Elt Ideal) S4096x128 .f32))
/-- The stores to the key gradient, last first, when the diagonal's first tile's joins the stores `L` over `f`. -/
def storeK1 : List (View.Piece (Elt Ideal) S4096x128 .f32) := ⟨dTile i 0, (fDk i arg2 harg2 arg3 harg3 arg4 harg4 arg5 harg5 arg6 harg6 x0 x1 x2 x3 x4 acc (arg8.view.readAt (Elt Ideal) (dTile i 0).toLoadRect (arg8.view.writes (Elt Ideal) f L)))⟩ :: L
/-- The same for the diagonal's second tile. -/
def storeK2 : List (View.Piece (Elt Ideal) S4096x128 .f32) := ⟨dTile i 1, (sDk i arg2 harg2 arg3 harg3 arg4 harg4 arg5 harg5 arg6 harg6 x0 x1 x2 x3 x4 acc (arg8.view.readAt (Elt Ideal) (dTile i 1).toLoadRect (arg8.view.writes (Elt Ideal) f L)))⟩ :: L
end
section
variable (f : BufTy.Contents (Elt Ideal) arg9.view.ty) (L : List (View.Piece (Elt Ideal) S4096x128 .f32))
/-- The same for the value gradient. -/
def storeV1 : List (View.Piece (Elt Ideal) S4096x128 .f32) := ⟨dTile i 0, (fDv i arg2 harg2 arg3 harg3 arg5 harg5 arg6 harg6 x0 x1 x3 x4 (arg9.view.readAt (Elt Ideal) (dTile i 0).toLoadRect (arg9.view.writes (Elt Ideal) f L)))⟩ :: L
/-- The same for the diagonal's second tile. -/
def storeV2 : List (View.Piece (Elt Ideal) S4096x128 .f32) := ⟨dTile i 1, (sDv i arg2 harg2 arg3 harg3 arg5 harg5 arg6 harg6 x0 x1 x3 x4 (arg9.view.readAt (Elt Ideal) (dTile i 1).toLoadRect (arg9.view.writes (Elt Ideal) f L)))⟩ :: L
end

end

end StickBreaking
-- ==== Proof.Steps.lean ====
module
public import proofs.«01_k».proof.Proof.Point

/-! What one tile's step computes: the carried values and the gradients' rows, when its operands hold a head's numbers. -/

@[expose] public section

noncomputable section

namespace StickBreaking

open Idealize.ShloMosaic Idealize.ShloMosaic.ValueIdx Cert.KernelIdeal Cert.KernelIdeal.Gen
open Finset

/-- What a step on the queries from `n0` and the keys from `j0` reads. -/
structure StepIn (h : Head) (n0 j0 : ℕ) (after before : Tri) (q0 q1 q2 q3 g0 g1 g2 g3 : R128) (k v : R256) (row : FVec Ideal S1x512 .f32) : Prop where
  after : Rep after (fun r c => if c < r then 1 else 0)
  before : Rep before (fun r c => if r < c then 1 else 0)
  q0 : Rep q0 (fun r d => h.q (n0 + r) d * sc)
  q1 : Rep q1 (fun r d => h.q (n0 + 128 + r) d * sc)
  q2 : Rep q2 (fun r d => h.q (n0 + 256 + r) d * sc)
  q3 : Rep q3 (fun r d => h.q (n0 + 384 + r) d * sc)
  g0 : Rep g0 (fun r d => h.g (n0 + r) d)
  g1 : Rep g1 (fun r d => h.g (n0 + 128 + r) d)
  g2 : Rep g2 (fun r d => h.g (n0 + 256 + r) d)
  g3 : Rep g3 (fun r d => h.g (n0 + 384 + r) d)
  k : Rep k (fun c d => h.k (j0 + c) d)
  v : Rep v (fun c d => h.v (j0 + c) d)
  row : Rep row (fun _ l => h.tail (n0 + l) (j0 + 255))

/-- The carried values before the keys from `j0` on. -/
structure AccAt (h : Head) (n0 j0 : ℕ) (acc : Acc) : Prop where
  p0 : Rep acc.1 (fun r _ => h.ce (n0 + r) j0)
  p1 : Rep acc.2.1 (fun r _ => h.ce (n0 + 128 + r) j0)
  p2 : Rep acc.2.2.1 (fun r _ => h.ce (n0 + 256 + r) j0)
  p3 : Rep acc.2.2.2.1 (fun r _ => h.ce (n0 + 384 + r) j0)
  d0 : Rep acc.2.2.2.2.1 (fun r d => h.dq j0 (n0 + r) d)
  d1 : Rep acc.2.2.2.2.2.1 (fun r d => h.dq j0 (n0 + 128 + r) d)
  d2 : Rep acc.2.2.2.2.2.2.1 (fun r d => h.dq j0 (n0 + 256 + r) d)
  d3 : Rep acc.2.2.2.2.2.2.2 (fun r d => h.dq j0 (n0 + 384 + r) d)

variable {h : Head} {n0 j0 : ℕ} {after before : Tri} {q0 q1 q2 q3 g0 g1 g2 g3 : R128} {k v : R256} {row : FVec Ideal S1x512 .f32} {acc : Acc}
  {old : FVec Ideal S256x128 .f32}

theorem acc0_at (h : Head) (n0 : ℕ) : AccAt h n0 0 acc0 := by
  have hp : ∀ t, Rep (k0_pay71 (F := Ideal)) (fun r _ => h.ce (t + r) 0) := fun t =>
    (Rep.zero (m := 128) (n := 1)).congr fun r c _ _ => by unfold Head.ce; rw [sum_range_zero]
  have hd : ∀ t, Rep (k0_pay72 (F := Ideal)) (fun r d => h.dq 0 (t + r) d) := fun t =>
    (Rep.zero (m := 128) (n := 128)).congr fun r c _ _ => by unfold Head.dq; rw [sum_range_zero]
  exact ⟨hp _, hp _, hp _, hp _, hd _, hd _, hd _, hd _⟩

namespace StepIn

variable (H : StepIn h n0 j0 after before q0 q1 q2 q3 g0 g1 g2 g3 k v row)
include H

theorem sub0 {pe : Col} (hp : Rep pe (fun r _ => h.ce (n0 + r) j0)) :
    SubIn h n0 j0 after before q0 g0 k v (colT 0 slices_S1x512_o0_0_S1x128 row) pe :=
  ⟨H.after, H.before, H.q0, H.g0, H.k, H.v, (H.row.column 0 slices_S1x512_o0_0_S1x128 (by omega)).congr fun r c _ _ => by rw [zero_add], hp⟩
theorem sub1 {pe : Col} (hp : Rep pe (fun r _ => h.ce (n0 + 128 + r) j0)) :
    SubIn h (n0 + 128) j0 after before q1 g1 k v (colT 128 slices_S1x512_o0_128_S1x128 row) pe :=
  ⟨H.after, H.before, H.q1, H.g1, H.k, H.v, (H.row.column 128 slices_S1x512_o0_128_S1x128 (by omega)).congr fun r c _ _ => by rw [add_assoc], hp⟩
theorem sub2 {pe : Col} (hp : Rep pe (fun r _ => h.ce (n0 + 256 + r) j0)) :
    SubIn h (n0 + 256) j0 after before q2 g2 k v (colT 256 slices_S1x512_o0_256_S1x128 row) pe :=
  ⟨H.after, H.before, H.q2, H.g2, H.k, H.v, (H.row.column 256 slices_S1x512_o0_256_S1x128 (by omega)).congr fun r c _ _ => by rw [add_assoc], hp⟩
theorem sub3 {pe : Col} (hp : Rep pe (fun r _ => h.ce (n0 + 384 + r) j0)) :
    SubIn h (n0 + 384) j0 after before q3 g3 k v (colT 384 slices_S1x512_o0_384_S1x128 row) pe :=
  ⟨H.after, H.before, H.q3, H.g3, H.k, H.v, (H.row.column 384 slices_S1x512_o0_384_S1x128 (by omega)).congr fun r c _ _ => by rw [add_assoc], hp⟩

end StepIn

/-! ### The weights and score gradients of a sub-block -/

namespace SubIn

variable {t0 : ℕ} {q g : R128} {tail pe : Col} (H : SubIn h t0 j0 after before q g k v tail pe)
include H

theorem fA_rep (hj : j0 + 256 ≤ 4096) (hlt : j0 + 256 ≤ t0) : Rep (fA after q k tail) (fun r c => h.a (t0 + r) (j0 + c)) := H.a_full hj hlt
theorem fE_rep (hj : j0 + 256 ≤ 4096) (hlt : j0 + 256 ≤ t0) : Rep (fE after q g k v tail) (fun r c => h.e (t0 + r) (j0 + c)) := H.e_rep (H.fA_rep hj hlt)
theorem fD_rep (hj : j0 + 256 ≤ 4096) (hlt : j0 + 256 ≤ t0) : Rep (fD after before q g k v tail pe) (fun r c => h.dz (t0 + r) (j0 + c)) := H.d_full hlt (H.fE_rep hj hlt)

variable {ok : IVec S128x256 1} (hok : ∀ (r : Fin 128) (c : Fin 256), ok (ix2 r c) = if j0 + c.val < t0 + r.val then 1#1 else 0#1)
include hok

theorem mA_rep (hj : j0 + 256 ≤ 4096) : Rep (mA ok after q k tail) (fun r c => h.a (t0 + r) (j0 + c)) := H.a_mask hok hj
theorem mE_rep (hj : j0 + 256 ≤ 4096) : Rep (mE ok after q g k v tail) (fun r c => h.e (t0 + r) (j0 + c)) := H.e_rep (H.mA_rep hok hj)
theorem mD_rep (hj : j0 + 256 ≤ 4096) : Rep (mD ok after before q g k v tail pe) (fun r c => h.dz (t0 + r) (j0 + c)) := H.d_mask hok (H.mE_rep hok hj)

end SubIn

/-! ### Sums of sub-blocks -/

theorem shapeCast_rep {x : FVec Ideal S256x128 .f32} {f : ℕ → ℕ → ℝ} (hx : Rep x f) : Rep (shapeCast S256x128 x shapeCasts_S256x128_S256x128) f := by
  rw [shapeCast_self]; exact hx

theorem up4_dk {d0 d1 d2 d3 : FVec Ideal S128x256 .bf16} (H : StepIn h n0 j0 after before q0 q1 q2 q3 g0 g1 g2 g3 k v row)
    (ho : Rep old (fun c d => h.dk n0 (j0 + c) d))
    (h0 : Rep d0 (fun r c => h.dz (n0 + r) (j0 + c))) (h1 : Rep d1 (fun r c => h.dz (n0 + 128 + r) (j0 + c)))
    (h2 : Rep d2 (fun r c => h.dz (n0 + 256 + r) (j0 + c))) (h3 : Rep d3 (fun r c => h.dz (n0 + 384 + r) (j0 + c))) :
    Rep (up4 old d0 d1 d2 d3 q0 q1 q2 q3) (fun c d => h.dk (n0 + 512) (j0 + c) d) :=
  ((shapeCast_rep ho).add (((((Rep.zero (m := 256) (n := 128)).add (upT_rep h0 H.q0)).add (upT_rep h1 H.q1)).add (upT_rep h2 H.q2)).add (upT_rep h3 H.q3))).congr
    fun c d _ _ => by rw [h.dk_four]

theorem up4_dv {d0 d1 d2 d3 : FVec Ideal S128x256 .bf16} (H : StepIn h n0 j0 after before q0 q1 q2 q3 g0 g1 g2 g3 k v row)
    (ho : Rep old (fun c d => h.dv n0 (j0 + c) d))
    (h0 : Rep d0 (fun r c => h.a (n0 + r) (j0 + c))) (h1 : Rep d1 (fun r c => h.a (n0 + 128 + r) (j0 + c)))
    (h2 : Rep d2 (fun r c => h.a (n0 + 256 + r) (j0 + c))) (h3 : Rep d3 (fun r c => h.a (n0 + 384 + r) (j0 + c))) :
    Rep (up4 old d0 d1 d2 d3 g0 g1 g2 g3) (fun c d => h.dv (n0 + 512) (j0 + c) d) :=
  ((shapeCast_rep ho).add (((((Rep.zero (m := 256) (n := 128)).add (upT_rep h0 H.g0)).add (upT_rep h1 H.g1)).add (upT_rep h2 H.g2)).add (upT_rep h3 H.g3))).congr
    fun c d _ _ => by rw [h.dv_four]

theorem up2_dk {d2 d3 : FVec Ideal S128x256 .bf16} (H : StepIn h n0 j0 after before q0 q1 q2 q3 g0 g1 g2 g3 k v row) (hj : n0 + 256 ≤ j0)
    (ho : Rep old (fun c d => h.dk n0 (j0 + c) d))
    (h2 : Rep d2 (fun r c => h.dz (n0 + 256 + r) (j0 + c))) (h3 : Rep d3 (fun r c => h.dz (n0 + 384 + r) (j0 + c))) :
    Rep (up2 old d2 d3 q2 q3) (fun c d => h.dk (n0 + 512) (j0 + c) d) :=
  ((shapeCast_rep ho).add (((Rep.zero (m := 256) (n := 128)).add (upT_rep h2 H.q2)).add (upT_rep h3 H.q3))).congr
    fun c d _ _ => by rw [h.dk_two _ _ _ (by omega)]

theorem up2_dv {d2 d3 : FVec Ideal S128x256 .bf16} (H : StepIn h n0 j0 after before q0 q1 q2 q3 g0 g1 g2 g3 k v row) (hj : n0 + 256 ≤ j0)
    (ho : Rep old (fun c d => h.dv n0 (j0 + c) d))
    (h2 : Rep d2 (fun r c => h.a (n0 + 256 + r) (j0 + c))) (h3 : Rep d3 (fun r c => h.a (n0 + 384 + r) (j0 + c))) :
    Rep (up2 old d2 d3 g2 g3) (fun c d => h.dv (n0 + 512) (j0 + c) d) :=
  ((shapeCast_rep ho).add (((Rep.zero (m := 256) (n := 128)).add (upT_rep h2 H.g2)).add (upT_rep h3 H.g3))).congr
    fun c d _ _ => by rw [h.dv_two _ _ _ (by omega)]

/-! ### A tile before the diagonal -/

section
variable (H : StepIn h n0 j0 after before q0 q1 q2 q3 g0 g1 g2 g3 k v row) (A : AccAt h n0 j0 acc) (hj : j0 + 256 ≤ 4096) (hlt : j0 + 256 ≤ n0)
include H A hj hlt

theorem stepAcc_rep : AccAt h n0 (j0 + 256) (stepAcc after before q0 q1 q2 q3 g0 g1 g2 g3 k v row acc) where
  p0 := (H.sub0 A.p0).pe_rep ((H.sub0 A.p0).fE_rep hj hlt)
  p1 := (H.sub1 A.p1).pe_rep ((H.sub1 A.p1).fE_rep hj (by omega))
  p2 := (H.sub2 A.p2).pe_rep ((H.sub2 A.p2).fE_rep hj (by omega))
  p3 := (H.sub3 A.p3).pe_rep ((H.sub3 A.p3).fE_rep hj (by omega))
  d0 := (H.sub0 A.p0).dq_rep ((H.sub0 A.p0).fD_rep hj hlt) A.d0
  d1 := (H.sub1 A.p1).dq_rep ((H.sub1 A.p1).fD_rep hj (by omega)) A.d1
  d2 := (H.sub2 A.p2).dq_rep ((H.sub2 A.p2).fD_rep hj (by omega)) A.d2
  d3 := (H.sub3 A.p3).dq_rep ((H.sub3 A.p3).fD_rep hj (by omega)) A.d3

theorem stepDk_rep (ho : Rep old (fun c d => h.dk n0 (j0 + c) d)) :
    Rep (stepDk after before q0 q1 q2 q3 g0 g1 g2 g3 k v row acc old) (fun c d => h.dk (n0 + 512) (j0 + c) d) :=
  up4_dk H ho ((H.sub0 A.p0).fD_rep hj hlt) ((H.sub1 A.p1).fD_rep hj (by omega)) ((H.sub2 A.p2).fD_rep hj (by omega)) ((H.sub3 A.p3).fD_rep hj (by omega))

theorem stepDv_rep (ho : Rep old (fun c d => h.dv n0 (j0 + c) d)) :
    Rep (stepDv after q0 q1 q2 q3 g0 g1 g2 g3 k row old) (fun c d => h.dv (n0 + 512) (j0 + c) d) :=
  up4_dv H ho ((H.sub0 A.p0).fA_rep hj hlt) ((H.sub1 A.p1).fA_rep hj (by omega)) ((H.sub2 A.p2).fA_rep hj (by omega)) ((H.sub3 A.p3).fA_rep hj (by omega))

end

/-! ### A tile on the diagonal -/

/-- The mask of the queries from `t0` on. -/
def MaskAt (t0 j0 : ℕ) (ok : IVec S128x256 1) : Prop :=
  ∀ (r : Fin 128) (c : Fin 256), ok (ix2 r c) = if j0 + c.val < t0 + r.val then 1#1 else 0#1

section
variable (H : StepIn h n0 j0 after before q0 q1 q2 q3 g0 g1 g2 g3 k v row) (A : AccAt h n0 j0 acc) (hj : j0 + 256 ≤ 4096)
  {m0 m1 m2 m3 : IVec S128x256 1} (M0 : MaskAt n0 j0 m0) (M1 : MaskAt (n0 + 128) j0 m1) (M2 : MaskAt (n0 + 256) j0 m2) (M3 : MaskAt (n0 + 384) j0 m3)
include H A hj M2 M3

theorem lastDk_rep (hge : n0 + 256 ≤ j0) (ho : Rep old (fun c d => h.dk n0 (j0 + c) d)) :
    Rep (lastDk m2 m3 after before q2 q3 g2 g3 k v row acc old) (fun c d => h.dk (n0 + 512) (j0 + c) d) :=
  up2_dk H hge ho ((H.sub2 A.p2).mD_rep M2 hj) ((H.sub3 A.p3).mD_rep M3 hj)

theorem lastDv_rep (hge : n0 + 256 ≤ j0) (ho : Rep old (fun c d => h.dv n0 (j0 + c) d)) :
    Rep (lastDv m2 m3 after q2 q3 g2 g3 k row old) (fun c d => h.dv (n0 + 512) (j0 + c) d) :=
  up2_dv H hge ho ((H.sub2 A.p2).mA_rep M2 hj) ((H.sub3 A.p3).mA_rep M3 hj)

omit M3 in
theorem lastQ2_rep : Rep (lastQ2 m2 after before q2 g2 k v row acc) (fun r d => h.dq (j0 + 256) (n0 + 256 + r) d) :=
  (H.sub2 A.p2).dq_rep ((H.sub2 A.p2).mD_rep M2 hj) A.d2
omit M2 in
theorem lastQ3_rep : Rep (lastQ3 m3 after before q3 g3 k v row acc) (fun r d => h.dq (j0 + 256) (n0 + 384 + r) d) :=
  (H.sub3 A.p3).dq_rep ((H.sub3 A.p3).mD_rep M3 hj) A.d3

include M0 M1

theorem diagAcc_rep : AccAt h n0 (j0 + 256) (diagAcc m0 m1 m2 m3 after before q0 q1 q2 q3 g0 g1 g2 g3 k v row acc) where
  p0 := (H.sub0 A.p0).pe_rep ((H.sub0 A.p0).mE_rep M0 hj)
  p1 := (H.sub1 A.p1).pe_rep ((H.sub1 A.p1).mE_rep M1 hj)
  p2 := (H.sub2 A.p2).pe_rep ((H.sub2 A.p2).mE_rep M2 hj)
  p3 := (H.sub3 A.p3).pe_rep ((H.sub3 A.p3).mE_rep M3 hj)
  d0 := (H.sub0 A.p0).dq_rep ((H.sub0 A.p0).mD_rep M0 hj) A.d0
  d1 := (H.sub1 A.p1).dq_rep ((H.sub1 A.p1).mD_rep M1 hj) A.d1
  d2 := (H.sub2 A.p2).dq_rep ((H.sub2 A.p2).mD_rep M2 hj) A.d2
  d3 := (H.sub3 A.p3).dq_rep ((H.sub3 A.p3).mD_rep M3 hj) A.d3

theorem diagDk_rep (ho : Rep old (fun c d => h.dk n0 (j0 + c) d)) :
    Rep (diagDk m0 m1 m2 m3 after before q0 q1 q2 q3 g0 g1 g2 g3 k v row acc old) (fun c d => h.dk (n0 + 512) (j0 + c) d) :=
  up4_dk H ho ((H.sub0 A.p0).mD_rep M0 hj) ((H.sub1 A.p1).mD_rep M1 hj) ((H.sub2 A.p2).mD_rep M2 hj) ((H.sub3 A.p3).mD_rep M3 hj)

theorem diagDv_rep (ho : Rep old (fun c d => h.dv n0 (j0 + c) d)) :
    Rep (diagDv m0 m1 m2 m3 after q0 q1 q2 q3 g0 g1 g2 g3 k row old) (fun c d => h.dv (n0 + 512) (j0 + c) d) :=
  up4_dv H ho ((H.sub0 A.p0).mA_rep M0 hj) ((H.sub1 A.p1).mA_rep M1 hj) ((H.sub2 A.p2).mA_rep M2 hj) ((H.sub3 A.p3).mA_rep M3 hj)

end

end StickBreaking
-- ==== Proof.Mem.lean ====
module
public import proofs.«01_k».proof.Proof.Ops
public import Idealize.ShloMosaic.Lib.Writes
public import Idealize.ShloMosaic.Lib.WritesUnit
public import Idealize.ShloMosaic.Lib.Pipeline.ValueKit.Tiles

/-! Reading and writing blocks of rows, on arrays of finite reals. -/

@[expose] public section

noncomputable section

namespace StickBreaking

open Idealize.ShloMosaic Idealize.ShloMosaic.ValueIdx Cert.KernelIdeal Cert.KernelIdeal.Gen

/-- A block of an array of reals is a block of the reals. -/
theorem Rep.block {M N m n : ℕ} {X : (⟨2, ![M, N]⟩ : Shape).Idx → EReal} {F : ℕ → ℕ → ℝ} (h : Rep X F) {off : Fin 2 → ℕ} (o : ℕ)
    (hoff : off = ![o, 0]) (inb : ∀ a : Fin 2, off a + (![m, n] : Fin 2 → ℕ) a ≤ (![M, N] : Fin 2 → ℕ) a) :
    Rep (m := m) (n := n) (fun y => X ((Rect.unit (s := ⟨2, ![M, N]⟩) off ![m, n] inb).idx y)) (fun r c => F (o + r) c) := by
  intro r c
  subst hoff
  have h0 : o + m ≤ M := inb 0
  have h1 : 0 + n ≤ N := inb 1
  have e : (Rect.unit (s := ⟨2, ![M, N]⟩) ![o, 0] ![m, n] inb).idx (ix2 r c)
      = ix2 (⟨o + r.val, by omega⟩ : Fin M) (⟨c.val, by omega⟩ : Fin N) := by
    refine funext fun b => Fin.ext ?_
    rw [Rect.idx_unit_val]
    fin_cases b
    · rfl
    · exact Nat.zero_add _
  show X _ = _
  rw [e]
  exact h _ _

section
variable {κ : Kind} {sp : Space} {M N m : ℕ} {v : View sig κ sp (⟨2, ![M, N]⟩ : Shape) .f32} {f : v.ty.Contents (Elt Ideal)}
  {L : List (View.Piece (Elt Ideal) (⟨2, ![M, N]⟩ : Shape) .f32)} {F W : ℕ → ℕ → ℝ}

/-- What a store of a block of rows leaves. -/
theorem Rep.store (hF : Rep (v.read (Elt Ideal) (v.writes (Elt Ideal) f L)) F) {off : Fin 2 → ℕ} (o : ℕ)
    (hoff : off = ![o, 0]) (inb : ∀ a : Fin 2, off a + (![m, N] : Fin 2 → ℕ) a ≤ (![M, N] : Fin 2 → ℕ) a)
    {w : (Rect.unit (s := ⟨2, ![M, N]⟩) off ![m, N] inb).shape.Idx → Elt Ideal .f32} (hw : Rep (m := m) (n := N) w W) :
    Rep (v.read (Elt Ideal) (v.writes (Elt Ideal) f (⟨Rect.unit (s := ⟨2, ![M, N]⟩) off ![m, N] inb, w⟩ :: L)))
      (fun j d => if o ≤ j ∧ j < o + m then W (j - o) d else F j d) := by
  intro j d
  beta_reduce
  by_cases h : o ≤ j.val ∧ j.val < o + m
  · rw [if_pos h]
    rw [View.read_writes_cons_rows_of_mem v f inb w L (ix2 j d) (ix2 (⟨j.val - o, by omega⟩ : Fin m) d) hoff
      (by show j.val = o + (j.val - o); omega) rfl]
    exact hw _ _
  · rw [if_neg h, View.read_writes_cons_rows_of_not_mem v f inb w L (ix2 j d) hoff rfl
      (by show j.val < o ∨ o + m ≤ j.val; omega)]
    exact hF j d

end

end StickBreaking
-- ==== Proof.Sweep.lean ====
module
public import proofs.«01_k».proof.Proof.Steps
public import proofs.«01_k».proof.Proof.Mem

/-! One grid point: what it carries and what it adds to the gradients, in closed form. -/

@[expose] public section

set_option maxRecDepth 16384

noncomputable section

namespace StickBreaking

open Idealize.ShloMosaic Idealize.ShloMosaic.ValueIdx Idealize.ShloMosaic.TcCoe Idealize.ShloMosaic.Tactic Cert.KernelIdeal Cert.KernelIdeal.Gen

/-- What a point reads: its 512 queries and their arriving gradient, the head's keys and values, its columns of the tails. -/
structure PointIn (h : Head) (i : grid0.Coords) (x0 : Vec Ideal S512x128 .bf16) (x1 : Vec Ideal S4096x128 .bf16) (x2 : Vec Ideal S4096x128 .bf16)
    (x3 : Vec Ideal S16x512 .f32) (x4 : Vec Ideal S512x128 .f32) : Prop where
  q : Rep x0 (fun r d => h.q (512 * (i 1).val + r) d)
  k : Rep x1 h.k
  v : Rep x2 h.v
  tails : Rep x3 (fun b l => h.tail (512 * (i 1).val + l) (256 * b + 255))
  g : Rep x4 (fun r d => h.g (512 * (i 1).val + r) d)

theorem trips_sweep : ∀ i : grid0.Coords, (k0_t1_loop i).trips = 2 * (i 1).val := by decide +kernel
theorem trips_rest (i : grid0.Coords) : (k0_t2_loop i).trips = 0 := Nat.le_zero.mp (k0_t2_abs i).2.1

section
variable {h : Head} (c : Dev nD) {i : grid0.Coords} {arg2 : Memref sig .tc .vmem S512x128 .bf16} {harg2 : arg2.IsWhole} {arg3 : Memref sig .tc .vmem S4096x128 .bf16} {harg3 : arg3.IsWhole}
  {arg4 : Memref sig .tc .vmem S4096x128 .bf16} {harg4 : arg4.IsWhole} {arg5 : Memref sig .tc .vmem S16x512 .f32} {harg5 : arg5.IsWhole}
  {arg6 : Memref sig .tc .vmem S512x128 .f32} {harg6 : arg6.IsWhole} {arg7 : Memref sig .tc .vmem S512x128 .f32} {harg7 : arg7.IsWhole}
  {arg8 : Memref sig .tc .vmem S4096x128 .f32} {harg8 : arg8.IsWhole} {arg9 : Memref sig .tc .vmem S4096x128 .f32} {harg9 : arg9.IsWhole}
  {x0 : Vec Ideal S512x128 .bf16} {x1 : Vec Ideal S4096x128 .bf16} {x2 : Vec Ideal S4096x128 .bf16} {x3 : Vec Ideal S16x512 .f32} {x4 : Vec Ideal S512x128 .f32}
  (H : PointIn h i x0 x1 x2 x3 x4)
include H

theorem PointIn.q_rep (o : ℕ) (hb : ∀ b, (![o, 0] : Fin 2 → ℕ) b + S128x128.size b ≤ S512x128.size b) :
    Rep (sqT (rows512 arg2 (harg2.unread x0) o hb)) (fun r d => h.q (512 * (i 1).val + o + r) d * sc) := by
  refine sqT_rep (f := fun r d => h.q (512 * (i 1).val + o + r) d) ?_
  unfold rows512
  rw [View.readAt_eq_ld, harg2.read_unread]
  exact (H.q.block o rfl hb).congr fun r c _ _ => by rw [add_assoc]

theorem PointIn.g_rep (o : ℕ) (hb : ∀ b, (![o, 0] : Fin 2 → ℕ) b + S128x128.size b ≤ S512x128.size b) :
    Rep (toB (rows512 arg6 (harg6.unread x4) o hb)) (fun r d => h.g (512 * (i 1).val + o + r) d) := by
  unfold toB rows512
  rw [View.readAt_eq_ld, harg6.read_unread]
  exact ((H.g.block o rfl hb).congr fun r c _ _ => by rw [add_assoc]).trunc bitsLt_bf16_f32

/-- A tile's step reads the head's numbers. -/
theorem PointIn.step (b : ℕ) {off : Fin 2 → ℕ} (hoff : off = ![256 * b, 0]) (inb : ∀ a, off a + S256x128.size a ≤ S4096x128.size a)
    {roff : Fin 2 → ℕ} (hroff : roff = ![b, 0]) (rinb : ∀ a, roff a + S1x512.size a ≤ S16x512.size a) :
    StepIn h (512 * (i 1).val) (256 * b) k0_pay57 k0_pay58
      (sqT (rows512 arg2 (harg2.unread x0) 0 inb_S512x128_S128x128_0_0)) (sqT (rows512 arg2 (harg2.unread x0) 128 inb_S512x128_S128x128_128_0)) (sqT (rows512 arg2 (harg2.unread x0) 256 inb_S512x128_S128x128_256_0)) (sqT (rows512 arg2 (harg2.unread x0) 384 inb_S512x128_S128x128_384_0))
      (toB (rows512 arg6 (harg6.unread x4) 0 inb_S512x128_S128x128_0_0)) (toB (rows512 arg6 (harg6.unread x4) 128 inb_S512x128_S128x128_128_0)) (toB (rows512 arg6 (harg6.unread x4) 256 inb_S512x128_S128x128_256_0)) (toB (rows512 arg6 (harg6.unread x4) 384 inb_S512x128_S128x128_384_0))
      (arg3.view.readAt (Elt Ideal) (Rect.unit (s := S4096x128) off S256x128.size inb).toLoadRect (harg3.unread x1))
      (arg4.view.readAt (Elt Ideal) (Rect.unit (s := S4096x128) off S256x128.size inb).toLoadRect (harg4.unread x2))
      (arg5.view.readAt (Elt Ideal) (Rect.unit (s := S16x512) roff S1x512.size rinb).toLoadRect (harg5.unread x3)) where
  after := after_rep
  before := before_rep
  q0 := H.q_rep 0 _
  q1 := H.q_rep 128 _
  q2 := H.q_rep 256 _
  q3 := H.q_rep 384 _
  g0 := H.g_rep 0 _
  g1 := H.g_rep 128 _
  g2 := H.g_rep 256 _
  g3 := H.g_rep 384 _
  k := by
    rw [View.readAt_eq_ld, harg3.read_unread]
    exact H.k.block _ hoff inb
  v := by
    rw [View.readAt_eq_ld, harg4.read_unread]
    exact H.v.block _ hoff inb
  row := by
    rw [View.readAt_eq_ld, harg5.read_unread]
    exact (H.tails.block b hroff rinb).congr fun r c hr _ => by
      obtain rfl : r = 0 := by omega
      rfl

variable {f8 : BufTy.Contents (Elt Ideal) arg8.view.ty} {f9 : BufTy.Contents (Elt Ideal) arg9.view.ty}

/-- The gradients' rows before tile `b`: this point's share is in those of the tiles before. -/
theorem PointIn.sweep_rep (h8 : Rep (arg8.view.read (Elt Ideal) f8) (fun j d => h.dk (512 * (i 1).val) j d))
    (h9 : Rep (arg9.view.read (Elt Ideal) f9) (fun j d => h.dv (512 * (i 1).val) j d)) (n : ℕ) (hn : n ≤ (k0_t1_loop i).trips) :
    AccAt h (512 * (i 1).val) (256 * n) (sweep c i arg2 harg2 arg3 harg3 arg4 harg4 arg5 harg5 arg6 harg6 arg7 harg7 arg8 harg8 arg9 harg9 x0 x1 x2 x3 x4 f8 f9 n).1
    ∧ Rep (arg8.view.read (Elt Ideal) (arg8.view.writes (Elt Ideal) f8 (sweep c i arg2 harg2 arg3 harg3 arg4 harg4 arg5 harg5 arg6 harg6 arg7 harg7 arg8 harg8 arg9 harg9 x0 x1 x2 x3 x4 f8 f9 n).2.1))
        (fun j d => if j < 256 * n then h.dk (512 * (i 1).val + 512) j d else h.dk (512 * (i 1).val) j d)
    ∧ Rep (arg9.view.read (Elt Ideal) (arg9.view.writes (Elt Ideal) f9 (sweep c i arg2 harg2 arg3 harg3 arg4 harg4 arg5 harg5 arg6 harg6 arg7 harg7 arg8 harg8 arg9 harg9 x0 x1 x2 x3 x4 f8 f9 n).2.2))
        (fun j d => if j < 256 * n then h.dv (512 * (i 1).val + 512) j d else h.dv (512 * (i 1).val) j d) := by
  induction n with
  | zero => exact ⟨acc0_at h _, h8.congr fun _ _ _ _ => (if_neg (by omega)).symm, h9.congr fun _ _ _ _ => (if_neg (by omega)).symm⟩
  | succ n ih =>
    obtain ⟨A, K, W⟩ := ih (by omega)
    have hi : (i 1).val < 8 := (i 1).isLt
    have ht := trips_sweep i
    have hj : 256 * n + 256 ≤ 4096 := by omega
    have hlt : 256 * n + 256 ≤ 512 * (i 1).val := by omega
    have hS := H.step (harg2 := harg2) (harg3 := harg3) (harg4 := harg4) (harg5 := harg5) (harg6 := harg6) n
      (k0_off1_eq i ⟨n, by omega⟩) (k0_off1_inb i ⟨n, by omega⟩) (k0_off2_eq i ⟨n, by omega⟩) (k0_off2_inb i ⟨n, by omega⟩)
    unfold sweep at A K W ⊢
    rw [show n + 1 = (⟨n, by omega⟩ : Fin (k0_t1_loop i).trips).val + 1 from rfl, st_k0_t1_succ, tripR_eq, tripL_eq]
    refine ⟨?_, ?_, ?_⟩
    · exact stepAcc_rep hS A hj hlt
    · refine Rep.congr (K.store (256 * n) (k0_off1_eq i ⟨n, by omega⟩) _
        (stepDk_rep hS A hj hlt ?_)) fun j d _ _ => ?_
      · rw [View.readAt_eq_ld]
        exact (K.block (256 * n) (k0_off1_eq i ⟨n, by omega⟩) (k0_off1_inb i ⟨n, by omega⟩)).congr fun r _ _ _ => if_neg (by omega)
      · show _ = if j < 256 * (n + 1) then _ else _
        by_cases h1 : 256 * n ≤ j ∧ j < 256 * n + 256
        · rw [if_pos h1, if_pos (by omega), Nat.add_sub_cancel' h1.1]
        · rw [if_neg h1]
          by_cases h2 : j < 256 * n
          · rw [if_pos h2, if_pos (by omega)]
          · rw [if_neg h2, if_neg (by omega)]
    · refine Rep.congr (W.store (256 * n) (k0_off1_eq i ⟨n, by omega⟩) _
        (stepDv_rep hS A hj hlt ?_)) fun j d _ _ => ?_
      · rw [View.readAt_eq_ld]
        exact (W.block (256 * n) (k0_off1_eq i ⟨n, by omega⟩) (k0_off1_inb i ⟨n, by omega⟩)).congr fun r _ _ _ => if_neg (by omega)
      · show _ = if j < 256 * (n + 1) then _ else _
        by_cases h1 : 256 * n ≤ j ∧ j < 256 * n + 256
        · rw [if_pos h1, if_pos (by omega), Nat.add_sub_cancel' h1.1]
        · rw [if_neg h1]
          by_cases h2 : j < 256 * n
          · rw [if_pos h2, if_pos (by omega)]
          · rw [if_neg h2, if_neg (by omega)]

omit H in
theorem rest_eq : rest c i arg2 harg2 arg3 harg3 arg4 harg4 arg5 harg5 arg6 harg6 arg7 harg7 arg8 harg8 arg9 harg9 x0 x1 x2 x3 x4 f8 f9 = ((sweep c i arg2 harg2 arg3 harg3 arg4 harg4 arg5 harg5 arg6 harg6 arg7 harg7 arg8 harg8 arg9 harg9 x0 x1 x2 x3 x4 f8 f9 (k0_t1_loop i).trips).1, [], []) := by
  unfold rest
  rw [trips_rest]
  rfl

end

end StickBreaking
-- ==== Proof.Blocks.lean ====
module
public import proofs.«01_k».proof.Proof.Tails
public import proofs.«01_k».proof.Proof.Sweep

/-! What the call's input blocks hold at grid point `8·head + row block`. -/

@[expose] public section

set_option maxRecDepth 16384

noncomputable section

namespace StickBreaking

open Idealize.ShloMosaic Idealize.ShloMosaic.ValueIdx Idealize.ShloMosaic.TcCoe Idealize.ShloMosaic.Pipeline Cert.KernelIdeal Cert.KernelIdeal.Gen

theorem index_in : ∀ t : Fin cfg0.N,
    ((win0_0.index t (0 : Fin 2) = t.val % 8 ∧ win0_0.index t (1 : Fin 2) = t.val / 8)
      ∧ (win0_1.index t (0 : Fin 2) = 0 ∧ win0_1.index t (1 : Fin 2) = 8 + t.val / 8)
      ∧ (win0_2.index t (0 : Fin 2) = 0 ∧ win0_2.index t (1 : Fin 2) = 16 + t.val / 8))
    ∧ (win0_3.index t (0 : Fin 2) = t.val / 8 ∧ win0_3.index t (1 : Fin 2) = t.val % 8)
    ∧ (win0_4.index t (0 : Fin 2) = t.val % 8 ∧ win0_4.index t (1 : Fin 2) = t.val / 8) :=
  (by decide +kernel : ∀ t : Fin grid0.N, _)

theorem coord_row : ∀ t : Fin cfg0.N, (grid0.coords t 1).val = t.val % 8 := (by decide +kernel : ∀ t : Fin grid0.N, _)

variable (m : (ℓ : Loc nD τ sig) → Buf (Elt Ideal) ℓ) (c : Dev nD) {A G : ℕ → ℕ → ℝ}
  (hx0 : Rep (m ((c : Thread nD τ).loc main_arg0) : Vec Ideal S4096x3072 .bf16) A)
  (hx1 : Rep (m ((c : Thread nD τ).loc main_arg1) : Vec Ideal S4096x1024 .f32) G)
  (t : Fin cfg0.N)

include hx0 in
theorem block0 : Rep (iblk m c 0 t : Vec Ideal S512x128 .bf16) (fun r d => A (512 * (t.val % 8) + r) (128 * (t.val / 8) + d)) := by
  intro r d
  have e := index_in t
  show V m c main_arg0 ((win0_0.blk t).view.emb (ix2 r d)) = _
  rw [V_main_arg0]
  refine hx0.at _ ?_ ?_
  · refine (win0_0.rect_emb_val t (ix2 r d) 0).trans ?_
    rw [e.1.1.1]; show _ * 512 + r.val = _; omega
  · refine (win0_0.rect_emb_val t (ix2 r d) 1).trans ?_
    rw [e.1.1.2]; show _ * 128 + d.val = _; omega

include hx0 in
theorem block1 : Rep (iblk m c 1 t : Vec Ideal S4096x128 .bf16) (fun r d => A r (1024 + (128 * (t.val / 8) + d))) := by
  intro r d
  have e := index_in t
  show V m c main_arg0 ((win0_1.blk t).view.emb (ix2 r d)) = _
  rw [V_main_arg0]
  refine hx0.at _ ?_ ?_
  · refine (win0_1.rect_emb_val t (ix2 r d) 0).trans ?_
    rw [e.1.2.1.1]; show _ * 4096 + r.val = _; omega
  · refine (win0_1.rect_emb_val t (ix2 r d) 1).trans ?_
    rw [e.1.2.1.2]; show _ * 128 + d.val = _; omega

include hx0 in
theorem block2 : Rep (iblk m c 2 t : Vec Ideal S4096x128 .bf16) (fun r d => A r (2048 + (128 * (t.val / 8) + d))) := by
  intro r d
  have e := index_in t
  show V m c main_arg0 ((win0_2.blk t).view.emb (ix2 r d)) = _
  rw [V_main_arg0]
  refine hx0.at _ ?_ ?_
  · refine (win0_2.rect_emb_val t (ix2 r d) 0).trans ?_
    rw [e.1.2.2.1]; show _ * 4096 + r.val = _; omega
  · refine (win0_2.rect_emb_val t (ix2 r d) 1).trans ?_
    rw [e.1.2.2.2]; show _ * 128 + d.val = _; omega

include hx0 in
theorem block3 : Rep (iblk m c 3 t : Vec Ideal S16x512 .f32) (fun b l => (headOf A G (t.val / 8)).tail (512 * (t.val % 8) + l) (256 * b + 255)) := by
  intro b l
  have e := index_in t
  show V m c main_v24 ((win0_3.blk t).view.emb (ix2 b l)) = _
  refine ((tails_rep m c G hx0).at (a := 16 * (t.val / 8) + b.val) (b := 512 * (t.val % 8) + l.val) _ ?_ ?_).trans ?_
  · refine (win0_3.rect_emb_val t (ix2 b l) 0).trans ?_
    rw [e.2.1.1]; show _ * 16 + b.val = _; omega
  · refine (win0_3.rect_emb_val t (ix2 b l) 1).trans ?_
    rw [e.2.1.2]; show _ * 512 + l.val = _; omega
  · have hb : (16 * (t.val / 8) + b.val) / 16 = t.val / 8 := by omega
    have hm : (16 * (t.val / 8) + b.val) % 16 = b.val := by omega
    rw [hb, hm]

include hx1 in
theorem block4 : Rep (iblk m c 4 t : Vec Ideal S512x128 .f32) (fun r d => G (512 * (t.val % 8) + r) (128 * (t.val / 8) + d)) := by
  intro r d
  have e := index_in t
  show V m c main_arg1 ((win0_4.blk t).view.emb (ix2 r d)) = _
  rw [V_main_arg1]
  refine hx1.at _ ?_ ?_
  · refine (win0_4.rect_emb_val t (ix2 r d) 0).trans ?_
    rw [e.2.2.1]; show _ * 512 + r.val = _; omega
  · refine (win0_4.rect_emb_val t (ix2 r d) 1).trans ?_
    rw [e.2.2.2]; show _ * 128 + d.val = _; omega

include hx0 hx1 in
/-- All five, as the point's program wants them. -/
theorem pointIn : PointIn (headOf A G (t.val / 8)) (grid0.coords t) (iblk m c 0 t) (iblk m c 1 t) (iblk m c 2 t) (iblk m c 3 t) (iblk m c 4 t) where
  q := by rw [coord_row]; exact block0 m c hx0 t
  k := block1 m c hx0 t
  v := block2 m c hx0 t
  tails := by rw [coord_row]; exact block3 m c hx0 t
  g := by rw [coord_row]; exact block4 m c hx1 t

end StickBreaking
-- ==== Proof.Diag.lean ====
module
public import proofs.«01_k».proof.Proof.Sweep

/-! The diagonal's two tiles and the query gradient's block, in closed form. -/

@[expose] public section

set_option maxRecDepth 16384

noncomputable section

namespace StickBreaking

open Idealize.ShloMosaic Idealize.ShloMosaic.ValueIdx Idealize.ShloMosaic.TcCoe Idealize.ShloMosaic.Tactic Cert.KernelIdeal Cert.KernelIdeal.Gen

/-! The body's words for the first query of a sub-block and the first key of a tile. -/

theorem row_0 : ∀ i : grid0.Coords, rowW i 0#32 = BitVec.ofNat 32 (512 * (i 1).val) := by decide +kernel
theorem row_1 : ∀ i : grid0.Coords, rowW i 128#32 = BitVec.ofNat 32 (512 * (i 1).val + 128) := by decide +kernel
theorem row_2 : ∀ i : grid0.Coords, rowW i 256#32 = BitVec.ofNat 32 (512 * (i 1).val + 256) := by decide +kernel
theorem row_3 : ∀ i : grid0.Coords, rowW i 384#32 = BitVec.ofNat 32 (512 * (i 1).val + 384) := by decide +kernel
theorem col_0 : ∀ i : grid0.Coords, colW i 0#32 = BitVec.ofNat 32 (512 * (i 1).val) := by decide +kernel
theorem col_1 : ∀ i : grid0.Coords, colW i 1#32 = BitVec.ofNat 32 (512 * (i 1).val + 256) := by decide +kernel

/-- Four blocks of 128 rows fill a block of 512. -/
theorem four_rows {v : View sig .tc .vmem S512x128 .f32} (f : v.ty.Contents (Elt Ideal)) {w0 w1 w2 w3 : FVec Ideal S128x128 .f32} {W0 W1 W2 W3 F : ℕ → ℕ → ℝ}
    (i0 : ∀ b, (![0, 0] : Fin 2 → ℕ) b + S128x128.size b ≤ S512x128.size b) (i1 : ∀ b, (![128, 0] : Fin 2 → ℕ) b + S128x128.size b ≤ S512x128.size b)
    (i2 : ∀ b, (![256, 0] : Fin 2 → ℕ) b + S128x128.size b ≤ S512x128.size b) (i3 : ∀ b, (![384, 0] : Fin 2 → ℕ) b + S128x128.size b ≤ S512x128.size b)
    (h0 : Rep w0 W0) (h1 : Rep w1 W1) (h2 : Rep w2 W2) (h3 : Rep w3 W3)
    (e0 : ∀ r d, r < 128 → W0 r d = F r d) (e1 : ∀ r d, r < 128 → W1 r d = F (128 + r) d)
    (e2 : ∀ r d, r < 128 → W2 r d = F (256 + r) d) (e3 : ∀ r d, r < 128 → W3 r d = F (384 + r) d) :
    Rep (v.read (Elt Ideal) (v.writes (Elt Ideal) f
      [⟨Rect.unit (s := S512x128) ![384, 0] S128x128.size i3, w3⟩, ⟨Rect.unit (s := S512x128) ![256, 0] S128x128.size i2, w2⟩,
       ⟨Rect.unit (s := S512x128) ![128, 0] S128x128.size i1, w1⟩, ⟨Rect.unit (s := S512x128) ![0, 0] S128x128.size i0, w0⟩])) F := by
  intro j d
  have hj := j.isLt
  by_cases c3 : 384 ≤ j.val
  · rw [View.read_writes_cons_rows_of_mem v f i3 w3 _ (ix2 j d) (ix2 (⟨j.val - 384, by omega⟩ : Fin 128) d) rfl
      (by show j.val = 384 + (j.val - 384); omega) rfl]
    exact (h3 _ _).trans (congrArg _ ((e3 _ _ (by show j.val - 384 < 128; omega)).trans (by rw [show 384 + (j.val - 384) = j.val by omega])))
  rw [View.read_writes_cons_rows_of_not_mem v f i3 w3 _ (ix2 j d) rfl rfl (by show j.val < 384 ∨ _; omega)]
  by_cases c2 : 256 ≤ j.val
  · rw [View.read_writes_cons_rows_of_mem v f i2 w2 _ (ix2 j d) (ix2 (⟨j.val - 256, by omega⟩ : Fin 128) d) rfl
      (by show j.val = 256 + (j.val - 256); omega) rfl]
    exact (h2 _ _).trans (congrArg _ ((e2 _ _ (by show j.val - 256 < 128; omega)).trans (by rw [show 256 + (j.val - 256) = j.val by omega])))
  rw [View.read_writes_cons_rows_of_not_mem v f i2 w2 _ (ix2 j d) rfl rfl (by show j.val < 256 ∨ _; omega)]
  by_cases c1 : 128 ≤ j.val
  · rw [View.read_writes_cons_rows_of_mem v f i1 w1 _ (ix2 j d) (ix2 (⟨j.val - 128, by omega⟩ : Fin 128) d) rfl
      (by show j.val = 128 + (j.val - 128); omega) rfl]
    exact (h1 _ _).trans (congrArg _ ((e1 _ _ (by show j.val - 128 < 128; omega)).trans (by rw [show 128 + (j.val - 128) = j.val by omega])))
  rw [View.read_writes_cons_rows_of_not_mem v f i1 w1 _ (ix2 j d) rfl rfl (by show j.val < 128 ∨ _; omega)]
  rw [View.read_writes_cons_rows_of_mem v f i0 w0 _ (ix2 j d) (ix2 (⟨j.val, by omega⟩ : Fin 128) d) rfl
      (by show j.val = 0 + j.val; omega) rfl]
  exact (h0 _ _).trans (congrArg _ (e0 _ _ (by show j.val < 128; omega)))

section
variable {h : Head} {i : grid0.Coords} {arg2 : Memref sig .tc .vmem S512x128 .bf16} {harg2 : arg2.IsWhole} {arg3 : Memref sig .tc .vmem S4096x128 .bf16} {harg3 : arg3.IsWhole}
  {arg4 : Memref sig .tc .vmem S4096x128 .bf16} {harg4 : arg4.IsWhole} {arg5 : Memref sig .tc .vmem S16x512 .f32} {harg5 : arg5.IsWhole}
  {arg6 : Memref sig .tc .vmem S512x128 .f32} {harg6 : arg6.IsWhole} {arg7 : Memref sig .tc .vmem S512x128 .f32} {harg7 : arg7.IsWhole}
  {arg8 : Memref sig .tc .vmem S4096x128 .f32} {harg8 : arg8.IsWhole} {arg9 : Memref sig .tc .vmem S4096x128 .f32} {harg9 : arg9.IsWhole}
  {x0 : Vec Ideal S512x128 .bf16} {x1 : Vec Ideal S4096x128 .bf16} {x2 : Vec Ideal S4096x128 .bf16} {x3 : Vec Ideal S16x512 .f32} {x4 : Vec Ideal S512x128 .f32}
  (H : PointIn h i x0 x1 x2 x3 x4)
include H

/-- Diagonal tile 0's operands. -/
theorem PointIn.step0 : StepIn h (512 * (i 1).val) (512 * (i 1).val) k0_pay57 k0_pay58
      (sqT (rows512 arg2 (harg2.unread x0) 0 inb_S512x128_S128x128_0_0)) (sqT (rows512 arg2 (harg2.unread x0) 128 inb_S512x128_S128x128_128_0)) (sqT (rows512 arg2 (harg2.unread x0) 256 inb_S512x128_S128x128_256_0)) (sqT (rows512 arg2 (harg2.unread x0) 384 inb_S512x128_S128x128_384_0))
      (toB (rows512 arg6 (harg6.unread x4) 0 inb_S512x128_S128x128_0_0)) (toB (rows512 arg6 (harg6.unread x4) 128 inb_S512x128_S128x128_128_0)) (toB (rows512 arg6 (harg6.unread x4) 256 inb_S512x128_S128x128_256_0)) (toB (rows512 arg6 (harg6.unread x4) 384 inb_S512x128_S128x128_384_0))
      (dK i arg3 harg3 x1 0) (dV i arg4 harg4 x2 0) (dTl i arg5 harg5 x3 0) := by
  have e := H.step (harg2 := harg2) (harg3 := harg3) (harg4 := harg4) (harg5 := harg5) (harg6 := harg6) (2 * (i 1).val + 0)
    ((k0_off5_eq i 0).trans (by rw [show 512 * (i 1).val + 256 * ((0 : Fin 2) : ℕ) = 256 * (2 * (i 1).val + 0) by simp; omega])) (k0_off5_inb i 0) (k0_off6_eq i 0) (k0_off6_inb i 0)
  rw [show 256 * (2 * (i 1).val + 0) = 512 * (i 1).val by omega] at e
  exact e

/-- Diagonal tile 1's operands. -/
theorem PointIn.step1 : StepIn h (512 * (i 1).val) (512 * (i 1).val + 256) k0_pay57 k0_pay58
      (sqT (rows512 arg2 (harg2.unread x0) 0 inb_S512x128_S128x128_0_0)) (sqT (rows512 arg2 (harg2.unread x0) 128 inb_S512x128_S128x128_128_0)) (sqT (rows512 arg2 (harg2.unread x0) 256 inb_S512x128_S128x128_256_0)) (sqT (rows512 arg2 (harg2.unread x0) 384 inb_S512x128_S128x128_384_0))
      (toB (rows512 arg6 (harg6.unread x4) 0 inb_S512x128_S128x128_0_0)) (toB (rows512 arg6 (harg6.unread x4) 128 inb_S512x128_S128x128_128_0)) (toB (rows512 arg6 (harg6.unread x4) 256 inb_S512x128_S128x128_256_0)) (toB (rows512 arg6 (harg6.unread x4) 384 inb_S512x128_S128x128_384_0))
      (dK i arg3 harg3 x1 1) (dV i arg4 harg4 x2 1) (dTl i arg5 harg5 x3 1) := by
  have e := H.step (harg2 := harg2) (harg3 := harg3) (harg4 := harg4) (harg5 := harg5) (harg6 := harg6) (2 * (i 1).val + 1)
    ((k0_off5_eq i 1).trans (by rw [show 512 * (i 1).val + 256 * ((1 : Fin 2) : ℕ) = 256 * (2 * (i 1).val + 1) by simp; omega])) (k0_off5_inb i 1) (k0_off6_eq i 1) (k0_off6_inb i 1)
  rw [show 256 * (2 * (i 1).val + 1) = 512 * (i 1).val + 256 by omega] at e
  exact e

theorem PointIn.mask00 : MaskAt (512 * (i 1).val) (512 * (i 1).val) (okT (rowW i 0#32) (colW i 0#32)) :=
  have hi : (i 1).val < 8 := (i 1).isLt
  mask_apply _ _ (by omega) (by omega) _ _ (row_0 i) (col_0 i)
theorem PointIn.mask10 : MaskAt (512 * (i 1).val + 128) (512 * (i 1).val) (okT (rowW i 128#32) (colW i 0#32)) :=
  have hi : (i 1).val < 8 := (i 1).isLt
  mask_apply _ _ (by omega) (by omega) _ _ (row_1 i) (col_0 i)
theorem PointIn.mask20 : MaskAt (512 * (i 1).val + 256) (512 * (i 1).val) (okT (rowW i 256#32) (colW i 0#32)) :=
  have hi : (i 1).val < 8 := (i 1).isLt
  mask_apply _ _ (by omega) (by omega) _ _ (row_2 i) (col_0 i)
theorem PointIn.mask30 : MaskAt (512 * (i 1).val + 384) (512 * (i 1).val) (okT (rowW i 384#32) (colW i 0#32)) :=
  have hi : (i 1).val < 8 := (i 1).isLt
  mask_apply _ _ (by omega) (by omega) _ _ (row_3 i) (col_0 i)
theorem PointIn.mask21 : MaskAt (512 * (i 1).val + 256) (512 * (i 1).val + 256) (okT (rowW i 256#32) (colW i 1#32)) :=
  have hi : (i 1).val < 8 := (i 1).isLt
  mask_apply _ _ (by omega) (by omega) _ _ (row_2 i) (col_1 i)
theorem PointIn.mask31 : MaskAt (512 * (i 1).val + 384) (512 * (i 1).val + 256) (okT (rowW i 384#32) (colW i 1#32)) :=
  have hi : (i 1).val < 8 := (i 1).isLt
  mask_apply _ _ (by omega) (by omega) _ _ (row_3 i) (col_1 i)

/-- The carried values after the diagonal's first tile. -/
theorem PointIn.fAcc_rep {acc : Acc} (A : AccAt h (512 * (i 1).val) (512 * (i 1).val) acc) :
    AccAt h (512 * (i 1).val) (512 * (i 1).val + 256) (fAcc i arg2 harg2 arg3 harg3 arg4 harg4 arg5 harg5 arg6 harg6 x0 x1 x2 x3 x4 acc) :=
  have hi : (i 1).val < 8 := (i 1).isLt
  diagAcc_rep H.step0 A (by omega) H.mask00 H.mask10 H.mask20 H.mask30

theorem PointIn.dk1 {acc : Acc} (A : AccAt h (512 * (i 1).val) (512 * (i 1).val) acc) {f : BufTy.Contents (Elt Ideal) arg8.view.ty}
    {L : List (View.Piece (Elt Ideal) S4096x128 .f32)}
    (K : Rep (arg8.view.read (Elt Ideal) (arg8.view.writes (Elt Ideal) f L)) (fun j d => if j < 512 * (i 1).val then h.dk (512 * (i 1).val + 512) j d else h.dk (512 * (i 1).val) j d)) :
    Rep (arg8.view.read (Elt Ideal) (arg8.view.writes (Elt Ideal) f (storeK1 i arg2 harg2 arg3 harg3 arg4 harg4 arg5 harg5 arg6 harg6 arg8 x0 x1 x2 x3 x4 acc f L)))
      (fun j d => if j < 512 * (i 1).val + 256 then h.dk (512 * (i 1).val + 512) j d else h.dk (512 * (i 1).val) j d) := by
  have hi : (i 1).val < 8 := (i 1).isLt
  have off0 : k0_off5 i (BitVec.ofNat 32 (0 : Fin 2).val) = ![512 * (i 1).val, 0] := (k0_off5_eq i 0).trans (by simp)
  refine Rep.congr (K.store (512 * (i 1).val) off0 _ (diagDk_rep H.step0 A (by omega) H.mask00 H.mask10 H.mask20 H.mask30 ?_)) fun j d _ _ => ?_
  · rw [View.readAt_eq_ld]
    exact (K.block (512 * (i 1).val) off0 (k0_off5_inb i 0)).congr fun r _ _ _ => if_neg (by omega)
  · by_cases h1 : 512 * (i 1).val ≤ j ∧ j < 512 * (i 1).val + 256
    · rw [if_pos h1, if_pos h1.2, Nat.add_sub_cancel' h1.1]
    · rw [if_neg h1]
      by_cases h2 : j < 512 * (i 1).val
      · rw [if_pos h2, if_pos (by omega)]
      · rw [if_neg h2, if_neg (by omega)]

theorem PointIn.dk2 {acc : Acc} (A : AccAt h (512 * (i 1).val) (512 * (i 1).val + 256) acc) {f : BufTy.Contents (Elt Ideal) arg8.view.ty}
    {L : List (View.Piece (Elt Ideal) S4096x128 .f32)}
    (K : Rep (arg8.view.read (Elt Ideal) (arg8.view.writes (Elt Ideal) f L)) (fun j d => if j < 512 * (i 1).val + 256 then h.dk (512 * (i 1).val + 512) j d else h.dk (512 * (i 1).val) j d)) :
    Rep (arg8.view.read (Elt Ideal) (arg8.view.writes (Elt Ideal) f (storeK2 i arg2 harg2 arg3 harg3 arg4 harg4 arg5 harg5 arg6 harg6 arg8 x0 x1 x2 x3 x4 acc f L)))
      (fun j d => h.dk (512 * (i 1).val + 512) j d) := by
  have hi : (i 1).val < 8 := (i 1).isLt
  have off1 : k0_off5 i (BitVec.ofNat 32 (1 : Fin 2).val) = ![512 * (i 1).val + 256, 0] := (k0_off5_eq i 1).trans (by simp)
  refine Rep.congr (K.store (512 * (i 1).val + 256) off1 _ (lastDk_rep H.step1 A (by omega) H.mask21 H.mask31 le_rfl ?_)) fun j d _ _ => ?_
  · rw [View.readAt_eq_ld]
    exact (K.block (512 * (i 1).val + 256) off1 (k0_off5_inb i 1)).congr fun r _ _ _ => if_neg (by omega)
  · by_cases h1 : 512 * (i 1).val + 256 ≤ j ∧ j < 512 * (i 1).val + 256 + 256
    · rw [if_pos h1, Nat.add_sub_cancel' h1.1]
    · rw [if_neg h1]
      by_cases h2 : j < 512 * (i 1).val + 256
      · rw [if_pos h2]
      · rw [if_neg h2, h.dk_none _ _ _ (by omega)]

theorem PointIn.dv1 {acc : Acc} (A : AccAt h (512 * (i 1).val) (512 * (i 1).val) acc) {f : BufTy.Contents (Elt Ideal) arg9.view.ty}
    {L : List (View.Piece (Elt Ideal) S4096x128 .f32)}
    (K : Rep (arg9.view.read (Elt Ideal) (arg9.view.writes (Elt Ideal) f L)) (fun j d => if j < 512 * (i 1).val then h.dv (512 * (i 1).val + 512) j d else h.dv (512 * (i 1).val) j d)) :
    Rep (arg9.view.read (Elt Ideal) (arg9.view.writes (Elt Ideal) f (storeV1 i arg2 harg2 arg3 harg3 arg5 harg5 arg6 harg6 arg9 x0 x1 x3 x4  f L)))
      (fun j d => if j < 512 * (i 1).val + 256 then h.dv (512 * (i 1).val + 512) j d else h.dv (512 * (i 1).val) j d) := by
  have hi : (i 1).val < 8 := (i 1).isLt
  have off0 : k0_off5 i (BitVec.ofNat 32 (0 : Fin 2).val) = ![512 * (i 1).val, 0] := (k0_off5_eq i 0).trans (by simp)
  refine Rep.congr (K.store (512 * (i 1).val) off0 _ (diagDv_rep (H.step0 (arg4 := arg3) (harg4 := harg3)) A (by omega) H.mask00 H.mask10 H.mask20 H.mask30 ?_)) fun j d _ _ => ?_
  · rw [View.readAt_eq_ld]
    exact (K.block (512 * (i 1).val) off0 (k0_off5_inb i 0)).congr fun r _ _ _ => if_neg (by omega)
  · by_cases h1 : 512 * (i 1).val ≤ j ∧ j < 512 * (i 1).val + 256
    · rw [if_pos h1, if_pos h1.2, Nat.add_sub_cancel' h1.1]
    · rw [if_neg h1]
      by_cases h2 : j < 512 * (i 1).val
      · rw [if_pos h2, if_pos (by omega)]
      · rw [if_neg h2, if_neg (by omega)]

theorem PointIn.dv2 {acc : Acc} (A : AccAt h (512 * (i 1).val) (512 * (i 1).val + 256) acc) {f : BufTy.Contents (Elt Ideal) arg9.view.ty}
    {L : List (View.Piece (Elt Ideal) S4096x128 .f32)}
    (K : Rep (arg9.view.read (Elt Ideal) (arg9.view.writes (Elt Ideal) f L)) (fun j d => if j < 512 * (i 1).val + 256 then h.dv (512 * (i 1).val + 512) j d else h.dv (512 * (i 1).val) j d)) :
    Rep (arg9.view.read (Elt Ideal) (arg9.view.writes (Elt Ideal) f (storeV2 i arg2 harg2 arg3 harg3 arg5 harg5 arg6 harg6 arg9 x0 x1 x3 x4  f L)))
      (fun j d => h.dv (512 * (i 1).val + 512) j d) := by
  have hi : (i 1).val < 8 := (i 1).isLt
  have off1 : k0_off5 i (BitVec.ofNat 32 (1 : Fin 2).val) = ![512 * (i 1).val + 256, 0] := (k0_off5_eq i 1).trans (by simp)
  refine Rep.congr (K.store (512 * (i 1).val + 256) off1 _ (lastDv_rep (H.step1 (arg4 := arg3) (harg4 := harg3)) A (by omega) H.mask21 H.mask31 le_rfl ?_)) fun j d _ _ => ?_
  · rw [View.readAt_eq_ld]
    exact (K.block (512 * (i 1).val + 256) off1 (k0_off5_inb i 1)).congr fun r _ _ _ => if_neg (by omega)
  · by_cases h1 : 512 * (i 1).val + 256 ≤ j ∧ j < 512 * (i 1).val + 256 + 256
    · rw [if_pos h1, Nat.add_sub_cancel' h1.1]
    · rw [if_neg h1]
      by_cases h2 : j < 512 * (i 1).val + 256
      · rw [if_pos h2]
      · rw [if_neg h2, h.dv_none _ _ _ (by omega)]

/-- The query gradient's block: what its four stores leave. -/
theorem PointIn.dq_rep {acc : Acc} (A : AccAt h (512 * (i 1).val) (512 * (i 1).val + 256) acc) {b : View sig .tc .vmem S512x128 .f32} (f : b.ty.Contents (Elt Ideal)) :
    Rep (b.read (Elt Ideal) (b.writes (Elt Ideal) f (storesQ i arg2 harg2 arg3 harg3 arg4 harg4 arg5 harg5 arg6 harg6 x0 x1 x2 x3 x4 acc))) (fun r d => h.dq 4096 (512 * (i 1).val + r) d * sc) := by
  have hi : (i 1).val < 8 := (i 1).isLt
  have e4 : 512 * (i 1).val + 256 + 256 ≤ 4096 := by omega
  refine four_rows f (F := fun r d => h.dq 4096 (512 * (i 1).val + r) d * sc) _ _ _ _ (finT_rep A.d0) (finT_rep A.d1)
    (finT_rep (lastQ2_rep (H.step1 (harg2 := harg2) (harg3 := harg3) (harg4 := harg4) (harg5 := harg5) (harg6 := harg6)) A e4 H.mask21))
    (finT_rep (lastQ3_rep (H.step1 (harg2 := harg2) (harg3 := harg3) (harg4 := harg4) (harg5 := harg5) (harg6 := harg6)) A e4 H.mask31))
    ?_ ?_ ?_ ?_ <;> intro r d hr <;> dsimp only <;> rw [← h.dq_stop _ _ 4096 _ (by omega) (by omega)] <;> (try rw [add_assoc])

end

end StickBreaking
-- ==== Proof.CaseA.lean ====
module
public import proofs.«01_k».proof.Proof.Point

/-! The stores of a point where the gradients start at zero, as those of `Point`. -/

@[expose] public section

set_option maxRecDepth 16384

noncomputable section

namespace StickBreaking

open Idealize.ShloMosaic Idealize.ShloMosaic.ValueIdx Idealize.ShloMosaic.TcCoe Idealize.ShloMosaic.Tactic Cert.KernelIdeal Cert.KernelIdeal.Gen

variable  (c : Dev nD) (i : grid0.Coords) (arg2 : Memref sig .tc .vmem S512x128 .bf16) (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S16x512 .f32) (harg5 : arg5.IsWhole)
  (arg6 : Memref sig .tc .vmem S512x128 .f32) (harg6 : arg6.IsWhole) (arg7 : Memref sig .tc .vmem S512x128 .f32) (harg7 : arg7.IsWhole)
  (arg8 : Memref sig .tc .vmem S4096x128 .f32) (harg8 : arg8.IsWhole) (arg9 : Memref sig .tc .vmem S4096x128 .f32) (harg9 : arg9.IsWhole)
  (x0 : Vec Ideal S512x128 .bf16) (x1 : Vec Ideal S4096x128 .bf16) (x2 : Vec Ideal S4096x128 .bf16) (x3 : Vec Ideal S16x512 .f32) (x4 : Vec Ideal S512x128 .f32)

/-- The remainder of the sweep with the sweep's stores and the first zeros in one list. -/
def restA : Acc × List (View.Piece (Elt Ideal) S4096x128 .f32) × List (View.Piece (Elt Ideal) S4096x128 .f32) :=
  st_k0_t2 (F := Ideal) Variants.none c none i arg2 harg2 arg3 harg3 arg4 harg4 arg5 harg5 arg6 harg6 arg7 harg7 arg8 harg8 arg9 harg9 (BitVec.ofNat 32 (i 1).val) k0_pay57 k0_pay58
    (sqT (rows512 arg2 (harg2.unread x0) 0 inb_S512x128_S128x128_0_0)) (sqT (rows512 arg2 (harg2.unread x0) 128 inb_S512x128_S128x128_128_0)) (sqT (rows512 arg2 (harg2.unread x0) 256 inb_S512x128_S128x128_256_0)) (sqT (rows512 arg2 (harg2.unread x0) 384 inb_S512x128_S128x128_384_0))
    (toB (rows512 arg6 (harg6.unread x4) 0 inb_S512x128_S128x128_0_0)) (toB (rows512 arg6 (harg6.unread x4) 128 inb_S512x128_S128x128_128_0)) (rows512 arg6 (harg6.unread x4) 256 inb_S512x128_S128x128_256_0) (rows512 arg6 (harg6.unread x4) 384 inb_S512x128_S128x128_384_0) (k0_t2_loop i).lb (harg3.unread x1) (harg4.unread x2) (harg5.unread x3)
    (arg8.view.writes (Elt Ideal) arg8.view.junk ((sweep c i arg2 harg2 arg3 harg3 arg4 harg4 arg5 harg5 arg6 harg6 arg7 harg7 arg8 harg8 arg9 harg9 x0 x1 x2 x3 x4 (arg8.view.writes (Elt Ideal) arg8.view.junk [⟨Rect.unit (s := S4096x128) ![0, 0] S4096x128.size inb_S4096x128_S4096x128_0_0, (k0_pay55 (F := Ideal))⟩]) (arg9.view.writes (Elt Ideal) arg9.view.junk [⟨Rect.unit (s := S4096x128) ![0, 0] S4096x128.size inb_S4096x128_S4096x128_0_0, (k0_pay56 (F := Ideal))⟩]) (k0_t1_loop i).trips).2.1 ++ [⟨Rect.unit (s := S4096x128) ![0, 0] S4096x128.size inb_S4096x128_S4096x128_0_0, (k0_pay55 (F := Ideal))⟩]))
    (arg9.view.writes (Elt Ideal) arg9.view.junk ((sweep c i arg2 harg2 arg3 harg3 arg4 harg4 arg5 harg5 arg6 harg6 arg7 harg7 arg8 harg8 arg9 harg9 x0 x1 x2 x3 x4 (arg8.view.writes (Elt Ideal) arg8.view.junk [⟨Rect.unit (s := S4096x128) ![0, 0] S4096x128.size inb_S4096x128_S4096x128_0_0, (k0_pay55 (F := Ideal))⟩]) (arg9.view.writes (Elt Ideal) arg9.view.junk [⟨Rect.unit (s := S4096x128) ![0, 0] S4096x128.size inb_S4096x128_S4096x128_0_0, (k0_pay56 (F := Ideal))⟩]) (k0_t1_loop i).trips).2.2 ++ [⟨Rect.unit (s := S4096x128) ![0, 0] S4096x128.size inb_S4096x128_S4096x128_0_0, (k0_pay56 (F := Ideal))⟩]))
    (sweep c i arg2 harg2 arg3 harg3 arg4 harg4 arg5 harg5 arg6 harg6 arg7 harg7 arg8 harg8 arg9 harg9 x0 x1 x2 x3 x4 (arg8.view.writes (Elt Ideal) arg8.view.junk [⟨Rect.unit (s := S4096x128) ![0, 0] S4096x128.size inb_S4096x128_S4096x128_0_0, (k0_pay55 (F := Ideal))⟩]) (arg9.view.writes (Elt Ideal) arg9.view.junk [⟨Rect.unit (s := S4096x128) ![0, 0] S4096x128.size inb_S4096x128_S4096x128_0_0, (k0_pay56 (F := Ideal))⟩]) (k0_t1_loop i).trips).1 (k0_t2_loop i).trips

theorem restA_eq : restA c i arg2 harg2 arg3 harg3 arg4 harg4 arg5 harg5 arg6 harg6 arg7 harg7 arg8 harg8 arg9 harg9 x0 x1 x2 x3 x4 = rest c i arg2 harg2 arg3 harg3 arg4 harg4 arg5 harg5 arg6 harg6 arg7 harg7 arg8 harg8 arg9 harg9 x0 x1 x2 x3 x4 (arg8.view.writes (Elt Ideal) arg8.view.junk [⟨Rect.unit (s := S4096x128) ![0, 0] S4096x128.size inb_S4096x128_S4096x128_0_0, (k0_pay55 (F := Ideal))⟩]) (arg9.view.writes (Elt Ideal) arg9.view.junk [⟨Rect.unit (s := S4096x128) ![0, 0] S4096x128.size inb_S4096x128_S4096x128_0_0, (k0_pay56 (F := Ideal))⟩]) := by
  unfold restA rest
  rw [View.writes_append, View.writes_append]

variable (hc0 : cond0_0 i)

set_option maxHeartbeats 4000000 in
theorem runA_Q : (kernelRun0_A (F := Ideal) c i arg2 harg2 arg3 harg3 arg4 harg4 arg5 harg5 arg6 harg6 arg7 harg7 arg8 harg8 arg9 harg9 hc0 x0 x1 x2 x3 x4).1 = storesQ i arg2 harg2 arg3 harg3 arg4 harg4 arg5 harg5 arg6 harg6 x0 x1 x2 x3 x4 (fAcc i arg2 harg2 arg3 harg3 arg4 harg4 arg5 harg5 arg6 harg6 x0 x1 x2 x3 x4 (rest c i arg2 harg2 arg3 harg3 arg4 harg4 arg5 harg5 arg6 harg6 arg7 harg7 arg8 harg8 arg9 harg9 x0 x1 x2 x3 x4 (arg8.view.writes (Elt Ideal) arg8.view.junk [⟨Rect.unit (s := S4096x128) ![0, 0] S4096x128.size inb_S4096x128_S4096x128_0_0, (k0_pay55 (F := Ideal))⟩]) (arg9.view.writes (Elt Ideal) arg9.view.junk [⟨Rect.unit (s := S4096x128) ![0, 0] S4096x128.size inb_S4096x128_S4096x128_0_0, (k0_pay56 (F := Ideal))⟩])).1) := by
  rw [← restA_eq]
  unfold kernelRun0_A; dsimp only; sl_unfold_words; rfl

set_option maxHeartbeats 4000000 in
theorem runA_K : (kernelRun0_A (F := Ideal) c i arg2 harg2 arg3 harg3 arg4 harg4 arg5 harg5 arg6 harg6 arg7 harg7 arg8 harg8 arg9 harg9 hc0 x0 x1 x2 x3 x4).2.1
    = (storeK2 i arg2 harg2 arg3 harg3 arg4 harg4 arg5 harg5 arg6 harg6 arg8 x0 x1 x2 x3 x4 (fAcc i arg2 harg2 arg3 harg3 arg4 harg4 arg5 harg5 arg6 harg6 x0 x1 x2 x3 x4 (rest c i arg2 harg2 arg3 harg3 arg4 harg4 arg5 harg5 arg6 harg6 arg7 harg7 arg8 harg8 arg9 harg9 x0 x1 x2 x3 x4 (arg8.view.writes (Elt Ideal) arg8.view.junk [⟨Rect.unit (s := S4096x128) ![0, 0] S4096x128.size inb_S4096x128_S4096x128_0_0, (k0_pay55 (F := Ideal))⟩]) (arg9.view.writes (Elt Ideal) arg9.view.junk [⟨Rect.unit (s := S4096x128) ![0, 0] S4096x128.size inb_S4096x128_S4096x128_0_0, (k0_pay56 (F := Ideal))⟩])).1) arg8.view.junk (storeK1 i arg2 harg2 arg3 harg3 arg4 harg4 arg5 harg5 arg6 harg6 arg8 x0 x1 x2 x3 x4 (rest c i arg2 harg2 arg3 harg3 arg4 harg4 arg5 harg5 arg6 harg6 arg7 harg7 arg8 harg8 arg9 harg9 x0 x1 x2 x3 x4 (arg8.view.writes (Elt Ideal) arg8.view.junk [⟨Rect.unit (s := S4096x128) ![0, 0] S4096x128.size inb_S4096x128_S4096x128_0_0, (k0_pay55 (F := Ideal))⟩]) (arg9.view.writes (Elt Ideal) arg9.view.junk [⟨Rect.unit (s := S4096x128) ![0, 0] S4096x128.size inb_S4096x128_S4096x128_0_0, (k0_pay56 (F := Ideal))⟩])).1 arg8.view.junk ((rest c i arg2 harg2 arg3 harg3 arg4 harg4 arg5 harg5 arg6 harg6 arg7 harg7 arg8 harg8 arg9 harg9 x0 x1 x2 x3 x4 (arg8.view.writes (Elt Ideal) arg8.view.junk [⟨Rect.unit (s := S4096x128) ![0, 0] S4096x128.size inb_S4096x128_S4096x128_0_0, (k0_pay55 (F := Ideal))⟩]) (arg9.view.writes (Elt Ideal) arg9.view.junk [⟨Rect.unit (s := S4096x128) ![0, 0] S4096x128.size inb_S4096x128_S4096x128_0_0, (k0_pay56 (F := Ideal))⟩])).2.1 ++ ((sweep c i arg2 harg2 arg3 harg3 arg4 harg4 arg5 harg5 arg6 harg6 arg7 harg7 arg8 harg8 arg9 harg9 x0 x1 x2 x3 x4 (arg8.view.writes (Elt Ideal) arg8.view.junk [⟨Rect.unit (s := S4096x128) ![0, 0] S4096x128.size inb_S4096x128_S4096x128_0_0, (k0_pay55 (F := Ideal))⟩]) (arg9.view.writes (Elt Ideal) arg9.view.junk [⟨Rect.unit (s := S4096x128) ![0, 0] S4096x128.size inb_S4096x128_S4096x128_0_0, (k0_pay56 (F := Ideal))⟩]) (k0_t1_loop i).trips).2.1 ++ [⟨Rect.unit (s := S4096x128) ![0, 0] S4096x128.size inb_S4096x128_S4096x128_0_0, (k0_pay55 (F := Ideal))⟩])))) := by
  rw [← restA_eq]
  unfold kernelRun0_A; dsimp only; sl_unfold_words; rfl

set_option maxHeartbeats 4000000 in
theorem runA_V : (kernelRun0_A (F := Ideal) c i arg2 harg2 arg3 harg3 arg4 harg4 arg5 harg5 arg6 harg6 arg7 harg7 arg8 harg8 arg9 harg9 hc0 x0 x1 x2 x3 x4).2.2.1
    = (storeV2 i arg2 harg2 arg3 harg3 arg5 harg5 arg6 harg6 arg9 x0 x1 x3 x4 arg9.view.junk (storeV1 i arg2 harg2 arg3 harg3 arg5 harg5 arg6 harg6 arg9 x0 x1 x3 x4 arg9.view.junk ((rest c i arg2 harg2 arg3 harg3 arg4 harg4 arg5 harg5 arg6 harg6 arg7 harg7 arg8 harg8 arg9 harg9 x0 x1 x2 x3 x4 (arg8.view.writes (Elt Ideal) arg8.view.junk [⟨Rect.unit (s := S4096x128) ![0, 0] S4096x128.size inb_S4096x128_S4096x128_0_0, (k0_pay55 (F := Ideal))⟩]) (arg9.view.writes (Elt Ideal) arg9.view.junk [⟨Rect.unit (s := S4096x128) ![0, 0] S4096x128.size inb_S4096x128_S4096x128_0_0, (k0_pay56 (F := Ideal))⟩])).2.2 ++ ((sweep c i arg2 harg2 arg3 harg3 arg4 harg4 arg5 harg5 arg6 harg6 arg7 harg7 arg8 harg8 arg9 harg9 x0 x1 x2 x3 x4 (arg8.view.writes (Elt Ideal) arg8.view.junk [⟨Rect.unit (s := S4096x128) ![0, 0] S4096x128.size inb_S4096x128_S4096x128_0_0, (k0_pay55 (F := Ideal))⟩]) (arg9.view.writes (Elt Ideal) arg9.view.junk [⟨Rect.unit (s := S4096x128) ![0, 0] S4096x128.size inb_S4096x128_S4096x128_0_0, (k0_pay56 (F := Ideal))⟩]) (k0_t1_loop i).trips).2.2 ++ [⟨Rect.unit (s := S4096x128) ![0, 0] S4096x128.size inb_S4096x128_S4096x128_0_0, (k0_pay56 (F := Ideal))⟩])))) := by
  rw [← restA_eq]
  unfold kernelRun0_A; dsimp only; sl_unfold_words; rfl

end StickBreaking
-- ==== Proof.CaseB.lean ====
module
public import proofs.«01_k».proof.Proof.Point

/-! The stores of a point where they go on from the point before, as those of `Point`. -/

@[expose] public section

set_option maxRecDepth 16384

noncomputable section

namespace StickBreaking

open Idealize.ShloMosaic Idealize.ShloMosaic.ValueIdx Idealize.ShloMosaic.TcCoe Idealize.ShloMosaic.Tactic Cert.KernelIdeal Cert.KernelIdeal.Gen

variable  (c : Dev nD) (i : grid0.Coords) (arg2 : Memref sig .tc .vmem S512x128 .bf16) (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S16x512 .f32) (harg5 : arg5.IsWhole)
  (arg6 : Memref sig .tc .vmem S512x128 .f32) (harg6 : arg6.IsWhole) (arg7 : Memref sig .tc .vmem S512x128 .f32) (harg7 : arg7.IsWhole)
  (arg8 : Memref sig .tc .vmem S4096x128 .f32) (harg8 : arg8.IsWhole) (arg9 : Memref sig .tc .vmem S4096x128 .f32) (harg9 : arg9.IsWhole)
  (x0 : Vec Ideal S512x128 .bf16) (x1 : Vec Ideal S4096x128 .bf16) (x2 : Vec Ideal S4096x128 .bf16) (x3 : Vec Ideal S16x512 .f32) (x4 : Vec Ideal S512x128 .f32)
  (hc0 : ¬cond0_0 i) (xo6 xo7 : Vec Ideal S4096x128 .f32)

set_option maxHeartbeats 4000000 in
theorem runB_Q : (kernelRun0_B (F := Ideal) c i arg2 harg2 arg3 harg3 arg4 harg4 arg5 harg5 arg6 harg6 arg7 harg7 arg8 harg8 arg9 harg9 hc0 x0 x1 x2 x3 x4 xo6 xo7).1 = storesQ i arg2 harg2 arg3 harg3 arg4 harg4 arg5 harg5 arg6 harg6 x0 x1 x2 x3 x4 (fAcc i arg2 harg2 arg3 harg3 arg4 harg4 arg5 harg5 arg6 harg6 x0 x1 x2 x3 x4 (rest c i arg2 harg2 arg3 harg3 arg4 harg4 arg5 harg5 arg6 harg6 arg7 harg7 arg8 harg8 arg9 harg9 x0 x1 x2 x3 x4 (harg8.unread xo6) (harg9.unread xo7)).1) := by
  unfold kernelRun0_B; dsimp only; sl_unfold_words; rfl

set_option maxHeartbeats 4000000 in
theorem runB_K : (kernelRun0_B (F := Ideal) c i arg2 harg2 arg3 harg3 arg4 harg4 arg5 harg5 arg6 harg6 arg7 harg7 arg8 harg8 arg9 harg9 hc0 x0 x1 x2 x3 x4 xo6 xo7).2.1
    = (storeK2 i arg2 harg2 arg3 harg3 arg4 harg4 arg5 harg5 arg6 harg6 arg8 x0 x1 x2 x3 x4 (fAcc i arg2 harg2 arg3 harg3 arg4 harg4 arg5 harg5 arg6 harg6 x0 x1 x2 x3 x4 (rest c i arg2 harg2 arg3 harg3 arg4 harg4 arg5 harg5 arg6 harg6 arg7 harg7 arg8 harg8 arg9 harg9 x0 x1 x2 x3 x4 (harg8.unread xo6) (harg9.unread xo7)).1) (harg8.unread xo6) (storeK1 i arg2 harg2 arg3 harg3 arg4 harg4 arg5 harg5 arg6 harg6 arg8 x0 x1 x2 x3 x4 (rest c i arg2 harg2 arg3 harg3 arg4 harg4 arg5 harg5 arg6 harg6 arg7 harg7 arg8 harg8 arg9 harg9 x0 x1 x2 x3 x4 (harg8.unread xo6) (harg9.unread xo7)).1 (harg8.unread xo6) ((rest c i arg2 harg2 arg3 harg3 arg4 harg4 arg5 harg5 arg6 harg6 arg7 harg7 arg8 harg8 arg9 harg9 x0 x1 x2 x3 x4 (harg8.unread xo6) (harg9.unread xo7)).2.1 ++ (sweep c i arg2 harg2 arg3 harg3 arg4 harg4 arg5 harg5 arg6 harg6 arg7 harg7 arg8 harg8 arg9 harg9 x0 x1 x2 x3 x4 (harg8.unread xo6) (harg9.unread xo7) (k0_t1_loop i).trips).2.1))) := by
  unfold kernelRun0_B; dsimp only; sl_unfold_words; rfl

set_option maxHeartbeats 4000000 in
theorem runB_V : (kernelRun0_B (F := Ideal) c i arg2 harg2 arg3 harg3 arg4 harg4 arg5 harg5 arg6 harg6 arg7 harg7 arg8 harg8 arg9 harg9 hc0 x0 x1 x2 x3 x4 xo6 xo7).2.2.1
    = (storeV2 i arg2 harg2 arg3 harg3 arg5 harg5 arg6 harg6 arg9 x0 x1 x3 x4 (harg9.unread xo7) (storeV1 i arg2 harg2 arg3 harg3 arg5 harg5 arg6 harg6 arg9 x0 x1 x3 x4 (harg9.unread xo7) ((rest c i arg2 harg2 arg3 harg3 arg4 harg4 arg5 harg5 arg6 harg6 arg7 harg7 arg8 harg8 arg9 harg9 x0 x1 x2 x3 x4 (harg8.unread xo6) (harg9.unread xo7)).2.2 ++ (sweep c i arg2 harg2 arg3 harg3 arg4 harg4 arg5 harg5 arg6 harg6 arg7 harg7 arg8 harg8 arg9 harg9 x0 x1 x2 x3 x4 (harg8.unread xo6) (harg9.unread xo7) (k0_t1_loop i).trips).2.2))) := by
  unfold kernelRun0_B; dsimp only; sl_unfold_words; rfl

end StickBreaking
-- ==== Proof.Outs.lean ====
module
public import proofs.«01_k».proof.Proof.Diag
public import proofs.«01_k».proof.Proof.CaseA
public import proofs.«01_k».proof.Proof.CaseB
public import proofs.«01_k».proof.Proof.Gen.KernelIdeal.Frame

/-! What a grid point leaves in its three output blocks. -/

@[expose] public section

set_option maxRecDepth 16384

noncomputable section

namespace StickBreaking

open Idealize.ShloMosaic Idealize.ShloMosaic.ValueIdx Idealize.ShloMosaic.TcCoe Idealize.ShloMosaic.Tactic Cert.KernelIdeal Cert.KernelIdeal.Gen

section
variable {h : Head} (c : Dev nD) (i : grid0.Coords) (arg2 : Memref sig .tc .vmem S512x128 .bf16) (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S16x512 .f32) (harg5 : arg5.IsWhole)
  (arg6 : Memref sig .tc .vmem S512x128 .f32) (harg6 : arg6.IsWhole) (arg7 : Memref sig .tc .vmem S512x128 .f32) (harg7 : arg7.IsWhole)
  (arg8 : Memref sig .tc .vmem S4096x128 .f32) (harg8 : arg8.IsWhole) (arg9 : Memref sig .tc .vmem S4096x128 .f32) (harg9 : arg9.IsWhole)
  {x0 : Vec Ideal S512x128 .bf16} {x1 : Vec Ideal S4096x128 .bf16} {x2 : Vec Ideal S4096x128 .bf16} {x3 : Vec Ideal S16x512 .f32} {x4 : Vec Ideal S512x128 .f32}
  (H : PointIn h i x0 x1 x2 x3 x4)
include H

/-- A later point of a head. -/
theorem outB (hc0 : ¬cond0_0 i) (xo6 xo7 : Vec Ideal S4096x128 .f32) (h6 : Rep xo6 (fun j d => h.dk (512 * (i 1).val) j d)) (h7 : Rep xo7 (fun j d => h.dv (512 * (i 1).val) j d)) :
    Rep (out0_B_5 c i arg2 harg2 arg3 harg3 arg4 harg4 arg5 harg5 arg6 harg6 arg7 harg7 arg8 harg8 arg9 harg9 hc0 x0 x1 x2 x3 x4 xo6 xo7) (fun r d => h.dq 4096 (512 * (i 1).val + r) d * sc)
    ∧ Rep (out0_B_6 c i arg2 harg2 arg3 harg3 arg4 harg4 arg5 harg5 arg6 harg6 arg7 harg7 arg8 harg8 arg9 harg9 hc0 x0 x1 x2 x3 x4 xo6 xo7) (fun j d => h.dk (512 * (i 1).val + 512) j d)
    ∧ Rep (out0_B_7 c i arg2 harg2 arg3 harg3 arg4 harg4 arg5 harg5 arg6 harg6 arg7 harg7 arg8 harg8 arg9 harg9 hc0 x0 x1 x2 x3 x4 xo6 xo7) (fun j d => h.dv (512 * (i 1).val + 512) j d) := by
  have h8 : Rep (arg8.view.read (Elt Ideal) (harg8.unread xo6)) (fun j d => h.dk (512 * (i 1).val) j d) := by rw [harg8.read_unread]; exact h6
  have h9 : Rep (arg9.view.read (Elt Ideal) (harg9.unread xo7)) (fun j d => h.dv (512 * (i 1).val) j d) := by rw [harg9.read_unread]; exact h7
  have ht : 256 * (k0_t1_loop i).trips = 512 * (i 1).val := by rw [trips_sweep]; omega
  obtain ⟨A, K, W⟩ := H.sweep_rep c (harg2 := harg2) (harg3 := harg3) (harg4 := harg4) (harg5 := harg5) (harg6 := harg6) (arg7 := arg7) (harg7 := harg7) (arg8 := arg8) (harg8 := harg8) (arg9 := arg9) (harg9 := harg9)
    (f8 := harg8.unread xo6) (f9 := harg9.unread xo7) h8 h9 (k0_t1_loop i).trips le_rfl
  rw [ht] at A K W
  have B := H.fAcc_rep (harg2 := harg2) (harg3 := harg3) (harg4 := harg4) (harg5 := harg5) (harg6 := harg6) A
  refine ⟨?_, ?_, ?_⟩
  · unfold out0_B_5
    rw [runB_Q, rest_eq]
    exact H.dq_rep B _
  · unfold out0_B_6
    rw [runB_K, rest_eq]
    exact H.dk2 B (H.dk1 (harg2 := harg2) (harg3 := harg3) (harg4 := harg4) (harg5 := harg5) (harg6 := harg6) A K)
  · unfold out0_B_7
    rw [runB_V, rest_eq]
    exact H.dv2 B (H.dv1 (harg2 := harg2) (harg3 := harg3) (harg5 := harg5) (harg6 := harg6) A W)

/-- A head's first point. -/
theorem outA (hc0 : cond0_0 i) (hi : (i 1).val = 0) :
    Rep (out0_A_5 c i arg2 harg2 arg3 harg3 arg4 harg4 arg5 harg5 arg6 harg6 arg7 harg7 arg8 harg8 arg9 harg9 hc0 x0 x1 x2 x3 x4) (fun r d => h.dq 4096 (512 * (i 1).val + r) d * sc)
    ∧ Rep (out0_A_6 c i arg2 harg2 arg3 harg3 arg4 harg4 arg5 harg5 arg6 harg6 arg7 harg7 arg8 harg8 arg9 harg9 hc0 x0 x1 x2 x3 x4) (fun j d => h.dk (512 * (i 1).val + 512) j d)
    ∧ Rep (out0_A_7 c i arg2 harg2 arg3 harg3 arg4 harg4 arg5 harg5 arg6 harg6 arg7 harg7 arg8 harg8 arg9 harg9 hc0 x0 x1 x2 x3 x4) (fun j d => h.dv (512 * (i 1).val + 512) j d) := by
  have z : ∀ (b : View sig .tc .vmem S4096x128 .f32) (f : b.ty.Contents (Elt Ideal)) (w : FVec Ideal S4096x128 .f32) (hw : Rep w (fun _ _ => 0)),
      Rep (b.read (Elt Ideal) (b.writes (Elt Ideal) f [⟨Rect.unit (s := S4096x128) ![0, 0] S4096x128.size inb_S4096x128_S4096x128_0_0, w⟩])) (fun _ _ => 0) := by
    intro b f w hw j d
    rw [View.read_writes_cons_rows_of_mem b f inb_S4096x128_S4096x128_0_0 w [] (ix2 j d) (ix2 j d) rfl (Nat.zero_add _).symm rfl]
    exact hw j d
  have h8 : Rep (arg8.view.read (Elt Ideal) (arg8.view.writes (Elt Ideal) arg8.view.junk [⟨Rect.unit (s := S4096x128) ![0, 0] S4096x128.size inb_S4096x128_S4096x128_0_0, (k0_pay55 (F := Ideal))⟩])) (fun j d => h.dk (512 * (i 1).val) j d) :=
    (z arg8.view arg8.view.junk _ Rep.zero).congr fun j d _ _ => by rw [hi]; unfold Head.dk; rw [Nat.mul_zero, Finset.sum_range_zero]
  have h9 : Rep (arg9.view.read (Elt Ideal) (arg9.view.writes (Elt Ideal) arg9.view.junk [⟨Rect.unit (s := S4096x128) ![0, 0] S4096x128.size inb_S4096x128_S4096x128_0_0, (k0_pay56 (F := Ideal))⟩])) (fun j d => h.dv (512 * (i 1).val) j d) :=
    (z arg9.view arg9.view.junk _ Rep.zero).congr fun j d _ _ => by rw [hi]; unfold Head.dv; rw [Nat.mul_zero, Finset.sum_range_zero]
  have ht : 256 * (k0_t1_loop i).trips = 512 * (i 1).val := by rw [trips_sweep]; omega
  obtain ⟨A, K, W⟩ := H.sweep_rep c (harg2 := harg2) (harg3 := harg3) (harg4 := harg4) (harg5 := harg5) (harg6 := harg6) (arg7 := arg7) (harg7 := harg7) (arg8 := arg8) (harg8 := harg8) (arg9 := arg9) (harg9 := harg9)
    (f8 := arg8.view.writes (Elt Ideal) arg8.view.junk [⟨Rect.unit (s := S4096x128) ![0, 0] S4096x128.size inb_S4096x128_S4096x128_0_0, (k0_pay55 (F := Ideal))⟩]) (f9 := arg9.view.writes (Elt Ideal) arg9.view.junk [⟨Rect.unit (s := S4096x128) ![0, 0] S4096x128.size inb_S4096x128_S4096x128_0_0, (k0_pay56 (F := Ideal))⟩]) h8 h9 (k0_t1_loop i).trips le_rfl
  rw [ht] at A K W
  have B := H.fAcc_rep (harg2 := harg2) (harg3 := harg3) (harg4 := harg4) (harg5 := harg5) (harg6 := harg6) A
  rw [← View.writes_append] at K W
  refine ⟨?_, ?_, ?_⟩
  · unfold out0_A_5
    rw [runA_Q, rest_eq]
    exact H.dq_rep B _
  · unfold out0_A_6
    rw [View.read_writes_of_cover VO0_6 VO0_6.junk arg8.view arg8.view.junk _ (cover0_A_6 c i arg2 harg2 arg3 harg3 arg4 harg4 arg5 harg5 arg6 harg6 arg7 harg7 arg8 harg8 arg9 harg9 hc0 x0 x1 x2 x3 x4), runA_K, rest_eq]
    exact H.dk2 B (H.dk1 (harg2 := harg2) (harg3 := harg3) (harg4 := harg4) (harg5 := harg5) (harg6 := harg6) A K)
  · unfold out0_A_7
    rw [View.read_writes_of_cover VO0_7 VO0_7.junk arg9.view arg9.view.junk _ (cover0_A_7 c i arg2 harg2 arg3 harg3 arg4 harg4 arg5 harg5 arg6 harg6 arg7 harg7 arg8 harg8 arg9 harg9 hc0 x0 x1 x2 x3 x4), runA_V, rest_eq]
    exact H.dv2 B (H.dv1 (harg2 := harg2) (harg3 := harg3) (harg5 := harg5) (harg6 := harg6) A W)

end

end StickBreaking
-- ==== Proof.Arrays.lean ====
module
public import proofs.«01_k».proof.Proof.Blocks
public import proofs.«01_k».proof.Proof.Outs
public import proofs.«01_k».proof.Proof.Gen.KernelIdeal.Value
public import Idealize.ShloMosaic.Lib.Pipeline.ValueKit.Geometry

/-! What the call's three output arrays hold after the run. -/

@[expose] public section

set_option maxRecDepth 16384

noncomputable section

namespace StickBreaking

open Idealize.ShloMosaic Idealize.ShloMosaic.ValueIdx Idealize.ShloMosaic.TcCoe Idealize.ShloMosaic.Pipeline Cert.KernelIdeal Cert.KernelIdeal.Gen

variable (m : (ℓ : Loc nD τ sig) → Buf (Elt Ideal) ℓ) (c : Dev nD) {A G : ℕ → ℕ → ℝ}
  (hx0 : Rep (m ((c : Thread nD τ).loc main_arg0) : Vec Ideal S4096x3072 .bf16) A)
  (hx1 : Rep (m ((c : Thread nD τ).loc main_arg1) : Vec Ideal S4096x1024 .f32) G)

/-- After point `n = 8·head + row block`: the block's query gradient, and the head's key and value gradients over the queries seen so far. -/
structure PointOut (A G : ℕ → ℕ → ℝ) (n : ℕ) (o : Vec Ideal S512x128 .f32 × Vec Ideal S4096x128 .f32 × Vec Ideal S4096x128 .f32) : Prop where
  q : Rep o.1 (fun r d => (headOf A G (n / 8)).dq 4096 (512 * (n % 8) + r) d * sc)
  k : Rep o.2.1 (fun j d => (headOf A G (n / 8)).dk (512 * (n % 8) + 512) j d)
  v : Rep o.2.2 (fun j d => (headOf A G (n / 8)).dv (512 * (n % 8) + 512) j d)

include hx0 hx1 in
theorem point_first (t : Fin cfg0.N) (h0 : t.val % 8 = 0) : PointOut A G t.val (outsAt0 m c t.val t.isLt) := by
  have o := outA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (pointIn m c hx0 hx1 t) ((hcond0_0 t).mpr h0) ((coord_row t).trans h0)
  rw [coord_row] at o
  obtain ⟨oq, ok, ov⟩ := o
  rw [outsAt0_A m c t h0]
  constructor
  · dsimp only; exact oq
  · dsimp only; exact ok
  · dsimp only; exact ov

include hx0 hx1 in
theorem point_next (t : Fin cfg0.N) (h0 : ¬t.val % 8 = 0)
    (i : PointOut A G (t.val - 1) (outsAt0 m c (t.val - 1) (Nat.lt_of_le_of_lt (Nat.sub_le _ _) t.isLt))) :
    PointOut A G t.val (outsAt0 m c t.val t.isLt) := by
  have q : (t.val - 1) / 8 = t.val / 8 := by omega
  have r : 512 * ((t.val - 1) % 8) + 512 = 512 * (t.val % 8) := by omega
  have ik := i.k
  have iv := i.v
  rw [q, r] at ik iv
  have o := outB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (pointIn m c hx0 hx1 t) (fun h => h0 ((hcond0_0 t).mp h)) _ _ (by rw [coord_row]; exact ik) (by rw [coord_row]; exact iv)
  rw [coord_row] at o
  rw [outsAt0_B m c t h0]
  exact ⟨o.1, o.2.1, o.2.2⟩

include hx0 hx1 in
theorem outs_rep (n : ℕ) : ∀ hn : n < cfg0.N, PointOut A G n (outsAt0 m c n hn) := by
  induction n with
  | zero => exact fun hn => point_first m c hx0 hx1 ⟨0, hn⟩ (Nat.zero_mod 8)
  | succ n ih =>
    intro hn
    by_cases h0 : (n + 1) % 8 = 0
    · exact point_first m c hx0 hx1 ⟨n + 1, hn⟩ h0
    · exact point_next m c hx0 hx1 ⟨n + 1, hn⟩ h0 (ih (Nat.lt_of_succ_lt hn))

theorem index_out : ∀ t : Fin cfg0.N,
    ((win0_5.index t (0 : Fin 2) = t.val % 8 ∧ win0_5.index t (1 : Fin 2) = t.val / 8)
      ∧ (win0_6.index t (0 : Fin 2) = 0 ∧ win0_6.index t (1 : Fin 2) = t.val / 8)
      ∧ (win0_7.index t (0 : Fin 2) = 0 ∧ win0_7.index t (1 : Fin 2) = t.val / 8))
    ∧ (win0_6.flush t = true → t.val % 8 = 7) ∧ (win0_7.flush t = true → t.val % 8 = 7) :=
  (by decide +kernel : ∀ t : Fin grid0.N, _)

include hx0 hx1 in
theorem arr5 : Rep ((dats m 0 c).arrAt 5 cfg0.N : Vec Ideal S4096x1024 .f32) (fun t n => (headOf A G (n / 128)).dq 4096 t (n % 128) * sc) := by
  intro r n
  refine (dats m 0 c).arrAt_forall_of_covers 5 (fun i v => v = ((((headOf A G ((i 1).val / 128)).dq 4096 (i 0).val ((i 1).val % 128) * sc : ℝ)) : EReal))
    (by decide +kernel) ?_ (ix2 r n)
  intro t _ y
  have e := (index_out t).1.1
  have e0 : ((((cfg0.win 5).blk t).view.emb y) 0).val = 512 * (t.val % 8) + (y 0).val := by
    refine (win0_5.rect_emb_val t y 0).trans ?_
    rw [e.1]; show _ * 512 + _ = _; omega
  have e1 : ((((cfg0.win 5).blk t).view.emb y) 1).val = 128 * (t.val / 8) + (y 1).val := by
    refine (win0_5.rect_emb_val t y 1).trans ?_
    rw [e.2]; show _ * 128 + _ = _; omega
  have hy : (y 1).val < 128 := (y 1).isLt
  have hq : (128 * (t.val / 8) + (y 1).val) / 128 = t.val / 8 := by omega
  have hm : (128 * (t.val / 8) + (y 1).val) % 128 = (y 1).val := by omega
  dsimp only
  rw [e0, e1, hq, hm, after0_5]
  exact (outs_rep m c hx0 hx1 t.val t.isLt).q.at _ rfl rfl

include hx0 hx1 in
theorem arr6 : Rep ((dats m 0 c).arrAt 6 cfg0.N : Vec Ideal S4096x1024 .f32) (fun t n => (headOf A G (n / 128)).dk 4096 t (n % 128)) := by
  intro r n
  refine (dats m 0 c).arrAt_forall_of_covers 6 (fun i v => v = ((((headOf A G ((i 1).val / 128)).dk 4096 (i 0).val ((i 1).val % 128) : ℝ)) : EReal))
    (by decide +kernel) ?_ (ix2 r n)
  intro t hf y
  have e := (index_out t).1.2.1
  have h7 := (index_out t).2.1 hf
  have e0 : ((((cfg0.win 6).blk t).view.emb y) 0).val = (y 0).val := by
    refine (win0_6.rect_emb_val t y 0).trans ?_
    rw [e.1]; show _ * 4096 + _ = _; omega
  have e1 : ((((cfg0.win 6).blk t).view.emb y) 1).val = 128 * (t.val / 8) + (y 1).val := by
    refine (win0_6.rect_emb_val t y 1).trans ?_
    rw [e.2]; show _ * 128 + _ = _; omega
  have hy : (y 1).val < 128 := (y 1).isLt
  have hq : (128 * (t.val / 8) + (y 1).val) / 128 = t.val / 8 := by omega
  have hm : (128 * (t.val / 8) + (y 1).val) % 128 = (y 1).val := by omega
  have o := (outs_rep m c hx0 hx1 t.val t.isLt).k
  rw [h7] at o
  dsimp only
  rw [e0, e1, hq, hm, after0_6]
  exact o.at _ rfl rfl

include hx0 hx1 in
theorem arr7 : Rep ((dats m 0 c).arrAt 7 cfg0.N : Vec Ideal S4096x1024 .f32) (fun t n => (headOf A G (n / 128)).dv 4096 t (n % 128)) := by
  intro r n
  refine (dats m 0 c).arrAt_forall_of_covers 7 (fun i v => v = ((((headOf A G ((i 1).val / 128)).dv 4096 (i 0).val ((i 1).val % 128) : ℝ)) : EReal))
    (by decide +kernel) ?_ (ix2 r n)
  intro t hf y
  have e := (index_out t).1.2.2
  have h7 := (index_out t).2.2 hf
  have e0 : ((((cfg0.win 7).blk t).view.emb y) 0).val = (y 0).val := by
    refine (win0_7.rect_emb_val t y 0).trans ?_
    rw [e.1]; show _ * 4096 + _ = _; omega
  have e1 : ((((cfg0.win 7).blk t).view.emb y) 1).val = 128 * (t.val / 8) + (y 1).val := by
    refine (win0_7.rect_emb_val t y 1).trans ?_
    rw [e.2]; show _ * 128 + _ = _; omega
  have hy : (y 1).val < 128 := (y 1).isLt
  have hq : (128 * (t.val / 8) + (y 1).val) / 128 = t.val / 8 := by omega
  have hm : (128 * (t.val / 8) + (y 1).val) % 128 = (y 1).val := by omega
  have o := (outs_rep m c hx0 hx1 t.val t.isLt).v
  rw [h7] at o
  dsimp only
  rw [e0, e1, hq, hm, after0_7]
  exact o.at _ rfl rfl

end StickBreaking
-- ==== Proof.Finite.lean ====
module
public import proofs.«01_k».proof.Proof.Ref
public import proofs.«01_k».proof.Proof.Gen.Pre_finite
public import Idealize.ShloMosaic.Lib.ReduceAll

/-! The precondition, decoded: both arguments are arrays of reals. -/

@[expose] public section

set_option maxRecDepth 16384

noncomputable section

namespace StickBreaking

open Idealize.ShloMosaic Idealize.ShloMosaic.ValueIdx

/-- An entry below infinity in absolute value is a real. -/
theorem coe_of_lt {x : EReal} (h : Ideal.cmp .olt (max x (-x)) ⊤ = 1#1) : x = ((x.toReal : ℝ) : EReal) := by
  have h' : max x (-x) < ⊤ := by
    by_contra hn
    simp [Ideal.cmp, hn] at h
  refine (EReal.coe_toReal ?_ ?_).symm
  · rintro rfl; simp at h'
  · rintro rfl; simp at h'

/-- An array all of whose entries are reals, as a function of row and column. -/
theorem rep_of_entries {m n : ℕ} {x : (⟨2, ![m, n]⟩ : Shape).Idx → EReal} (h : ∀ i, x i = (((x i).toReal : ℝ) : EReal)) :
    ∃ f, Rep x f := by
  refine ⟨fun r c => if hr : r < m then if hc : c < n then (x (ix2 ⟨r, hr⟩ ⟨c, hc⟩)).toReal else 0 else 0, fun r c => ?_⟩
  rw [h]
  simp

theorem finite_rep (x0 : FVec Ideal Cert.Pre_finite.S4096x3072 .bf16) (x1 : FVec Ideal Cert.Pre_finite.S4096x1024 .f32)
    (h : @Cert.Pre_finite.fn Cert.Pre_finite.Gen.facts Ideal _ x0 x1 = fun _ => 1#1) : (∃ A, Rep x0 A) ∧ ∃ G, Rep x1 G := by
  have e := congrFun h (Shape.Idx.first (show 0 < Cert.Pre_finite.S_.numel by decide))
  have e' := IntOp.andi_eq_one.mp e
  haveI : Subsingleton Cert.Pre_finite.S_.Idx := ⟨fun a b => funext fun i => i.elim0⟩
  have k0 := Host.reduce_andi_all _ _ _ _ _ e'.1
  have k1 := Host.reduce_andi_all _ _ _ _ _ e'.2
  refine ⟨rep_of_entries fun i => coe_of_lt ?_, rep_of_entries fun i => coe_of_lt ?_⟩
  · have := k0 i
    rw [← ofBits_top]; exact this
  · have := k1 i
    rw [← ofBits_top]; exact this

end StickBreaking
-- ==== Proof.Equal.lean ====
module
public import proofs.«01_k».proof.Proof.Arrays
public import proofs.«01_k».proof.Proof.Finite

/-! The equation: the call's arrays are the reference's gradients, entry by entry. -/

@[expose] public section

set_option maxRecDepth 16384

noncomputable section

namespace StickBreaking

open Idealize.ShloMosaic Idealize.ShloMosaic.ValueIdx Idealize.ShloMosaic.TcCoe Cert.KernelIdeal Cert.KernelIdeal.Gen
open Cert.ReferenceIdeal.Read (val_main_v51 val_main_v53 val_main_v55)

/-- Two arrays holding the same reals are the same array. -/
theorem Rep.eq {m n : ℕ} {x y : (⟨2, ![m, n]⟩ : Shape).Idx → EReal} {f : ℕ → ℕ → ℝ} (hx : Rep x f) (hy : Rep y f) : x = y :=
  funext fun i => (hx.at i rfl rfl).trans (hy.at i rfl rfl).symm

theorem arrays_eq (m : (ℓ : Loc nD τ sig) → Buf (Elt Ideal) ℓ) (c : Dev nD)
    (hfin : @Cert.Pre_finite.fn Cert.Pre_finite.Gen.facts Ideal _ (m ((c : Thread nD τ).loc main_arg0)) (m ((c : Thread nD τ).loc main_arg1)) = fun _ => 1#1) :
    (val_main_v55 (F := Ideal) (m ((c : Thread nD τ).loc main_arg0)) (m ((c : Thread nD τ).loc main_arg1)) : Vec Ideal S4096x1024 .f32) = (dats m 0 c).arrAt 5 cfg0.N
    ∧ (val_main_v53 (F := Ideal) (m ((c : Thread nD τ).loc main_arg0)) (m ((c : Thread nD τ).loc main_arg1)) : Vec Ideal S4096x1024 .f32) = (dats m 0 c).arrAt 6 cfg0.N
    ∧ (val_main_v51 (F := Ideal) (m ((c : Thread nD τ).loc main_arg0)) (m ((c : Thread nD τ).loc main_arg1)) : Vec Ideal S4096x1024 .f32) = (dats m 0 c).arrAt 7 cfg0.N := by
  obtain ⟨⟨A, hA⟩, G, hG⟩ := finite_rep _ _ hfin
  exact ⟨(ref_dq hA hG).eq (arr5 m c hA hG), (ref_dk hA hG).eq (arr6 m c hA hG), (ref_dv hA hG).eq (arr7 m c hA hG)⟩

end StickBreaking
-- ==== Proof.FfnLaunch.lean ====
module
public import proofs.«01_k».proof.Proof.Gen.Kernel2Ideal.Frame
public import Idealize.ShloMosaic.PureOps.Ideal

/-! The half step's run ends with its results at what its calls leave and its arguments as launched. -/

@[expose] public section

set_option maxRecDepth 16384

noncomputable section

namespace HalfStep

open Idealize.ShloMosaic Idealize.ShloMosaic.TcCoe Idealize.ShloMosaic.Tactic Cert.Kernel2Ideal Cert.Kernel2Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ) (ρ : Dev nD → PrngReg)

set_option backward.isDefEq.respectTransparency.types false in
theorem run : θ_run defs (onTc (τ := τ) (main (F := Ideal))) ⟨m, fun _ => 0, ρ⟩ (fun r => ∀ c : Dev nD,
      r.2.mem ((c.tc : Thread nD τ).loc main_v2) = V8 m ρ c main_v2
      ∧ r.2.mem ((c.tc : Thread nD τ).loc main_v7_0) = V8 m ρ c main_v7_0
      ∧ r.2.mem ((c.tc : Thread nD τ).loc main_v7_2) = V8 m ρ c main_v7_2
      ∧ r.2.mem ((c.tc : Thread nD τ).loc main_v6) = V8 m ρ c main_v6
      ∧ r.2.mem ((c.tc : Thread nD τ).loc main_v5) = V8 m ρ c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c =>
      ⟨h c _ (mem_uc main_v2 (by decide)), h c _ (mem_uc main_v7_0 (by decide)), h c _ (mem_uc main_v7_2 (by decide)),
       h c _ (mem_uc main_v6 (by decide)), h c _ (mem_uc main_v5 (by decide)),
       (h c _ (mem_uc main_arg0 (by decide))).trans (W8_main_arg0 m ρ c), (h c _ (mem_uc main_arg1 (by decide))).trans (W8_main_arg1 m ρ c),
       (h c _ (mem_uc main_arg2 (by decide))).trans (W8_main_arg2 m ρ c), (h c _ (mem_uc main_arg3 (by decide))).trans (W8_main_arg3 m ρ c),
       (h c _ (mem_uc main_arg4 (by decide))).trans (W8_main_arg4 m ρ c)⟩)

end HalfStep
-- ==== Proof.FfnSpec.lean ====
module
public import Idealize.ShloMosaic.PureOps.Ideal.Laws

/-! The half step's mathematics: an RMS norm, a SwiGLU feed-forward layer, half of it added back, and the gradients.

A matrix is a function of a row number and a column number with values in the extended reals; every sum runs over the
numbers below its extent. -/

@[expose] public section

noncomputable section

namespace HalfStep

open Idealize.ShloMosaic Finset

/-- A matrix of extended reals. -/
abbrev Mat := ℕ → ℕ → EReal

/-- The width of a row, one half, minus one half, one, and the norm's small constant, each as its printed bits read. -/
abbrev width : EReal := Ideal.ofBits .f32 0x44800000#32
abbrev half : EReal := Ideal.ofBits .f32 0x3F000000#32
abbrev minusHalf : EReal := Ideal.ofBits .f32 0xBF000000#32
abbrev unit : EReal := Ideal.ofBits .f32 0x3F800000#32
abbrev eps : EReal := Ideal.ofBits .f32 0x358637BD#32

/-- The three products with a contraction of length `n`: rows by columns, rows by rows, columns by columns. -/
def nn (n : ℕ) (A B : Mat) : Mat := fun r c => ∑ k ∈ range n, A r k * B k c
def nt (n : ℕ) (A B : Mat) : Mat := fun r c => ∑ k ∈ range n, A r k * B c k
def tn (n : ℕ) (A B : Mat) : Mat := fun r c => ∑ k ∈ range n, A k r * B k c

/-- A row's mean square with the small constant, and its inverse root. -/
def meanSq (X : Mat) (r : ℕ) : EReal := Ideal.div (∑ k ∈ range 1024, X r k * X r k) width + eps
def inv (X : Mat) (r : ℕ) : EReal := Ideal.rsqrt (meanSq X r)

/-- The normed rows, and those times the gains. -/
def normed (X : Mat) : Mat := fun r c => X r c * inv X r
def gained (X G : Mat) : Mat := fun r c => normed X r c * G 0 c

/-- SwiGLU of the gate and up columns, which lie side by side in `P`. -/
def act (P : Mat) : Mat := fun r c => P r c * Ideal.logistic (P r c) * P r (3072 + c)

/-- The gradients of the gate and up columns from `A`, the gradient of the layer's inner activations. -/
def gateGrad (P A : Mat) : Mat := fun r c =>
  A r c * P r (3072 + c) * Ideal.logistic (P r c)
    + P r c * (A r c * P r (3072 + c)) * (Ideal.logistic (P r c) * (unit - Ideal.logistic (P r c)))
def upGrad (P A : Mat) : Mat := fun r c => P r c * Ideal.logistic (P r c) * A r c
def preGrad (P A : Mat) : Mat := fun r c => if c < 3072 then gateGrad P A r c else upGrad P A r (c - 3072)

/-- The norm's gradient from `H`, the gradient of its result, and `Y`, the gradient arriving past it. -/
def scaled (G H : Mat) : Mat := fun r c => H r c * G 0 c
def slope (X : Mat) (r : ℕ) : EReal := minusHalf * Ideal.div (inv X r) (meanSq X r)
def meanPart (X G H : Mat) (r : ℕ) : EReal := Ideal.div ((∑ k ∈ range 1024, X r k * scaled G H r k) * slope X r) width
def rowGrad (X G H Y : Mat) : Mat := fun r c =>
  Y r c + (scaled G H r c * inv X r + X r c * meanPart X G H r + meanPart X G H r * X r c)
/-- The gains' gradient over the first `n` rows. -/
def gainGrad (n : ℕ) (X H : Mat) : Mat := fun _ c => ∑ k ∈ range n, normed X k c * H k c

/-- A half step: the rows, the gains, the gate and up weights, the down weights, and the arriving gradient. -/
structure Step where
  X : Mat
  G : Mat
  U : Mat
  D : Mat
  Y : Mat

namespace Step
variable (S : Step)
def hid : Mat := gained S.X S.G
def pre : Mat := nn 1024 S.hid S.U
def mid : Mat := act S.pre
def out : Mat := fun r c => nn 3072 S.mid S.D r c * half + S.X r c
def midGrad : Mat := fun r c => nt 1024 S.Y S.D r c * half
def inGrad : Mat := preGrad S.pre S.midGrad
def dD : Mat := fun r c => tn 4096 S.mid S.Y r c * half
def dU : Mat := tn 4096 S.hid S.inGrad
def hidGrad : Mat := nt 6144 S.inGrad S.U
def dG : Mat := gainGrad 4096 S.X S.hidGrad
def dX : Mat := rowGrad S.X S.G S.hidGrad S.Y
end Step

/-! ## Sums -/

theorem sum_fin (n : ℕ) (f : ℕ → EReal) : ∑ k : Fin n, f k = ∑ k ∈ range n, f k := Fin.sum_univ_eq_sum_range f n

/-- One half is a finite, nonnegative number, so it goes into a sum. -/
theorem half_eq : half = ((1 / 2 : ℝ) : EReal) := by
  simp [half, Ideal.ofBits, Ideal.ieee]
  rw [← EReal.coe_mul]
  norm_num

theorem unit_eq : unit = 1 := by
  simp [unit, Ideal.ofBits, Ideal.ieee]
  rw [← EReal.coe_mul, ← EReal.coe_one]
  norm_num

theorem half_mul_add (x y : EReal) : half * (x + y) = half * x + half * y := by
  rw [half_eq]
  exact EReal.left_distrib_of_nonneg_of_ne_top (by norm_num) (EReal.coe_ne_top _) x y

theorem half_mul_sum (s : Finset ℕ) (f : ℕ → EReal) : half * ∑ k ∈ s, f k = ∑ k ∈ s, half * f k := by
  induction s using Finset.cons_induction with
  | empty => simp
  | cons a s h ih => rw [Finset.sum_cons, Finset.sum_cons, half_mul_add, ih]

/-- A product over a contraction split in two. -/
theorem nt_split (n m : ℕ) (A B : Mat) (r c : ℕ) :
    nt (n + m) A B r c = nt n A B r c + nt m (fun r k => A r (n + k)) (fun r k => B r (n + k)) r c :=
  Finset.sum_range_add _ n m

end HalfStep
-- ==== Proof.FfnOps.lean ====
module
public import proofs.«01_k».proof.Proof.Gen.Kernel2Ideal.Skeleton
public import proofs.«01_k».proof.Proof.FfnSpec
public import Idealize.ShloMosaic.Lib.ValueIdx
public import Idealize.ShloMosaic.Lib.Pipeline.Value
public import Idealize.ShloMosaic.Lib.MatmulPlain
public import Idealize.ShloMosaic.Lib.ValueLayout
public import Idealize.ShloMosaic.Lib.ValueLayoutCasts

/-! The half step's stored values as matrices: each lemma says what one stored value is when the blocks it is computed
from hold given matrices. -/

@[expose] public section

noncomputable section

namespace HalfStep

open Idealize.ShloMosaic Idealize.ShloMosaic.ValueIdx Cert.Kernel2Ideal Cert.Kernel2Ideal.Gen
open Finset

/-- The array `x` holds the matrix `f`. -/
def Holds {m n : ℕ} (x : (⟨2, ![m, n]⟩ : Shape).Idx → EReal) (f : Mat) : Prop :=
  ∀ i, x i = f (i 0).val (i 1).val

/-- The array `x` of one plane holds the matrix `f`. -/
def Plane {m n : ℕ} (x : (⟨3, ![1, m, n]⟩ : Shape).Idx → EReal) (f : Mat) : Prop :=
  ∀ i, x i = f (i 1).val (i 2).val

section
variable {m n : ℕ}

theorem Holds.of {x : (⟨2, ![m, n]⟩ : Shape).Idx → EReal} {f : Mat} (h : ∀ (r : Fin m) (c : Fin n), x (ix2 r c) = f r c) : Holds x f :=
  fun i => by rw [eq_ix2 i]; exact h (i 0) (i 1)

theorem Plane.of {x : (⟨3, ![1, m, n]⟩ : Shape).Idx → EReal} {f : Mat} (h : ∀ (u : Fin 1) (r : Fin m) (c : Fin n), x (ix3 u r c) = f r c) : Plane x f :=
  fun i => by rw [eq_ix3 i]; exact h (i 0) (i 1) (i 2)

theorem Plane.congr {x : (⟨3, ![1, m, n]⟩ : Shape).Idx → EReal} {f g : Mat} (h : Plane x f) (e : ∀ r c, r < m → c < n → f r c = g r c) : Plane x g :=
  fun i => by rw [h i, e _ _ (i 1).isLt (i 2).isLt]

theorem Holds.at {x : (⟨2, ![m, n]⟩ : Shape).Idx → EReal} {f : Mat} (h : Holds x f) (r : Fin m) (c : Fin n) : x (ix2 r c) = f r c :=
  h (ix2 r c)

theorem Holds.get {x : (⟨2, ![m, n]⟩ : Shape).Idx → EReal} {f : Mat} (h : Holds x f) (i : (⟨2, ![m, n]⟩ : Shape).Idx) {a b : ℕ}
    (ha : (i 0).val = a) (hb : (i 1).val = b) : x i = f a b := by rw [h i, ha, hb]

theorem Holds.congr {x : (⟨2, ![m, n]⟩ : Shape).Idx → EReal} {f g : Mat} (h : Holds x f)
    (e : ∀ r c, r < m → c < n → f r c = g r c) : Holds x g := fun i => by
  rw [h i, e _ _ (i 0).isLt (i 1).isLt]

variable {φ : FTy} {x y : FVec Ideal ⟨2, ![m, n]⟩ φ} {f g : Mat}

theorem Holds.add (hx : Holds x f) (hy : Holds y g) : Holds (addf x y) (fun r c => f r c + g r c) := fun i => by
  rw [addf_apply, hx i, hy i]
theorem Holds.sub (hx : Holds x f) (hy : Holds y g) : Holds (subf x y) (fun r c => f r c - g r c) := fun i => by
  rw [subf_apply, hx i, hy i]
theorem Holds.mul (hx : Holds x f) (hy : Holds y g) : Holds (mulf x y) (fun r c => f r c * g r c) := fun i => by
  rw [mulf_apply, hx i, hy i]
theorem Holds.div (hx : Holds x f) (hy : Holds y g) : Holds (divf x y) (fun r c => Ideal.div (f r c) (g r c)) := fun i => by
  show Ideal.div (x i) (y i) = _
  rw [hx i, hy i]
theorem Holds.rsqrt (hx : Holds x f) : Holds (Idealize.ShloMosaic.rsqrt x) (fun r c => Ideal.rsqrt (f r c)) := fun i => by
  show Ideal.rsqrt (x i) = _
  rw [hx i]
theorem Holds.logistic (hx : Holds x f) : Holds (Idealize.ShloMosaic.logistic x) (fun r c => Ideal.logistic (f r c)) := fun i => by
  show Ideal.logistic (x i) = _
  rw [hx i]
theorem Holds.fill (b : BitVec 32) : Holds (broadcast (⟨2, ![m, n]⟩ : Shape) (Scalar.ofBits (F := Ideal) .f32 b)) (fun _ _ => Ideal.ofBits .f32 b) :=
  fun _ => rfl

/-- One plane read as a matrix, and a matrix stood up as one plane. -/
theorem Plane.drop {x : (⟨3, ![1, m, n]⟩ : Shape).Idx → EReal} (hx : Plane x f) (h : (⟨3, ![1, m, n]⟩ : Shape).ShapeCasts ⟨2, ![m, n]⟩) :
    Holds (shapeCast ⟨2, ![m, n]⟩ x h) f := .of fun r c => by
  rw [shapeCast_1ab_ab_apply]; exact hx (ix3 0 r c)
theorem Holds.lift {x : (⟨2, ![m, n]⟩ : Shape).Idx → EReal} (hx : Holds x f) (h : (⟨2, ![m, n]⟩ : Shape).ShapeCasts ⟨3, ![1, m, n]⟩) :
    Plane (shapeCast ⟨3, ![1, m, n]⟩ x h) f := .of fun u r c => by
  rw [shapeCast_ab_1ab_apply]; exact hx (ix2 r c)

/-- A column spread over the lanes, and a row spread over the rows. -/
theorem Holds.spreadCol {x : (⟨2, ![m, 1]⟩ : Shape).Idx → EReal} (hx : Holds x f) (h : (⟨2, ![m, 1]⟩ : Shape).Broadcasts ⟨2, ![m, n]⟩) (hm : m ≠ 1) :
    Holds (broadcastTo ⟨2, ![m, n]⟩ x h) (fun r _ => f r 0) := .of fun r c => by
  rw [broadcastTo_apply x _ (ix2 r c) (ix2 r (0 : Fin 1)) (fun a => by
    match a with
    | ⟨0, _⟩ => exact (if_neg hm).symm
    | ⟨1, _⟩ => rfl)]
  exact hx.at r 0
theorem Holds.spreadRow {x : (⟨2, ![1, n]⟩ : Shape).Idx → EReal} (hx : Holds x f) (h : (⟨2, ![1, n]⟩ : Shape).Broadcasts ⟨2, ![m, n]⟩) (hn : n ≠ 1) :
    Holds (broadcastTo ⟨2, ![m, n]⟩ x h) (fun _ c => f 0 c) := .of fun r c => by
  rw [broadcastTo_apply x _ (ix2 r c) (ix2 (0 : Fin 1) c) (fun a => by
    match a with
    | ⟨0, _⟩ => rfl
    | ⟨1, _⟩ => exact (if_neg hn).symm)]
  exact hx.at 0 c
end

/-! ## Sums over an axis -/

/-- Each row's sum, as a column. -/
theorem Holds.rowSum {x : FVec Ideal S512x1024 .f32} {f : Mat} (hx : Holds x f) :
    Holds (shapeCast S512x1 (multiReduction .add [1] S512 x 0x00000000#32 reduces_S512x1024_S512 (.inl rfl) rfl) shapeCasts_S512_S512x1)
      (fun r _ => ∑ k ∈ range 1024, f r k) := .of fun r c => by
  rw [shapeCast_a_a1_apply]
  refine (Ideal.multiReduction_add_single x _ reduces_S512x1024_S512 (.inl rfl) rfl (ix1 r)).trans ?_
  rw [← sum_fin]
  refine Finset.sum_congr rfl fun k _ => ?_
  exact hx.get _ rfl rfl

/-- A one-lane row's sum is its entry. -/
theorem Holds.laneSum {x : FVec Ideal S512x1 .f32} {f : Mat} (hx : Holds x f) :
    Holds (shapeCast S512x1 (multiReduction .add [1] S512 x 0x00000000#32 reduces_S512x1_S512 (.inl rfl) rfl) shapeCasts_S512_S512x1)
      (fun r _ => f r 0) := .of fun r c => by
  rw [shapeCast_a_a1_apply]
  refine (Ideal.multiReduction_add_single x _ reduces_S512x1_S512 (.inl rfl) rfl (ix1 r)).trans ?_
  refine (Fin.sum_univ_one _).trans ?_
  exact hx.get _ rfl rfl

/-- Each column's sum, as a row. -/
theorem Holds.colSum {x : FVec Ideal S512x1024 .f32} {f : Mat} (hx : Holds x f) :
    Holds (shapeCast S1x1024 (multiReduction .add [0] S1024 x 0x00000000#32 reduces_S512x1024_S1024 (.inl rfl) rfl) shapeCasts_S1024_S1x1024)
      (fun _ c => ∑ k ∈ range 512, f k c) := .of fun r c => by
  rw [shapeCast_a_1a_apply]
  refine (Ideal.multiReduction_add_single x _ reduces_S512x1024_S1024 (.inl rfl) rfl (ix1 c)).trans ?_
  rw [← sum_fin 512 (fun k => f k c)]
  refine Finset.sum_congr rfl fun k _ => ?_
  exact hx.get _ rfl rfl

/-! ## The products -/

section
variable {f g : Mat}

theorem Holds.dotUp {x : FVec Ideal S1024x1024 .bf16} {y : FVec Ideal S1024x768 .bf16} (hx : Holds x f) (hy : Holds y g) :
    Holds (matmul dot_S1024x1024_S1024x768_S1024x768_1_0_0_1_n_n none x y (constant S1024x768 .f32 0x00000000#32)) (nn 1024 f g) := .of fun r c => by
  refine (Ideal.matmul_plain_apply none x y (constant S1024x768 .f32 0x00000000#32) r c).trans ?_
  rw [constant_apply, Ideal.ofBits_zero_f32, zero_add, nn, ← sum_fin 1024 (fun k => f r k * g k c)]
  exact Finset.sum_congr rfl fun k _ => by rw [hx.at, hy.at]

theorem Holds.dotDown {x : FVec Ideal S512x3072 .bf16} {y : FVec Ideal S3072x1024 .bf16} (hx : Holds x f) (hy : Holds y g) :
    Holds (matmul dot_S512x3072_S3072x1024_S512x1024_1_0_0_1_n_n none x y (constant S512x1024 .f32 0x00000000#32)) (nn 3072 f g) := .of fun r c => by
  refine (Ideal.matmul_plain_apply none x y (constant S512x1024 .f32 0x00000000#32) r c).trans ?_
  rw [constant_apply, Ideal.ofBits_zero_f32, zero_add, nn, ← sum_fin 3072 (fun k => f r k * g k c)]
  exact Finset.sum_congr rfl fun k _ => by rw [hx.at, hy.at]

theorem Holds.dotMid {x : FVec Ideal S1024x1024 .bf16} {y : FVec Ideal S768x1024 .bf16} (hx : Holds x f) (hy : Holds y g) :
    Holds (matmul dot_S1024x1024_S768x1024_S1024x768_1_1_0_0_n_n none x y (constant S1024x768 .f32 0x00000000#32)) (nt 1024 f g) := .of fun r c => by
  refine (Ideal.matmul_transposedRhs_apply none x y (constant S1024x768 .f32 0x00000000#32) r c).trans ?_
  rw [constant_apply, Ideal.ofBits_zero_f32, zero_add, nt, ← sum_fin 1024 (fun k => f r k * g c k)]
  exact Finset.sum_congr rfl fun k _ => by rw [hx.at, hy.at]

theorem Holds.dotHid {x : FVec Ideal S512x3072 .bf16} {y : FVec Ideal S1024x3072 .bf16} (hx : Holds x f) (hy : Holds y g) :
    Holds (matmul dot_S512x3072_S1024x3072_S512x1024_1_1_0_0_n_n none x y (constant S512x1024 .f32 0x00000000#32)) (nt 3072 f g) := .of fun r c => by
  refine (Ideal.matmul_transposedRhs_apply none x y (constant S512x1024 .f32 0x00000000#32) r c).trans ?_
  rw [constant_apply, Ideal.ofBits_zero_f32, zero_add, nt, ← sum_fin 3072 (fun k => f r k * g c k)]
  exact Finset.sum_congr rfl fun k _ => by rw [hx.at, hy.at]

theorem Holds.dotOuter {x : FVec Ideal S4096x512 .bf16} {y : FVec Ideal S4096x1024 .bf16} (hx : Holds x f) (hy : Holds y g) :
    Holds (matmul dot_S4096x512_S4096x1024_S512x1024_0_0_1_1_n_n none x y (constant S512x1024 .f32 0x00000000#32)) (tn 4096 f g) := .of fun r c => by
  let D := dot_S4096x512_S4096x1024_S512x1024_0_0_1_1_n_n
  refine (Ideal.matmul_constant_zero_apply D none x y (ix2 r c)).trans ?_
  rw [← Equiv.sum_comp (contrEquiv1 D 4096 rfl rfl).symm, tn, ← sum_fin 4096 (fun k => f k r * g k c)]
  refine Finset.sum_congr rfl fun k _ => ?_
  have hk := contrEquiv1_symm_val D 4096 rfl rfl k
  exact congrArg₂ (· * ·) (hx.get (D.lhsIdx (ix2 r c) ((contrEquiv1 D 4096 rfl rfl).symm k)) (a := k) (b := r) hk rfl)
    (hy.get (D.rhsIdx (ix2 r c) ((contrEquiv1 D 4096 rfl rfl).symm k)) (a := k) (b := c) hk rfl)

theorem Holds.dotOuter' {x : FVec Ideal S4096x1024 .bf16} {y : FVec Ideal S4096x768 .bf16} (hx : Holds x f) (hy : Holds y g) :
    Holds (matmul dot_S4096x1024_S4096x768_S1024x768_0_0_1_1_n_n none x y (constant S1024x768 .f32 0x00000000#32)) (tn 4096 f g) := .of fun r c => by
  let D := dot_S4096x1024_S4096x768_S1024x768_0_0_1_1_n_n
  refine (Ideal.matmul_constant_zero_apply D none x y (ix2 r c)).trans ?_
  rw [← Equiv.sum_comp (contrEquiv1 D 4096 rfl rfl).symm, tn, ← sum_fin 4096 (fun k => f k r * g k c)]
  refine Finset.sum_congr rfl fun k _ => ?_
  have hk := contrEquiv1_symm_val D 4096 rfl rfl k
  exact congrArg₂ (· * ·) (hx.get (D.lhsIdx (ix2 r c) ((contrEquiv1 D 4096 rfl rfl).symm k)) (a := k) (b := r) hk rfl)
    (hy.get (D.rhsIdx (ix2 r c) ((contrEquiv1 D 4096 rfl rfl).symm k)) (a := k) (b := c) hk rfl)
end

/-! ## The stored values -/

section
variable {A B P Q X G H Y : Mat}

theorem norm_holds {x : Vec Ideal S512x1024 .f32} {g : Vec Ideal S1x1024 .f32} (hx : Holds x X) (hg : Holds g G) :
    Holds (k0_pay1 x g) (gained X G) :=
  (hx.mul (((((hx.mul hx).rowSum.div (.fill 0x44800000#32)).add (.fill 0x358637BD#32)).rsqrt).spreadCol _ (by decide))).mul (hg.spreadRow _ (by decide))

theorem gate_holds {x : Vec Ideal S1024x1024 .bf16} {w : Vec Ideal S1024x768 .bf16} (hx : Holds x X) (hw : Holds w A) :
    Holds (k1_pay2 x w) (nn 1024 X A) := by
  unfold k1_pay2 k1_pay1
  rw [shapeCast_self]; exact hx.dotUp hw
theorem up_holds {x : Vec Ideal S1024x1024 .bf16} {w : Vec Ideal S1024x768 .bf16} (hx : Holds x X) (hw : Holds w A) :
    Holds (k1_pay3 x w) (nn 1024 X A) := gate_holds hx hw
theorem gatePlane {x : Vec Ideal S1024x1024 .bf16} {w : Vec Ideal S1024x768 .bf16} (hx : Holds x X) (hw : Holds w A) :
    Plane (k1_pay4 x w) (nn 1024 X A) := Holds.lift (gate_holds hx hw) _
theorem upPlane {x : Vec Ideal S1024x1024 .bf16} {w : Vec Ideal S1024x768 .bf16} (hx : Holds x X) (hw : Holds w A) :
    Plane (k1_pay5 x w) (nn 1024 X A) := Holds.lift (up_holds hx hw) _
theorem act_holds {x : Vec Ideal S1024x1024 .bf16} {w v : Vec Ideal S1024x768 .bf16} (hx : Holds x X) (hw : Holds w A) (hv : Holds v B) :
    Holds (k1_pay6 x w v) (fun r c => nn 1024 X A r c * Ideal.logistic (nn 1024 X A r c) * nn 1024 X B r c) :=
  ((gate_holds hx hw).mul (gate_holds hx hw).logistic).mul (up_holds hx hv)

theorem down_holds {a : Vec Ideal S512x3072 .bf16} {w : Vec Ideal S3072x1024 .bf16} {x : Vec Ideal S512x1024 .f32} (ha : Holds a A) (hw : Holds w B) (hx : Holds x X) :
    Holds (k2_pay1 a w x) (fun r c => nn 3072 A B r c * half + X r c) := by
  unfold k2_pay1
  rw [shapeCast_self]; exact ((ha.dotDown hw).mul (.fill 0x3F000000#32)).add hx

theorem midGrad_holds {y : Vec Ideal S1024x1024 .bf16} {w : Vec Ideal S768x1024 .bf16} (hy : Holds y Y) (hw : Holds w B) :
    Holds (k3_pay1 y w) (fun r c => nt 1024 Y B r c * half) := by
  unfold k3_pay1
  rw [shapeCast_self]; exact (hy.dotMid hw).mul (.fill 0x3F000000#32)
theorem gateGradPlane {y : Vec Ideal S1024x1024 .bf16} {w : Vec Ideal S768x1024 .bf16} {p q : Vec Ideal S1x1024x768 .bf16}
    (hy : Holds y Y) (hw : Holds w B) (hp : Plane p P) (hq : Plane q Q) :
    Plane (k3_pay4 y w p q) (fun r c => nt 1024 Y B r c * half * Q r c * Ideal.logistic (P r c)
      + P r c * (nt 1024 Y B r c * half * Q r c) * (Ideal.logistic (P r c) * (unit - Ideal.logistic (P r c)))) :=
  have t := (midGrad_holds hy hw).mul (hq.drop _)
  have g := hp.drop shapeCasts_S1x1024x768_S1024x768
  Holds.lift ((t.mul g.logistic).add ((g.mul t).mul (g.logistic.mul ((Holds.fill 0x3F800000#32).sub g.logistic)))) _
theorem upGradPlane {y : Vec Ideal S1024x1024 .bf16} {w : Vec Ideal S768x1024 .bf16} {p : Vec Ideal S1x1024x768 .bf16}
    (hy : Holds y Y) (hw : Holds w B) (hp : Plane p P) :
    Plane (k3_pay5 y w p) (fun r c => P r c * Ideal.logistic (P r c) * (nt 1024 Y B r c * half)) :=
  have g := hp.drop shapeCasts_S1x1024x768_S1024x768
  Holds.lift ((g.mul g.logistic).mul (midGrad_holds hy hw)) _

theorem downGrad_holds {a : Vec Ideal S4096x512 .bf16} {y : Vec Ideal S4096x1024 .bf16} (ha : Holds a A) (hy : Holds y Y) :
    Holds (k4_pay1 a y) (fun r c => tn 4096 A Y r c * half) := by
  unfold k4_pay1
  rw [shapeCast_self, shapeCast_self]; exact (ha.dotOuter hy).mul (.fill 0x3F000000#32)

theorem upWeightGrad_holds {h : Vec Ideal S4096x1024 .bf16} {d : Vec Ideal S1x4096x768 .bf16} (hh : Holds h H) (hd : Plane d A) :
    Holds (k5_pay1 h d) (tn 4096 H A) := by
  unfold k5_pay1
  rw [shapeCast_self]; exact hh.dotOuter' (hd.drop _)

/-! The last call's tile of rows. -/

theorem hidGrad_holds {d e : Vec Ideal S1x512x3072 .bf16} {w v : Vec Ideal S1024x3072 .bf16} (hd : Plane d A) (hw : Holds w B) (he : Plane e P) (hv : Holds v Q) :
    Holds (k6_pay5 d w e v) (fun r c => nt 3072 A B r c + nt 3072 P Q r c) :=
  ((Holds.fill 0x00000000#32).add ((hd.drop _).dotHid hw)).add ((he.drop _).dotHid hv) |>.congr fun r c _ _ => by
    rw [Ideal.ofBits_zero_f32, zero_add]

theorem meanSq_holds {x : Vec Ideal S512x1024 .f32} (hx : Holds x X) : Holds (k6_pay6 x) (fun r _ => meanSq X r) :=
  ((hx.mul hx).rowSum.div (.fill 0x44800000#32)).add (.fill 0x358637BD#32)
theorem inv_holds {x : Vec Ideal S512x1024 .f32} (hx : Holds x X) : Holds (k6_pay7 x) (fun r _ => inv X r) := (meanSq_holds hx).rsqrt
theorem slope_holds {x : Vec Ideal S512x1024 .f32} (hx : Holds x X) : Holds (k6_pay8 x) (fun r _ => slope X r) :=
  (Holds.fill 0xBF000000#32).mul ((inv_holds hx).div (meanSq_holds hx))

variable {d e : Vec Ideal S1x512x3072 .bf16} {w v : Vec Ideal S1024x3072 .bf16} {x y : Vec Ideal S512x1024 .f32} {g : Vec Ideal S1x1024 .f32}

theorem gainGrad_holds (hh : Holds (k6_pay5 d w e v) H) (hx : Holds x X) :
    Holds (k6_pay9 d w e v x) (fun _ c => ∑ k ∈ range 512, normed X k c * H k c) :=
  Holds.colSum ((hx.mul ((inv_holds hx).spreadCol _ (by decide))).mul hh)
theorem scaled_holds (hh : Holds (k6_pay5 d w e v) H) (hg : Holds g G) : Holds (k6_pay10 d w e v g) (scaled G H) :=
  hh.mul (hg.spreadRow _ (by decide))
theorem dot_holds (hh : Holds (k6_pay5 d w e v) H) (hx : Holds x X) (hg : Holds g G) :
    Holds (k6_pay11 d w e v x g) (fun r _ => ∑ k ∈ range 1024, X r k * scaled G H r k) :=
  (hx.mul (scaled_holds hh hg)).rowSum
theorem straight_holds (hh : Holds (k6_pay5 d w e v) H) (hx : Holds x X) (hg : Holds g G) :
    Holds (k6_pay12 d w e v x g) (fun r c => scaled G H r c * inv X r) :=
  (scaled_holds hh hg).mul ((inv_holds hx).spreadCol _ (by decide))
theorem rowGrad_holds (hh : Holds (k6_pay5 d w e v) H) (hx : Holds x X) (hg : Holds g G) (hy : Holds y Y) :
    Holds (k6_pay1 x (k6_pay8 x) (k6_pay11 d w e v x g) (k6_pay12 d w e v x g) y) (rowGrad X G H Y) :=
  have c := (((dot_holds hh hx hg).mul (slope_holds hx)).div (.fill 0x44800000#32)).laneSum.spreadCol broadcasts_S512x1_S512x1024 (by decide)
  hy.add (((straight_holds hh hx hg).add (hx.mul c)).add (c.mul hx))
end

end HalfStep
-- ==== Proof.FfnTiles.lean ====
module
public import proofs.«01_k».proof.Proof.FfnOps
public import Idealize.ShloMosaic.Lib.Pipeline.ValueKit.Geometry
public import Idealize.ShloMosaic.Lib.Pipeline.CanonAppend

/-! Blocks of matrices: how a block read from an array holds a shifted matrix, and how the blocks stored make up an array. -/

@[expose] public section

noncomputable section

namespace HalfStep

open Idealize.ShloMosaic Idealize.ShloMosaic.ValueIdx Idealize.ShloMosaic.Pipeline Cert.Kernel2Ideal Cert.Kernel2Ideal.Gen

/-- The array `x` of planes holds the matrices `f`. -/
def Planes {p m n : ℕ} (x : (⟨3, ![p, m, n]⟩ : Shape).Idx → EReal) (f : ℕ → Mat) : Prop :=
  ∀ i, x i = f (i 0).val (i 1).val (i 2).val

/-- The two planes of an array hold the left and the right half of a matrix 6144 wide. -/
def sides (P : Mat) (q : ℕ) : Mat := fun r c => P r (3072 * q + c)

section
variable {m n m' n' p p' : ℕ}

/-- A block of an array: its rows and columns are those of the array from `q0 * s0` and `q1 * s1` on. -/
theorem Holds.block {x : (⟨2, ![m, n]⟩ : Shape).Idx → EReal} {f g : Mat} (hx : Holds x f) {e : (⟨2, ![m', n']⟩ : Shape).Idx → (⟨2, ![m, n]⟩ : Shape).Idx}
    {i0 i1 q0 q1 s0 s1 : ℕ} (h0 : ∀ y, (e y 0).val = i0 * s0 + (y 0).val) (h1 : ∀ y, (e y 1).val = i1 * s1 + (y 1).val) (k0 : i0 = q0) (k1 : i1 = q1)
    (hg : ∀ r c, f (q0 * s0 + r) (q1 * s1 + c) = g r c) : Holds (fun y => x (e y)) g := fun y => by
  show x (e y) = _
  rw [hx (e y), h0, h1, k0, k1, hg]

theorem Planes.block {x : (⟨3, ![p, m, n]⟩ : Shape).Idx → EReal} {f g : ℕ → Mat} (hx : Planes x f) {e : (⟨3, ![p', m', n']⟩ : Shape).Idx → (⟨3, ![p, m, n]⟩ : Shape).Idx}
    {i0 i1 i2 q0 q1 q2 s0 s1 s2 : ℕ} (h0 : ∀ y, (e y 0).val = i0 * s0 + (y 0).val) (h1 : ∀ y, (e y 1).val = i1 * s1 + (y 1).val) (h2 : ∀ y, (e y 2).val = i2 * s2 + (y 2).val)
    (k0 : i0 = q0) (k1 : i1 = q1) (k2 : i2 = q2) (hg : ∀ q r c, f (q0 * s0 + q) (q1 * s1 + r) (q2 * s2 + c) = g q r c) : Planes (fun y => x (e y)) g := fun y => by
  show x (e y) = _
  rw [hx (e y), h0, h1, h2, k0, k1, k2, hg]

/-- A stored block sits at its rows and columns of the array's matrix. -/
theorem Holds.tile {o : (⟨2, ![m', n']⟩ : Shape).Idx → EReal} {f g : Mat} (ho : Holds o g) {i : (⟨2, ![m, n]⟩ : Shape).Idx} (y : (⟨2, ![m', n']⟩ : Shape).Idx)
    {i0 i1 q0 q1 s0 s1 : ℕ} (h0 : (i 0).val = i0 * s0 + (y 0).val) (h1 : (i 1).val = i1 * s1 + (y 1).val) (k0 : i0 = q0) (k1 : i1 = q1)
    (hg : ∀ r c, f (q0 * s0 + r) (q1 * s1 + c) = g r c) : o y = f (i 0).val (i 1).val := by
  rw [ho y, h0, h1, k0, k1, hg]

theorem Planes.tile {o : (⟨3, ![p', m', n']⟩ : Shape).Idx → EReal} {f g : ℕ → Mat} (ho : Planes o g) {i : (⟨3, ![p, m, n]⟩ : Shape).Idx} (y : (⟨3, ![p', m', n']⟩ : Shape).Idx)
    {i0 i1 i2 q0 q1 q2 s0 s1 s2 : ℕ} (h0 : (i 0).val = i0 * s0 + (y 0).val) (h1 : (i 1).val = i1 * s1 + (y 1).val) (h2 : (i 2).val = i2 * s2 + (y 2).val)
    (k0 : i0 = q0) (k1 : i1 = q1) (k2 : i2 = q2) (hg : ∀ q r c, f (q0 * s0 + q) (q1 * s1 + r) (q2 * s2 + c) = g q r c) : o y = f (i 0).val (i 1).val (i 2).val := by
  rw [ho y, h0, h1, h2, k0, k1, k2, hg]

/-- An array of one plane holds its plane. -/
theorem Planes.single {x : (⟨3, ![1, m, n]⟩ : Shape).Idx → EReal} {f : ℕ → Mat} (hx : Planes x f) : Plane x (f 0) := fun i => by
  have h : (i 0).val = 0 := Nat.lt_one_iff.1 (i 0).isLt
  rw [hx i, h]

/-- One of the planes, loaded. -/
theorem Planes.load {x : (⟨3, ![p, m, n]⟩ : Shape).Idx → EReal} {f : ℕ → Mat} (hx : Planes x f) {e : (⟨3, ![1, m, n]⟩ : Shape).Idx → (⟨3, ![p, m, n]⟩ : Shape).Idx}
    {q : ℕ} (h0 : ∀ y, (e y 0).val = q + (y 0).val) (h1 : ∀ y, (e y 1).val = 0 + (y 1).val) (h2 : ∀ y, (e y 2).val = 0 + (y 2).val) : Plane (fun y => x (e y)) (f q) := fun y => by
  have h : (y 0).val = 0 := Nat.lt_one_iff.1 (y 0).isLt
  show x (e y) = _
  rw [hx (e y), h0, h1, h2, h, Nat.zero_add, Nat.zero_add, Nat.add_zero]

/-- Two planes stored one after the other. -/
theorem Planes.stored {x : (⟨3, ![2, m, n]⟩ : Shape).Idx → EReal} {f : ℕ → Mat} {i0 : ∀ a, (![0, 0, 0] : Fin 3 → ℕ) a + (![1, m, n] : Fin 3 → ℕ) a ≤ (⟨3, ![2, m, n]⟩ : Shape).size a}
    {i1 : ∀ a, (![1, 0, 0] : Fin 3 → ℕ) a + (![1, m, n] : Fin 3 → ℕ) a ≤ (⟨3, ![2, m, n]⟩ : Shape).size a}
    {u v : (⟨3, ![1, m, n]⟩ : Shape).Idx → EReal} (hu : Plane u (f 0)) (hv : Plane v (f 1))
    (hx : x = View.canon (Val := Elt Ideal) (e := .bf16) [⟨Rect.unit (s := ⟨3, ![2, m, n]⟩) ![1, 0, 0] ![1, m, n] i1, v⟩, ⟨Rect.unit (s := ⟨3, ![2, m, n]⟩) ![0, 0, 0] ![1, m, n] i0, u⟩])
    (hc : ∀ y, ∃ pc ∈ ([⟨Rect.unit (s := ⟨3, ![2, m, n]⟩) ![1, 0, 0] ![1, m, n] i1, v⟩, ⟨Rect.unit (s := ⟨3, ![2, m, n]⟩) ![0, 0, 0] ![1, m, n] i0, u⟩] : List (View.Piece (Elt Ideal) ⟨3, ![2, m, n]⟩ .bf16)), y ∈ pc.1.set) :
    Planes x f := fun y => by
  rw [hx]
  refine View.canon_append_of_pieces (Val := Elt Ideal) (e := .bf16) (fun y => f (y 0).val (y 1).val (y 2).val) [] _ ?_ y (hc y)
  intro pc hpc z
  rcases List.mem_cons.1 hpc with rfl | hpc
  · have h : (z 0).val = 0 := Nat.lt_one_iff.1 (z 0).isLt
    refine (hv z).trans ?_
    rw [ValueKit.rect_emb_unit_val, ValueKit.rect_emb_unit_val, ValueKit.rect_emb_unit_val, h]
    show _ = f (1 + 0) (0 + _) (0 + _)
    rw [Nat.zero_add, Nat.zero_add]
  · obtain rfl := List.mem_singleton.1 hpc
    have h : (z 0).val = 0 := Nat.lt_one_iff.1 (z 0).isLt
    refine (hu z).trans ?_
    rw [ValueKit.rect_emb_unit_val, ValueKit.rect_emb_unit_val, ValueKit.rect_emb_unit_val, h]
    show _ = f (0 + 0) (0 + _) (0 + _)
    rw [Nat.zero_add, Nat.zero_add, Nat.zero_add]
end

theorem zero2 : (![0, 0] : Fin 2 → ℕ) = fun _ => 0 := by funext a; match a with | ⟨0, _⟩ => rfl | ⟨1, _⟩ => rfl
theorem zero3 : (![0, 0, 0] : Fin 3 → ℕ) = fun _ => 0 := by funext a; match a with | ⟨0, _⟩ => rfl | ⟨1, _⟩ => rfl | ⟨2, _⟩ => rfl

end HalfStep
-- ==== Proof.FfnForward.lean ====
module
public import proofs.«01_k».proof.Proof.FfnTiles
public import proofs.«01_k».proof.Proof.Gen.Kernel2Ideal.Frame

/-! What the forward calls leave in their output arrays: the norm, the two projections with their activation, and the
down projection. -/

@[expose] public section

set_option maxRecDepth 16384

noncomputable section

namespace HalfStep

open Idealize.ShloMosaic Idealize.ShloMosaic.ValueIdx Idealize.ShloMosaic.TcCoe Idealize.ShloMosaic.Pipeline Cert.Kernel2Ideal Cert.Kernel2Ideal.Gen
open Finset

variable (V : (c : Dev nD) → (b : Ref sig .tc) → Buf (Elt Ideal) ((c : Thread nD τ).loc b)) (c : Dev nD) {X G U D : Mat}

/-! ## The norm: 512 rows at each of 8 points -/

theorem index0 : ∀ t : Fin cfg0.N,
    (win0_0.index t (0 : Fin 2) = t.val ∧ win0_0.index t (1 : Fin 2) = 0)
      ∧ (win0_1.index t (0 : Fin 2) = 0 ∧ win0_1.index t (1 : Fin 2) = 0)
      ∧ (win0_2.index t (0 : Fin 2) = t.val ∧ win0_2.index t (1 : Fin 2) = 0) :=
  (by decide +kernel : ∀ t : Fin grid0.N, _)

section
variable (hx : Holds (V c main_arg0 : Vec Ideal S4096x1024 .f32) X) (hg : Holds (V c main_arg1 : Vec Ideal S1x1024 .f32) G)

include hx in
theorem rows0 (t : Fin cfg0.N) : Holds (iblk0 V c 0 t : Vec Ideal S512x1024 .f32) (fun r k => X (t.val * 512 + r) k) :=
  hx.block (win0_0.rect_emb_val t · 0) (win0_0.rect_emb_val t · 1) (index0 t).1.1 (index0 t).1.2
    fun r k => by rw [Nat.zero_mul, Nat.zero_add]; rfl

include hg in
theorem gains0 (t : Fin cfg0.N) : Holds (iblk0 V c 1 t : Vec Ideal S1x1024 .f32) G :=
  hg.block (win0_1.rect_emb_val t · 0) (win0_1.rect_emb_val t · 1) (index0 t).2.1.1 (index0 t).2.1.2
    fun r k => by rw [Nat.zero_mul, Nat.zero_mul, Nat.zero_add, Nat.zero_add]

theorem out0_eq (x0 : Vec Ideal S512x1024 .f32) (x1 : Vec Ideal S1x1024 .f32) : out0_2 x0 x1 = k0_pay1 x0 x1 := by
  unfold out0_2
  rw [View.canon_unit_zero zero2, View.ld_unit_zero zero2, View.ld_unit_zero zero2]

include hx hg in
theorem hid_arr : Holds ((dat0 V c).arrAt 2 cfg0.N : Vec Ideal S4096x1024 .bf16) (gained X G) := fun i => by
  refine (dat0 V c).arrAt_forall_of_covers 2 (fun i v => v = gained X G (i 0).val (i 1).val) (by decide +kernel) ?_ i
  intro t _ y
  dsimp only
  rw [after0_2, out0_eq]
  exact (norm_holds (rows0 V c hx t) (gains0 V c hg t)).tile y (win0_2.rect_emb_val t y 0) (win0_2.rect_emb_val t y 1) (index0 t).2.2.1 (index0 t).2.2.2
    fun r k => by rw [Nat.zero_mul, Nat.zero_add]; rfl
end

/-! ## The projections: 768 columns and 1024 rows at each of 16 points -/

theorem index1 : ∀ t : Fin cfg1.N,
    (win1_0.index t (0 : Fin 2) = t.val % 4 ∧ win1_0.index t (1 : Fin 2) = 0)
      ∧ (win1_1.index t (0 : Fin 2) = 0 ∧ win1_1.index t (1 : Fin 2) = t.val / 4)
      ∧ (win1_2.index t (0 : Fin 2) = 0 ∧ win1_2.index t (1 : Fin 2) = 4 + t.val / 4)
      ∧ (win1_3.index t (0 : Fin 3) = 0 ∧ win1_3.index t (1 : Fin 3) = t.val % 4 ∧ win1_3.index t (2 : Fin 3) = t.val / 4)
      ∧ (win1_4.index t (0 : Fin 2) = t.val % 4 ∧ win1_4.index t (1 : Fin 2) = t.val / 4) :=
  (by decide +kernel : ∀ t : Fin grid1.N, _)

section
variable (hx : Holds (V c main_v0 : Vec Ideal S4096x1024 .bf16) X) (hu : Holds (V c main_arg2 : Vec Ideal S1024x6144 .bf16) U)

include hx in
theorem rows1 (t : Fin cfg1.N) : Holds (iblk1 V c 0 t : Vec Ideal S1024x1024 .bf16) (fun r k => X (t.val % 4 * 1024 + r) k) :=
  hx.block (win1_0.rect_emb_val t · 0) (win1_0.rect_emb_val t · 1) (index1 t).1.1 (index1 t).1.2
    fun r k => by rw [Nat.zero_mul, Nat.zero_add]; rfl

include hu in
theorem gate1 (t : Fin cfg1.N) : Holds (iblk1 V c 1 t : Vec Ideal S1024x768 .bf16) (fun r k => U r (t.val / 4 * 768 + k)) :=
  hu.block (win1_1.rect_emb_val t · 0) (win1_1.rect_emb_val t · 1) (index1 t).2.1.1 (index1 t).2.1.2
    fun r k => by rw [Nat.zero_mul, Nat.zero_add]; rfl

include hu in
theorem up1 (t : Fin cfg1.N) : Holds (iblk1 V c 2 t : Vec Ideal S1024x768 .bf16) (fun r k => U r (3072 + (t.val / 4 * 768 + k))) :=
  hu.block (win1_2.rect_emb_val t · 0) (win1_2.rect_emb_val t · 1) (index1 t).2.2.1.1 (index1 t).2.2.1.2
    fun r k => by
      rw [Nat.zero_mul, Nat.zero_add]
      exact congrArg (U r) (show (4 + t.val / 4) * 768 + k = 3072 + (t.val / 4 * 768 + k) by omega)

theorem out1_act_eq (x0 : Vec Ideal S1024x1024 .bf16) (x1 x2 : Vec Ideal S1024x768 .bf16) : out1_4 x0 x1 x2 = k1_pay6 x0 x1 x2 := by
  unfold out1_4
  rw [View.canon_unit_zero zero2, View.ld_unit_zero zero2, View.ld_unit_zero zero2, View.ld_unit_zero zero2]

theorem out1_planes {x0 : Vec Ideal S1024x1024 .bf16} {x1 x2 : Vec Ideal S1024x768 .bf16} {A P Q : Mat} {f : ℕ → Mat} (h0 : Holds x0 A) (h1 : Holds x1 P) (h2 : Holds x2 Q)
    (f0 : nn 1024 A P = f 0) (f1 : nn 1024 A Q = f 1) : Planes (out1_3 x0 x1 x2) f := by
  refine Planes.stored (u := k1_pay4 (View.ld x0 r1_0) (View.ld x1 r1_1)) (v := k1_pay5 (View.ld x0 r1_0) (View.ld x2 r1_1)) ?_ ?_ rfl (cover1_3 _ _)
  · rw [View.ld_unit_zero zero2, View.ld_unit_zero zero2, ← f0]; exact gatePlane h0 h1
  · rw [View.ld_unit_zero zero2, View.ld_unit_zero zero2, ← f1]; exact upPlane h0 h2

include hx hu in
theorem planes1 (t : Fin cfg1.N) : Planes (out1_3 (iblk1 V c 0 t) (iblk1 V c 1 t) (iblk1 V c 2 t))
    (fun q r k => nn 1024 X U (t.val % 4 * 1024 + r) (3072 * q + (t.val / 4 * 768 + k))) := by
  refine out1_planes (rows1 V c hx t) (gate1 V c hu t) (up1 V c hu t) ?_ rfl
  funext r k
  show _ = nn 1024 X U (t.val % 4 * 1024 + r) (3072 * 0 + (t.val / 4 * 768 + k))
  rw [Nat.mul_zero, Nat.zero_add]; rfl

include hx hu in
theorem pre_arr : Planes ((dat1 V c).arrAt 3 cfg1.N : Vec Ideal S2x4096x3072 .bf16) (sides (nn 1024 X U)) := fun i => by
  refine (dat1 V c).arrAt_forall_of_covers 3 (fun i v => v = sides (nn 1024 X U) (i 0).val (i 1).val (i 2).val) (by decide +kernel) ?_ i
  intro t _ y
  dsimp only
  rw [after1_3]
  have o := planes1 V c hx hu t
  generalize out1_3 (iblk1 V c 0 t) (iblk1 V c 1 t) (iblk1 V c 2 t) = B at o ⊢
  exact o.tile y (win1_3.rect_emb_val t y 0) (win1_3.rect_emb_val t y 1) (win1_3.rect_emb_val t y 2)
    (index1 t).2.2.2.1.1 (index1 t).2.2.2.1.2.1 (index1 t).2.2.2.1.2.2 fun q r k => by rw [Nat.zero_mul, Nat.zero_add]; rfl

include hx hu in
theorem mid_arr : Holds ((dat1 V c).arrAt 4 cfg1.N : Vec Ideal S4096x3072 .bf16) (act (nn 1024 X U)) := fun i => by
  refine (dat1 V c).arrAt_forall_of_covers 4 (fun i v => v = act (nn 1024 X U) (i 0).val (i 1).val) (by decide +kernel) ?_ i
  intro t _ y
  dsimp only
  rw [after1_4, out1_act_eq]
  exact (act_holds (rows1 V c hx t) (gate1 V c hu t) (up1 V c hu t)).tile y (win1_4.rect_emb_val t y 0) (win1_4.rect_emb_val t y 1) (index1 t).2.2.2.2.1 (index1 t).2.2.2.2.2
    fun r k => rfl
end

/-! ## The down projection: 512 rows at each of 8 points -/

theorem index2 : ∀ t : Fin cfg2.N,
    (win2_0.index t (0 : Fin 2) = t.val ∧ win2_0.index t (1 : Fin 2) = 0)
      ∧ (win2_1.index t (0 : Fin 2) = 0 ∧ win2_1.index t (1 : Fin 2) = 0)
      ∧ (win2_2.index t (0 : Fin 2) = t.val ∧ win2_2.index t (1 : Fin 2) = 0)
      ∧ (win2_3.index t (0 : Fin 2) = t.val ∧ win2_3.index t (1 : Fin 2) = 0) :=
  (by decide +kernel : ∀ t : Fin grid2.N, _)

theorem out2_eq (x0 : Vec Ideal S512x3072 .bf16) (x1 : Vec Ideal S3072x1024 .bf16) (x2 : Vec Ideal S512x1024 .f32) : out2_3 x0 x1 x2 = k2_pay1 x0 x1 x2 := by
  unfold out2_3
  rw [View.canon_unit_zero zero2, View.ld_unit_zero zero2, View.ld_unit_zero zero2, View.ld_unit_zero zero2]

section
variable {A : Mat} (ha : Holds (V c main_v1_1 : Vec Ideal S4096x3072 .bf16) A) (hd : Holds (V c main_arg3 : Vec Ideal S3072x1024 .bf16) D)
  (hx : Holds (V c main_arg0 : Vec Ideal S4096x1024 .f32) X)

include ha hd hx in
theorem out_arr : Holds ((dat2 V c).arrAt 3 cfg2.N : Vec Ideal S4096x1024 .f32) (fun r k => nn 3072 A D r k * half + X r k) := fun i => by
  refine (dat2 V c).arrAt_forall_of_covers 3 (fun i v => v = nn 3072 A D (i 0).val (i 1).val * half + X (i 0).val (i 1).val) (by decide +kernel) ?_ i
  intro t _ y
  dsimp only
  rw [after2_3, out2_eq]
  have b0 : Holds (iblk2 V c 0 t : Vec Ideal S512x3072 .bf16) (fun r k => A (t.val * 512 + r) k) :=
    ha.block (win2_0.rect_emb_val t · 0) (win2_0.rect_emb_val t · 1) (index2 t).1.1 (index2 t).1.2 fun r k => by rw [Nat.zero_mul, Nat.zero_add]; rfl
  have b1 : Holds (iblk2 V c 1 t : Vec Ideal S3072x1024 .bf16) D :=
    hd.block (win2_1.rect_emb_val t · 0) (win2_1.rect_emb_val t · 1) (index2 t).2.1.1 (index2 t).2.1.2
      fun r k => by rw [Nat.zero_mul, Nat.zero_mul, Nat.zero_add, Nat.zero_add]
  have b2 : Holds (iblk2 V c 2 t : Vec Ideal S512x1024 .f32) (fun r k => X (t.val * 512 + r) k) :=
    hx.block (win2_2.rect_emb_val t · 0) (win2_2.rect_emb_val t · 1) (index2 t).2.2.1.1 (index2 t).2.2.1.2 fun r k => by rw [Nat.zero_mul, Nat.zero_add]; rfl
  exact (down_holds b0 b1 b2).tile (f := fun r k => nn 3072 A D r k * half + X r k) y (win2_3.rect_emb_val t y 0) (win2_3.rect_emb_val t y 1) (index2 t).2.2.2.1 (index2 t).2.2.2.2
    fun r k => by rw [Nat.zero_mul, Nat.zero_add]; rfl
end

end HalfStep
-- ==== Proof.FfnBackward.lean ====
module
public import proofs.«01_k».proof.Proof.FfnTiles
public import proofs.«01_k».proof.Proof.Gen.Kernel2Ideal.Frame

/-! What the backward calls leave in their output arrays: the gate and up columns' gradients, and the two weights'
gradients. -/

@[expose] public section

set_option maxRecDepth 16384

noncomputable section

namespace HalfStep

open Idealize.ShloMosaic Idealize.ShloMosaic.ValueIdx Idealize.ShloMosaic.TcCoe Idealize.ShloMosaic.Pipeline Cert.Kernel2Ideal Cert.Kernel2Ideal.Gen
open Finset

variable (V : (c : Dev nD) → (b : Ref sig .tc) → Buf (Elt Ideal) ((c : Thread nD τ).loc b)) (c : Dev nD)

/-! ## The gate and up columns: 768 columns and 1024 rows at each of 16 points -/

theorem index3 : ∀ t : Fin cfg3.N,
    ((win3_0.index t (0 : Fin 2) = t.val % 4 ∧ win3_0.index t (1 : Fin 2) = 0)
      ∧ (win3_1.index t (0 : Fin 2) = t.val / 4 ∧ win3_1.index t (1 : Fin 2) = 0)
      ∧ (win3_2.index t (0 : Fin 3) = 0 ∧ win3_2.index t (1 : Fin 3) = t.val % 4 ∧ win3_2.index t (2 : Fin 3) = t.val / 4)
      ∧ (win3_3.index t (0 : Fin 3) = 0 ∧ win3_3.index t (1 : Fin 3) = t.val % 4 ∧ win3_3.index t (2 : Fin 3) = t.val / 4)) ∧ t.val / 4 < 4 :=
  (by decide +kernel : ∀ t : Fin grid3.N, _)

section
variable {Y D P : Mat} (hy : Holds (V c main_v3 : Vec Ideal S4096x1024 .bf16) Y) (hd : Holds (V c main_arg3 : Vec Ideal S3072x1024 .bf16) D)
  (hp : Planes (V c main_v1_0 : Vec Ideal S2x4096x3072 .bf16) (sides P))

/-- The gradient of the inner activations. -/
def midOf (Y D : Mat) : Mat := fun r k => nt 1024 Y D r k * half

include hy in
theorem rows3 (t : Fin cfg3.N) : Holds (iblk3 V c 0 t : Vec Ideal S1024x1024 .bf16) (fun r k => Y (t.val % 4 * 1024 + r) k) :=
  hy.block (win3_0.rect_emb_val t · 0) (win3_0.rect_emb_val t · 1) (index3 t).1.1.1 (index3 t).1.1.2
    fun r k => by rw [Nat.zero_mul, Nat.zero_add]; rfl

include hd in
theorem down3 (t : Fin cfg3.N) : Holds (iblk3 V c 1 t : Vec Ideal S768x1024 .bf16) (fun r k => D (t.val / 4 * 768 + r) k) :=
  hd.block (win3_1.rect_emb_val t · 0) (win3_1.rect_emb_val t · 1) (index3 t).1.2.1.1 (index3 t).1.2.1.2
    fun r k => by rw [Nat.zero_mul, Nat.zero_add]; rfl

include hp in
theorem pre3 (t : Fin cfg3.N) : Planes (iblk3 V c 2 t : Vec Ideal S2x1024x768 .bf16)
    (fun q r k => P (t.val % 4 * 1024 + r) (3072 * q + (t.val / 4 * 768 + k))) :=
  hp.block (win3_2.rect_emb_val t · 0) (win3_2.rect_emb_val t · 1) (win3_2.rect_emb_val t · 2) (index3 t).1.2.2.1.1 (index3 t).1.2.2.1.2.1 (index3 t).1.2.2.1.2.2
    fun q r k => by rw [Nat.zero_mul, Nat.zero_add]; rfl

theorem gateRect (a : Fin 3) (y : S1x1024x768.Idx) : ((r3_2.emb y) a).val = (![0, 0, 0] : Fin 3 → ℕ) a + (y a).val :=
  ValueKit.rect_emb_unit_val (s := S2x1024x768) ![0, 0, 0] S1x1024x768.size inb_S2x1024x768_S1x1024x768_0_0_0 y a
theorem upRect (a : Fin 3) (y : S1x1024x768.Idx) : ((r3_3.emb y) a).val = (![1, 0, 0] : Fin 3 → ℕ) a + (y a).val :=
  ValueKit.rect_emb_unit_val (s := S2x1024x768) ![1, 0, 0] S1x1024x768.size inb_S2x1024x768_S1x1024x768_1_0_0 y a

theorem gate3 {x2 : Vec Ideal S2x1024x768 .bf16} {f : ℕ → Mat} (h2 : Planes x2 f) : Plane (View.ld x2 r3_2) (f 0) :=
  h2.load (e := r3_2.emb) (gateRect 0) (gateRect 1) (gateRect 2)
theorem up3 {x2 : Vec Ideal S2x1024x768 .bf16} {f : ℕ → Mat} (h2 : Planes x2 f) : Plane (View.ld x2 r3_3) (f 1) :=
  h2.load (e := r3_3.emb) (upRect 0) (upRect 1) (upRect 2)

theorem tile3 {x0 : Vec Ideal S1024x1024 .bf16} {x1 : Vec Ideal S768x1024 .bf16} {x2 : Vec Ideal S2x1024x768 .bf16} {a b : ℕ} (hb : b < 4)
    (h0 : Holds x0 (fun r k => Y (a * 1024 + r) k)) (h1 : Holds x1 (fun r k => D (b * 768 + r) k))
    (h2 : Planes x2 (fun q r k => P (a * 1024 + r) (3072 * q + (b * 768 + k)))) :
    Planes (out3_3 x0 x1 x2) (fun q r k => preGrad P (midOf Y D) (a * 1024 + r) (3072 * q + (b * 768 + k))) := by
  refine Planes.stored (u := k3_pay4 (View.ld x0 r3_0) (View.ld x1 r3_1) (View.ld x2 r3_2) (View.ld x2 r3_3)) (v := k3_pay5 (View.ld x0 r3_0) (View.ld x1 r3_1) (View.ld x2 r3_2)) ?_ ?_ rfl (cover3_3 _ _)
  · rw [View.ld_unit_zero zero2, View.ld_unit_zero zero2]
    refine (gateGradPlane h0 h1 (gate3 h2) (up3 h2)).congr fun r k _ hk => ?_
    show _ = preGrad P (midOf Y D) (a * 1024 + r) (3072 * 0 + (b * 768 + k))
    have e : 3072 * 0 + (b * 768 + k) = b * 768 + k := by omega
    have e1 : 3072 * 1 + (b * 768 + k) = 3072 + (b * 768 + k) := by omega
    rw [e, e1, preGrad, if_pos (by omega)]
    rfl
  · rw [View.ld_unit_zero zero2, View.ld_unit_zero zero2]
    refine (upGradPlane h0 h1 (gate3 h2)).congr fun r k _ hk => ?_
    show _ = preGrad P (midOf Y D) (a * 1024 + r) (3072 * 1 + (b * 768 + k))
    have e : 3072 * 0 + (b * 768 + k) = b * 768 + k := by omega
    have e1 : 3072 * 1 + (b * 768 + k) - 3072 = b * 768 + k := by omega
    rw [preGrad, if_neg (by omega), e, e1]
    rfl

include hy hd hp in
theorem planes3 (t : Fin cfg3.N) : Planes (out3_3 (iblk3 V c 0 t) (iblk3 V c 1 t) (iblk3 V c 2 t))
    (fun q r k => preGrad P (midOf Y D) (t.val % 4 * 1024 + r) (3072 * q + (t.val / 4 * 768 + k))) :=
  tile3 (index3 t).2 (rows3 V c hy t) (down3 V c hd t) (pre3 V c hp t)

include hy hd hp in
theorem inGrad_arr : Planes ((dat3 V c).arrAt 3 cfg3.N : Vec Ideal S2x4096x3072 .bf16) (sides (preGrad P (midOf Y D))) := fun i => by
  refine (dat3 V c).arrAt_forall_of_covers 3 (fun i v => v = sides (preGrad P (midOf Y D)) (i 0).val (i 1).val (i 2).val) (by decide +kernel) ?_ i
  intro t _ y
  dsimp only
  rw [after3_3]
  have o := planes3 V c hy hd hp t
  generalize out3_3 (iblk3 V c 0 t) (iblk3 V c 1 t) (iblk3 V c 2 t) = B at o ⊢
  exact o.tile y (win3_3.rect_emb_val t y 0) (win3_3.rect_emb_val t y 1) (win3_3.rect_emb_val t y 2)
    (index3 t).1.2.2.2.1 (index3 t).1.2.2.2.2.1 (index3 t).1.2.2.2.2.2 fun q r k => by rw [Nat.zero_mul, Nat.zero_add]; rfl
end

/-! ## The down weights' gradient: 512 rows at each of 6 points -/

theorem index4 : ∀ t : Fin cfg4.N,
    (win4_0.index t (0 : Fin 2) = 0 ∧ win4_0.index t (1 : Fin 2) = t.val)
      ∧ (win4_1.index t (0 : Fin 2) = 0 ∧ win4_1.index t (1 : Fin 2) = 0)
      ∧ (win4_2.index t (0 : Fin 2) = t.val ∧ win4_2.index t (1 : Fin 2) = 0) :=
  (by decide +kernel : ∀ t : Fin grid4.N, _)

theorem out4_eq (x0 : Vec Ideal S4096x512 .bf16) (x1 : Vec Ideal S4096x1024 .bf16) : out4_2 x0 x1 = k4_pay1 x0 x1 := by
  unfold out4_2
  rw [View.canon_unit_zero zero2, View.ld_unit_zero zero2, View.ld_unit_zero zero2]

section
variable {A Y : Mat} (ha : Holds (V c main_v1_1 : Vec Ideal S4096x3072 .bf16) A) (hy : Holds (V c main_v3 : Vec Ideal S4096x1024 .bf16) Y)

include ha hy in
theorem block4 (t : Fin cfg4.N) : Holds (out4_2 (iblk4 V c 0 t) (iblk4 V c 1 t)) (fun r k => tn 4096 A Y (t.val * 512 + r) k * half) := by
  rw [out4_eq]
  have b0 : Holds (iblk4 V c 0 t : Vec Ideal S4096x512 .bf16) (fun r k => A r (t.val * 512 + k)) :=
    ha.block (win4_0.rect_emb_val t · 0) (win4_0.rect_emb_val t · 1) (index4 t).1.1 (index4 t).1.2 fun r k => by rw [Nat.zero_mul, Nat.zero_add]; rfl
  have b1 : Holds (iblk4 V c 1 t : Vec Ideal S4096x1024 .bf16) Y :=
    hy.block (win4_1.rect_emb_val t · 0) (win4_1.rect_emb_val t · 1) (index4 t).2.1.1 (index4 t).2.1.2
      fun r k => by rw [Nat.zero_mul, Nat.zero_mul, Nat.zero_add, Nat.zero_add]
  exact downGrad_holds b0 b1

include ha hy in
theorem dD_arr : Holds ((dat4 V c).arrAt 2 cfg4.N : Vec Ideal S3072x1024 .bf16) (fun r k => tn 4096 A Y r k * half) := fun i => by
  refine (dat4 V c).arrAt_forall_of_covers 2 (fun i v => v = tn 4096 A Y (i 0).val (i 1).val * half) (by decide +kernel) ?_ i
  intro t _ y
  dsimp only
  rw [after4_2]
  have o := block4 V c ha hy t
  generalize out4_2 (iblk4 V c 0 t) (iblk4 V c 1 t) = B at o ⊢
  exact o.tile (f := fun r k => tn 4096 A Y r k * half) y (win4_2.rect_emb_val t y 0) (win4_2.rect_emb_val t y 1) (index4 t).2.2.1 (index4 t).2.2.2
    fun r k => by rw [Nat.zero_mul, Nat.zero_add]; rfl
end

/-! ## The gate and up weights' gradient: 768 columns at each of 8 points -/

theorem index5 : ∀ t : Fin cfg5.N,
    (win5_0.index t (0 : Fin 2) = 0 ∧ win5_0.index t (1 : Fin 2) = 0)
      ∧ (win5_1.index t (0 : Fin 3) = t.val / 4 ∧ win5_1.index t (1 : Fin 3) = 0 ∧ win5_1.index t (2 : Fin 3) = t.val % 4)
      ∧ (win5_2.index t (0 : Fin 2) = 0 ∧ win5_2.index t (1 : Fin 2) = t.val) :=
  (by decide +kernel : ∀ t : Fin grid5.N, _)

theorem out5_eq (x0 : Vec Ideal S4096x1024 .bf16) (x1 : Vec Ideal S1x4096x768 .bf16) : out5_2 x0 x1 = k5_pay1 x0 x1 := by
  unfold out5_2
  rw [View.canon_unit_zero zero2, View.ld_unit_zero zero2, View.ld_unit_zero zero3]

section
variable {H I : Mat} (hh : Holds (V c main_v0 : Vec Ideal S4096x1024 .bf16) H) (hi : Planes (V c main_v4 : Vec Ideal S2x4096x3072 .bf16) (sides I))

include hh hi in
theorem block5 (t : Fin cfg5.N) : Holds (out5_2 (iblk5 V c 0 t) (iblk5 V c 1 t)) (fun r k => tn 4096 H I r (t.val * 768 + k)) := by
  rw [out5_eq]
  have b0 : Holds (iblk5 V c 0 t : Vec Ideal S4096x1024 .bf16) H :=
    hh.block (win5_0.rect_emb_val t · 0) (win5_0.rect_emb_val t · 1) (index5 t).1.1 (index5 t).1.2
      fun r k => by rw [Nat.zero_mul, Nat.zero_mul, Nat.zero_add, Nat.zero_add]
  have b1 : Planes (iblk5 V c 1 t : Vec Ideal S1x4096x768 .bf16) (fun q r k => I r (3072 * q + (t.val * 768 + k))) :=
    hi.block (win5_1.rect_emb_val t · 0) (win5_1.rect_emb_val t · 1) (win5_1.rect_emb_val t · 2) (index5 t).2.1.1 (index5 t).2.1.2.1 (index5 t).2.1.2.2
      fun q r k => by
        rw [Nat.zero_mul, Nat.zero_add]
        exact congrArg (I r) (show 3072 * (t.val / 4 * 1 + q) + (t.val % 4 * 768 + k) = 3072 * q + (t.val * 768 + k) by omega)
  refine (upWeightGrad_holds b0 b1.single).congr fun r k _ _ => ?_
  show tn 4096 H (fun r k => I r (3072 * 0 + (t.val * 768 + k))) r k = _
  rw [Nat.mul_zero]
  unfold tn
  exact Finset.sum_congr rfl fun j _ => congrArg (fun q => H j r * I j q) (Nat.zero_add _)

include hh hi in
theorem dU_arr : Holds ((dat5 V c).arrAt 2 cfg5.N : Vec Ideal S1024x6144 .bf16) (tn 4096 H I) := fun i => by
  refine (dat5 V c).arrAt_forall_of_covers 2 (fun i v => v = tn 4096 H I (i 0).val (i 1).val) (by decide +kernel) ?_ i
  intro t _ y
  dsimp only
  rw [after5_2]
  have o := block5 V c hh hi t
  generalize out5_2 (iblk5 V c 0 t) (iblk5 V c 1 t) = B at o ⊢
  exact o.tile (f := tn 4096 H I) y (win5_2.rect_emb_val t y 0) (win5_2.rect_emb_val t y 1) (index5 t).2.2.1 (index5 t).2.2.2
    fun r k => by rw [Nat.zero_mul, Nat.zero_add]; rfl
end

end HalfStep
-- ==== Proof.FfnPoint.lean ====
module
public import proofs.«01_k».proof.Proof.FfnTiles
public import proofs.«01_k».proof.Proof.Gen.Kernel2Ideal.Frame

/-! What one grid point of the last call stores: 512 rows of the gradient, and the gains' gradient summed so far. -/

@[expose] public section

set_option maxRecDepth 16384

noncomputable section

namespace HalfStep

open Idealize.ShloMosaic Idealize.ShloMosaic.ValueIdx Idealize.ShloMosaic.TcCoe Idealize.ShloMosaic.Tactic Cert.Kernel2Ideal Cert.Kernel2Ideal.Gen
open Finset

/-- A whole block loaded. -/
theorem load2 {m n : ℕ} {ε : EltTy} {a : Memref sig .tc .vmem ⟨2, ![m, n]⟩ ε} (h : a.IsWhole) (x : Vec Ideal ⟨2, ![m, n]⟩ ε)
    (i : ∀ b, (![0, 0] : Fin 2 → ℕ) b + (![m, n] : Fin 2 → ℕ) b ≤ (⟨2, ![m, n]⟩ : Shape).size b) :
    a.view.readAt (Elt Ideal) (Rect.unit (s := ⟨2, ![m, n]⟩) ![0, 0] ![m, n] i).toLoadRect (h.unread x) = x := by
  rw [View.readAt_eq_ld, h.read_unread]
  exact View.ld_unit_zero (S := ⟨2, ![m, n]⟩) zero2 i x

theorem load3 {p m n : ℕ} {ε : EltTy} {a : Memref sig .tc .vmem ⟨3, ![p, m, n]⟩ ε} (h : a.IsWhole) (x : Vec Ideal ⟨3, ![p, m, n]⟩ ε)
    (i : ∀ b, (![0, 0, 0] : Fin 3 → ℕ) b + (![p, m, n] : Fin 3 → ℕ) b ≤ (⟨3, ![p, m, n]⟩ : Shape).size b) :
    a.view.readAt (Elt Ideal) (Rect.unit (s := ⟨3, ![p, m, n]⟩) ![0, 0, 0] ![p, m, n] i).toLoadRect (h.unread x) = x := by
  rw [View.readAt_eq_ld, h.read_unread]
  exact View.ld_unit_zero (S := ⟨3, ![p, m, n]⟩) zero3 i x

section
variable (c : Dev nD) (i : grid6.Coords) (arg1 : Memref sig .tc .vmem S1x512x3072 .bf16) (harg1 : arg1.IsWhole) (arg2 : Memref sig .tc .vmem S1024x3072 .bf16) (harg2 : arg2.IsWhole)
  (arg3 : Memref sig .tc .vmem S1x512x3072 .bf16) (harg3 : arg3.IsWhole) (arg4 : Memref sig .tc .vmem S1024x3072 .bf16) (harg4 : arg4.IsWhole)
  (arg5 : Memref sig .tc .vmem S512x1024 .f32) (harg5 : arg5.IsWhole) (arg6 : Memref sig .tc .vmem S1x1024 .f32) (harg6 : arg6.IsWhole)
  (arg7 : Memref sig .tc .vmem S512x1024 .f32) (harg7 : arg7.IsWhole) (arg8 : Memref sig .tc .vmem S512x1024 .f32) (harg8 : arg8.IsWhole)
  (arg9 : Memref sig .tc .vmem S512x1024 .bf16) (harg9 : arg9.IsWhole) (arg10 : Memref sig .tc .vmem S1x1024 .f32) (harg10 : arg10.IsWhole)
  (x0 : Vec Ideal S1x512x3072 .bf16) (x1 : Vec Ideal S1024x3072 .bf16) (x2 : Vec Ideal S1x512x3072 .bf16) (x3 : Vec Ideal S1024x3072 .bf16)
  (x4 : Vec Ideal S512x1024 .f32) (x5 : Vec Ideal S1x1024 .f32) (x6 : Vec Ideal S512x1024 .f32)

/-- The gradient of the point's rows. -/
def rowsOut : FVec Ideal S512x1024 .f32 :=
  k6_pay1 x4 (k6_pay8 x4) (k6_pay11 x0 x1 x2 x3 x4 x5) (k6_pay12 x0 x1 x2 x3 x4 x5) x6

set_option maxHeartbeats 4000000 in
theorem rowsA (hc0 : cond6_0 i) : out6_A_7 (F := Ideal) c i arg1 harg1 arg2 harg2 arg3 harg3 arg4 harg4 arg5 harg5 arg6 harg6 arg7 harg7 arg8 harg8 arg9 harg9 arg10 harg10 hc0 x0 x1 x2 x3 x4 x5 x6
    = rowsOut x0 x1 x2 x3 x4 x5 x6 := by
  unfold out6_A_7
  rw [View.read_writes_junk_eq_canon]
  unfold kernelRun6_A; dsimp only; sl_unfold_words
  rw [View.canon_cons_unit_zero zero2]
  simp only [load2 harg2, load2 harg4, load2 harg5, load2 harg6, load2 harg7, load2 harg10, load3 harg1, load3 harg3]
  rfl

set_option maxHeartbeats 4000000 in
theorem rowsB (hc0 : ¬cond6_0 i) (o : Vec Ideal S1x1024 .f32) : out6_B_7 (F := Ideal) c i arg1 harg1 arg2 harg2 arg3 harg3 arg4 harg4 arg5 harg5 arg6 harg6 arg7 harg7 arg8 harg8 arg9 harg9 arg10 harg10 hc0 x0 x1 x2 x3 x4 x5 x6 o
    = rowsOut x0 x1 x2 x3 x4 x5 x6 := by
  unfold out6_B_7
  rw [View.read_writes_junk_eq_canon]
  unfold kernelRun6_B; dsimp only; sl_unfold_words
  rw [View.canon_cons_unit_zero zero2]
  simp only [load2 harg2, load2 harg4, load2 harg5, load2 harg6, load2 harg7, load2 harg10, load3 harg1, load3 harg3]
  rfl

set_option maxHeartbeats 4000000 in
theorem gainsA (hc0 : cond6_0 i) : out6_A_9 (F := Ideal) c i arg1 harg1 arg2 harg2 arg3 harg3 arg4 harg4 arg5 harg5 arg6 harg6 arg7 harg7 arg8 harg8 arg9 harg9 arg10 harg10 hc0 x0 x1 x2 x3 x4 x5 x6
    = k6_pay4 (k6_pay9 x0 x1 x2 x3 x4) (k6_pay3 (F := Ideal)) := by
  unfold out6_A_9
  rw [View.read_writes_junk_eq_canon]
  unfold kernelRun6_A; dsimp only; sl_unfold_words
  rw [View.canon_cons_unit_zero zero2]
  simp only [load2 harg2, load2 harg4, load2 harg5, load2 harg6, load2 harg7, load2 harg10, load3 harg1, load3 harg3]
  rw [View.readCov_unit_zero _ zero2]

set_option maxHeartbeats 4000000 in
theorem gainsB (hc0 : ¬cond6_0 i) (o : Vec Ideal S1x1024 .f32) : out6_B_9 (F := Ideal) c i arg1 harg1 arg2 harg2 arg3 harg3 arg4 harg4 arg5 harg5 arg6 harg6 arg7 harg7 arg8 harg8 arg9 harg9 arg10 harg10 hc0 x0 x1 x2 x3 x4 x5 x6 o
    = k6_pay4 (k6_pay9 x0 x1 x2 x3 x4) o := by
  unfold out6_B_9
  rw [View.read_writes_junk_eq_canon]
  unfold kernelRun6_B; dsimp only; sl_unfold_words
  rw [View.canon_cons_unit_zero zero2]
  simp only [load2 harg2, load2 harg4, load2 harg5, load2 harg6, load2 harg7, load2 harg10, load3 harg1, load3 harg3]
end

/-- What a point's blocks hold: rows from `n * 512` on. -/
structure PointIn (X G U Y I : Mat) (n : ℕ) (x0 : Vec Ideal S1x512x3072 .bf16) (x1 : Vec Ideal S1024x3072 .bf16) (x2 : Vec Ideal S1x512x3072 .bf16) (x3 : Vec Ideal S1024x3072 .bf16)
    (x4 : Vec Ideal S512x1024 .f32) (x5 : Vec Ideal S1x1024 .f32) (x6 : Vec Ideal S512x1024 .f32) : Prop where
  gate : Plane x0 (fun r k => I (n * 512 + r) k)
  gateW : Holds x1 U
  up : Plane x2 (fun r k => I (n * 512 + r) (3072 + k))
  upW : Holds x3 (fun r k => U r (3072 + k))
  rows : Holds x4 (fun r k => X (n * 512 + r) k)
  gains : Holds x5 G
  ct : Holds x6 (fun r k => Y (n * 512 + r) k)

namespace PointIn
variable {X G U Y I : Mat} {n : ℕ} {x0 : Vec Ideal S1x512x3072 .bf16} {x1 : Vec Ideal S1024x3072 .bf16} {x2 : Vec Ideal S1x512x3072 .bf16} {x3 : Vec Ideal S1024x3072 .bf16}
  {x4 : Vec Ideal S512x1024 .f32} {x5 : Vec Ideal S1x1024 .f32} {x6 : Vec Ideal S512x1024 .f32} (h : PointIn X G U Y I n x0 x1 x2 x3 x4 x5 x6)
include h

theorem hid : Holds (k6_pay5 x0 x1 x2 x3) (fun r k => nt 6144 I U (n * 512 + r) k) :=
  (hidGrad_holds h.gate h.gateW h.up h.upW).congr fun r k _ _ => (nt_split 3072 3072 I U (n * 512 + r) k).symm

theorem rowsOut : Holds (rowsOut x0 x1 x2 x3 x4 x5 x6) (fun r k => rowGrad X G (nt 6144 I U) Y (n * 512 + r) k) :=
  rowGrad_holds h.hid h.rows h.gains h.ct

theorem gainsNext {o : Vec Ideal S1x1024 .f32} (ho : Holds o (gainGrad (n * 512) X (nt 6144 I U))) :
    Holds (k6_pay4 (k6_pay9 x0 x1 x2 x3 x4) o) (gainGrad (n * 512 + 512) X (nt 6144 I U)) := by
  unfold k6_pay4
  rw [shapeCast_self]
  exact (ho.add (gainGrad_holds h.hid h.rows)).congr fun r k _ _ => (Finset.sum_range_add _ (n * 512) 512).symm
end PointIn

theorem gainsZero (X H : Mat) : Holds (k6_pay3 (F := Ideal)) (gainGrad 0 X H) :=
  (Holds.fill (m := 1) (n := 1024) 0x00000000#32).congr fun r k _ _ => Ideal.ofBits_zero_f32

end HalfStep
-- ==== Proof.FfnLast.lean ====
module
public import proofs.«01_k».proof.Proof.FfnPoint

/-! What the last call leaves in its arrays: the rows' gradient, and the gains' gradient over all rows. -/

@[expose] public section

set_option maxRecDepth 16384

noncomputable section

namespace HalfStep

open Idealize.ShloMosaic Idealize.ShloMosaic.ValueIdx Idealize.ShloMosaic.TcCoe Idealize.ShloMosaic.Pipeline Cert.Kernel2Ideal Cert.Kernel2Ideal.Gen
open Finset

variable (V : (c : Dev nD) → (b : Ref sig .tc) → Buf (Elt Ideal) ((c : Thread nD τ).loc b)) (c : Dev nD)

theorem index6 : ∀ t : Fin cfg6.N,
    (win6_0.index t (0 : Fin 3) = 0 ∧ win6_0.index t (1 : Fin 3) = t.val ∧ win6_0.index t (2 : Fin 3) = 0)
      ∧ (win6_1.index t (0 : Fin 2) = 0 ∧ win6_1.index t (1 : Fin 2) = 0)
      ∧ (win6_2.index t (0 : Fin 3) = 1 ∧ win6_2.index t (1 : Fin 3) = t.val ∧ win6_2.index t (2 : Fin 3) = 0)
      ∧ (win6_3.index t (0 : Fin 2) = 0 ∧ win6_3.index t (1 : Fin 2) = 1)
      ∧ (win6_4.index t (0 : Fin 2) = t.val ∧ win6_4.index t (1 : Fin 2) = 0)
      ∧ (win6_5.index t (0 : Fin 2) = 0 ∧ win6_5.index t (1 : Fin 2) = 0)
      ∧ (win6_6.index t (0 : Fin 2) = t.val ∧ win6_6.index t (1 : Fin 2) = 0) :=
  (by decide +kernel : ∀ t : Fin grid6.N, _)

theorem indexOut6 : ∀ t : Fin cfg6.N,
    (win6_7.index t (0 : Fin 2) = t.val ∧ win6_7.index t (1 : Fin 2) = 0)
      ∧ (win6_9.index t (0 : Fin 2) = 0 ∧ win6_9.index t (1 : Fin 2) = 0) ∧ (win6_9.flush t = true → t.val = 7) ∧ t.val < 8 :=
  (by decide +kernel : ∀ t : Fin grid6.N, _)

variable {X G U Y I : Mat} (hi : Planes (V c main_v4 : Vec Ideal S2x4096x3072 .bf16) (sides I)) (hu : Holds (V c main_arg2 : Vec Ideal S1024x6144 .bf16) U)
  (hx : Holds (V c main_arg0 : Vec Ideal S4096x1024 .f32) X) (hg : Holds (V c main_arg1 : Vec Ideal S1x1024 .f32) G) (hy : Holds (V c main_arg4 : Vec Ideal S4096x1024 .f32) Y)

include hi in
theorem gate6 (t : Fin cfg6.N) : Plane (iblk6 V c 0 t : Vec Ideal S1x512x3072 .bf16) (fun r k => I (t.val * 512 + r) k) := by
  have h : Planes (iblk6 V c 0 t : Vec Ideal S1x512x3072 .bf16) (fun q r k => I (t.val * 512 + r) (3072 * q + k)) :=
    hi.block (win6_0.rect_emb_val t · 0) (win6_0.rect_emb_val t · 1) (win6_0.rect_emb_val t · 2) (index6 t).1.1 (index6 t).1.2.1 (index6 t).1.2.2
      fun q r k => by rw [Nat.zero_mul, Nat.zero_mul, Nat.zero_add, Nat.zero_add]; rfl
  refine h.single.congr fun r k _ _ => ?_
  show I (t.val * 512 + r) (3072 * 0 + k) = _
  rw [Nat.mul_zero, Nat.zero_add]

include hi in
theorem up6 (t : Fin cfg6.N) : Plane (iblk6 V c 2 t : Vec Ideal S1x512x3072 .bf16) (fun r k => I (t.val * 512 + r) (3072 + k)) := by
  have h : Planes (iblk6 V c 2 t : Vec Ideal S1x512x3072 .bf16) (fun q r k => I (t.val * 512 + r) (3072 * (1 + q) + k)) :=
    hi.block (win6_2.rect_emb_val t · 0) (win6_2.rect_emb_val t · 1) (win6_2.rect_emb_val t · 2) (index6 t).2.2.1.1 (index6 t).2.2.1.2.1 (index6 t).2.2.1.2.2
      fun q r k => by rw [Nat.one_mul, Nat.zero_mul, Nat.zero_add]; rfl
  exact h.single

include hi hu hx hg hy in
theorem pointIn6 (t : Fin cfg6.N) : PointIn X G U Y I t.val (iblk6 V c 0 t) (iblk6 V c 1 t) (iblk6 V c 2 t) (iblk6 V c 3 t) (iblk6 V c 4 t) (iblk6 V c 5 t) (iblk6 V c 6 t) where
  gate := gate6 V c hi t
  gateW := hu.block (win6_1.rect_emb_val t · 0) (win6_1.rect_emb_val t · 1) (index6 t).2.1.1 (index6 t).2.1.2
    fun r k => by rw [Nat.zero_mul, Nat.zero_mul, Nat.zero_add, Nat.zero_add]
  up := up6 V c hi t
  upW := hu.block (win6_3.rect_emb_val t · 0) (win6_3.rect_emb_val t · 1) (index6 t).2.2.2.1.1 (index6 t).2.2.2.1.2
    fun r k => by rw [Nat.zero_mul, Nat.one_mul, Nat.zero_add]; rfl
  rows := hx.block (win6_4.rect_emb_val t · 0) (win6_4.rect_emb_val t · 1) (index6 t).2.2.2.2.1.1 (index6 t).2.2.2.2.1.2
    fun r k => by rw [Nat.zero_mul, Nat.zero_add]; rfl
  gains := hg.block (win6_5.rect_emb_val t · 0) (win6_5.rect_emb_val t · 1) (index6 t).2.2.2.2.2.1.1 (index6 t).2.2.2.2.2.1.2
    fun r k => by rw [Nat.zero_mul, Nat.zero_mul, Nat.zero_add, Nat.zero_add]
  ct := hy.block (win6_6.rect_emb_val t · 0) (win6_6.rect_emb_val t · 1) (index6 t).2.2.2.2.2.2.1 (index6 t).2.2.2.2.2.2.2
    fun r k => by rw [Nat.zero_mul, Nat.zero_add]; rfl

/-- What a point leaves: its rows of the gradient, and the gains' gradient over the rows so far. -/
structure PointOut (X G U Y I : Mat) (n : ℕ) (o : Vec Ideal S512x1024 .f32 × Vec Ideal S512x1024 .bf16 × Vec Ideal S1x1024 .f32) : Prop where
  rows : Holds o.1 (fun r k => rowGrad X G (nt 6144 I U) Y (n * 512 + r) k)
  gains : Holds o.2.2 (gainGrad (n * 512 + 512) X (nt 6144 I U))

include hi hu hx hg hy in
theorem point_zero (t : Fin cfg6.N) (h0 : t.val % 8 = 0) : PointOut X G U Y I t.val (outsAt6 V c t.val t.isLt) := by
  have p := pointIn6 V c hi hu hx hg hy t
  have z : t.val * 512 = 0 := by have := (indexOut6 t).2.2.2; omega
  rw [outsAt6_A V c t h0]
  constructor
  · dsimp only; rw [rowsA]; exact p.rowsOut
  · dsimp only; rw [gainsA]; exact p.gainsNext (by rw [z]; exact gainsZero X _)

include hi hu hx hg hy in
theorem point_succ (t : Fin cfg6.N) (h0 : ¬t.val % 8 = 0) (i : PointOut X G U Y I (t.val - 1) (outsAt6 V c (t.val - 1) (Nat.lt_of_le_of_lt (Nat.sub_le _ _) t.isLt))) :
    PointOut X G U Y I t.val (outsAt6 V c t.val t.isLt) := by
  have p := pointIn6 V c hi hu hx hg hy t
  have z : (t.val - 1) * 512 + 512 = t.val * 512 := by omega
  have g := i.gains
  rw [z] at g
  rw [outsAt6_B V c t h0]
  constructor
  · dsimp only; rw [rowsB]; exact p.rowsOut
  · dsimp only; rw [gainsB]; exact p.gainsNext g

include hi hu hx hg hy in
theorem points (n : ℕ) : ∀ hn : n < cfg6.N, PointOut X G U Y I n (outsAt6 V c n hn) := by
  induction n with
  | zero => exact fun hn => point_zero V c hi hu hx hg hy ⟨0, hn⟩ (Nat.zero_mod 8)
  | succ n ih =>
    intro hn
    by_cases h0 : (n + 1) % 8 = 0
    · exact point_zero V c hi hu hx hg hy ⟨n + 1, hn⟩ h0
    · exact point_succ V c hi hu hx hg hy ⟨n + 1, hn⟩ h0 (ih (Nat.lt_of_succ_lt hn))

include hi hu hx hg hy in
theorem dX_arr : Holds ((dat6 V c).arrAt 7 cfg6.N : Vec Ideal S4096x1024 .f32) (rowGrad X G (nt 6144 I U) Y) := fun i => by
  refine (dat6 V c).arrAt_forall_of_covers 7 (fun i v => v = rowGrad X G (nt 6144 I U) Y (i 0).val (i 1).val) (by decide +kernel) ?_ i
  intro t _ y
  dsimp only
  rw [after6_7]
  have o := (points V c hi hu hx hg hy t.val t.isLt).rows
  generalize (outsAt6 V c t.val t.isLt).1 = B at o ⊢
  exact o.tile (f := rowGrad X G (nt 6144 I U) Y) y (win6_7.rect_emb_val t y 0) (win6_7.rect_emb_val t y 1) (indexOut6 t).1.1 (indexOut6 t).1.2
    fun r k => by rw [Nat.zero_mul, Nat.zero_add]; rfl

include hi hu hx hg hy in
theorem dG_arr : Holds ((dat6 V c).arrAt 9 cfg6.N : Vec Ideal S1x1024 .f32) (gainGrad 4096 X (nt 6144 I U)) := fun i => by
  refine (dat6 V c).arrAt_forall_of_covers 9 (fun i v => v = gainGrad 4096 X (nt 6144 I U) (i 0).val (i 1).val) (by decide +kernel) ?_ i
  intro t hf y
  have o := (points V c hi hu hx hg hy t.val t.isLt).gains
  have z : t.val * 512 + 512 = 4096 := by have := (indexOut6 t).2.2.1 hf; omega
  rw [z] at o
  dsimp only
  rw [after6_9]
  generalize (outsAt6 V c t.val t.isLt).2.2 = B at o ⊢
  exact o.tile (f := gainGrad 4096 X (nt 6144 I U)) y (win6_9.rect_emb_val t y 0) (win6_9.rect_emb_val t y 1) (indexOut6 t).2.1.1 (indexOut6 t).2.1.2
    fun r k => by rw [Nat.zero_mul, Nat.zero_mul, Nat.zero_add, Nat.zero_add]

end HalfStep
-- ==== Proof.FfnRun.lean ====
module
public import proofs.«01_k».proof.Proof.FfnForward
public import proofs.«01_k».proof.Proof.FfnBackward
public import proofs.«01_k».proof.Proof.FfnLast

/-! The half step's seven calls one after another, and what the run leaves in the result arrays. -/

@[expose] public section

set_option maxRecDepth 16384

noncomputable section

namespace HalfStep

open Idealize.ShloMosaic Idealize.ShloMosaic.ValueIdx Idealize.ShloMosaic.TcCoe Idealize.ShloMosaic.Pipeline Idealize.ShloMosaic.StableHlo Cert.Kernel2Ideal Cert.Kernel2Ideal.Gen

theorem Holds.eq {m n : ℕ} {x y : (⟨2, ![m, n]⟩ : Shape).Idx → EReal} {f : Mat} (h : Holds x f) (e : x = y) : Holds y f := e ▸ h
theorem Planes.eq {p m n : ℕ} {x y : (⟨3, ![p, m, n]⟩ : Shape).Idx → EReal} {f : ℕ → Mat} (h : Planes x f) (e : x = y) : Planes y f := e ▸ h

variable (m : (ℓ : Loc nD τ sig) → Buf (Elt Ideal) ℓ) (ρ : Dev nD → PrngReg) (c : Dev nD)

/-- The arguments hold the half step's matrices. -/
structure Args (S : Step) : Prop where
  x : Holds (m ((c : Thread nD τ).loc main_arg0) : Vec Ideal S4096x1024 .f32) S.X
  g : Holds (m ((c : Thread nD τ).loc main_arg1) : Vec Ideal S1x1024 .f32) S.G
  u : Holds (m ((c : Thread nD τ).loc main_arg2) : Vec Ideal S1024x6144 .bf16) S.U
  d : Holds (m ((c : Thread nD τ).loc main_arg3) : Vec Ideal S3072x1024 .bf16) S.D
  y : Holds (m ((c : Thread nD τ).loc main_arg4) : Vec Ideal S4096x1024 .f32) S.Y

namespace Args
variable {m c} {S : Step} (A : Args m c S)
include A

theorem hid1 : Holds (V1 m ρ c main_v0 : Vec Ideal S4096x1024 .bf16) S.hid :=
  (hid_arr (V0 m ρ) c A.x A.g).eq (hF0 m ρ c 2)
theorem u1 : Holds (V1 m ρ c main_arg2 : Vec Ideal S1024x6144 .bf16) S.U := A.u.eq (W1_args m ρ c main_arg2 (by decide)).symm
theorem pre2 : Planes (V2 m ρ c main_v1_0 : Vec Ideal S2x4096x3072 .bf16) (sides S.pre) :=
  (pre_arr (V1 m ρ) c (A.hid1 ρ) (A.u1 ρ)).eq (hF1 m ρ c 3)
theorem mid2 : Holds (V2 m ρ c main_v1_1 : Vec Ideal S4096x3072 .bf16) S.mid :=
  (mid_arr (V1 m ρ) c (A.hid1 ρ) (A.u1 ρ)).eq (hF1 m ρ c 4)
theorem hid2 : Holds (V2 m ρ c main_v0 : Vec Ideal S4096x1024 .bf16) S.hid := (A.hid1 ρ).eq (W2_of m ρ c main_v0 (by decide)).symm

theorem out3 : Holds (V3 m ρ c main_v2 : Vec Ideal S4096x1024 .f32) S.out :=
  (out_arr (V2 m ρ) c (A.mid2 ρ) (A.d.eq (W2_args m ρ c main_arg3 (by decide)).symm) (A.x.eq (W2_args m ρ c main_arg0 (by decide)).symm)).eq (hF2 m ρ c 3)

theorem ct4 : Holds (V4 m ρ c main_v3 : Vec Ideal S4096x1024 .bf16) S.Y := by
  refine A.y.eq ?_
  rw [← W3_args m ρ c main_arg4 (by decide)]
  rfl
theorem pre4 : Planes (V4 m ρ c main_v1_0 : Vec Ideal S2x4096x3072 .bf16) (sides S.pre) :=
  (A.pre2 ρ).eq ((W4_of m ρ c main_v1_0 (by decide)).trans (W3_of m ρ c main_v1_0 (by decide))).symm
theorem mid4 : Holds (V4 m ρ c main_v1_1 : Vec Ideal S4096x3072 .bf16) S.mid :=
  (A.mid2 ρ).eq ((W4_of m ρ c main_v1_1 (by decide)).trans (W3_of m ρ c main_v1_1 (by decide))).symm
theorem hid4 : Holds (V4 m ρ c main_v0 : Vec Ideal S4096x1024 .bf16) S.hid :=
  (A.hid2 ρ).eq ((W4_of m ρ c main_v0 (by decide)).trans (W3_of m ρ c main_v0 (by decide))).symm
theorem out4 : Holds (V4 m ρ c main_v2 : Vec Ideal S4096x1024 .f32) S.out := (A.out3 ρ).eq (W4_of m ρ c main_v2 (by decide)).symm

theorem inGrad5 : Planes (V5 m ρ c main_v4 : Vec Ideal S2x4096x3072 .bf16) (sides S.inGrad) :=
  (inGrad_arr (V4 m ρ) c (A.ct4 ρ) (A.d.eq (W4_args m ρ c main_arg3 (by decide)).symm) (A.pre4 ρ)).eq (hF3 m ρ c 3)
theorem dD6 : Holds (V6 m ρ c main_v5 : Vec Ideal S3072x1024 .bf16) S.dD :=
  (dD_arr (V5 m ρ) c ((A.mid4 ρ).eq (W5_of m ρ c main_v1_1 (by decide)).symm) ((A.ct4 ρ).eq (W5_of m ρ c main_v3 (by decide)).symm)).eq (hF4 m ρ c 2)
theorem inGrad6 : Planes (V6 m ρ c main_v4 : Vec Ideal S2x4096x3072 .bf16) (sides S.inGrad) := (A.inGrad5 ρ).eq (W6_of m ρ c main_v4 (by decide)).symm
theorem hid6 : Holds (V6 m ρ c main_v0 : Vec Ideal S4096x1024 .bf16) S.hid :=
  (A.hid4 ρ).eq ((W6_of m ρ c main_v0 (by decide)).trans (W5_of m ρ c main_v0 (by decide))).symm
theorem dU7 : Holds (V7 m ρ c main_v6 : Vec Ideal S1024x6144 .bf16) S.dU :=
  (dU_arr (V6 m ρ) c (A.hid6 ρ) (A.inGrad6 ρ)).eq (hF5 m ρ c 2)
theorem inGrad7 : Planes (V7 m ρ c main_v4 : Vec Ideal S2x4096x3072 .bf16) (sides S.inGrad) := (A.inGrad6 ρ).eq (W7_of m ρ c main_v4 (by decide)).symm

theorem out8 : Holds (V8 m ρ c main_v2 : Vec Ideal S4096x1024 .f32) S.out :=
  (A.out4 ρ).eq ((W8_of m ρ c main_v2 (by decide)).trans ((W7_of m ρ c main_v2 (by decide)).trans ((W6_of m ρ c main_v2 (by decide)).trans (W5_of m ρ c main_v2 (by decide))))).symm
theorem dD8 : Holds (V8 m ρ c main_v5 : Vec Ideal S3072x1024 .bf16) S.dD :=
  (A.dD6 ρ).eq ((W8_of m ρ c main_v5 (by decide)).trans (W7_of m ρ c main_v5 (by decide))).symm
theorem dU8 : Holds (V8 m ρ c main_v6 : Vec Ideal S1024x6144 .bf16) S.dU := (A.dU7 ρ).eq (W8_of m ρ c main_v6 (by decide)).symm
theorem dX8 : Holds (V8 m ρ c main_v7_0 : Vec Ideal S4096x1024 .f32) S.dX :=
  (dX_arr (V7 m ρ) c (A.inGrad7 ρ) (A.u.eq (W7_args m ρ c main_arg2 (by decide)).symm) (A.x.eq (W7_args m ρ c main_arg0 (by decide)).symm)
    (A.g.eq (W7_args m ρ c main_arg1 (by decide)).symm) (A.y.eq (W7_args m ρ c main_arg4 (by decide)).symm)).eq (hF6 m ρ c 7)
theorem dG8 : Holds (V8 m ρ c main_v7_2 : Vec Ideal S1x1024 .f32) S.dG :=
  (dG_arr (V7 m ρ) c (A.inGrad7 ρ) (A.u.eq (W7_args m ρ c main_arg2 (by decide)).symm) (A.x.eq (W7_args m ρ c main_arg0 (by decide)).symm)
    (A.g.eq (W7_args m ρ c main_arg1 (by decide)).symm) (A.y.eq (W7_args m ρ c main_arg4 (by decide)).symm)).eq (hF6 m ρ c 9)
end Args

end HalfStep
-- ==== Proof.FfnRef.lean ====
module
public import proofs.«01_k».proof.Proof.Gen.Reference2Ideal.Read
public import proofs.«01_k».proof.Proof.FfnOps

/-! What the half step's reference computes: the matrices of `Step`. -/

@[expose] public section

noncomputable section

namespace HalfStep

open Idealize.ShloMosaic Idealize.ShloMosaic.ValueIdx Cert.Reference2Ideal Cert.Reference2Ideal.Gen Cert.Reference2Ideal.Read
open Finset

/-- The reference's arguments hold the half step's matrices. -/
structure Given (x0 : (⟨S4096x1024, .f32⟩ : BufTy).Contents (Elt Ideal)) (x1 : (⟨S1x1024, .f32⟩ : BufTy).Contents (Elt Ideal))
    (x2 : (⟨S1024x6144, .bf16⟩ : BufTy).Contents (Elt Ideal)) (x3 : (⟨S3072x1024, .bf16⟩ : BufTy).Contents (Elt Ideal))
    (x4 : (⟨S4096x1024, .f32⟩ : BufTy).Contents (Elt Ideal)) (S : Step) : Prop where
  x : Holds x0 S.X
  g : Holds x1 S.G
  u : Holds x2 S.U
  d : Holds x3 S.D
  y : Holds x4 S.Y

/-- A sum of products of entries held by two matrices. -/
theorem sum_mul_held {n : ℕ} {a b : Fin n → EReal} (f g : ℕ → EReal) (ha : ∀ k, a k = f k) (hb : ∀ k, b k = g k) :
    ∑ k, a k * b k = ∑ k ∈ range n, f k * g k := by
  rw [← sum_fin]
  exact sum_congr rfl fun k _ => by rw [ha, hb]

/-- A printed sum starts from nought. -/
theorem nought_add (a : EReal) : Ideal.ofBits .f32 0x00000000#32 + a = a := by rw [Ideal.ofBits_zero_f32, zero_add]

/-- The logistic function as the reference spells it. -/
theorem logistic_spelt (p : EReal) : Ideal.div unit (unit + Ideal.exp (-p)) = Ideal.logistic p := by
  rw [unit_eq]; rfl

/-- Two arrays side by side. -/
theorem joined {m n : ℕ} {x y : (⟨2, ![m, n]⟩ : Shape).Idx → EReal} {f g : Mat} (hx : Holds x f) (hy : Holds y g)
    (h : Shape.Concatenates [(⟨2, ![m, n]⟩ : Shape), ⟨2, ![m, n]⟩] ⟨2, ![m, n + n]⟩ 1) :
    Holds (concatenate ⟨2, ![m, n + n]⟩ 1 [⟨⟨2, ![m, n]⟩, x⟩, ⟨⟨2, ![m, n]⟩, y⟩] h) (fun r c => if c < n then f r c else g r (c - n)) := .of fun r c => by
  by_cases hc : c.val < n
  · rw [concatenate_pair_apply_left _ _ _ h (ix2 r c) rfl (ix2 r ⟨c.val, hc⟩) (fun b => match b with | ⟨0, _⟩ => rfl | ⟨1, _⟩ => rfl)]
    exact (hx.at r ⟨c.val, hc⟩).trans (if_pos hc).symm
  · have hd : c.val - n < n := by have := c.isLt; omega
    rw [concatenate_pair_apply_right _ _ _ h (ix2 r c) rfl rfl (ix2 r ⟨c.val - n, hd⟩)
      (fun b hb => match b, hb with | ⟨0, _⟩, _ => rfl | ⟨1, _⟩, hb => absurd rfl hb) (by show c.val - n + n = c.val; omega)]
    exact (hy.at r ⟨c.val - n, hd⟩).trans (if_neg hc).symm

namespace Given
variable {x0 : (⟨S4096x1024, .f32⟩ : BufTy).Contents (Elt Ideal)} {x1 : (⟨S1x1024, .f32⟩ : BufTy).Contents (Elt Ideal)}
  {x2 : (⟨S1024x6144, .bf16⟩ : BufTy).Contents (Elt Ideal)} {x3 : (⟨S3072x1024, .bf16⟩ : BufTy).Contents (Elt Ideal)}
  {x4 : (⟨S4096x1024, .f32⟩ : BufTy).Contents (Elt Ideal)} {S : Step} (H : Given x0 x1 x2 x3 x4 S)
include H

theorem down1 : Holds (val_main_v1 (F := Ideal) x3) S.D := H.d

/-! ## The norm -/

theorem meanSq8 (i : S4096x1.Idx) : val_main_v8 (F := Ideal) x0 i = meanSq S.X (i 0).val := by
  rw [val_main_v8_apply, val_main_v6_apply, val_main_v4_apply, val_main_v3_apply, val_main_v5_apply, val_main_v7_apply]
  show Ideal.div (Ideal.ofBits .f32 0x00000000#32 + ∑ k : Fin 1024, x0 (idx_main_v3 (idx_main_v4 i) k) * x0 (idx_main_v3 (idx_main_v4 i) k)) width + eps = _
  rw [nought_add, sum_mul_held (S.X (i 0).val) (S.X (i 0).val) (fun k => H.x.get _ rfl rfl) (fun k => H.x.get _ rfl rfl)]
  rfl

theorem inv9 (i : S4096x1.Idx) : val_main_v9 (F := Ideal) x0 i = inv S.X (i 0).val := by
  rw [val_main_v9_apply, H.meanSq8]; rfl

theorem slope12 (i : S4096x1.Idx) : val_main_v12 (F := Ideal) x0 i = slope S.X (i 0).val := by
  rw [val_main_v12_apply, val_main_v10_apply, val_main_v11_apply, H.meanSq8, H.inv9]; rfl

theorem normed14 : Holds (val_main_v14 (F := Ideal) x0) (normed S.X) := fun i => by
  rw [val_main_v14_apply, val_main_v13_apply, H.inv9, H.x i]; rfl

theorem hid16 : Holds (val_main_v16 (F := Ideal) x0 x1) S.hid := fun i => by
  rw [val_main_v16_apply, val_main_v15_apply, H.normed14 i, H.g.get (idx_main_v15 i) rfl rfl]; rfl

/-! ## The layer -/

theorem pre17 : Holds (val_main_v17 (F := Ideal) x0 x1 x2) S.pre := fun i => by
  rw [val_main_v17_apply]
  exact sum_mul_held (S.hid (i 0).val) (fun k => S.U k (i 1).val) (fun k => H.hid16.get _ rfl rfl) (fun k => H.u.get _ rfl rfl)

theorem gate18 : Holds (val_main_v18 (F := Ideal) x0 x1 x2) S.pre := fun i => by
  rw [val_main_v18_apply]; exact H.pre17.get _ rfl rfl

theorem up19 : Holds (val_main_v19 (F := Ideal) x0 x1 x2) (fun r c => S.pre r (3072 + c)) := fun i => by
  rw [val_main_v19_apply]; exact H.pre17.get _ rfl rfl

theorem sig20 : Holds (val_main_v20_2 (F := Ideal) x0 x1 x2) (fun r c => Ideal.logistic (S.pre r c)) := fun i => by
  rw [val_main_v20_2_apply, val_main_call0_v3_apply, val_main_call0_v4_apply, val_main_call0_v2_apply, val_main_call0_v1_apply,
    val_main_call0_v0_apply, H.gate18 i]
  exact logistic_spelt _

theorem dsig20 : Holds (val_main_v20_1 (F := Ideal) x0 x1 x2)
    (fun r c => Ideal.logistic (S.pre r c) * (unit - Ideal.logistic (S.pre r c))) := fun i => by
  rw [val_main_v20_1_apply, val_main_call0_v7_apply, val_main_call0_v6_apply, H.sig20 i]; rfl

theorem silu20 : Holds (val_main_v20_0 (F := Ideal) x0 x1 x2) (fun r c => S.pre r c * Ideal.logistic (S.pre r c)) := fun i => by
  rw [val_main_v20_0_apply, H.sig20 i, H.gate18 i]; rfl

theorem mid21 : Holds (val_main_v21 (F := Ideal) x0 x1 x2) S.mid := fun i => by
  rw [val_main_v21_apply, H.silu20 i, H.up19 i]; rfl

theorem out25 : Holds (val_main_v25 (F := Ideal) x0 x1 x2 x3) S.out := fun i => by
  rw [val_main_v25_apply, val_main_v24_apply, val_main_v23_apply, val_main_v22_apply, H.x i,
    sum_mul_held (S.mid (i 0).val) (fun k => S.D k (i 1).val) (fun k => H.mid21.get _ rfl rfl) (fun k => H.down1.get _ rfl rfl)]
  show S.X (i 0).val (i 1).val + half * nn 3072 S.mid S.D (i 0).val (i 1).val = _
  rw [add_comm, mul_comm]; rfl

/-! ## The gradients -/

theorem half28 : Holds (val_main_v28 (F := Ideal) x4) (fun r c => half * S.Y r c) := fun i => by
  have h0 : (i 0).val < 4096 := (i 0).isLt
  have h1 : (i 1).val < 1024 := (i 1).isLt
  rw [val_main_v28_apply, val_main_v27_apply, val_main_v26_apply,
    H.y.get (idx_main_v26 i) (a := (i 0).val) (b := (i 1).val)
      (by show ((i 0).val * 1024 + (i 1).val) / 1024 = _; omega) (by show ((i 0).val * 1024 + (i 1).val) % 1024 = _; omega)]
  rfl

theorem dD60 : Holds (val_main_v60 (F := Ideal) x0 x1 x2 x4) S.dD := fun i => by
  rw [val_main_v60_apply, val_main_v30_apply, val_main_v29_apply,
    sum_mul_held (fun k => half * S.Y k (i 1).val) (fun k => S.mid k (i 0).val) (fun k => H.half28.get _ rfl rfl) (fun k => H.mid21.get _ rfl rfl)]
  show ∑ k ∈ range 4096, half * S.Y k (i 1).val * S.mid k (i 0).val = (∑ k ∈ range 4096, S.mid k (i 0).val * S.Y k (i 1).val) * half
  rw [mul_comm, half_mul_sum]
  exact sum_congr rfl fun k _ => by rw [mul_assoc, mul_comm (S.Y k _)]

theorem mid31 : Holds (val_main_v31 (F := Ideal) x3 x4) S.midGrad := fun i => by
  rw [val_main_v31_apply,
    sum_mul_held (fun k => half * S.Y (i 0).val k) (fun k => S.D (i 1).val k) (fun k => H.half28.get _ rfl rfl) (fun k => H.down1.get _ rfl rfl)]
  show _ = (∑ k ∈ range 1024, S.Y (i 0).val k * S.D (i 1).val k) * half
  rw [mul_comm, half_mul_sum]
  exact sum_congr rfl fun k _ => by rw [mul_assoc]

theorem up32 : Holds (val_main_v32 (F := Ideal) x0 x1 x2 x3 x4) (upGrad S.pre S.midGrad) := fun i => by
  rw [val_main_v32_apply, H.silu20 i, H.mid31 i]; rfl

theorem gate34 : Holds (val_main_v34 (F := Ideal) x0 x1 x2 x3 x4) (gateGrad S.pre S.midGrad) := fun i => by
  rw [val_main_v34_apply, val_main_call1_v2_apply, val_main_call1_v1_apply, val_main_call1_v0_apply, val_main_v33_apply,
    H.sig20 i, H.dsig20 i, H.gate18 i, H.mid31 i, H.up19 i]
  rfl

theorem in35 : Holds (val_main_v35 (F := Ideal) x0 x1 x2 x3 x4) S.inGrad :=
  joined (m := 4096) (n := 3072) H.gate34 H.up32 concatenates_S4096x3072_S4096x3072_S4096x6144_d1

theorem dU59 : Holds (val_main_v59 (F := Ideal) x0 x1 x2 x3 x4) S.dU := fun i => by
  rw [val_main_v59_apply, val_main_v37_apply, val_main_v36_apply,
    sum_mul_held (fun k => S.inGrad k (i 1).val) (fun k => S.hid k (i 0).val) (fun k => H.in35.get _ rfl rfl) (fun k => H.hid16.get _ rfl rfl)]
  exact sum_congr rfl fun k _ => mul_comm _ _

theorem hid38 : Holds (val_main_v38 (F := Ideal) x0 x1 x2 x3 x4) S.hidGrad := fun i => by
  rw [val_main_v38_apply]
  exact sum_mul_held (S.inGrad (i 0).val) (S.U (i 1).val) (fun k => H.in35.get _ rfl rfl) (fun k => H.u.get _ rfl rfl)

theorem dG41 : Holds (val_main_v41 (F := Ideal) x0 x1 x2 x3 x4) S.dG := fun i => by
  have h0 : (i 0).val < 1 := (i 0).isLt
  have h1 : (i 1).val < 1024 := (i 1).isLt
  rw [val_main_v41_apply, val_main_v40_apply]
  show Ideal.ofBits .f32 0x00000000#32 + ∑ k : Fin 4096, val_main_v39 (F := Ideal) x0 x1 x2 x3 x4 (idx_main_v40 (idx_main_v41 i) k)
    = ∑ k ∈ range 4096, normed S.X k (i 1).val * S.hidGrad k (i 1).val
  rw [nought_add, ← sum_fin]
  refine sum_congr rfl fun k _ => ?_
  have e : (idx_main_v40 (idx_main_v41 i) k 1).val = (i 1).val := by
    show (i 0).val * 1024 + (i 1).val = (i 1).val; omega
  rw [val_main_v39_apply, H.normed14.get _ rfl e, H.hid38.get _ rfl e]
  rfl

theorem scaled43 : Holds (val_main_v43 (F := Ideal) x0 x1 x2 x3 x4) (scaled S.G S.hidGrad) := fun i => by
  rw [val_main_v43_apply, val_main_v42_apply, H.hid38 i, H.g.get (idx_main_v42 i) rfl rfl]; rfl

theorem mean52 (i : S4096x1.Idx) : val_main_v52 (F := Ideal) x0 x1 x2 x3 x4 i = meanPart S.X S.G S.hidGrad (i 0).val := by
  have h0 : (i 0).val < 4096 := (i 0).isLt
  have h1 : (i 1).val < 1 := (i 1).isLt
  have e : (idx_main_v46 i 0).val = (i 0).val := by show (i 0).val * 1 + (i 1).val = (i 0).val; omega
  have h : ∀ k : Fin 1024, val_main_v44 (F := Ideal) x0 x1 x2 x3 x4 (idx_main_v45 (idx_main_v46 i) k)
      = S.X (i 0).val k * scaled S.G S.hidGrad (i 0).val k := fun k => by
    rw [val_main_v44_apply, H.x.get (idx_main_v45 (idx_main_v46 i) k) e rfl, H.scaled43.get (idx_main_v45 (idx_main_v46 i) k) e rfl]
    rfl
  rw [val_main_v52_apply, val_main_v50_apply, val_main_v51_apply, val_main_v46_apply, val_main_v45_apply, H.slope12]
  show Ideal.div ((Ideal.ofBits .f32 0x00000000#32 + ∑ k : Fin 1024, _) * slope S.X (i 0).val) width = _
  rw [nought_add, sum_congr rfl (fun k _ => h k), sum_fin 1024 (fun k => S.X (i 0).val k * scaled S.G S.hidGrad (i 0).val k)]
  rfl

theorem mean54 : Holds (val_main_v54 (F := Ideal) x0 x1 x2 x3 x4) (fun r _ => meanPart S.X S.G S.hidGrad r) := fun i => by
  rw [val_main_v54_apply, val_main_v53_apply, Fin.sum_univ_one, H.mean52]
  exact nought_add _

theorem dX58 : Holds (val_main_v58 (F := Ideal) x0 x1 x2 x3 x4) S.dX := fun i => by
  rw [val_main_v58_apply, val_main_v57_apply, val_main_v56_apply, val_main_v55_apply, val_main_v49_apply, val_main_v48_apply,
    val_main_v47_apply, H.inv9, H.mean54 i, H.scaled43 i, H.x i, H.y i]
  exact (congrArg (· + _) (add_assoc _ _ _)).trans (add_assoc _ _ _)

end Given

end HalfStep
-- ==== Proof.FfnEqual.lean ====
module
public import proofs.«01_k».proof.Proof.FfnRun
public import proofs.«01_k».proof.Proof.FfnRef

/-! The half step's calls and its reference compute the same arrays from the same arguments. -/

@[expose] public section

noncomputable section

namespace HalfStep

open Idealize.ShloMosaic Idealize.ShloMosaic.TcCoe Idealize.ShloMosaic.ValueIdx Cert.Kernel2Ideal Cert.Kernel2Ideal.Gen Cert.Reference2Ideal.Read

/-- The matrix an array holds, nought outside it. -/
def matOf {m n : ℕ} (x : (⟨2, ![m, n]⟩ : Shape).Idx → EReal) : Mat := fun r c =>
  if h : r < m ∧ c < n then x (ix2 ⟨r, h.1⟩ ⟨c, h.2⟩) else 0

theorem holds_matOf {m n : ℕ} (x : (⟨2, ![m, n]⟩ : Shape).Idx → EReal) : Holds x (matOf x) := .of fun r c => by
  rw [matOf, dif_pos ⟨r.isLt, c.isLt⟩]

/-- Arrays that hold the same matrix are equal. -/
theorem Holds.unique {m n : ℕ} {x y : (⟨2, ![m, n]⟩ : Shape).Idx → EReal} {f : Mat} (hx : Holds x f) (hy : Holds y f) : x = y :=
  funext fun i => (hx i).trans (hy i).symm

variable (m : (ℓ : Loc nD τ sig) → Buf (Elt Ideal) ℓ) (ρ : Dev nD → PrngReg) (c : Dev nD)

/-- The half step of a device's arguments. -/
def stepOf : Step :=
  ⟨matOf (m ((c : Thread nD τ).loc main_arg0) : Vec Ideal S4096x1024 .f32), matOf (m ((c : Thread nD τ).loc main_arg1) : Vec Ideal S1x1024 .f32),
    matOf (m ((c : Thread nD τ).loc main_arg2) : Vec Ideal S1024x6144 .bf16), matOf (m ((c : Thread nD τ).loc main_arg3) : Vec Ideal S3072x1024 .bf16),
    matOf (m ((c : Thread nD τ).loc main_arg4) : Vec Ideal S4096x1024 .f32)⟩

theorem args : Args m c (stepOf m c) :=
  ⟨holds_matOf _, holds_matOf _, holds_matOf _, holds_matOf _, holds_matOf _⟩

theorem given : Given (m ((c : Thread nD τ).loc main_arg0)) (m ((c : Thread nD τ).loc main_arg1)) (m ((c : Thread nD τ).loc main_arg2))
    (m ((c : Thread nD τ).loc main_arg3)) (m ((c : Thread nD τ).loc main_arg4)) (stepOf m c) :=
  ⟨(args m c).x, (args m c).g, (args m c).u, (args m c).d, (args m c).y⟩

theorem out_eq : val_main_v25 (F := Ideal) (m ((c : Thread nD τ).loc main_arg0)) (m ((c : Thread nD τ).loc main_arg1))
    (m ((c : Thread nD τ).loc main_arg2)) (m ((c : Thread nD τ).loc main_arg3)) = V8 m ρ c main_v2 :=
  (given m c).out25.unique ((args m c).out8 ρ)
theorem dX_eq : val_main_v58 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) = V8 m ρ c main_v7_0 :=
  (given m c).dX58.unique ((args m c).dX8 ρ)
theorem dG_eq : val_main_v41 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) = V8 m ρ c main_v7_2 :=
  (given m c).dG41.unique ((args m c).dG8 ρ)
theorem dU_eq : val_main_v59 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) = V8 m ρ c main_v6 :=
  (given m c).dU59.unique ((args m c).dU8 ρ)
theorem dD_eq : val_main_v60 (F := Ideal) (m ((c : Thread nD τ).loc main_arg0)) (m ((c : Thread nD τ).loc main_arg1))
    (m ((c : Thread nD τ).loc main_arg2)) (m ((c : Thread nD τ).loc main_arg4)) = V8 m ρ c main_v5 :=
  (given m c).dD60.unique ((args m c).dD8 ρ)

end HalfStep
-- ==== Proof.FoxHead.lean ====
module
public import proofs.«01_k».proof.Proof.Head

/-! The gradient of one head of forgetting attention, over the real numbers.

Rows `t` (queries) and `s` (keys) are natural numbers; only those below 4096 matter. -/

@[expose] public section

noncomputable section

namespace Forgetting

open Finset StickBreaking

/-- The arrays of one head: queries, keys, values, the gradient that arrives, the running sums of the log forget gates; and
for each query the logarithm of its weights' normaliser and the product of its output with the gradient. -/
structure Head where
  q : ℕ → ℕ → ℝ
  k : ℕ → ℕ → ℝ
  v : ℕ → ℕ → ℝ
  g : ℕ → ℕ → ℝ
  c : ℕ → ℝ
  ls : ℕ → ℝ
  dl : ℕ → ℝ

namespace Head

variable (h : Head)

/-- The logit of query `t` on key `s`. -/
def z (t s : ℕ) : ℝ := (∑ d ∈ range 128, h.q t d * sc * h.k s d) + (h.c t - h.c s)
/-- The attention weight, on keys up to the query. -/
def w (t s : ℕ) : ℝ := if s ≤ t then Real.exp (h.z t s - h.ls t) else 0
/-- The gradient of the logit. -/
def ds (t s : ℕ) : ℝ := h.w t s * ((∑ d ∈ range 128, h.g t d * h.v s d) - h.dl t)
/-- The query gradient before its scale, over the first `n` keys. -/
def dq (n t d : ℕ) : ℝ := ∑ s ∈ range n, h.ds t s * h.k s d
/-- The logits' gradients of a query, over the first `n` keys. -/
def rs (n t : ℕ) : ℝ := ∑ s ∈ range n, h.ds t s
/-- The key gradient over the first `n` queries. -/
def dk (n s d : ℕ) : ℝ := ∑ t ∈ range n, h.ds t s * (h.q t d * sc)
/-- The value gradient over the first `n` queries. -/
def dv (n s d : ℕ) : ℝ := ∑ t ∈ range n, h.w t s * h.g t d
/-- The logits' gradients of a key, over the first `n` queries. -/
def cs (n s : ℕ) : ℝ := ∑ t ∈ range n, h.ds t s
/-- The gradient of the running sums: the rows of the first `m` queries in, the columns over the first `n` queries out. -/
def dc (m n s : ℕ) : ℝ := (if s < m then h.rs 4096 s else 0) - h.cs n s

theorem w_zero {t s : ℕ} (H : t < s) : h.w t s = 0 := if_neg (by omega)
theorem ds_zero {t s : ℕ} (H : t < s) : h.ds t s = 0 := by rw [ds, h.w_zero H, zero_mul]

theorem dq_add (j0 n t d : ℕ) : h.dq (j0 + n) t d = h.dq j0 t d + ∑ c ∈ range n, h.ds t (j0 + c) * h.k (j0 + c) d :=
  sum_range_add _ _ _
theorem rs_add (j0 n t : ℕ) : h.rs (j0 + n) t = h.rs j0 t + ∑ c ∈ range n, h.ds t (j0 + c) := sum_range_add _ _ _

/-- Keys after the query give nothing. -/
theorem rs_stop (t n m : ℕ) (h1 : t < n) (h2 : n ≤ m) : h.rs m t = h.rs n t := by
  obtain ⟨k, rfl⟩ := Nat.exists_eq_add_of_le h2
  rw [rs_add, sum_eq_zero, add_zero]
  intro c _
  exact h.ds_zero (by omega)
theorem dq_stop (t n m d : ℕ) (h1 : t < n) (h2 : n ≤ m) : h.dq m t d = h.dq n t d := by
  obtain ⟨k, rfl⟩ := Nat.exists_eq_add_of_le h2
  rw [dq_add, sum_eq_zero, add_zero]
  intro c _
  rw [h.ds_zero (by omega), zero_mul]

/-- Four runs of 128 rows, added in turn. -/
theorem four (f : ℕ → ℝ) (n : ℕ) :
    ∑ t ∈ range (n + 512), f t = ∑ t ∈ range n, f t + ((((0 + ∑ r ∈ range 128, f (n + r)) + ∑ r ∈ range 128, f (n + 128 + r))
      + ∑ r ∈ range 128, f (n + 256 + r)) + ∑ r ∈ range 128, f (n + 384 + r)) := by
  rw [show n + 512 = n + 128 + 128 + 128 + 128 by omega, sum_range_add, sum_range_add, sum_range_add, sum_range_add]
  ring

/-- The same where the first two give nothing. -/
theorem two (f : ℕ → ℝ) (n : ℕ) (h0 : ∀ t, t < n + 256 → f t = 0) :
    ∑ t ∈ range (n + 512), f t = ∑ t ∈ range n, f t + ((0 + ∑ r ∈ range 128, f (n + 256 + r)) + ∑ r ∈ range 128, f (n + 384 + r)) := by
  rw [four, sum_eq_zero (fun r hr => h0 (n + r) (by have := mem_range.1 hr; omega)),
    sum_eq_zero (s := range 128) (f := fun r => f (n + 128 + r)) (fun r hr => h0 (n + 128 + r) (by have := mem_range.1 hr; omega))]
  ring

theorem dk_none (n s d : ℕ) (H : n ≤ s) : h.dk n s d = 0 :=
  sum_eq_zero fun t ht => by rw [h.ds_zero (by have := mem_range.1 ht; omega), zero_mul]
theorem dv_none (n s d : ℕ) (H : n ≤ s) : h.dv n s d = 0 :=
  sum_eq_zero fun t ht => by rw [h.w_zero (by have := mem_range.1 ht; omega), zero_mul]
theorem cs_none (n s : ℕ) (H : n ≤ s) : h.cs n s = 0 :=
  sum_eq_zero fun t ht => h.ds_zero (by have := mem_range.1 ht; omega)

end Head

end Forgetting
-- ==== Proof.FoxSoft.lean ====
module
public import proofs.«01_k».proof.Proof.FoxHead
public import proofs.«01_k».proof.Proof.Ref

/-! The softmax of one head: its largest logits, its normalisers, and the head with both filled in. -/

@[expose] public section

noncomputable section

namespace Forgetting

open Idealize.ShloMosaic Idealize.ShloMosaic.ValueIdx
open Finset
open StickBreaking (On)

namespace Head

variable (h : Head)

/-- A query's largest logit over the keys up to it. -/
def top (t : ℕ) : ℝ := (range (t + 1)).sup' nonempty_range_add_one (h.z t)
/-- The weight before it is normalised. -/
def u (t s : ℕ) : ℝ := if s ≤ t then Real.exp (h.z t s - h.top t) else 0
/-- The weights' normaliser. -/
def norm (t : ℕ) : ℝ := ∑ s ∈ range 4096, h.u t s
/-- The head with its normalisers and outputs filled in. -/
def full : Head :=
  { h with ls := fun t => h.top t + Real.log (h.norm t), dl := fun t => ∑ d ∈ range 128, h.g t d * ∑ s ∈ range 4096, (h.u t s / h.norm t) * h.v s d }

theorem u_nonneg (t s : ℕ) : 0 ≤ h.u t s := by
  unfold u
  split_ifs
  · exact (Real.exp_pos _).le
  · exact le_rfl

theorem norm_pos (t : ℕ) : 0 < h.norm t := by
  refine sum_pos' (fun s _ => h.u_nonneg t s) ⟨0, mem_range.2 (by omega), ?_⟩
  unfold u
  rw [if_pos (Nat.zero_le t)]
  exact Real.exp_pos _

/-- The weights are the normalised ones. -/
theorem full_w (t s : ℕ) : h.full.w t s = h.u t s / h.norm t := by
  show (if s ≤ t then Real.exp (h.z t s - (h.top t + Real.log (h.norm t))) else 0) = _
  unfold u
  split_ifs
  · rw [← sub_sub, Real.exp_sub, Real.exp_log (h.norm_pos t)]
  · rw [zero_div]

/-- A query's product of its output with the gradient is its weights' products with the gradient on the values. -/
theorem full_dl (t : ℕ) : h.full.dl t = ∑ s ∈ range 4096, h.u t s / h.norm t * ∑ d ∈ range 128, h.g t d * h.v s d := by
  show (∑ d ∈ range 128, h.g t d * ∑ s ∈ range 4096, (h.u t s / h.norm t) * h.v s d) = _
  simp only [mul_sum]
  rw [sum_comm]
  exact sum_congr rfl fun s _ => sum_congr rfl fun d _ => by ring

end Head

section
variable {s : Shape} {x y : FVec Ideal s .f32} {f g : s.Idx → ℝ}

theorem On.div (hx : On x f) (hy : On y g) (hg : ∀ i, g i ≠ 0) : On (Host.divf x y) (fun i => f i / g i) := fun i => by
  show Ideal.div (x i) (y i) = _
  rw [hx, hy]
  unfold Ideal.div
  rw [if_neg (by exact_mod_cast hg i), ← EReal.coe_inv, ← EReal.coe_mul]
  exact congrArg _ (div_eq_mul_inv _ _).symm

theorem On.log (hx : On x f) (hf : ∀ i, 0 < f i) : On (Host.log x) (fun i => Real.log (f i)) := fun i => by
  show Ideal.log (x i) = _
  rw [hx]
  exact if_neg (not_le.2 (hf i))

end

/-- The largest of a row's logits where the keys after the query hold minus infinity. -/
theorem fold_top (f : ℕ → ℝ) (t : ℕ) (ht : t < 4096) (x : Fin 4096 → EReal) (hx : ∀ k : Fin 4096, x k = if k.val ≤ t then ((f k.val : ℝ) : EReal) else ⊥) :
    (univ : Finset (Fin 4096)).fold max ⊥ x = (((range (t + 1)).sup' nonempty_range_add_one f : ℝ) : EReal) := by
  refine le_antisymm ((fold_max_le _).2 ⟨bot_le, fun k _ => ?_⟩) ((le_fold_max _).2 (Or.inr ?_))
  · rw [hx]
    split_ifs with h
    · exact EReal.coe_le_coe_iff.2 (le_sup' f (mem_range.2 (by omega)))
    · exact bot_le
  · obtain ⟨k, hk, e⟩ := exists_mem_eq_sup' (nonempty_range_add_one (n := t)) f
    have hk' := mem_range.1 hk
    refine ⟨⟨k, by omega⟩, mem_univ _, ?_⟩
    rw [hx, if_pos (by show k ≤ t; omega), e]

/-- A sum that starts from zero. -/
theorem zero_add_sum {n : ℕ} {z : EReal} (hz : z = 0) {a : Fin n → EReal} (f : ℕ → ℝ) (ha : ∀ k, a k = ((f k : ℝ) : EReal)) :
    z + ∑ k, a k = ((∑ k ∈ range n, f k : ℝ) : EReal) := by
  rw [hz, zero_add, ← StickBreaking.sum_real]
  exact sum_congr rfl fun k _ => ha k

end Forgetting
-- ==== Proof.FoxTile.lean ====
module
public import proofs.«01_k».proof.Proof.Gen.Kernel3Ideal.Skeleton
public import proofs.«01_k».proof.Proof.Tile
public import proofs.«01_k».proof.Proof.FoxHead

/-! The forgetting attention's backward call, tile by tile: 128 queries from row `t0` on against 256 keys from row `j0` on.

The kernel's operations on a tile, one definition per value of the body; then what each holds when its operands hold a
head's numbers. -/

@[expose] public section

noncomputable section

namespace Forgetting

open Idealize.ShloMosaic Idealize.ShloMosaic.ValueIdx Cert.Kernel3Ideal Cert.Kernel3Ideal.Gen
open Finset StickBreaking

/-- A tile of weights or gradients. -/
abbrev T := FVec Ideal S128x256 .f32
abbrev R128 := FVec Ideal S128x128 .bf16
abbrev R256 := FVec Ideal S256x128 .bf16
/-- One number per query. -/
abbrev Col := FVec Ideal S128x1 .f32
/-- One number per key. -/
abbrev Row := FVec Ideal S1x256 .f32
abbrev Q := FVec Ideal S128x128 .f32
abbrev K := FVec Ideal S256x128 .f32

/-- What a sub-block of 128 queries brings: scaled queries, arriving gradient, running sums, log normalisers, and products
of output and gradient. -/
structure Sub where
  q : R128
  g : R128
  c : Col
  ls : Col
  dl : Col

/-- The weights before any mask. -/
def wT (s : Sub) (k : R256) (row : Row) : T :=
  exp (subf (addf (matmul dot_S128x128_S256x128_S128x256_1_1_0_0_n_n none s.q k (constant S128x256 .f32 0x00000000#32))
      (subf (broadcastTo S128x256 s.c broadcasts_S128x1_S128x256)
        (broadcastTo S128x256 (shapeCast S1x256 row shapeCasts_S1x256_S1x256) broadcasts_S1x256_S128x256)))
    (broadcastTo S128x256 s.ls broadcasts_S128x1_S128x256))
/-- A choice against zero. -/
def selT (ok : IVec S128x256 1) (x : T) : T := select ok x (broadcast S128x256 (Scalar.ofBits (F := Ideal) .f32 0x00000000#32))
/-- The logits' gradients. -/
def dT (s : Sub) (v : R256) (w : T) : T :=
  mulf w (subf (matmul dot_S128x128_S256x128_S128x256_1_1_0_0_n_n none s.g v (constant S128x256 .f32 0x00000000#32))
    (broadcastTo S128x256 s.dl broadcasts_S128x1_S128x256))
/-- The running query gradient. -/
def dqT (dq : Q) (d : T) (k : R256) : Q :=
  addf dq (matmul dot_S128x256_S256x128_S128x128_1_0_0_1_n_n none (truncf .bf16 d bitsLt_bf16_f32) k (constant S128x128 .f32 0x00000000#32))
/-- The running row sums. -/
def rsT (rs : Col) (d : T) : Col :=
  addf rs (shapeCast S128x1 (multiReduction .add [1] S128 d 0x00000000#32 reduces_S128x256_S128 (.inl rfl) rfl) shapeCasts_S128_S128x1)
/-- What a sub-block adds to a key or value gradient. -/
def upT (d : T) (q : R128) : K :=
  matmul dot_S128x256_S128x128_S256x128_0_0_1_1_n_n none (truncf .bf16 d bitsLt_bf16_f32) q (constant S256x128 .f32 0x00000000#32)
/-- A key or value gradient's rows after four sub-blocks. -/
def up4 (old : K) (d0 d1 d2 d3 : T) (q0 q1 q2 q3 : R128) : K :=
  addf (shapeCast S256x128 old shapeCasts_S256x128_S256x128)
    (addf (addf (addf (addf (broadcast S256x128 (Scalar.ofBits .f32 0x00000000#32)) (upT d0 q0)) (upT d1 q1)) (upT d2 q2)) (upT d3 q3))
/-- The same after the last two only. -/
def up2 (old : K) (d2 d3 : T) (q2 q3 : R128) : K :=
  addf (shapeCast S256x128 old shapeCasts_S256x128_S256x128)
    (addf (addf (broadcast S256x128 (Scalar.ofBits .f32 0x00000000#32)) (upT d2 q2)) (upT d3 q3))
/-- A tile's column sums. -/
def csT (d : T) : Row :=
  shapeCast S1x256 (multiReduction .add [0] S256 d 0x00000000#32 reduces_S128x256_S256 (.inl rfl) rfl) shapeCasts_S256_S1x256
/-- The running sums' gradient after four sub-blocks' columns. -/
def dn4 (old : Row) (d0 d1 d2 d3 : T) : Row :=
  subf (shapeCast S1x256 old shapeCasts_S1x256_S1x256)
    (addf (addf (addf (addf (broadcast S1x256 (Scalar.ofBits .f32 0x00000000#32)) (csT d0)) (csT d1)) (csT d2)) (csT d3))
/-- The same after the last two only. -/
def dn2 (old : Row) (d2 d3 : T) : Row :=
  subf (shapeCast S1x256 old shapeCasts_S1x256_S1x256)
    (addf (addf (broadcast S1x256 (Scalar.ofBits .f32 0x00000000#32)) (csT d2)) (csT d3))
/-- The running sums' gradient after the rows of four sub-blocks. -/
def rowsT (r0 r1 r2 r3 : Col) (old : FVec Ideal S1x512 .f32) : FVec Ideal S1x512 .f32 :=
  addf (shapeCast S1x512 old shapeCasts_S1x512_S1x512)
    (concatenate S1x512 1 [⟨S1x128, transpose S1x128 [1, 0] r0 transposes_S128x1_p1_0_S1x128⟩, ⟨S1x128, transpose S1x128 [1, 0] r1 transposes_S128x1_p1_0_S1x128⟩,
      ⟨S1x128, transpose S1x128 [1, 0] r2 transposes_S128x1_p1_0_S1x128⟩, ⟨S1x128, transpose S1x128 [1, 0] r3 transposes_S128x1_p1_0_S1x128⟩]
      concatenates_S1x128_S1x128_S1x128_S1x128_S1x512_d1)
/-- Scaled queries. -/
def sqT (q : FVec Ideal S128x128 .bf16) : R128 :=
  truncf .bf16 (mulf (extf .f32 q bitsLt_bf16_f32) (broadcast S128x128 (Scalar.ofBits .f32 0x3DB504F3#32))) bitsLt_bf16_f32
/-- The query gradient with its scale. -/
def finT (dq : Q) : Q := mulf dq (broadcast S128x128 (Scalar.ofBits .f32 0x3DB504F3#32))
/-- A column of 128 rows' sums of lanes. -/
def lanesT (x : Q) : Col := shapeCast S128x1 (multiReduction .add [1] S128 x 0x00000000#32 reduces_S128x128_S128 (.inl rfl) rfl) shapeCasts_S128_S128x1
/-- The lane of head `a` in the running sums. -/
def pickT (a : BitVec 32) (x : Q) : Col :=
  lanesT (select (broadcastTo S128x128 (shapeCast S1x128 (cmpi .eq (iota .tc S1x128 32 [1] iota_S1x128_d1_w32) (broadcast S1x128 (Scalar.addi 8#32 a)))
    shapeCasts_S1x128_S1x128) broadcasts_S1x128_S128x128) x (broadcast S128x128 (Scalar.ofBits (F := Ideal) .f32 0x00000000#32)))
/-- The first lane. -/
def headT (x : Q) : Col := extractStridedSlice S128x1 ![0, 0] (shapeCast S128x128 x shapeCasts_S128x128_S128x128) slices_S128x128_o0_0_S128x1
/-- The products of output and gradient, before they stand as a column. -/
def dl1 (g o : Q) : FVec Ideal S128 .f32 :=
  multiReduction .add [1] S128 (mulf g (shapeCast S128x128 o shapeCasts_S128x128_S128x128)) 0x00000000#32 reduces_S128x128_S128 (.inl rfl) rfl
def dlT (g o : Q) : Col := shapeCast S128x1 (dl1 g o) shapeCasts_S128_S128x1
/-- The mask: the keys from `col` on against the queries from `row` on. -/
def okT (row col : BitVec 32) : IVec S128x256 1 :=
  cmpi .sle (addi (broadcast S128x256 col) (iota .tc S128x256 32 [1] iota_S128x256_d1_w32))
    (addi (broadcast S128x256 row) (iota .tc S128x256 32 [0] iota_S128x256_d0_w32))

/-- Four sub-blocks. -/
structure Subs where
  s0 : Sub
  s1 : Sub
  s2 : Sub
  s3 : Sub
/-- A tile for each. -/
structure Four where
  w0 : T
  w1 : T
  w2 : T
  w3 : T

/-- The weights of a tile before the diagonal. -/
def fullW (S : Subs) (k : R256) (row : Row) : Four := ⟨wT S.s0 k row, wT S.s1 k row, wT S.s2 k row, wT S.s3 k row⟩
/-- Those of a tile on the diagonal. -/
def maskW (m0 m1 m2 m3 : IVec S128x256 1) (S : Subs) (k : R256) (row : Row) : Four :=
  ⟨selT m0 (wT S.s0 k row), selT m1 (wT S.s1 k row), selT m2 (wT S.s2 k row), selT m3 (wT S.s3 k row)⟩
/-- The logits' gradients. -/
def grad (S : Subs) (v : R256) (W : Four) : Four := ⟨dT S.s0 v W.w0, dT S.s1 v W.w1, dT S.s2 v W.w2, dT S.s3 v W.w3⟩

/-- The values carried: the four query gradients and the four row sums. -/
abbrev Acc := Q × Q × Q × Q × Col × Col × Col × Col
/-- The carried values after a tile. -/
def stepAcc (D : Four) (k : R256) (a : Acc) : Acc :=
  (dqT a.1 D.w0 k, dqT a.2.1 D.w1 k, dqT a.2.2.1 D.w2 k, dqT a.2.2.2.1 D.w3 k,
    rsT a.2.2.2.2.1 D.w0, rsT a.2.2.2.2.2.1 D.w1, rsT a.2.2.2.2.2.2.1 D.w2, rsT a.2.2.2.2.2.2.2 D.w3)
/-- The key gradient's rows after it. -/
def stepDk (S : Subs) (D : Four) (old : K) : K := up4 old D.w0 D.w1 D.w2 D.w3 S.s0.q S.s1.q S.s2.q S.s3.q
/-- The value gradient's. -/
def stepDv (S : Subs) (W : Four) (old : K) : K := up4 old W.w0 W.w1 W.w2 W.w3 S.s0.g S.s1.g S.s2.g S.s3.g
/-- The running sums' gradient. -/
def stepDc (D : Four) (old : Row) : Row := dn4 old D.w0 D.w1 D.w2 D.w3
/-- The same after a tile only the last two sub-blocks meet. -/
def lastDk (S : Subs) (D : Four) (old : K) : K := up2 old D.w2 D.w3 S.s2.q S.s3.q
def lastDv (S : Subs) (W : Four) (old : K) : K := up2 old W.w2 W.w3 S.s2.g S.s3.g
def lastDc (D : Four) (old : Row) : Row := dn2 old D.w2 D.w3

end Forgetting
-- ==== Proof.FoxSteps.lean ====
module
public import proofs.«01_k».proof.Proof.FoxTile
public import proofs.«01_k».proof.Proof.Steps

/-! What one tile of the forgetting attention's backward call computes, when its operands hold a head's numbers. -/

@[expose] public section

noncomputable section

namespace Forgetting

open Idealize.ShloMosaic Idealize.ShloMosaic.ValueIdx Cert.Kernel3Ideal Cert.Kernel3Ideal.Gen
open Finset StickBreaking

/-! ## Operations without a counterpart in stick breaking -/

/-- A row of numbers spread over the tile's queries. -/
theorem rowSpread {x : Row} {f : ℕ → ℕ → ℝ} (hx : Rep x f) :
    Rep (broadcastTo S128x256 (shapeCast S1x256 x shapeCasts_S1x256_S1x256) broadcasts_S1x256_S128x256) (fun _ c => f 0 c) := fun r c => by
  rw [broadcastTo_apply _ _ (ix2 r c) (ix2 (0 : Fin 1) c) (fun a => by match a with | ⟨0, _⟩ => rfl | ⟨1, _⟩ => rfl), shapeCast_self]
  exact hx 0 c

/-- A column spread over the tile's keys. -/
theorem colSpread {x : Col} {f : ℕ → ℕ → ℝ} (hx : Rep x f) :
    Rep (broadcastTo S128x256 x broadcasts_S128x1_S128x256) (fun r _ => f r 0) := fun r c => by
  rw [broadcastTo_apply x _ (ix2 r c) (ix2 r (0 : Fin 1)) (fun a => by match a with | ⟨0, _⟩ => rfl | ⟨1, _⟩ => rfl)]
  exact hx r 0

/-- A tile's column sums. -/
theorem csT_rep {d : T} {f : ℕ → ℕ → ℝ} (hd : Rep d f) : Rep (csT d) (fun _ c => ∑ r ∈ range 128, f r c) := fun r c => by
  unfold csT
  rw [shapeCast_apply _ _ (ix2 r c) (ix1 c) (by
    rw [Shape.rowMajor_val_one, Shape.rowMajor_val_two]; have := r.isLt; simp)]
  refine (Ideal.multiReduction_add_single d _ reduces_S128x256_S256 (.inl rfl) rfl (ix1 c)).trans ?_
  rw [← coe_sum_fin (fun k => f k c)]
  refine Finset.sum_congr rfl fun k _ => ?_
  have : reduces_S128x256_S256.lift (ix1 c) k = ix2 k c := by
    funext a; apply Fin.ext
    match a with
    | ⟨0, _⟩ => rfl
    | ⟨1, _⟩ => rfl
  rw [this]; exact hd k c

/-- The sums of 128 lanes. -/
theorem lanesT_rep {x : Q} {f : ℕ → ℕ → ℝ} (hx : Rep x f) : Rep (lanesT x) (fun r _ => ∑ c ∈ range 128, f r c) := fun r c => by
  unfold lanesT
  rw [shapeCast_apply _ _ (ix2 r c) (ix1 r) (by
    rw [Shape.rowMajor_val_one, Shape.rowMajor_val_two]; have := c.isLt; simp)]
  refine (Ideal.multiReduction_add_single x _ reduces_S128x128_S128 (.inl rfl) rfl (ix1 r)).trans ?_
  rw [← coe_sum_fin]
  refine Finset.sum_congr rfl fun k _ => ?_
  have : reduces_S128x128_S128.lift (ix1 r) k = ix2 r k := by
    funext a; apply Fin.ext
    match a with
    | ⟨0, _⟩ => rfl
    | ⟨1, _⟩ => rfl
  rw [this]; exact hx r k

theorem eq_ofNat (a b : ℕ) (ha : a < 4096) (hb : b < 4096) :
    IntOp.cmpi .eq (BitVec.ofNat 32 a) (BitVec.ofNat 32 b) = if a = b then 1#1 else 0#1 := by
  unfold IntOp.cmpi
  by_cases h : a = b
  · simp [h]
  · have : BitVec.ofNat 32 a ≠ BitVec.ofNat 32 b := fun e => h (by
      have := congrArg BitVec.toNat e
      rwa [BitVec.toNat_ofNat, BitVec.toNat_ofNat, Nat.mod_eq_of_lt (by omega), Nat.mod_eq_of_lt (by omega)] at this)
    rw [if_neg h]
    show BitVec.ofBool (BitVec.ofNat 32 a == BitVec.ofNat 32 b) = 0#1
    rw [beq_eq_false_iff_ne.2 this]; rfl

/-- Lane `8 + a` of the running sums, whatever the other lanes hold. -/
theorem pickT_rep {x : Q} {f : ℕ → ℝ} (a : ℕ) (ha : a < 4) (hx : ∀ r : Fin 128, x (ix2 r (⟨8 + a, by omega⟩ : Fin 128)) = ((f r : ℝ) : EReal)) :
    Rep (pickT (BitVec.ofNat 32 a) x) (fun r _ => f r) := by
  unfold pickT
  refine (lanesT_rep (f := fun r c => if c = 8 + a then f r else 0) (fun r c => ?_)).congr fun r c _ _ => ?_
  · have hm : broadcastTo S128x128 (shapeCast S1x128 (cmpi .eq (iota .tc S1x128 32 [1] iota_S1x128_d1_w32) (broadcast S1x128 (Scalar.addi 8#32 (BitVec.ofNat 32 a))))
        shapeCasts_S1x128_S1x128) broadcasts_S1x128_S128x128 (ix2 r c) = if c.val = 8 + a then 1#1 else 0#1 := by
      rw [broadcastTo_apply _ _ (ix2 r c) (ix2 (0 : Fin 1) c) (fun a => by match a with | ⟨0, _⟩ => rfl | ⟨1, _⟩ => rfl), shapeCast_self]
      refine Eq.trans ?_ (eq_ofNat c.val (8 + a) (by omega) (by omega))
      show IntOp.cmpi .eq (iota .tc S1x128 32 [1] iota_S1x128_d1_w32 (ix2 (0 : Fin 1) c)) (8#32 + BitVec.ofNat 32 a) = _
      rw [iota_one, BitVec.ofNat_add]
    rw [select_apply, hm]
    by_cases h : c.val = 8 + a
    · rw [if_pos h, select_one]
      simp only [if_pos h]
      rw [← hx r]
      exact congrArg x (congrArg (ix2 r) (Fin.ext h))
    · rw [if_neg h, select_zero]
      simp only [if_neg h]
      exact ofBits_zero
  · rw [Finset.sum_ite_eq' (range 128) (8 + a) (fun _ => f r), if_pos (mem_range.2 (by omega))]

/-- The first lane. -/
theorem headT_rep {x : Q} {f : ℕ → ℕ → ℝ} (hx : Rep x f) : Rep (headT x) (fun r _ => f r 0) := fun r c => by
  unfold headT
  have hc : c.val = 0 := by omega
  rw [extractStridedSlice_apply _ _ _ (ix2 r c) (ix2 r (0 : Fin 128)) (fun a => by match a with | ⟨0, _⟩ => simp | ⟨1, _⟩ => simp [hc]), shapeCast_self]
  exact hx r 0

theorem dlT_rep {g o : Q} {f e : ℕ → ℕ → ℝ} (hg : Rep g f) (ho : Rep o e) :
    Rep (dlT g o) (fun r _ => ∑ d ∈ range 128, f r d * e r d) :=
  lanesT_rep (x := mulf g (shapeCast S128x128 o shapeCasts_S128x128_S128x128)) (hg.mul (by rw [shapeCast_self]; exact ho))

theorem sqT_rep {q : FVec Ideal S128x128 .bf16} {f : ℕ → ℕ → ℝ} (hq : Rep q f) : Rep (sqT q) (fun r d => f r d * sc) :=
  ((hq.ext bitsLt_bf16_f32).mul Rep.scale).trunc bitsLt_bf16_f32
theorem finT_rep {q : Q} {f : ℕ → ℕ → ℝ} (hq : Rep q f) : Rep (finT q) (fun r c => f r c * sc) := hq.mul Rep.scale
theorem upT_rep {d : T} {q : R128} {f g : ℕ → ℕ → ℝ} (hd : Rep d f) (hq : Rep q g) :
    Rep (upT d q) (fun r c => ∑ t ∈ range 128, f t r * g t c) := (hd.trunc bitsLt_bf16_f32).dotTN hq

theorem sle_ofNat (a b : ℕ) (ha : a < 8192) (hb : b < 8192) :
    IntOp.cmpi .sle (BitVec.ofNat 32 a) (BitVec.ofNat 32 b) = if a ≤ b then 1#1 else 0#1 := by
  have h1 : (BitVec.ofNat 32 a).toInt = a := by rw [BitVec.toInt_eq_toNat_cond, BitVec.toNat_ofNat, Nat.mod_eq_of_lt (by omega), if_pos (by omega)]
  have h2 : (BitVec.ofNat 32 b).toInt = b := by rw [BitVec.toInt_eq_toNat_cond, BitVec.toNat_ofNat, Nat.mod_eq_of_lt (by omega), if_pos (by omega)]
  unfold IntOp.cmpi
  simp only [BitVec.sle, h1, h2]
  by_cases h : a ≤ b
  · simp [h]
  · simp [h]

/-- The mask of the queries from `t0` on and the keys from `j0` on. -/
def UpTo (t0 j0 : ℕ) (ok : IVec S128x256 1) : Prop :=
  ∀ (r : Fin 128) (c : Fin 256), ok (ix2 r c) = if j0 + c.val ≤ t0 + r.val then 1#1 else 0#1

theorem okT_apply (t0 j0 : ℕ) (ht : t0 + 128 ≤ 4096) (hj : j0 + 256 ≤ 4096) (row col : BitVec 32)
    (hr : row = BitVec.ofNat 32 t0) (hc : col = BitVec.ofNat 32 j0) : UpTo t0 j0 (okT row col) := fun r c => by
  subst hr hc
  refine Eq.trans ?_ (sle_ofNat (j0 + c.val) (t0 + r.val) (by omega) (by omega))
  rw [BitVec.ofNat_add, BitVec.ofNat_add]
  show IntOp.cmpi .sle (BitVec.ofNat 32 j0 + iota .tc S128x256 32 [1] iota_S128x256_d1_w32 (ix2 r c))
    (BitVec.ofNat 32 t0 + iota .tc S128x256 32 [0] iota_S128x256_d0_w32 (ix2 r c)) = _
  rw [iota_one, iota_one]

/-! ## What a tile reads -/

/-- A sub-block of the queries from `t0` on. -/
structure SubIn (h : Head) (t0 : ℕ) (s : Sub) : Prop where
  q : Rep s.q (fun r d => h.q (t0 + r) d * sc)
  g : Rep s.g (fun r d => h.g (t0 + r) d)
  c : Rep s.c (fun r _ => h.c (t0 + r))
  ls : Rep s.ls (fun r _ => h.ls (t0 + r))
  dl : Rep s.dl (fun r _ => h.dl (t0 + r))

/-- The four sub-blocks of the queries from `n0` on. -/
structure SubsIn (h : Head) (n0 : ℕ) (S : Subs) : Prop where
  s0 : SubIn h n0 S.s0
  s1 : SubIn h (n0 + 128) S.s1
  s2 : SubIn h (n0 + 256) S.s2
  s3 : SubIn h (n0 + 384) S.s3

/-- Keys, values and running sums of the keys from `j0` on. -/
structure TileIn (h : Head) (j0 : ℕ) (k v : R256) (row : Row) : Prop where
  k : Rep k (fun c d => h.k (j0 + c) d)
  v : Rep v (fun c d => h.v (j0 + c) d)
  row : Rep row (fun _ c => h.c (j0 + c))

/-- Four tiles of the numbers `f query key`. -/
structure FourAt (f : ℕ → ℕ → ℝ) (n0 j0 : ℕ) (W : Four) : Prop where
  w0 : Rep W.w0 (fun r c => f (n0 + r) (j0 + c))
  w1 : Rep W.w1 (fun r c => f (n0 + 128 + r) (j0 + c))
  w2 : Rep W.w2 (fun r c => f (n0 + 256 + r) (j0 + c))
  w3 : Rep W.w3 (fun r c => f (n0 + 384 + r) (j0 + c))

/-- The carried values over the keys before `j0`. -/
structure AccAt (h : Head) (n0 j0 : ℕ) (a : Acc) : Prop where
  d0 : Rep a.1 (fun r d => h.dq j0 (n0 + r) d)
  d1 : Rep a.2.1 (fun r d => h.dq j0 (n0 + 128 + r) d)
  d2 : Rep a.2.2.1 (fun r d => h.dq j0 (n0 + 256 + r) d)
  d3 : Rep a.2.2.2.1 (fun r d => h.dq j0 (n0 + 384 + r) d)
  r0 : Rep a.2.2.2.2.1 (fun r _ => h.rs j0 (n0 + r))
  r1 : Rep a.2.2.2.2.2.1 (fun r _ => h.rs j0 (n0 + 128 + r))
  r2 : Rep a.2.2.2.2.2.2.1 (fun r _ => h.rs j0 (n0 + 256 + r))
  r3 : Rep a.2.2.2.2.2.2.2 (fun r _ => h.rs j0 (n0 + 384 + r))

variable {h : Head} {t0 n0 j0 : ℕ} {s : Sub} {S : Subs} {k v : R256} {row : Row} {W D : Four} {acc : Acc}

/-! ## One sub-block on one tile -/

namespace SubIn

variable (H : SubIn h t0 s) (I : TileIn h j0 k v row)
include H I

theorem raw : Rep (wT s k row) (fun r c => Real.exp (h.z (t0 + r) (j0 + c) - h.ls (t0 + r))) :=
  (((H.q.dotNT I.k).add ((colSpread H.c).sub (rowSpread I.row))).sub (colSpread H.ls)).exp

theorem full (hlt : j0 + 256 ≤ t0) : Rep (wT s k row) (fun r c => h.w (t0 + r) (j0 + c)) :=
  (H.raw I).congr fun r c _ hc => by unfold Head.w; rw [if_pos (by omega)]

theorem masked {ok : IVec S128x256 1} (hok : UpTo t0 j0 ok) : Rep (selT ok (wT s k row)) (fun r c => h.w (t0 + r) (j0 + c)) :=
  Rep.select (p := fun r c => j0 + c ≤ t0 + r) hok (H.raw I) Rep.zero

theorem grad {w : T} (hw : Rep w (fun r c => h.w (t0 + r) (j0 + c))) : Rep (dT s v w) (fun r c => h.ds (t0 + r) (j0 + c)) :=
  hw.mul ((H.g.dotNT I.v).sub (colSpread H.dl))

end SubIn

theorem dqT_rep (I : TileIn h j0 k v row) {d : T} {q : Q} (hd : Rep d (fun r c => h.ds (t0 + r) (j0 + c)))
    (hq : Rep q (fun r c => h.dq j0 (t0 + r) c)) : Rep (dqT q d k) (fun r c => h.dq (j0 + 256) (t0 + r) c) :=
  (hq.add ((hd.trunc bitsLt_bf16_f32).dotNN' I.k)).congr fun r c _ _ => by rw [h.dq_add]

theorem rsT_rep {d : T} {q : Col} (hd : Rep d (fun r c => h.ds (t0 + r) (j0 + c)))
    (hq : Rep q (fun r _ => h.rs j0 (t0 + r))) : Rep (rsT q d) (fun r _ => h.rs (j0 + 256) (t0 + r)) :=
  (hq.add hd.laneSum).congr fun r c _ _ => by rw [h.rs_add]

/-! ## Four sub-blocks -/

section
variable (H : SubsIn h n0 S) (I : TileIn h j0 k v row)
include H I

theorem fullW_at (hlt : j0 + 256 ≤ n0) : FourAt h.w n0 j0 (fullW S k row) :=
  ⟨H.s0.full I hlt, H.s1.full I (by omega), H.s2.full I (by omega), H.s3.full I (by omega)⟩

theorem maskW_at {m0 m1 m2 m3 : IVec S128x256 1} (M0 : UpTo n0 j0 m0) (M1 : UpTo (n0 + 128) j0 m1) (M2 : UpTo (n0 + 256) j0 m2) (M3 : UpTo (n0 + 384) j0 m3) :
    FourAt h.w n0 j0 (maskW m0 m1 m2 m3 S k row) := ⟨H.s0.masked I M0, H.s1.masked I M1, H.s2.masked I M2, H.s3.masked I M3⟩

theorem grad_at (hW : FourAt h.w n0 j0 W) : FourAt h.ds n0 j0 (grad S v W) :=
  ⟨H.s0.grad I hW.w0, H.s1.grad I hW.w1, H.s2.grad I hW.w2, H.s3.grad I hW.w3⟩

omit H in
theorem stepAcc_at (hD : FourAt h.ds n0 j0 D) (A : AccAt h n0 j0 acc) : AccAt h n0 (j0 + 256) (stepAcc D k acc) :=
  ⟨dqT_rep I hD.w0 A.d0, dqT_rep I hD.w1 A.d1, dqT_rep I hD.w2 A.d2, dqT_rep I hD.w3 A.d3,
    rsT_rep hD.w0 A.r0, rsT_rep hD.w1 A.r1, rsT_rep hD.w2 A.r2, rsT_rep hD.w3 A.r3⟩

end

theorem self256 {x : K} {f : ℕ → ℕ → ℝ} (hx : Rep x f) : Rep (shapeCast S256x128 x shapeCasts_S256x128_S256x128) f := by
  rw [shapeCast_self]; exact hx
theorem self1 {x : Row} {f : ℕ → ℕ → ℝ} (hx : Rep x f) : Rep (shapeCast S1x256 x shapeCasts_S1x256_S1x256) f := by
  rw [shapeCast_self]; exact hx

section
variable (H : SubsIn h n0 S) {old : K} {row' : Row}

theorem stepDk_at (hD : FourAt h.ds n0 j0 D) (H : SubsIn h n0 S) (ho : Rep old (fun c d => h.dk n0 (j0 + c) d)) :
    Rep (stepDk S D old) (fun c d => h.dk (n0 + 512) (j0 + c) d) :=
  ((self256 ho).add (((((Rep.zero (m := 256) (n := 128)).add (upT_rep hD.w0 H.s0.q)).add (upT_rep hD.w1 H.s1.q)).add (upT_rep hD.w2 H.s2.q)).add
    (upT_rep hD.w3 H.s3.q))).congr fun c d _ _ => (Head.four (fun t => h.ds t (j0 + c) * (h.q t d * sc)) n0).symm

theorem stepDv_at (hW : FourAt h.w n0 j0 W) (H : SubsIn h n0 S) (ho : Rep old (fun c d => h.dv n0 (j0 + c) d)) :
    Rep (stepDv S W old) (fun c d => h.dv (n0 + 512) (j0 + c) d) :=
  ((self256 ho).add (((((Rep.zero (m := 256) (n := 128)).add (upT_rep hW.w0 H.s0.g)).add (upT_rep hW.w1 H.s1.g)).add (upT_rep hW.w2 H.s2.g)).add
    (upT_rep hW.w3 H.s3.g))).congr fun c d _ _ => (Head.four (fun t => h.w t (j0 + c) * h.g t d) n0).symm

theorem lastDk_at (hD : FourAt h.ds n0 j0 D) (H : SubsIn h n0 S) (hj : n0 + 256 ≤ j0) (ho : Rep old (fun c d => h.dk n0 (j0 + c) d)) :
    Rep (lastDk S D old) (fun c d => h.dk (n0 + 512) (j0 + c) d) :=
  ((self256 ho).add (((Rep.zero (m := 256) (n := 128)).add (upT_rep hD.w2 H.s2.q)).add (upT_rep hD.w3 H.s3.q))).congr
    fun c d _ _ => (Head.two (fun t => h.ds t (j0 + c) * (h.q t d * sc)) n0 fun t ht => by rw [h.ds_zero (by omega), zero_mul]).symm

theorem lastDv_at (hW : FourAt h.w n0 j0 W) (H : SubsIn h n0 S) (hj : n0 + 256 ≤ j0) (ho : Rep old (fun c d => h.dv n0 (j0 + c) d)) :
    Rep (lastDv S W old) (fun c d => h.dv (n0 + 512) (j0 + c) d) :=
  ((self256 ho).add (((Rep.zero (m := 256) (n := 128)).add (upT_rep hW.w2 H.s2.g)).add (upT_rep hW.w3 H.s3.g))).congr
    fun c d _ _ => (Head.two (fun t => h.w t (j0 + c) * h.g t d) n0 fun t ht => by rw [h.w_zero (by omega), zero_mul]).symm

theorem stepDc_at {m : ℕ} (hD : FourAt h.ds n0 j0 D) (ho : Rep row' (fun _ c => h.dc m n0 (j0 + c))) :
    Rep (stepDc D row') (fun _ c => h.dc m (n0 + 512) (j0 + c)) :=
  ((self1 ho).sub (((((Rep.zero (m := 1) (n := 256)).add (csT_rep hD.w0)).add (csT_rep hD.w1)).add (csT_rep hD.w2)).add (csT_rep hD.w3))).congr
    fun r c _ _ => by
      have e := Head.four (fun t => h.ds t (j0 + c)) n0
      unfold Head.dc Head.cs
      rw [e]; ring

theorem lastDc_at {m : ℕ} (hD : FourAt h.ds n0 j0 D) (hj : n0 + 256 ≤ j0) (ho : Rep row' (fun _ c => h.dc m n0 (j0 + c))) :
    Rep (lastDc D row') (fun _ c => h.dc m (n0 + 512) (j0 + c)) :=
  ((self1 ho).sub (((Rep.zero (m := 1) (n := 256)).add (csT_rep hD.w2)).add (csT_rep hD.w3))).congr
    fun r c _ _ => by
      have e := Head.two (fun t => h.ds t (j0 + c)) n0 fun t ht => h.ds_zero (by omega)
      unfold Head.dc Head.cs
      rw [e]; ring

end

/-- A column of 128 numbers laid down as a row. -/
theorem lay {x : Col} {f : ℕ → ℕ → ℝ} (hx : Rep x f) : Rep (transpose S1x128 [1, 0] x transposes_S128x1_p1_0_S1x128) (fun _ c => f c 0) := fun r c => by
  rw [transpose_apply _ _ _ (ix2 r c) (ix2 c r) (fun b => by match b with | ⟨0, _⟩ => rfl | ⟨1, _⟩ => rfl)]
  have h0 : r = 0 := Subsingleton.elim _ _
  rw [h0]; exact hx c 0

/-- Four rows of 128 numbers side by side. -/
theorem side {x0 x1 x2 x3 : FVec Ideal S1x128 .f32} {F : ℕ → ℕ → ℝ} (h0 : Rep x0 F) (h1 : Rep x1 (fun r c => F r (128 + c)))
    (h2 : Rep x2 (fun r c => F r (256 + c))) (h3 : Rep x3 (fun r c => F r (384 + c))) :
    Rep (concatenate S1x512 1 [⟨S1x128, x0⟩, ⟨S1x128, x1⟩, ⟨S1x128, x2⟩, ⟨S1x128, x3⟩] concatenates_S1x128_S1x128_S1x128_S1x128_S1x512_d1) F := fun r c => by
  have hr : r = 0 := Subsingleton.elim _ _
  by_cases c3 : 384 ≤ c.val
  · rw [concatenate_apply_piece 1 _ _ (ix2 r c) 3 (by simp) S1x128 x3 rfl rfl 384 rfl (ix2 (0 : Fin 1) (⟨c.val - 384, by omega⟩ : Fin 128))
      (fun b hb => by match b with | ⟨0, _⟩ => rw [hr]; rfl | ⟨1, _⟩ => exact absurd rfl hb) (by show 384 + (c.val - 384) = c.val; omega), h3, hr]
    show ((F 0 (384 + (c.val - 384)) : ℝ) : EReal) = _
    rw [Nat.add_sub_cancel' c3]; rfl
  by_cases c2 : 256 ≤ c.val
  · rw [concatenate_apply_piece 1 _ _ (ix2 r c) 2 (by simp) S1x128 x2 rfl rfl 256 rfl (ix2 (0 : Fin 1) (⟨c.val - 256, by omega⟩ : Fin 128))
      (fun b hb => by match b with | ⟨0, _⟩ => rw [hr]; rfl | ⟨1, _⟩ => exact absurd rfl hb) (by show 256 + (c.val - 256) = c.val; omega), h2, hr]
    show ((F 0 (256 + (c.val - 256)) : ℝ) : EReal) = _
    rw [Nat.add_sub_cancel' c2]; rfl
  by_cases c1 : 128 ≤ c.val
  · rw [concatenate_apply_piece 1 _ _ (ix2 r c) 1 (by simp) S1x128 x1 rfl rfl 128 rfl (ix2 (0 : Fin 1) (⟨c.val - 128, by omega⟩ : Fin 128))
      (fun b hb => by match b with | ⟨0, _⟩ => rw [hr]; rfl | ⟨1, _⟩ => exact absurd rfl hb) (by show 128 + (c.val - 128) = c.val; omega), h1, hr]
    show ((F 0 (128 + (c.val - 128)) : ℝ) : EReal) = _
    rw [Nat.add_sub_cancel' c1]; rfl
  rw [concatenate_apply_piece 1 _ _ (ix2 r c) 0 (by simp) S1x128 x0 rfl rfl 0 rfl (ix2 (0 : Fin 1) (⟨c.val, by omega⟩ : Fin 128))
      (fun b hb => by match b with | ⟨0, _⟩ => rw [hr]; rfl | ⟨1, _⟩ => exact absurd rfl hb) (by show 0 + c.val = c.val; omega), h0, hr]

/-- The running sums' gradient after a point's own rows. -/
theorem rowsT_at {r0 r1 r2 r3 : Col} {old : FVec Ideal S1x512 .f32} (a0 : Rep r0 (fun r _ => h.rs 4096 (n0 + r))) (a1 : Rep r1 (fun r _ => h.rs 4096 (n0 + 128 + r)))
    (a2 : Rep r2 (fun r _ => h.rs 4096 (n0 + 256 + r))) (a3 : Rep r3 (fun r _ => h.rs 4096 (n0 + 384 + r)))
    (ho : Rep old (fun _ l => h.dc n0 (n0 + 512) (n0 + l))) : Rep (rowsT r0 r1 r2 r3 old) (fun _ l => h.dc (n0 + 512) (n0 + 512) (n0 + l)) := by
  have hs : Rep (shapeCast S1x512 old shapeCasts_S1x512_S1x512) (fun _ l => h.dc n0 (n0 + 512) (n0 + l)) := by rw [shapeCast_self]; exact ho
  refine (hs.add (side (F := fun _ l => h.rs 4096 (n0 + l)) (lay a0) ((lay a1).congr fun _ c _ _ => ?_) ((lay a2).congr fun _ c _ _ => ?_) ((lay a3).congr fun _ c _ _ => ?_))).congr
    fun r l _ hl => ?_
  · rw [add_assoc]
  · rw [add_assoc]
  · rw [add_assoc]
  · unfold Head.dc
    rw [if_neg (by omega), if_pos (by omega)]
    ring

theorem acc0_at (h : Head) (n0 : ℕ) : AccAt h n0 0 (k0_pay87, k0_pay87, k0_pay87, k0_pay87, k0_pay88, k0_pay88, k0_pay88, k0_pay88) := by
  have hd : ∀ t, Rep (k0_pay87 (F := Ideal)) (fun r d => h.dq 0 (t + r) d) := fun t =>
    (Rep.zero (m := 128) (n := 128)).congr fun r c _ _ => by unfold Head.dq; rw [sum_range_zero]
  have hp : ∀ t, Rep (k0_pay88 (F := Ideal)) (fun r _ => h.rs 0 (t + r)) := fun t =>
    (Rep.zero (m := 128) (n := 1)).congr fun r c _ _ => by unfold Head.rs; rw [sum_range_zero]
  exact ⟨hd _, hd _, hd _, hd _, hp _, hp _, hp _, hp _⟩

end Forgetting
-- ==== Proof.FoxRef.lean ====
module
public import proofs.«01_k».proof.Proof.Gen.Reference3Ideal.Read
public import Idealize.ShloMosaic.Lib.KernelVsHost
public import proofs.«01_k».proof.Proof.FoxSoft
public import proofs.«01_k».proof.Proof.FoxSteps

/-! What the reference computes from finite arguments: per head, the gradients of `Head`. -/

@[expose] public section

set_option maxRecDepth 16384

noncomputable section

namespace Forgetting

open Idealize.ShloMosaic Idealize.ShloMosaic.ValueIdx Cert.Reference3Ideal Cert.Reference3Ideal.Gen Cert.Reference3Ideal.Read
open Finset
open StickBreaking (On Rep sc on_const sum_mul_real ofBits_zero ofBits_one ofBits_sc)

/-- The arguments' reals: queries, keys and values of all heads side by side, a head's running sums per column, and the
gradient that arrives. -/
structure Arr where
  q : ℕ → ℕ → ℝ
  k : ℕ → ℕ → ℝ
  v : ℕ → ℕ → ℝ
  c : ℕ → ℕ → ℝ
  g : ℕ → ℕ → ℝ

namespace Arr

variable (a : Arr) (n : ℕ)

/-- Head `n` of the arguments. -/
def base : Head := ⟨fun t d => a.q t (128 * n + d), fun t d => a.k t (128 * n + d), fun t d => a.v t (128 * n + d), fun t d => a.g t (128 * n + d),
  fun t => a.c t n, fun _ => 0, fun _ => 0⟩
/-- … with its softmax. -/
def head : Head := (a.base n).full

end Arr

/-- The arguments hold those reals; of the running sums the heads' lanes alone matter. -/
structure Given (a : Arr) (x0 x1 x2 : Vec Ideal S4096x512 .bf16) (x3 : Vec Ideal S4096x128 .f32) (x4 : Vec Ideal S4096x512 .f32) : Prop where
  q : Rep x0 a.q
  k : Rep x1 a.k
  v : Rep x2 a.v
  c : ∀ j : S4096x128.Idx, 8 ≤ (j 1).val → (j 1).val < 12 → x3 j = ((a.c (j 0).val ((j 1).val - 8) : ℝ) : EReal)
  g : Rep x4 a.g

theorem ofBits_bot : Ideal.ofBits .f32 0xFF800000#32 = ⊥ := by
  simp [Ideal.ofBits, Ideal.ieee]

variable {a : Arr} {x0 x1 x2 : Vec Ideal S4096x512 .bf16} {x3 : Vec Ideal S4096x128 .f32} {x4 : Vec Ideal S4096x512 .f32} (H : Given a x0 x1 x2 x3 x4)
include H

theorem ref_q : On (val_main_v4 (F := Ideal) x0) (fun i => (a.base (i 0).val).q (i 1).val (i 2).val) := fun i => by
  have h0 : (i 0).val < 4 := (i 0).isLt
  have h1 : (i 1).val < 4096 := (i 1).isLt
  have h2 : (i 2).val < 128 := (i 2).isLt
  rw [val_main_v4_apply, val_main_v3_apply, val_main_v0_apply]
  refine H.q.at _ ?_ ?_
  · show (((i 1).val * 4 + (i 0).val) * 128 + (i 2).val) / 512 = (i 1).val; omega
  · show (((i 1).val * 4 + (i 0).val) * 128 + (i 2).val) % 512 = 128 * (i 0).val + (i 2).val; omega

theorem ref_k : On (val_main_v6 (F := Ideal) x1) (fun i => (a.base (i 0).val).k (i 1).val (i 2).val) := fun i => by
  have h0 : (i 0).val < 4 := (i 0).isLt
  have h1 : (i 1).val < 4096 := (i 1).isLt
  have h2 : (i 2).val < 128 := (i 2).isLt
  rw [val_main_v6_apply, val_main_v5_apply, val_main_v1_apply]
  refine H.k.at _ ?_ ?_
  · show (((i 1).val * 4 + (i 0).val) * 128 + (i 2).val) / 512 = (i 1).val; omega
  · show (((i 1).val * 4 + (i 0).val) * 128 + (i 2).val) % 512 = 128 * (i 0).val + (i 2).val; omega

theorem ref_v : On (val_main_v8 (F := Ideal) x2) (fun i => (a.base (i 0).val).v (i 1).val (i 2).val) := fun i => by
  have h0 : (i 0).val < 4 := (i 0).isLt
  have h1 : (i 1).val < 4096 := (i 1).isLt
  have h2 : (i 2).val < 128 := (i 2).isLt
  rw [val_main_v8_apply, val_main_v7_apply, val_main_v2_apply]
  refine H.v.at _ ?_ ?_
  · show (((i 1).val * 4 + (i 0).val) * 128 + (i 2).val) / 512 = (i 1).val; omega
  · show (((i 1).val * 4 + (i 0).val) * 128 + (i 2).val) % 512 = 128 * (i 0).val + (i 2).val; omega

theorem ref_g : On (val_main_v59 (F := Ideal) x4) (fun i => (a.base (i 0).val).g (i 1).val (i 2).val) := fun i => by
  have h0 : (i 0).val < 4 := (i 0).isLt
  have h1 : (i 1).val < 4096 := (i 1).isLt
  have h2 : (i 2).val < 128 := (i 2).isLt
  rw [val_main_v59_apply, val_main_v58_apply]
  refine H.g.at _ ?_ ?_
  · show (((i 1).val * 4 + (i 0).val) * 128 + (i 2).val) / 512 = (i 1).val; omega
  · show (((i 1).val * 4 + (i 0).val) * 128 + (i 2).val) % 512 = 128 * (i 0).val + (i 2).val; omega

/-- A head's running sums, as rows. -/
theorem ref_c : On (val_main_v10 (F := Ideal) x3) (fun i => (a.base (i 0).val).c (i 1).val) := fun i => by
  have h0 : (i 0).val < 4 := (i 0).isLt
  rw [val_main_v10_apply, val_main_v9_apply]
  refine (H.c _ ?_ ?_).trans ?_
  · show 8 ≤ 8 + (i 0).val; omega
  · show 8 + (i 0).val < 12; omega
  · show ((a.c (i 1).val (8 + (i 0).val - 8) : ℝ) : EReal) = _
    rw [Nat.add_sub_cancel_left]
    rfl

theorem ref_z : On (val_main_v19 (F := Ideal) x0 x1 x3) (fun i => (a.base (i 0).val).z (i 1).val (i 2).val) := by
  have h11 : On (val_main_v11 (F := Ideal) x0 x1) (fun i => ∑ d ∈ range 128, (a.base (i 0).val).q (i 1).val d * (a.base (i 0).val).k (i 2).val d) := fun i => by
    rw [val_main_v11_apply]
    exact sum_mul_real (fun d => (a.base (i 0).val).q (i 1).val d) (fun d => (a.base (i 0).val).k (i 2).val d)
      (fun k => ref_q H (lidx_main_v11 i k)) (fun k => ref_k H (ridx_main_v11 i k))
  have h12 : On (val_main_v12 (F := Ideal)) (fun _ => sc) := on_const ofBits_sc fun _ => rfl
  have h16 : On (val_main_v16 (F := Ideal) x3) (fun i => (a.base (i 0).val).c (i 1).val) := fun i => by
    rw [val_main_v16_apply, val_main_v14_apply]
    exact ref_c H _
  have h17 : On (val_main_v17 (F := Ideal) x3) (fun i => (a.base (i 0).val).c (i 2).val) := fun i => by
    rw [val_main_v17_apply, val_main_v15_apply]
    exact ref_c H _
  refine ((h11.mul h12).add (h16.sub h17)).congr fun i => ?_
  unfold Head.z
  rw [sum_mul]
  exact congrArg (· + _) (sum_congr rfl fun d _ => by ring)

omit H in
theorem ref_mask (i : S4x4096x4096.Idx) : val_main_v26_1 (F := Ideal) i = if (i 2).val ≤ (i 1).val then 1#1 else 0#1 := by
  have h1 : (i 1).val < 4096 := (i 1).isLt
  have h2 : (i 2).val < 4096 := (i 2).isLt
  rw [val_main_v26_1_apply, val_main_v25_apply, val_main_v23_apply, val_main_v24_apply, val_main_v21_apply, val_main_v22_apply,
    val_main_v20_apply, val_main_v20_apply]
  exact sle_ofNat (i 2).val (i 1).val (by omega) (by omega)

/-- The masked logits. -/
theorem ref_logit (i : S4x4096x4096.Idx) :
    val_main_v26_0 (F := Ideal) x0 x1 x3 i = if (i 2).val ≤ (i 1).val then (((a.base (i 0).val).z (i 1).val (i 2).val : ℝ) : EReal) else ⊥ := by
  rw [val_main_v26_0_apply]
  show (if val_main_v26_1 (F := Ideal) i = 1#1 then val_main_v19 (F := Ideal) x0 x1 x3 i else val_main_call0_v2 (F := Ideal) i) = _
  rw [ref_mask, ref_z H i]
  by_cases h : (i 2).val ≤ (i 1).val
  · simp only [h, if_true]
  · simp only [h, if_false]
    exact ofBits_bot

theorem ref_top : On (val_main_v27 (F := Ideal) x0 x1 x3) (fun i => (a.base (i 0).val).top (i 1).val) := fun i => by
  have h1 : (i 1).val < 4096 := (i 1).isLt
  rw [val_main_v27]
  refine Eq.trans (Host.reduce_eq_fold_single (max : EReal → EReal → EReal) (val_main_v26_0 (F := Ideal) x0 x1 x3) (val_main_cst_1 (F := Ideal))
    reducesTo_S4x4096x4096_S4x4096_d2 (by decide : S4x4096x4096.Reduces [2] S4x4096) h_S_ i) ?_
  rw [show val_main_cst_1 (F := Ideal) (Shape.Idx.first h_S_) = (⊥ : EReal) from ofBits_bot]
  exact fold_top ((a.base (i 0).val).z (i 1).val) (i 1).val h1 _ (fun k => ref_logit H _)

/-- An exponential of a masked logit over its row's largest. -/
theorem exp_masked {y : Vec Ideal S4x4096x4096 .f32} (hy : On y (fun i => (a.base (i 0).val).top (i 1).val)) :
    On (Host.exp (subf (val_main_v26_0 (F := Ideal) x0 x1 x3) y : FVec Ideal S4x4096x4096 .f32) : FVec Ideal S4x4096x4096 .f32) (fun i => (a.base (i 0).val).u (i 1).val (i 2).val) := fun i => by
  show Ideal.exp (val_main_v26_0 (F := Ideal) x0 x1 x3 i - y i) = _
  rw [ref_logit H, hy]
  unfold Head.u
  beta_reduce
  split_ifs
  · rw [← EReal.coe_sub]
    rfl
  · rw [EReal.bot_sub]
    rfl

theorem ref_u : On (val_main_v47 (F := Ideal) x0 x1 x3) (fun i => (a.base (i 0).val).u (i 1).val (i 2).val) := by
  refine exp_masked H (y := val_main_v45 (F := Ideal) x0 x1 x3) fun i => ?_
  rw [val_main_v45_apply, val_main_v44_apply, val_main_v34_apply]
  show max (val_main_v33 (F := Ideal) _) (val_main_v27 (F := Ideal) x0 x1 x3 _) = _
  rw [show val_main_v33 (F := Ideal) (idx_main_v44 (idx_main_v45 i)) = (⊥ : EReal) from ofBits_bot, bot_sup_eq]
  exact ref_top H _

theorem ref_norm : On (val_main_v48 (F := Ideal) x0 x1 x3) (fun i => (a.base (i 0).val).norm (i 1).val) := fun i => by
  rw [val_main_v48_apply]
  exact zero_add_sum ofBits_zero (fun s => (a.base (i 0).val).u (i 1).val s) fun k => ref_u H (idx_main_v48 i k)

theorem ref_norm' : On (val_main_v49 (F := Ideal) x0 x1 x3) (fun i => (a.base (i 0).val).norm (i 1).val) := fun i => by
  rw [val_main_v49_apply]
  exact ref_norm H _

theorem ref_w : On (val_main_v51 (F := Ideal) x0 x1 x3) (fun i => (a.head (i 0).val).w (i 1).val (i 2).val) := by
  have h50 : On (val_main_v50 (F := Ideal) x0 x1 x3) (fun i => (a.base (i 0).val).norm (i 1).val) := fun i => by
    rw [val_main_v50_apply]
    exact ref_norm' H _
  exact (On.div (ref_u H) h50 fun i => ((a.base (i 0).val).norm_pos _).ne').congr fun i => ((a.base (i 0).val).full_w _ _).symm

theorem ref_o : On (val_main_v55 (F := Ideal) x0 x1 x2 x3) (fun i => ∑ s ∈ range 4096, (a.head (i 0).val).w (i 1).val s * (a.base (i 0).val).v s (i 2).val) := fun i => by
  rw [val_main_v55_apply]
  exact sum_mul_real (fun s => (a.head (i 0).val).w (i 1).val s) (fun s => (a.base (i 0).val).v s (i 2).val)
    (fun k => ref_w H (lidx_main_v55 i k)) (fun k => ref_v H (ridx_main_v55 i k))

/-- The attention's outputs, heads side by side. -/
theorem ref_out : Rep (val_main_v57 (F := Ideal) x0 x1 x2 x3)
    (fun t c => ∑ s ∈ range 4096, (a.head (c / 128)).w t s * (a.base (c / 128)).v s (c % 128)) := fun t c => by
  rw [val_main_v57_apply, val_main_v56_apply, ref_o H]
  have e0 : (t.val * 512 + c.val) / 128 % 4 = c.val / 128 := by omega
  have e1 : (t.val * 512 + c.val) / 512 = t.val := by omega
  have e2 : (t.val * 512 + c.val) % 128 = c.val % 128 := by omega
  show ((∑ s ∈ range 4096, (a.head ((t.val * 512 + c.val) / 128 % 4)).w ((t.val * 512 + c.val) / 512) s
    * (a.base ((t.val * 512 + c.val) / 128 % 4)).v s ((t.val * 512 + c.val) % 128) : ℝ) : EReal) = _
  rw [e0, e1, e2]

theorem ref_gv : On (val_main_v62 (F := Ideal) x2 x4) (fun i => ∑ d ∈ range 128, (a.base (i 0).val).g (i 1).val d * (a.base (i 0).val).v (i 2).val d) := fun i => by
  rw [val_main_v62_apply]
  exact sum_mul_real (fun d => (a.base (i 0).val).g (i 1).val d) (fun d => (a.base (i 0).val).v (i 2).val d)
    (fun k => ref_g H (lidx_main_v62 i k)) (fun k => ref_v H (ridx_main_v62 i k))

/-- A query's product of its output with the gradient, negated. -/
theorem ref_dl : On (val_main_v71 (F := Ideal) x0 x1 x2 x3 x4) (fun i => -((a.head (i 0).val).dl (i 1).val / (a.base (i 0).val).norm (i 1).val)) := by
  have h54 : On (val_main_v54 (F := Ideal) x0 x1 x3) (fun i => 1 / ((a.base (i 0).val).norm (i 1).val * (a.base (i 0).val).norm (i 1).val)) :=
    On.div (on_const ofBits_one fun _ => rfl) ((ref_norm' H).mul (ref_norm' H))
      fun i => (mul_pos ((a.base (i 0).val).norm_pos _) ((a.base (i 0).val).norm_pos _)).ne'
  have h63 : On (val_main_v63 (F := Ideal) x0 x1 x3) (fun i => 1 / ((a.base (i 0).val).norm (i 1).val * (a.base (i 0).val).norm (i 1).val)) := fun i => by
    rw [val_main_v63_apply]
    exact h54 _
  have h65 := ((ref_gv H).mul h63).mul (ref_u H)
  have h66 : On (val_main_v66 (F := Ideal) x0 x1 x2 x3 x4) (fun i => (a.head (i 0).val).dl (i 1).val / (a.base (i 0).val).norm (i 1).val) := fun i => by
    rw [val_main_v66_apply]
    refine (zero_add_sum ofBits_zero (fun s => ((∑ d ∈ range 128, (a.base (i 0).val).g (i 1).val d * (a.base (i 0).val).v s d)
        * (1 / ((a.base (i 0).val).norm (i 1).val * (a.base (i 0).val).norm (i 1).val))) * (a.base (i 0).val).u (i 1).val s)
      fun k => h65 (idx_main_v66 i k)).trans ?_
    · beta_reduce
      rw [show (a.head (i 0).val).dl (i 1).val = _ from (a.base (i 0).val).full_dl _]
      rw [sum_div]
      refine congrArg _ (sum_congr rfl fun s _ => ?_)
      have := ((a.base (i 0).val).norm_pos (i 1).val).ne'
      field_simp
  have h68 : On (val_main_v68 (F := Ideal) x0 x1 x2 x3 x4) (fun i => -((a.head (i 0).val).dl (i 1).val / (a.base (i 0).val).norm (i 1).val)) := by
    refine On.neg (x := val_main_v67 (F := Ideal) x0 x1 x2 x3 x4) (f := fun i => (a.head (i 0).val).dl (i 1).val / (a.base (i 0).val).norm (i 1).val) fun i => ?_
    have h1 : (i 1).val < 4096 := (i 1).isLt
    have h2 : (i 2).val < 1 := (i 2).isLt
    rw [val_main_v67_apply, h66]
    have e0 : (((i 0).val * 4096 + (i 1).val) * 1 + (i 2).val) / 4096 = (i 0).val := by omega
    have e1 : (((i 0).val * 4096 + (i 1).val) * 1 + (i 2).val) % 4096 = (i 1).val := by omega
    show (((a.head ((((i 0).val * 4096 + (i 1).val) * 1 + (i 2).val) / 4096)).dl ((((i 0).val * 4096 + (i 1).val) * 1 + (i 2).val) % 4096)
      / (a.base ((((i 0).val * 4096 + (i 1).val) * 1 + (i 2).val) / 4096)).norm ((((i 0).val * 4096 + (i 1).val) * 1 + (i 2).val) % 4096) : ℝ) : EReal) = _
    rw [e0, e1]
  intro i
  rw [val_main_v71_apply]
  refine (zero_add_sum (n := 1) ofBits_zero (fun _ => -((a.head (i 0).val).dl (i 1).val / (a.base (i 0).val).norm (i 1).val)) fun k => h68 (idx_main_v71 i k)).trans ?_
  rw [sum_range_one]

/-- The logits' gradients. -/
theorem ref_ds : On (val_main_v75 (F := Ideal) x0 x1 x2 x3 x4) (fun i => (a.head (i 0).val).ds (i 1).val (i 2).val) := by
  have h69 : On (val_main_v69 (F := Ideal) x0 x1 x3) (fun i => (a.base (i 0).val).norm (i 1).val) := fun i => by
    rw [val_main_v69_apply]
    exact ref_norm' H _
  have h72 : On (val_main_v72 (F := Ideal) x0 x1 x2 x3 x4) (fun i => -((a.head (i 0).val).dl (i 1).val / (a.base (i 0).val).norm (i 1).val)) := fun i => by
    rw [val_main_v72_apply]
    exact ref_dl H _
  have h70 := On.div (ref_gv H) h69 fun i => ((a.base (i 0).val).norm_pos _).ne'
  refine (On.select ref_mask ((h70.add h72).mul (ref_u H)) (on_const (x := val_main_call1_v0 (F := Ideal)) ofBits_zero fun _ => rfl)).congr fun i => ?_
  have hn := ((a.base (i 0).val).norm_pos (i 1).val).ne'
  show _ = (a.head (i 0).val).w (i 1).val (i 2).val * ((∑ d ∈ range 128, (a.base (i 0).val).g (i 1).val d * (a.base (i 0).val).v (i 2).val d) - (a.head (i 0).val).dl (i 1).val)
  rw [show (a.head (i 0).val).w (i 1).val (i 2).val = _ from (a.base (i 0).val).full_w _ _]
  generalize (∑ d ∈ range 128, (a.base (i 0).val).g (i 1).val d * (a.base (i 0).val).v (i 2).val d) = e
  generalize (a.head (i 0).val).dl (i 1).val = l
  split_ifs with h
  · field_simp
    ring
  · unfold Head.u
    rw [if_neg h, zero_div, zero_mul]

theorem ref_dss : On (val_main_v85 (F := Ideal) x0 x1 x2 x3 x4) (fun i => (a.head (i 0).val).ds (i 1).val (i 2).val * sc) :=
  (ref_ds H).mul (on_const ofBits_sc fun _ => rfl)

/-! ## The four results -/

theorem ref_dq : Rep (val_main_v95 (F := Ideal) x0 x1 x2 x3 x4) (fun t c => (a.head (c / 128)).dq 4096 t (c % 128) * sc) := fun t c => by
  have h87 : On (val_main_v87 (F := Ideal) x0 x1 x2 x3 x4) (fun i => (a.head (i 0).val).dq 4096 (i 1).val (i 2).val * sc) := fun i => by
    rw [val_main_v87_apply]
    refine (sum_mul_real (fun s => (a.head (i 0).val).ds (i 1).val s * sc) (fun s => (a.head (i 0).val).k s (i 2).val)
      (fun k => ref_dss H (lidx_main_v87 i k)) (fun k => ref_k H (ridx_main_v87 i k))).trans ?_
    unfold Head.dq
    beta_reduce
    rw [sum_mul]
    exact congrArg _ (sum_congr rfl fun s _ => by ring)
  rw [val_main_v95_apply, val_main_v94_apply, h87]
  have e0 : (t.val * 512 + c.val) / 128 % 4 = c.val / 128 := by omega
  have e1 : (t.val * 512 + c.val) / 512 = t.val := by omega
  have e2 : (t.val * 512 + c.val) % 128 = c.val % 128 := by omega
  show (((a.head ((t.val * 512 + c.val) / 128 % 4)).dq 4096 ((t.val * 512 + c.val) / 512) ((t.val * 512 + c.val) % 128) * sc : ℝ) : EReal) = _
  rw [e0, e1, e2]

theorem ref_dk : Rep (val_main_v93 (F := Ideal) x0 x1 x2 x3 x4) (fun t c => (a.head (c / 128)).dk 4096 t (c % 128)) := fun t c => by
  have h86 : On (val_main_v86 (F := Ideal) x0 x1 x2 x3 x4) (fun i => (a.head (i 0).val).dk 4096 (i 1).val (i 2).val) := fun i => by
    rw [val_main_v86_apply]
    refine (sum_mul_real (fun j => (a.head (i 0).val).ds j (i 1).val * sc) (fun j => (a.head (i 0).val).q j (i 2).val)
      (fun k => ref_dss H (lidx_main_v86 i k)) (fun k => ref_q H (ridx_main_v86 i k))).trans ?_
    unfold Head.dk
    exact congrArg _ (sum_congr rfl fun j _ => by ring)
  rw [val_main_v93_apply, val_main_v92_apply, h86]
  have e0 : (t.val * 512 + c.val) / 128 % 4 = c.val / 128 := by omega
  have e1 : (t.val * 512 + c.val) / 512 = t.val := by omega
  have e2 : (t.val * 512 + c.val) % 128 = c.val % 128 := by omega
  show (((a.head ((t.val * 512 + c.val) / 128 % 4)).dk 4096 ((t.val * 512 + c.val) / 512) ((t.val * 512 + c.val) % 128) : ℝ) : EReal) = _
  rw [e0, e1, e2]

theorem ref_dv : Rep (val_main_v91 (F := Ideal) x0 x1 x3 x4) (fun t c => (a.head (c / 128)).dv 4096 t (c % 128)) := fun t c => by
  have h60 : On (val_main_v60 (F := Ideal) x0 x1 x3 x4) (fun i => (a.head (i 0).val).dv 4096 (i 2).val (i 1).val) := fun i => by
    rw [val_main_v60_apply]
    refine (sum_mul_real (fun j => (a.head (i 0).val).g j (i 1).val) (fun j => (a.head (i 0).val).w j (i 2).val)
      (fun k => ref_g H (lidx_main_v60 i k)) (fun k => ref_w H (ridx_main_v60 i k))).trans ?_
    unfold Head.dv
    exact congrArg _ (sum_congr rfl fun j _ => by ring)
  rw [val_main_v91_apply, val_main_v90_apply, val_main_v61_apply, h60]
  have e0 : (t.val * 512 + c.val) / 128 % 4 = c.val / 128 := by omega
  have e1 : (t.val * 512 + c.val) / 512 = t.val := by omega
  have e2 : (t.val * 512 + c.val) % 128 = c.val % 128 := by omega
  show (((a.head ((t.val * 512 + c.val) / 128 % 4)).dv 4096 ((t.val * 512 + c.val) / 512) ((t.val * 512 + c.val) % 128) : ℝ) : EReal) = _
  rw [e0, e1, e2]

/-- The running sums' gradients, heads by rows. -/
theorem ref_dc4 : On (val_main_v83 (F := Ideal) x0 x1 x2 x3 x4) (fun i => (a.head (i 0).val).dc 4096 4096 (i 1).val) := by
  have h76 : On (val_main_v76 (F := Ideal) x0 x1 x2 x3 x4) (fun i => (a.head (i 0).val).rs 4096 (i 1).val) := fun i => by
    rw [val_main_v76_apply]
    exact zero_add_sum ofBits_zero (fun s => (a.head (i 0).val).ds (i 1).val s) fun k => ref_ds H (idx_main_v76 i k)
  have h79 : On (val_main_v79 (F := Ideal) x0 x1 x2 x3 x4) (fun i => -(a.head (i 0).val).cs 4096 (i 1).val) := fun i => by
    rw [val_main_v79_apply]
    refine (zero_add_sum ofBits_zero (fun t => -(a.head (i 0).val).ds t (i 1).val) fun k => (ref_ds H).neg (idx_main_v79 i k)).trans ?_
    rw [sum_neg_distrib]
    rfl
  have h82 : On (val_main_v82 (F := Ideal) x0 x1 x2 x3 x4) (fun i => (a.head (i 0).val).rs 4096 (i 1).val) := fun i => by
    rw [val_main_v82_apply]
    refine (zero_add_sum (n := 1) ofBits_zero (fun _ => (a.head (i 0).val).rs 4096 (i 1).val) fun k => ?_).trans ?_
    · have h1 : (i 1).val < 4096 := (i 1).isLt
      have hk : k.val < 1 := k.isLt
      rw [val_main_v77_apply, h76]
      have e0 : (((i 0).val * 4096 + (i 1).val) * 1 + k.val) / 4096 = (i 0).val := by omega
      have e1 : (((i 0).val * 4096 + (i 1).val) * 1 + k.val) % 4096 = (i 1).val := by omega
      show (((a.head ((((i 0).val * 4096 + (i 1).val) * 1 + k.val) / 4096)).rs 4096 ((((i 0).val * 4096 + (i 1).val) * 1 + k.val) % 4096) : ℝ) : EReal) = _
      rw [e0, e1]
    · rw [sum_range_one]
  have h81 : On (val_main_v81 (F := Ideal) x0 x1 x2 x3 x4) (fun i => -(a.head (i 0).val).cs 4096 (i 1).val) := fun i => by
    rw [val_main_v81_apply]
    refine (zero_add_sum (n := 1) ofBits_zero (fun _ => -(a.head (i 0).val).cs 4096 (i 1).val) fun k => ?_).trans ?_
    · have h1 : (i 1).val < 4096 := (i 1).isLt
      have hk : k.val < 1 := k.isLt
      rw [val_main_v80_apply, h79]
      have e0 : (((i 0).val * 1 + k.val) * 4096 + (i 1).val) / 4096 = (i 0).val := by omega
      have e1 : (((i 0).val * 1 + k.val) * 4096 + (i 1).val) % 4096 = (i 1).val := by omega
      show ((-(a.head ((((i 0).val * 1 + k.val) * 4096 + (i 1).val) / 4096)).cs 4096 ((((i 0).val * 1 + k.val) * 4096 + (i 1).val) % 4096) : ℝ) : EReal) = _
      rw [e0, e1]
    · rw [sum_range_one]
  refine (h81.add h82).congr fun i => ?_
  have h1 : (i 1).val < 4096 := (i 1).isLt
  unfold Head.dc
  rw [if_pos h1]
  ring

/-- The running sums' gradients in the heads' rows, zero in the others. -/
def dcRows (a : Arr) (n j s : ℕ) : ℝ := if 8 ≤ j ∧ j < 8 + n then (a.head (j - 8)).dc 4096 4096 s else 0

theorem ref_dc : Rep (val_main_v96 (F := Ideal) x0 x1 x2 x3 x4) (dcRows a 4) := fun j s => by
  rw [val_main_v96_apply, val_main_v89]
  unfold dcRows
  by_cases hj : 8 ≤ j.val ∧ j.val < 8 + 4
  · rw [if_pos hj, pad_apply_of_inside ![0, 8] ![0, 116] ![0, 0] _ _ pads_S4096x4_S4096x128_000_81160 h_S_ _ (ix2 s (⟨j.val - 8, by omega⟩ : Fin 4))
      (fun b => match b with
        | ⟨0, _⟩ => by show s.val = 0 + s.val * (0 + 1); omega
        | ⟨1, _⟩ => by show j.val = 8 + (j.val - 8) * (0 + 1); omega),
      val_main_v88_apply, ref_dc4 H]
  · rw [if_neg hj, pad_apply_of_not_inside (s := S4096x4) (t := S4096x128) ![0, 8] ![0, 116] ![0, 0] _ _ pads_S4096x4_S4096x128_000_81160 h_S_ _ (1 : Fin 2) (by
      show ¬(8 ≤ j.val ∧ (j.val - 8) % (0 + 1) = 0 ∧ (j.val - 8) / (0 + 1) < 4)
      omega)]
    exact ofBits_zero

end Forgetting
-- ==== Proof.FoxHost.lean ====
module
public import proofs.«01_k».proof.Proof.FoxRef
public import proofs.«01_k».proof.Proof.Gen.Kernel3Ideal.Frame.Runs

/-! What the kernel's host lines hand to the call: the attention's outputs, its log normalisers, and the running sums transposed. -/

@[expose] public section

set_option maxRecDepth 16384

noncomputable section

namespace Forgetting

open Idealize.ShloMosaic Idealize.ShloMosaic.ValueIdx Idealize.ShloMosaic.TcCoe Idealize.ShloMosaic.StableHlo Cert.Kernel3Ideal Cert.Kernel3Ideal.Gen
open Cert.Reference3Ideal.Read (val_main_v57 val_main_v27 val_main_v26_0)
open StickBreaking (On Rep ofBits_zero)
open Finset

variable (m : (ℓ : Loc nD τ sig) → Buf (Elt Ideal) ℓ) (c : Dev nD)

set_option maxHeartbeats 40000000 in
/-- The outputs are the reference's. -/
theorem V_o : V m c main_v40 = val_main_v57 (F := Ideal) (m ((c : Thread nD τ).loc main_arg0)) (m ((c : Thread nD τ).loc main_arg1))
      (m ((c : Thread nD τ).loc main_arg2)) (m ((c : Thread nD τ).loc main_arg3)) := by
  simp only [V, hostOps0, hostOps0_1, hostOps0_2, List.flatten_cons, List.flatten_nil, List.append_nil, List.cons_append, List.nil_append,
    TRef.binary, TRef.nullary, TRef.ternary, TRef.unary, TRef.toBuf, TRef.ofBuf, cast_eq]
  after_results_simp <;> rfl

set_option maxHeartbeats 40000000 in
theorem V_ct : V m c main_v50 = transpose S128x4096 [1, 0] (m ((c : Thread nD τ).loc main_arg3)) transposes_S4096x128_S128x4096_1_0 := by
  simp only [V, hostOps0, hostOps0_1, hostOps0_2, List.flatten_cons, List.flatten_nil, List.append_nil, List.cons_append, List.nil_append,
    TRef.binary, TRef.nullary, TRef.ternary, TRef.unary, TRef.toBuf, TRef.ofBuf, cast_eq]
  after_results_simp <;> rfl

/-- The largest logits, one column wide. -/
abbrev tops (x0 x1 : Vec Ideal S4096x512 .bf16) (x3 : Vec Ideal S4096x128 .f32) : FVec Ideal S4x4096x1 .f32 :=
  broadcastInDim S4x4096x1 ![0, 1] bcast_S4x4096_S4x4096x1_0_1 (val_main_v27 (F := Ideal) x0 x1 x3)
/-- The normalisers. -/
abbrev norms (x0 x1 : Vec Ideal S4096x512 .bf16) (x3 : Vec Ideal S4096x128 .f32) : FVec Ideal S4x4096 .f32 :=
  Host.reduceAdd (Host.exp (subf (val_main_v26_0 (F := Ideal) x0 x1 x3 : FVec Ideal S4x4096x4096 .f32)
    (broadcastInDim S4x4096x4096 ![0, 1, 2] bcast_S4x4096x1_S4x4096x4096_0_1_2 (tops x0 x1 x3))))
    (constant (F := Ideal) S_ .f32 0x00000000#32) reducesTo_S4x4096x4096_S4x4096_d2 h_S_
/-- The normalisers' logarithms. -/
abbrev lses (x0 x1 : Vec Ideal S4096x512 .bf16) (x3 : Vec Ideal S4096x128 .f32) : FVec Ideal S4x4096x1 .f32 :=
  addf (tops x0 x1 x3) (Host.log (broadcastInDim S4x4096x1 ![0, 1] bcast_S4x4096_S4x4096x1_0_1 (norms x0 x1 x3)))

set_option maxHeartbeats 40000000 in
theorem V_ls : V m c main_v53 = shapeCast S4096x512 (transpose S4096x4x128 [1, 0, 2]
      (broadcastInDim S4x4096x128 ![0, 1, 2] bcast_S4x4096x1_S4x4096x128_0_1_2 (lses (m ((c : Thread nD τ).loc main_arg0)) (m ((c : Thread nD τ).loc main_arg1)) (m ((c : Thread nD τ).loc main_arg3))))
      transposes_S4x4096x128_S4096x4x128_1_0_2) shapeCasts_S4096x4x128_S4096x512 := by
  simp only [V, hostOps0, hostOps0_1, hostOps0_2, List.flatten_cons, List.flatten_nil, List.append_nil, List.cons_append, List.nil_append,
    TRef.binary, TRef.nullary, TRef.ternary, TRef.unary, TRef.toBuf, TRef.ofBuf, cast_eq]
  after_results_simp <;> rfl

section
variable {a : Arr} {x0 x1 x2 : Vec Ideal S4096x512 .bf16} {x3 : Vec Ideal S4096x128 .f32} {x4 : Vec Ideal S4096x512 .f32} (H : Given a x0 x1 x2 x3 x4)

/-- A column spread over an array's last axis. -/
theorem column_apply {n : ℕ} (y : (⟨3, ![4, 4096, 1]⟩ : Shape).Idx → EReal) (hb : (⟨3, ![4, 4096, 1]⟩ : Shape).BroadcastsInDim ⟨3, ![4, 4096, n]⟩ ![0, 1, 2]) (i : (⟨3, ![4, 4096, n]⟩ : Shape).Idx) :
    broadcastInDim ⟨3, ![4, 4096, n]⟩ ![0, 1, 2] hb y i = y (ix3 (i 0) (i 1) 0) :=
  broadcastInDim_apply _ hb y i _ (fun b => match b with
    | ⟨0, _⟩ => by show (i 0).val = if (4 : Nat) = 1 then 0 else (i 0).val; rw [if_neg (by decide)]
    | ⟨1, _⟩ => by show (i 1).val = if (4096 : Nat) = 1 then 0 else (i 1).val; rw [if_neg (by decide)]
    | ⟨2, _⟩ => by show 0 = if (1 : Nat) = 1 then 0 else (i 2).val; rw [if_pos rfl])

/-- An array given a last axis of size one. -/
theorem widen_apply (y : (⟨2, ![4, 4096]⟩ : Shape).Idx → EReal) (hb : (⟨2, ![4, 4096]⟩ : Shape).BroadcastsInDim ⟨3, ![4, 4096, 1]⟩ ![0, 1]) (i : (⟨3, ![4, 4096, 1]⟩ : Shape).Idx) :
    broadcastInDim ⟨3, ![4, 4096, 1]⟩ ![0, 1] hb y i = y (ix2 (i 0) (i 1)) :=
  broadcastInDim_apply _ hb y i _ (fun b => match b with
    | ⟨0, _⟩ => by show (i 0).val = if (4 : Nat) = 1 then 0 else (i 0).val; rw [if_neg (by decide)]
    | ⟨1, _⟩ => by show (i 1).val = if (4096 : Nat) = 1 then 0 else (i 1).val; rw [if_neg (by decide)])

include H

theorem tops_on : On (tops x0 x1 x3) (fun i => (a.base (i 0).val).top (i 1).val) := fun i => by
  unfold tops
  rw [widen_apply]
  exact ref_top H _

theorem norms_on : On (norms x0 x1 x3) (fun i => (a.base (i 0).val).norm (i 1).val) := fun i => by
  have hu := exp_masked H (y := broadcastInDim S4x4096x4096 ![0, 1, 2] bcast_S4x4096x1_S4x4096x4096_0_1_2 (tops x0 x1 x3)) fun i => by
    rw [column_apply]
    exact tops_on H _
  unfold norms
  generalize (Host.exp (subf (val_main_v26_0 (F := Ideal) x0 x1 x3 : FVec Ideal S4x4096x4096 .f32)
    (broadcastInDim S4x4096x4096 ![0, 1, 2] bcast_S4x4096x1_S4x4096x4096_0_1_2 (tops x0 x1 x3))) : FVec Ideal S4x4096x4096 .f32) = y at hu ⊢
  simp only [Host.reduceAdd, Ideal.hostReduceAdd_def]
  rw [Ideal.hostReduceAdd_single reducesTo_S4x4096x4096_S4x4096_d2 (by decide : S4x4096x4096.Reduces [2] S4x4096)]
  exact zero_add_sum ofBits_zero (fun s => (a.base (i 0).val).u (i 1).val s) fun k => hu _

/-- The log normalisers, a head's spread over its columns. -/
theorem ls_rep : Rep (shapeCast S4096x512 (transpose S4096x4x128 [1, 0, 2]
      (broadcastInDim S4x4096x128 ![0, 1, 2] bcast_S4x4096x1_S4x4096x128_0_1_2 (lses x0 x1 x3))
      transposes_S4x4096x128_S4096x4x128_1_0_2) shapeCasts_S4096x4x128_S4096x512) (fun t n => (a.head (n / 128)).ls t) := fun t n => by
  have h : On (lses x0 x1 x3) (fun i => (a.base (i 0).val).top (i 1).val + Real.log ((a.base (i 0).val).norm (i 1).val)) := by
    refine (tops_on H).add (On.log (f := fun i => (a.base (i 0).val).norm (i 1).val) (fun i => ?_) fun i => (a.base (i 0).val).norm_pos _)
    rw [widen_apply]
    exact norms_on H _
  generalize lses x0 x1 x3 = y at h ⊢
  rw [shapeCast_apply _ _ (ix2 t n) (ix3 t (⟨n.val / 128, by omega⟩ : Fin 4) (⟨n.val % 128, by omega⟩ : Fin 128)) (by
    rw [Shape.rowMajor_val_three, Shape.rowMajor_val_two]
    show (t.val * 4 + n.val / 128) * 128 + n.val % 128 = t.val * 512 + n.val
    omega)]
  rw [transpose_apply [1, 0, 2] _ _ (ix3 t (⟨n.val / 128, by omega⟩ : Fin 4) (⟨n.val % 128, by omega⟩ : Fin 128)) (ix3 (⟨n.val / 128, by omega⟩ : Fin 4) t (⟨n.val % 128, by omega⟩ : Fin 128))
    (fun a => match a with | ⟨0, _⟩ => rfl | ⟨1, _⟩ => rfl | ⟨2, _⟩ => rfl), column_apply]
  exact h _

end

theorem V_ls_rep {a : Arr} (H : Given a (m ((c : Thread nD τ).loc main_arg0)) (m ((c : Thread nD τ).loc main_arg1)) (m ((c : Thread nD τ).loc main_arg2))
      (m ((c : Thread nD τ).loc main_arg3)) (m ((c : Thread nD τ).loc main_arg4))) :
    Rep (V m c main_v53 : Vec Ideal S4096x512 .f32) (fun t n => (a.head (n / 128)).ls t) := by
  rw [V_ls]
  exact ls_rep H

end Forgetting
-- ==== Proof.FoxTrip.lean ====
module
public import proofs.«01_k».proof.Proof.Gen.Kernel3Ideal.Loops
public import proofs.«01_k».proof.Proof.FoxTile

/-! One trip of the sweep over the tiles before the diagonal, as the tile operations of `FoxTile`. -/

@[expose] public section

set_option maxRecDepth 16384

noncomputable section

namespace Forgetting

open Idealize.ShloMosaic Idealize.ShloMosaic.ValueIdx Idealize.ShloMosaic.TcCoe Idealize.ShloMosaic.Tactic Cert.Kernel3Ideal Cert.Kernel3Ideal.Gen

/-- The memory a grid point works on: eight blocks it reads and four it writes. -/
structure Mems where
  a2 : Memref sig .tc .vmem S512x128 .bf16
  h2 : a2.IsWhole
  a3 : Memref sig .tc .vmem S4096x128 .bf16
  h3 : a3.IsWhole
  a4 : Memref sig .tc .vmem S4096x128 .bf16
  h4 : a4.IsWhole
  a5 : Memref sig .tc .vmem S512x128 .f32
  h5 : a5.IsWhole
  a6 : Memref sig .tc .vmem S8x4096 .f32
  h6 : a6.IsWhole
  a7 : Memref sig .tc .vmem S512x128 .f32
  h7 : a7.IsWhole
  a8 : Memref sig .tc .vmem S512x128 .f32
  h8 : a8.IsWhole
  a9 : Memref sig .tc .vmem S512x128 .f32
  h9 : a9.IsWhole
  a10 : Memref sig .tc .vmem S512x128 .f32
  h10 : a10.IsWhole
  a11 : Memref sig .tc .vmem S4096x128 .f32
  h11 : a11.IsWhole
  a12 : Memref sig .tc .vmem S4096x128 .f32
  h12 : a12.IsWhole
  a13 : Memref sig .tc .vmem S128x4096 .f32
  h13 : a13.IsWhole

section
variable (c : Dev nD) (i : grid0.Coords) (M : Mems) (w0 w1 : BitVec 32) (s0 s1 s2 : Sub) (q3 g3 : R128) (c3 ls3 : Col) (d3 : FVec Ideal S128 .f32)
  (X3 : BufTy.Contents (Elt Ideal) M.a3.view.ty) (X4 : BufTy.Contents (Elt Ideal) M.a4.view.ty) (X6 : BufTy.Contents (Elt Ideal) M.a6.view.ty)
  (k : Fin (k0_t1_loop i).trips) (acc : Acc) (f11 : BufTy.Contents (Elt Ideal) M.a11.view.ty) (f12 : BufTy.Contents (Elt Ideal) M.a12.view.ty)
  (f13 : BufTy.Contents (Elt Ideal) M.a13.view.ty)

/-- The tile's rows of a whole-sequence array, its keys' running sums, and its part of their gradient. -/
abbrev tileRect : Rect S4096x128 := Rect.unit (s := S4096x128) (k0_off1 i k) S256x128.size (k0_off1_inb i k)
abbrev rowRect : Rect S8x4096 := Rect.unit (s := S8x4096) (k0_off2 i k) S1x256.size (k0_off2_inb i k)
abbrev outRect : Rect S128x4096 := Rect.unit (s := S128x4096) (k0_off3 i k) S1x256.size (k0_off3_inb i k)

/-- The sub-blocks, the last one's products not yet a column. -/
abbrev subs : Subs := ⟨s0, s1, s2, ⟨q3, g3, c3, ls3, shapeCast S128x1 d3 shapeCasts_S128_S128x1⟩⟩
abbrev tripK : R256 := M.a3.view.readAt (Elt Ideal) (tileRect i k).toLoadRect X3
abbrev tripV : R256 := M.a4.view.readAt (Elt Ideal) (tileRect i k).toLoadRect X4
abbrev tripC : Row := M.a6.view.readAt (Elt Ideal) (rowRect i k).toLoadRect X6
abbrev tripW : Four := fullW (subs s0 s1 s2 q3 g3 c3 ls3 d3) (tripK i M X3 k) (tripC i M X6 k)
abbrev tripD : Four := grad (subs s0 s1 s2 q3 g3 c3 ls3 d3) (tripV i M X4 k) (tripW i M s0 s1 s2 q3 g3 c3 ls3 d3 X3 X6 k)

theorem tripR_eq :
    tripR_k0_t1 (F := Ideal) Variants.none c none i M.a2 M.h2 M.a3 M.h3 M.a4 M.h4 M.a5 M.h5 M.a6 M.h6 M.a7 M.h7 M.a8 M.h8 M.a9 M.h9 M.a10 M.h10 M.a11 M.h11 M.a12 M.h12 M.a13 M.h13
        w0 w1 s0.q s1.q s2.q q3 s0.g s1.g s2.g g3 s0.c s1.c s2.c c3 s0.ls s1.ls s2.ls ls3 s0.dl s1.dl s2.dl d3 X3 X4 X6 k acc f11 f12 f13
      = stepAcc (tripD i M s0 s1 s2 q3 g3 c3 ls3 d3 X3 X4 X6 k) (tripK i M X3 k) acc := by
  unfold tripR_k0_t1 trip_k0_t1
  dsimp only
  sl_unfold_words
  rfl

theorem tripL_eq :
    tripL_k0_t1 (F := Ideal) Variants.none c none i M.a2 M.h2 M.a3 M.h3 M.a4 M.h4 M.a5 M.h5 M.a6 M.h6 M.a7 M.h7 M.a8 M.h8 M.a9 M.h9 M.a10 M.h10 M.a11 M.h11 M.a12 M.h12 M.a13 M.h13
        w0 w1 s0.q s1.q s2.q q3 s0.g s1.g s2.g g3 s0.c s1.c s2.c c3 s0.ls s1.ls s2.ls ls3 s0.dl s1.dl s2.dl d3 X3 X4 X6 k acc f11 f12 f13
      = ([⟨tileRect i k, stepDk (subs s0 s1 s2 q3 g3 c3 ls3 d3) (tripD i M s0 s1 s2 q3 g3 c3 ls3 d3 X3 X4 X6 k) (M.a11.view.readAt (Elt Ideal) (tileRect i k).toLoadRect f11)⟩],
        [⟨tileRect i k, stepDv (subs s0 s1 s2 q3 g3 c3 ls3 d3) (tripW i M s0 s1 s2 q3 g3 c3 ls3 d3 X3 X6 k) (M.a12.view.readAt (Elt Ideal) (tileRect i k).toLoadRect f12)⟩],
        [⟨outRect i k, stepDc (tripD i M s0 s1 s2 q3 g3 c3 ls3 d3 X3 X4 X6 k) (M.a13.view.readAt (Elt Ideal) (outRect i k).toLoadRect f13)⟩]) := by
  unfold tripL_k0_t1 trip_k0_t1
  dsimp only
  sl_unfold_words
  rfl

end

end Forgetting
-- ==== Proof.FoxPoint.lean ====
module
public import proofs.«01_k».proof.Proof.Gen.Kernel3Ideal.Frame
public import proofs.«01_k».proof.Proof.FoxTrip

/-! The body at one grid point, as the tile operations of `FoxTile`: the sweep over the tiles before the diagonal, then the
two tiles on it. -/

@[expose] public section

set_option maxRecDepth 16384

noncomputable section

namespace Forgetting

open Idealize.ShloMosaic Idealize.ShloMosaic.ValueIdx Idealize.ShloMosaic.TcCoe Idealize.ShloMosaic.Tactic Cert.Kernel3Ideal Cert.Kernel3Ideal.Gen

/-- The blocks a point reads: queries, keys, values, running sums of its rows and of all keys, outputs, log normalisers, the
arriving gradient. -/
structure Ins where
  q : Vec Ideal S512x128 .bf16
  k : Vec Ideal S4096x128 .bf16
  v : Vec Ideal S4096x128 .bf16
  c : Vec Ideal S512x128 .f32
  ct : Vec Ideal S8x4096 .f32
  o : Vec Ideal S512x128 .f32
  ls : Vec Ideal S512x128 .f32
  g : Vec Ideal S512x128 .f32

/-- 128 rows of a block. -/
def rows {ε : EltTy} (a : Memref sig .tc .vmem S512x128 ε) (f : BufTy.Contents (Elt Ideal) a.view.ty) (o : ℕ)
    (h : ∀ b, (![o, 0] : Fin 2 → ℕ) b + S128x128.size b ≤ S512x128.size b) : Vec Ideal S128x128 ε :=
  a.view.readAt (Elt Ideal) (Rect.unit (s := S512x128) ![o, 0] S128x128.size h).toLoadRect f

/-- Its rows of a whole-sequence array, its keys' running sums, and their gradient's place, for diagonal tile `r`. -/
abbrev dTile (i : grid0.Coords) (r : Fin 2) : Rect S4096x128 := Rect.unit (s := S4096x128) (k0_off7 i (BitVec.ofNat 32 r.val)) S256x128.size (k0_off7_inb i r)
abbrev dRow (i : grid0.Coords) (r : Fin 2) : Rect S8x4096 := Rect.unit (s := S8x4096) (k0_off8 i (BitVec.ofNat 32 r.val)) S1x256.size (k0_off8_inb i r)
abbrev dOut (i : grid0.Coords) (r : Fin 2) : Rect S128x4096 := Rect.unit (s := S128x4096) (k0_off9 i (BitVec.ofNat 32 r.val)) S1x256.size (k0_off9_inb i r)
/-- The place of the point's own rows in the running sums' gradient. -/
abbrev dOwn (i : grid0.Coords) : Rect S128x4096 := Rect.unit (s := S128x4096) (k0_off10 i) S1x512.size (k0_off10_inb i)

/-- The head and the block, and first query of sub-block `o` and first key of diagonal tile `r`, as the body computes them. -/
abbrev headW (i : grid0.Coords) : BitVec 32 := BitVec.ofNat 32 (i 0).val
abbrev blockW (i : grid0.Coords) : BitVec 32 := BitVec.ofNat 32 (i 1).val
def rowW (i : grid0.Coords) (o : BitVec 32) : BitVec 32 := Scalar.addi (Scalar.muli (blockW i) 512#32) o
def colW (i : grid0.Coords) (r : BitVec 32) : BitVec 32 := Scalar.muli (Scalar.addi (Scalar.muli (blockW i) 2#32) r) 256#32

/-- The carried values at the start. -/
def acc0 : Acc := (k0_pay87, k0_pay87, k0_pay87, k0_pay87, k0_pay88, k0_pay88, k0_pay88, k0_pay88)

section
variable (c : Dev nD) (i : grid0.Coords) (M : Mems) (X : Ins)

/-- The sub-block from row `o` on. -/
def subAt (o : ℕ) (h : ∀ b, (![o, 0] : Fin 2 → ℕ) b + S128x128.size b ≤ S512x128.size b) : Sub where
  q := sqT (rows M.a2 (M.h2.unread X.q) o h)
  g := truncf .bf16 (rows M.a9 (M.h9.unread X.g) o h) bitsLt_bf16_f32
  c := pickT (headW i) (rows M.a5 (M.h5.unread X.c) o h)
  ls := headT (rows M.a8 (M.h8.unread X.ls) o h)
  dl := dlT (rows M.a9 (M.h9.unread X.g) o h) (rows M.a7 (M.h7.unread X.o) o h)
/-- The point's four sub-blocks. -/
def subsAt : Subs := ⟨subAt i M X 0 inb_S512x128_S128x128_0_0, subAt i M X 128 inb_S512x128_S128x128_128_0,
  subAt i M X 256 inb_S512x128_S128x128_256_0, subAt i M X 384 inb_S512x128_S128x128_384_0⟩

section
variable (f11 : BufTy.Contents (Elt Ideal) M.a11.view.ty) (f12 : BufTy.Contents (Elt Ideal) M.a12.view.ty) (f13 : BufTy.Contents (Elt Ideal) M.a13.view.ty)

/-- What a loop leaves: the carried values and the stores to the three gradients. -/
abbrev Left := Acc × List (View.Piece (Elt Ideal) S4096x128 .f32) × List (View.Piece (Elt Ideal) S4096x128 .f32) × List (View.Piece (Elt Ideal) S128x4096 .f32)

/-- The sweep before the diagonal after `n` trips. -/
def sweep (n : ℕ) : Left :=
  st_k0_t1 (F := Ideal) Variants.none c none i M.a2 M.h2 M.a3 M.h3 M.a4 M.h4 M.a5 M.h5 M.a6 M.h6 M.a7 M.h7 M.a8 M.h8 M.a9 M.h9 M.a10 M.h10 M.a11 M.h11 M.a12 M.h12 M.a13 M.h13
    (headW i) (blockW i) (subsAt i M X).s0.q (subsAt i M X).s1.q (subsAt i M X).s2.q (subsAt i M X).s3.q (subsAt i M X).s0.g (subsAt i M X).s1.g (subsAt i M X).s2.g (subsAt i M X).s3.g
    (subsAt i M X).s0.c (subsAt i M X).s1.c (subsAt i M X).s2.c (subsAt i M X).s3.c (subsAt i M X).s0.ls (subsAt i M X).s1.ls (subsAt i M X).s2.ls (subsAt i M X).s3.ls
    (subsAt i M X).s0.dl (subsAt i M X).s1.dl (subsAt i M X).s2.dl
    (dl1 (rows M.a9 (M.h9.unread X.g) 384 inb_S512x128_S128x128_384_0) (rows M.a7 (M.h7.unread X.o) 384 inb_S512x128_S128x128_384_0))
    (M.h3.unread X.k) (M.h4.unread X.v) (M.h6.unread X.ct) f11 f12 f13 acc0 n

/-- The remainder of the sweep, which has no trips, from the carried values `acc`. -/
def restFrom (acc : Acc) : Left :=
  st_k0_t2 (F := Ideal) Variants.none c none i M.a2 M.h2 M.a3 M.h3 M.a4 M.h4 M.a5 M.h5 M.a6 M.h6 M.a7 M.h7 M.a8 M.h8 M.a9 M.h9 M.a10 M.h10 M.a11 M.h11 M.a12 M.h12 M.a13 M.h13
    (headW i) (blockW i) (subsAt i M X).s0.q (subsAt i M X).s1.q (subsAt i M X).s2.q (subsAt i M X).s3.q (subsAt i M X).s0.g (subsAt i M X).s1.g (subsAt i M X).s2.g (subsAt i M X).s3.g
    (subsAt i M X).s0.c (subsAt i M X).s1.c (subsAt i M X).s2.c (subsAt i M X).s3.c (subsAt i M X).s0.ls (subsAt i M X).s1.ls (subsAt i M X).s2.ls (subsAt i M X).s3.ls
    (subsAt i M X).s0.dl (subsAt i M X).s1.dl (subsAt i M X).s2.dl
    (dl1 (rows M.a9 (M.h9.unread X.g) 384 inb_S512x128_S128x128_384_0) (rows M.a7 (M.h7.unread X.o) 384 inb_S512x128_S128x128_384_0))
    (k0_t2_loop i).lb (M.h3.unread X.k) (M.h4.unread X.v) (M.h6.unread X.ct) f11 f12 f13 acc (k0_t2_loop i).trips

/-- The sweep whole, and its remainder over what it leaves. -/
def swept : Left := sweep c i M X f11 f12 f13 (k0_t1_loop i).trips
def rest : Left := restFrom c i M X (M.a11.view.writes (Elt Ideal) f11 (swept c i M X f11 f12 f13).2.1) (M.a12.view.writes (Elt Ideal) f12 (swept c i M X f11 f12 f13).2.2.1)
  (M.a13.view.writes (Elt Ideal) f13 (swept c i M X f11 f12 f13).2.2.2) (swept c i M X f11 f12 f13).1
end

/-- Keys, values and keys' running sums of diagonal tile `r`; its weights and logits' gradients. -/
def dK (r : Fin 2) : R256 := M.a3.view.readAt (Elt Ideal) (dTile i r).toLoadRect (M.h3.unread X.k)
def dV (r : Fin 2) : R256 := M.a4.view.readAt (Elt Ideal) (dTile i r).toLoadRect (M.h4.unread X.v)
def dC (r : Fin 2) : Row := M.a6.view.readAt (Elt Ideal) (dRow i r).toLoadRect (M.h6.unread X.ct)
def dW (r : Fin 2) : Four := maskW (okT (rowW i 0#32) (colW i (BitVec.ofNat 32 r.val))) (okT (rowW i 128#32) (colW i (BitVec.ofNat 32 r.val)))
  (okT (rowW i 256#32) (colW i (BitVec.ofNat 32 r.val))) (okT (rowW i 384#32) (colW i (BitVec.ofNat 32 r.val))) (subsAt i M X) (dK i M X r) (dC i M X r)
def dD (r : Fin 2) : Four := grad (subsAt i M X) (dV i M X r) (dW i M X r)

section
variable (acc : Acc)
/-- The carried values after the diagonal's first tile. -/
def fAcc : Acc := stepAcc (dD i M X 0) (dK i M X 0) acc
/-- The last two sub-blocks' query gradients and row sums at the end. -/
def sQ2 : Q := dqT acc.2.2.1 (dD i M X 1).w2 (dK i M X 1)
def sQ3 : Q := dqT acc.2.2.2.1 (dD i M X 1).w3 (dK i M X 1)
def sR2 : Col := rsT acc.2.2.2.2.2.2.1 (dD i M X 1).w2
def sR3 : Col := rsT acc.2.2.2.2.2.2.2 (dD i M X 1).w3

/-- The point's stores to the query gradient, last first, from the carried values after the diagonal's first tile. -/
def storesQ : List (View.Piece (Elt Ideal) S512x128 .f32) :=
  [⟨Rect.unit (s := S512x128) ![384, 0] S128x128.size inb_S512x128_S128x128_384_0, finT (sQ3 i M X acc)⟩,
   ⟨Rect.unit (s := S512x128) ![256, 0] S128x128.size inb_S512x128_S128x128_256_0, finT (sQ2 i M X acc)⟩,
   ⟨Rect.unit (s := S512x128) ![128, 0] S128x128.size inb_S512x128_S128x128_128_0, finT acc.2.1⟩,
   ⟨Rect.unit (s := S512x128) ![0, 0] S128x128.size inb_S512x128_S128x128_0_0, finT acc.1⟩]
end

section
variable (f : BufTy.Contents (Elt Ideal) M.a11.view.ty) (L : List (View.Piece (Elt Ideal) S4096x128 .f32))
/-- The stores to the key gradient, last first, when the diagonal's tiles' join the stores `L` over `f`. -/
def storeK1 : List (View.Piece (Elt Ideal) S4096x128 .f32) :=
  ⟨dTile i 0, stepDk (subsAt i M X) (dD i M X 0) (M.a11.view.readAt (Elt Ideal) (dTile i 0).toLoadRect (M.a11.view.writes (Elt Ideal) f L))⟩ :: L
def storeK2 : List (View.Piece (Elt Ideal) S4096x128 .f32) :=
  ⟨dTile i 1, lastDk (subsAt i M X) (dD i M X 1) (M.a11.view.readAt (Elt Ideal) (dTile i 1).toLoadRect (M.a11.view.writes (Elt Ideal) f L))⟩ :: L
end

section
variable (f : BufTy.Contents (Elt Ideal) M.a12.view.ty) (L : List (View.Piece (Elt Ideal) S4096x128 .f32))
/-- The same for the value gradient. -/
def storeV1 : List (View.Piece (Elt Ideal) S4096x128 .f32) :=
  ⟨dTile i 0, stepDv (subsAt i M X) (dW i M X 0) (M.a12.view.readAt (Elt Ideal) (dTile i 0).toLoadRect (M.a12.view.writes (Elt Ideal) f L))⟩ :: L
def storeV2 : List (View.Piece (Elt Ideal) S4096x128 .f32) :=
  ⟨dTile i 1, lastDv (subsAt i M X) (dW i M X 1) (M.a12.view.readAt (Elt Ideal) (dTile i 1).toLoadRect (M.a12.view.writes (Elt Ideal) f L))⟩ :: L
end

section
variable (f : BufTy.Contents (Elt Ideal) M.a13.view.ty) (L : List (View.Piece (Elt Ideal) S128x4096 .f32)) (acc : Acc)
/-- The same for the running sums' gradient, and the store of the point's own rows' sums. -/
def storeC1 : List (View.Piece (Elt Ideal) S128x4096 .f32) :=
  ⟨dOut i 0, stepDc (dD i M X 0) (M.a13.view.readAt (Elt Ideal) (dOut i 0).toLoadRect (M.a13.view.writes (Elt Ideal) f L))⟩ :: L
def storeC2 : List (View.Piece (Elt Ideal) S128x4096 .f32) :=
  ⟨dOut i 1, lastDc (dD i M X 1) (M.a13.view.readAt (Elt Ideal) (dOut i 1).toLoadRect (M.a13.view.writes (Elt Ideal) f L))⟩ :: L
def storeC3 : List (View.Piece (Elt Ideal) S128x4096 .f32) :=
  ⟨dOwn i, rowsT acc.2.2.2.2.1 acc.2.2.2.2.2.1 (sR2 i M X acc) (sR3 i M X acc) (M.a13.view.readAt (Elt Ideal) (dOwn i).toLoadRect (M.a13.view.writes (Elt Ideal) f L))⟩ :: L
end

section
variable (R : Left)
/-- All of a point's stores to each gradient, when the remainder left `R` over the stores `L` on `f`. -/
def allQ : List (View.Piece (Elt Ideal) S512x128 .f32) := storesQ i M X (fAcc i M X R.1)
def allK (f : BufTy.Contents (Elt Ideal) M.a11.view.ty) (L : List (View.Piece (Elt Ideal) S4096x128 .f32)) : List (View.Piece (Elt Ideal) S4096x128 .f32) :=
  storeK2 i M X f (storeK1 i M X f (R.2.1 ++ L))
def allV (f : BufTy.Contents (Elt Ideal) M.a12.view.ty) (L : List (View.Piece (Elt Ideal) S4096x128 .f32)) : List (View.Piece (Elt Ideal) S4096x128 .f32) :=
  storeV2 i M X f (storeV1 i M X f (R.2.2.1 ++ L))
def allC (f : BufTy.Contents (Elt Ideal) M.a13.view.ty) (L : List (View.Piece (Elt Ideal) S128x4096 .f32)) : List (View.Piece (Elt Ideal) S128x4096 .f32) :=
  storeC3 i M X f (storeC2 i M X f (storeC1 i M X f (R.2.2.2 ++ L))) (fAcc i M X R.1)
end

end

end Forgetting
-- ==== Proof.FoxMem.lean ====
module
public import proofs.«01_k».proof.Proof.Mem

/-! Reading and writing a rectangle of a two-axis array of finite reals; and arrays changed up to some row or column. -/

@[expose] public section

noncomputable section

namespace Forgetting

open Idealize.ShloMosaic Idealize.ShloMosaic.ValueIdx StickBreaking

/-- A rectangle of an array of reals is a rectangle of the reals. -/
theorem block2 {M N m n : ℕ} {X : (⟨2, ![M, N]⟩ : Shape).Idx → EReal} {f : ℕ → ℕ → ℝ} {off : Fin 2 → ℕ} (a o : ℕ)
    (hoff : off = ![a, o]) (inb : ∀ b : Fin 2, off b + (![m, n] : Fin 2 → ℕ) b ≤ (![M, N] : Fin 2 → ℕ) b)
    (h : ∀ (r : Fin M) (c : Fin N), a ≤ r.val → r.val < a + m → o ≤ c.val → c.val < o + n → X (ix2 r c) = ((f (r - a) (c - o) : ℝ) : EReal)) :
    Rep (m := m) (n := n) (fun y => X ((Rect.unit (s := ⟨2, ![M, N]⟩) off ![m, n] inb).idx y)) f := by
  intro r c
  subst hoff
  have h0 : a + m ≤ M := inb 0
  have h1 : o + n ≤ N := inb 1
  have e : (Rect.unit (s := ⟨2, ![M, N]⟩) ![a, o] ![m, n] inb).idx (ix2 r c)
      = ix2 (⟨a + r.val, by omega⟩ : Fin M) (⟨o + c.val, by omega⟩ : Fin N) := by
    refine funext fun b => Fin.ext ?_
    rw [Rect.idx_unit_val]
    fin_cases b
    · rfl
    · rfl
  show X _ = _
  rw [e, h _ _ (Nat.le_add_right _ _) (by show a + r.val < _; omega) (Nat.le_add_right _ _) (by show o + c.val < _; omega)]
  show ((f (a + r.val - a) (o + c.val - o) : ℝ) : EReal) = _
  rw [Nat.add_sub_cancel_left, Nat.add_sub_cancel_left]

section
variable {sig : RefSig} {κ : Kind} {sp : Space} {M N m n : ℕ} {v : View sig κ sp (⟨2, ![M, N]⟩ : Shape) .f32} {f : v.ty.Contents (Elt Ideal)}
  {L : List (View.Piece (Elt Ideal) (⟨2, ![M, N]⟩ : Shape) .f32)} {F W : ℕ → ℕ → ℝ}

/-- What a store of a rectangle leaves. -/
theorem store2 (hF : Rep (v.read (Elt Ideal) (v.writes (Elt Ideal) f L)) F) {off : Fin 2 → ℕ} (a o : ℕ)
    (hoff : off = ![a, o]) (inb : ∀ b : Fin 2, off b + (![m, n] : Fin 2 → ℕ) b ≤ (![M, N] : Fin 2 → ℕ) b)
    {w : (Rect.unit (s := ⟨2, ![M, N]⟩) off ![m, n] inb).shape.Idx → Elt Ideal .f32} (hw : Rep (m := m) (n := n) w W) :
    Rep (v.read (Elt Ideal) (v.writes (Elt Ideal) f (⟨Rect.unit (s := ⟨2, ![M, N]⟩) off ![m, n] inb, w⟩ :: L)))
      (fun j d => if (a ≤ j ∧ j < a + m) ∧ o ≤ d ∧ d < o + n then W (j - a) (d - o) else F j d) := by
  intro j d
  beta_reduce
  by_cases h0 : a ≤ j.val ∧ j.val < a + m
  · by_cases h1 : o ≤ d.val ∧ d.val < o + n
    · rw [if_pos ⟨h0, h1⟩]
      rw [View.read_writes_cons_unit_of_mem v f inb w L (ix2 j d) (ix2 (⟨j.val - a, by omega⟩ : Fin m) (⟨d.val - o, by omega⟩ : Fin n)) hoff
        (fun b => by match b with
          | ⟨0, _⟩ => show j.val = a + (j.val - a); omega
          | ⟨1, _⟩ => show d.val = o + (d.val - o); omega)]
      exact hw _ _
    · rw [if_neg (fun h => h1 h.2), View.read_writes_cons_unit_of_not_mem v f inb w L (ix2 j d) hoff (1 : Fin 2)
        (by show d.val < o ∨ o + n ≤ d.val; omega)]
      exact hF j d
  · rw [if_neg (fun h => h0 h.1), View.read_writes_cons_unit_of_not_mem v f inb w L (ix2 j d) hoff (0 : Fin 2)
      (by show j.val < a ∨ a + m ≤ j.val; omega)]
    exact hF j d

/-- `A` on the rows before `k`, `B` on the others. -/
def upTo (A B : ℕ → ℕ → ℝ) (k j d : ℕ) : ℝ := if j < k then A j d else B j d

variable {A B : ℕ → ℕ → ℝ} {o : ℕ}

theorem rowLoad (K : Rep (v.read (Elt Ideal) (v.writes (Elt Ideal) f L)) (upTo A B o)) {off : Fin 2 → ℕ} (hoff : off = ![o, 0])
    (inb : ∀ b : Fin 2, off b + (![m, N] : Fin 2 → ℕ) b ≤ (![M, N] : Fin 2 → ℕ) b) :
    Rep (m := m) (n := N) (v.readAt (Elt Ideal) (Rect.unit (s := ⟨2, ![M, N]⟩) off ![m, N] inb).toLoadRect (v.writes (Elt Ideal) f L)) (fun c d => B (o + c) d) := by
  rw [View.readAt_eq_ld]
  exact (K.block o hoff inb).congr fun r _ _ _ => if_neg (by omega)

theorem rowStore (K : Rep (v.read (Elt Ideal) (v.writes (Elt Ideal) f L)) (upTo A B o)) {off : Fin 2 → ℕ} (hoff : off = ![o, 0])
    (inb : ∀ b : Fin 2, off b + (![m, N] : Fin 2 → ℕ) b ≤ (![M, N] : Fin 2 → ℕ) b)
    {w : (Rect.unit (s := ⟨2, ![M, N]⟩) off ![m, N] inb).shape.Idx → Elt Ideal .f32} (hw : Rep (m := m) (n := N) w (fun c d => A (o + c) d)) :
    Rep (v.read (Elt Ideal) (v.writes (Elt Ideal) f (⟨Rect.unit (s := ⟨2, ![M, N]⟩) off ![m, N] inb, w⟩ :: L))) (upTo A B (o + m)) :=
  (store2 K o 0 hoff inb hw).congr fun j d _ hd => by
    unfold upTo
    by_cases h1 : o ≤ j ∧ j < o + m
    · rw [if_pos ⟨h1, Nat.zero_le _, by omega⟩, if_pos h1.2, Nat.add_sub_cancel' h1.1, Nat.sub_zero]
    · rw [if_neg (fun h => h1 h.1)]
      by_cases h2 : j < o
      · rw [if_pos h2, if_pos (by omega)]
      · rw [if_neg h2, if_neg (by omega)]

/-- On row `a`: `A` on the columns before `k`, `B` on the others; on the other rows `F`. -/
def rowTo (a : ℕ) (A B : ℕ → ℝ) (F : ℕ → ℕ → ℝ) (k j s : ℕ) : ℝ := if j = a then (if s < k then A s else B s) else F j s

variable {a : ℕ} {C D : ℕ → ℝ}

theorem colLoad {G : ℕ → ℕ → ℝ} (K : Rep (v.read (Elt Ideal) (v.writes (Elt Ideal) f L)) G) {off : Fin 2 → ℕ} (hoff : off = ![a, o])
    (inb : ∀ b : Fin 2, off b + (![1, n] : Fin 2 → ℕ) b ≤ (![M, N] : Fin 2 → ℕ) b) :
    Rep (m := 1) (n := n) (v.readAt (Elt Ideal) (Rect.unit (s := ⟨2, ![M, N]⟩) off ![1, n] inb).toLoadRect (v.writes (Elt Ideal) f L)) (fun _ c => G a (o + c)) := by
  rw [View.readAt_eq_ld]
  refine block2 a o hoff inb fun r c h0 h1 h2 h3 => (K r c).trans ?_
  rw [Nat.add_sub_cancel' h2, show r.val = a by omega]

theorem colStore (K : Rep (v.read (Elt Ideal) (v.writes (Elt Ideal) f L)) (rowTo a C D F o)) {off : Fin 2 → ℕ} (hoff : off = ![a, o])
    (inb : ∀ b : Fin 2, off b + (![1, n] : Fin 2 → ℕ) b ≤ (![M, N] : Fin 2 → ℕ) b)
    {w : (Rect.unit (s := ⟨2, ![M, N]⟩) off ![1, n] inb).shape.Idx → Elt Ideal .f32} (hw : Rep (m := 1) (n := n) w (fun _ c => C (o + c))) :
    Rep (v.read (Elt Ideal) (v.writes (Elt Ideal) f (⟨Rect.unit (s := ⟨2, ![M, N]⟩) off ![1, n] inb, w⟩ :: L))) (rowTo a C D F (o + n)) :=
  (store2 K a o hoff inb hw).congr fun j d _ _ => by
    unfold rowTo
    by_cases hj : j = a
    · rw [if_pos hj, if_pos hj]
      by_cases h1 : o ≤ d ∧ d < o + n
      · rw [if_pos ⟨by omega, h1⟩, if_pos h1.2, Nat.add_sub_cancel' h1.1]
      · rw [if_neg (fun h => h1 h.2)]
        by_cases h2 : d < o
        · rw [if_pos h2, if_pos (by omega)]
        · rw [if_neg h2, if_neg (by omega)]
    · rw [if_neg hj, if_neg hj, if_neg (fun h => hj (by omega))]

end

end Forgetting
-- ==== Proof.FoxSweep.lean ====
module
public import proofs.«01_k».proof.Proof.FoxPoint
public import proofs.«01_k».proof.Proof.FoxSteps
public import proofs.«01_k».proof.Proof.FoxMem

/-! One grid point of the forgetting attention's backward call: what it carries and what it adds to the gradients, in closed form. -/

@[expose] public section

set_option maxRecDepth 16384

noncomputable section

namespace Forgetting

open Idealize.ShloMosaic Idealize.ShloMosaic.ValueIdx Idealize.ShloMosaic.TcCoe Idealize.ShloMosaic.Tactic Cert.Kernel3Ideal Cert.Kernel3Ideal.Gen
open StickBreaking (Rep sc)

theorem head_lt (i : grid0.Coords) : (i 0).val < 4 := (i 0).isLt
theorem block_lt (i : grid0.Coords) : (i 1).val < 8 := (i 1).isLt

/-- What a point reads: its 512 queries, their arriving gradient, running sums, log normalisers and outputs; the head's keys
and values; all keys' running sums. -/
structure PointIn (h : Head) (i : grid0.Coords) (X : Ins) : Prop where
  q : Rep X.q (fun r d => h.q (512 * (i 1).val + r) d)
  k : Rep X.k h.k
  v : Rep X.v h.v
  c : ∀ r : Fin 512, X.c (ix2 r (⟨8 + (i 0).val, by have := head_lt i; omega⟩ : Fin 128)) = ((h.c (512 * (i 1).val + r) : ℝ) : EReal)
  ct : ∀ s : Fin 4096, X.ct (ix2 (⟨(i 0).val, by have := head_lt i; omega⟩ : Fin 8) s) = ((h.c s : ℝ) : EReal)
  o : ∃ e : ℕ → ℕ → ℝ, Rep X.o e ∧ ∀ r, r < 512 → h.dl (512 * (i 1).val + r) = ∑ d ∈ Finset.range 128, h.g (512 * (i 1).val + r) d * e r d
  ls : Rep X.ls (fun r _ => h.ls (512 * (i 1).val + r))
  g : Rep X.g (fun r d => h.g (512 * (i 1).val + r) d)

theorem trips_sweep : ∀ i : grid0.Coords, (k0_t1_loop i).trips = 2 * (i 1).val := by decide +kernel
theorem trips_rest (i : grid0.Coords) : (k0_t2_loop i).trips = 0 := Nat.le_zero.mp (k0_t2_abs i).2.1

/-! The body's words for the first query of a sub-block and the first key of a tile. -/

theorem row_0 : ∀ i : grid0.Coords, rowW i 0#32 = BitVec.ofNat 32 (512 * (i 1).val) := by decide +kernel
theorem row_1 : ∀ i : grid0.Coords, rowW i 128#32 = BitVec.ofNat 32 (512 * (i 1).val + 128) := by decide +kernel
theorem row_2 : ∀ i : grid0.Coords, rowW i 256#32 = BitVec.ofNat 32 (512 * (i 1).val + 256) := by decide +kernel
theorem row_3 : ∀ i : grid0.Coords, rowW i 384#32 = BitVec.ofNat 32 (512 * (i 1).val + 384) := by decide +kernel
theorem col_r : ∀ i : grid0.Coords, ∀ r : Fin 2, colW i (BitVec.ofNat 32 r.val) = BitVec.ofNat 32 (512 * (i 1).val + 256 * r.val) := by decide +kernel

variable {h : Head} (c : Dev nD) {i : grid0.Coords} {M : Mems} {X : Ins} (H : PointIn h i X)

include H in
theorem PointIn.rows_rep {ε : EltTy} {a : Memref sig .tc .vmem S512x128 ε} (w : a.IsWhole) (x : Vec Ideal S512x128 ε) (o : ℕ)
    (hb : ∀ b, (![o, 0] : Fin 2 → ℕ) b + S128x128.size b ≤ S512x128.size b) :
    rows a (w.unread x) o hb = fun y => x ((Rect.unit (s := S512x128) ![o, 0] S128x128.size hb).idx y) := by
  unfold rows
  rw [View.readAt_eq_ld, w.read_unread]

include H in
/-- A sub-block holds the head's numbers. -/
theorem PointIn.sub (o : ℕ) (ho : o + 128 ≤ 512) (hb : ∀ b, (![o, 0] : Fin 2 → ℕ) b + S128x128.size b ≤ S512x128.size b) :
    SubIn h (512 * (i 1).val + o) (subAt i M X o hb) where
  q := by
    refine sqT_rep (f := fun r d => h.q (512 * (i 1).val + o + r) d) ?_
    rw [H.rows_rep]
    exact (H.q.block o rfl hb).congr fun r c _ _ => by rw [add_assoc]
  g := by
    show Rep (truncf (F := Ideal) (s := S128x128) .bf16 (rows M.a9 (M.h9.unread X.g) o hb) bitsLt_bf16_f32) _
    rw [H.rows_rep]
    exact ((H.g.block o rfl hb).congr fun r c _ _ => by rw [add_assoc]).trunc bitsLt_bf16_f32
  c := by
    refine pickT_rep (i 0).val (head_lt i) fun r => ?_
    rw [H.rows_rep]
    have e : (Rect.unit (s := S512x128) ![o, 0] S128x128.size hb).idx (ix2 r (⟨8 + (i 0).val, by have := head_lt i; omega⟩ : Fin 128))
        = ix2 (⟨o + r.val, by omega⟩ : Fin 512) (⟨8 + (i 0).val, by have := head_lt i; omega⟩ : Fin 128) := by
      refine funext fun b => Fin.ext ?_
      rw [Rect.idx_unit_val]
      fin_cases b
      · rfl
      · exact Nat.zero_add _
    beta_reduce
    rw [e, H.c]
    show ((h.c (512 * (i 1).val + (o + r.val)) : ℝ) : EReal) = _
    rw [← add_assoc]
  ls := by
    show Rep (headT (rows M.a8 (M.h8.unread X.ls) o hb)) _
    rw [H.rows_rep]
    exact (headT_rep (H.ls.block o rfl hb)).congr fun r c _ _ => by rw [add_assoc]
  dl := by
    obtain ⟨e, he, hd⟩ := H.o
    show Rep (dlT (rows M.a9 (M.h9.unread X.g) o hb) (rows M.a7 (M.h7.unread X.o) o hb)) _
    rw [H.rows_rep, H.rows_rep]
    exact (dlT_rep (H.g.block o rfl hb) (he.block o rfl hb)).congr fun r c hr _ => by
      rw [add_assoc, hd (o + r) (by omega)]

include H in
theorem PointIn.subs : SubsIn h (512 * (i 1).val) (subsAt i M X) :=
  ⟨H.sub 0 (by omega) _, H.sub 128 (by omega) _, H.sub 256 (by omega) _, H.sub 384 (by omega) _⟩

include H in
/-- A tile's keys, values and running sums. -/
theorem PointIn.tile (j : ℕ) {off : Fin 2 → ℕ} (hoff : off = ![j, 0]) (inb : ∀ a, off a + S256x128.size a ≤ S4096x128.size a)
    {roff : Fin 2 → ℕ} (hroff : roff = ![(i 0).val, j]) (rinb : ∀ a, roff a + S1x256.size a ≤ S8x4096.size a) :
    TileIn h j (M.a3.view.readAt (Elt Ideal) (Rect.unit (s := S4096x128) off S256x128.size inb).toLoadRect (M.h3.unread X.k))
      (M.a4.view.readAt (Elt Ideal) (Rect.unit (s := S4096x128) off S256x128.size inb).toLoadRect (M.h4.unread X.v))
      (M.a6.view.readAt (Elt Ideal) (Rect.unit (s := S8x4096) roff S1x256.size rinb).toLoadRect (M.h6.unread X.ct)) where
  k := by
    rw [View.readAt_eq_ld, M.h3.read_unread]
    exact H.k.block _ hoff inb
  v := by
    rw [View.readAt_eq_ld, M.h4.read_unread]
    exact H.v.block _ hoff inb
  row := by
    rw [View.readAt_eq_ld, M.h6.read_unread]
    refine block2 (i 0).val j hroff rinb fun r s h0 h1 h2 h3 => ?_
    have e : r = (⟨(i 0).val, by have := head_lt i; omega⟩ : Fin 8) := Fin.ext (by show r.val = (i 0).val; omega)
    rw [e, H.ct, Nat.add_sub_cancel' h2]

variable {f11 : BufTy.Contents (Elt Ideal) M.a11.view.ty} {f12 : BufTy.Contents (Elt Ideal) M.a12.view.ty} {f13 : BufTy.Contents (Elt Ideal) M.a13.view.ty}

/-- The gradients when the point's queries are in those of the keys before `j`. -/
structure Sofar (h : Head) (i : grid0.Coords) (M : Mems) (F : ℕ → ℕ → ℝ) (j : ℕ) (g11 : BufTy.Contents (Elt Ideal) M.a11.view.ty)
    (g12 : BufTy.Contents (Elt Ideal) M.a12.view.ty) (g13 : BufTy.Contents (Elt Ideal) M.a13.view.ty) : Prop where
  k : Rep (M.a11.view.read (Elt Ideal) g11) (upTo (h.dk (512 * (i 1).val + 512)) (h.dk (512 * (i 1).val)) j)
  v : Rep (M.a12.view.read (Elt Ideal) g12) (upTo (h.dv (512 * (i 1).val + 512)) (h.dv (512 * (i 1).val)) j)
  c : Rep (M.a13.view.read (Elt Ideal) g13) (rowTo ((i 0).val + 8) (h.dc (512 * (i 1).val) (512 * (i 1).val + 512)) (h.dc (512 * (i 1).val) (512 * (i 1).val)) F j)

variable {F : ℕ → ℕ → ℝ}

include H in
/-- The sweep after `n` tiles. -/
theorem PointIn.sweep_rep (S : Sofar h i M F 0 f11 f12 f13) (n : ℕ) (hn : n ≤ (k0_t1_loop i).trips) :
    AccAt h (512 * (i 1).val) (256 * n) (sweep c i M X f11 f12 f13 n).1
    ∧ Sofar h i M F (256 * n) (M.a11.view.writes (Elt Ideal) f11 (sweep c i M X f11 f12 f13 n).2.1)
      (M.a12.view.writes (Elt Ideal) f12 (sweep c i M X f11 f12 f13 n).2.2.1) (M.a13.view.writes (Elt Ideal) f13 (sweep c i M X f11 f12 f13 n).2.2.2) := by
  induction n with
  | zero => exact ⟨acc0_at h _, S⟩
  | succ n ih =>
    obtain ⟨A, K, V, C⟩ := ih (by omega)
    have hi := block_lt i
    have ht := trips_sweep i
    have hlt : 256 * n + 256 ≤ 512 * (i 1).val := by omega
    have hS := H.subs (M := M)
    have hT := H.tile (M := M) (256 * n) (k0_off1_eq i ⟨n, by omega⟩) (k0_off1_inb i ⟨n, by omega⟩) (k0_off2_eq i ⟨n, by omega⟩) (k0_off2_inb i ⟨n, by omega⟩)
    have hW := fullW_at hS hT hlt
    have hD := grad_at hS hT hW
    unfold sweep at A K V C ⊢
    rw [show n + 1 = (⟨n, by omega⟩ : Fin (k0_t1_loop i).trips).val + 1 from rfl, st_k0_t1_succ, tripR_eq, tripL_eq]
    refine ⟨stepAcc_at hT hD A, ?_, ?_, ?_⟩
    · exact rowStore K (k0_off1_eq i ⟨n, by omega⟩) _ (stepDk_at hD hS (rowLoad K (k0_off1_eq i ⟨n, by omega⟩) _))
    · exact rowStore V (k0_off1_eq i ⟨n, by omega⟩) _ (stepDv_at hW hS (rowLoad V (k0_off1_eq i ⟨n, by omega⟩) _))
    · have hC := colLoad (n := 256) C (k0_off3_eq i ⟨n, by omega⟩) (k0_off3_inb i ⟨n, by omega⟩)
      refine colStore C (k0_off3_eq i ⟨n, by omega⟩) _ (stepDc_at (m := 512 * (i 1).val) hD (hC.congr fun r s _ hs => ?_))
      unfold rowTo
      rw [if_pos rfl, if_neg (by show ¬256 * n + s < 256 * n; omega)]

omit c in
theorem rest_eq (c : Dev nD) : rest c i M X f11 f12 f13 = ((swept c i M X f11 f12 f13).1, [], [], []) := by
  unfold rest restFrom
  rw [trips_rest]
  rfl

/-! ## The diagonal -/

theorem ok_at (r : Fin 2) (o : ℕ) (ho : o + 128 ≤ 512) (w : BitVec 32) (hw : rowW i w = BitVec.ofNat 32 (512 * (i 1).val + o)) :
    UpTo (512 * (i 1).val + o) (512 * (i 1).val + 256 * r.val) (okT (rowW i w) (colW i (BitVec.ofNat 32 r.val))) := by
  have hi := block_lt i
  have hr := r.isLt
  exact okT_apply _ _ (by omega) (by omega) _ _ hw (col_r i r)

include H in
theorem PointIn.dTileIn (r : Fin 2) : TileIn h (512 * (i 1).val + 256 * r.val) (dK i M X r) (dV i M X r) (dC i M X r) :=
  H.tile _ (k0_off7_eq i r) _ (k0_off8_eq i r) _
include H in
theorem PointIn.dW_at (r : Fin 2) : FourAt h.w (512 * (i 1).val) (512 * (i 1).val + 256 * r.val) (dW i M X r) :=
  maskW_at H.subs (H.dTileIn r) (ok_at r 0 (by omega) _ (row_0 i)) (ok_at r 128 (by omega) _ (row_1 i)) (ok_at r 256 (by omega) _ (row_2 i)) (ok_at r 384 (by omega) _ (row_3 i))
include H in
theorem PointIn.dD_at (r : Fin 2) : FourAt h.ds (512 * (i 1).val) (512 * (i 1).val + 256 * r.val) (dD i M X r) :=
  grad_at H.subs (H.dTileIn r) (H.dW_at r)

variable {acc : Acc}

include H in
/-- The carried values after the diagonal's first tile. -/
theorem PointIn.fAcc_at (A : AccAt h (512 * (i 1).val) (512 * (i 1).val) acc) : AccAt h (512 * (i 1).val) (512 * (i 1).val + 256) (fAcc i M X acc) :=
  stepAcc_at (H.dTileIn 0) (H.dD_at (M := M) 0) A

section
variable {f : BufTy.Contents (Elt Ideal) M.a11.view.ty} {L : List (View.Piece (Elt Ideal) S4096x128 .f32)}
include H

theorem PointIn.dk_all (K : Rep (M.a11.view.read (Elt Ideal) (M.a11.view.writes (Elt Ideal) f L)) (upTo (h.dk (512 * (i 1).val + 512)) (h.dk (512 * (i 1).val)) (512 * (i 1).val))) :
    Rep (M.a11.view.read (Elt Ideal) (M.a11.view.writes (Elt Ideal) f (storeK2 i M X f (storeK1 i M X f L)))) (h.dk (512 * (i 1).val + 512)) := by
  have K1 := rowStore K (k0_off7_eq i 0) (k0_off7_inb i 0) (stepDk_at (H.dD_at (M := M) 0) (H.subs (M := M)) (rowLoad K (k0_off7_eq i 0) (k0_off7_inb i 0)))
  have K2 := rowStore (m := 256) K1 (k0_off7_eq i 1) (k0_off7_inb i 1) (lastDk_at (H.dD_at (M := M) 1) (H.subs (M := M)) (by simp) (rowLoad (m := 256) K1 (k0_off7_eq i 1) (k0_off7_inb i 1)))
  refine Rep.congr K2 fun j d _ _ => ?_
  unfold upTo
  split
  · rfl
  · rw [h.dk_none _ _ _ (by omega), h.dk_none _ _ _ (by omega)]
end

section
variable {f : BufTy.Contents (Elt Ideal) M.a12.view.ty} {L : List (View.Piece (Elt Ideal) S4096x128 .f32)}
include H

theorem PointIn.dv_all (K : Rep (M.a12.view.read (Elt Ideal) (M.a12.view.writes (Elt Ideal) f L)) (upTo (h.dv (512 * (i 1).val + 512)) (h.dv (512 * (i 1).val)) (512 * (i 1).val))) :
    Rep (M.a12.view.read (Elt Ideal) (M.a12.view.writes (Elt Ideal) f (storeV2 i M X f (storeV1 i M X f L)))) (h.dv (512 * (i 1).val + 512)) := by
  have K1 := rowStore K (k0_off7_eq i 0) (k0_off7_inb i 0) (stepDv_at (H.dW_at (M := M) 0) (H.subs (M := M)) (rowLoad K (k0_off7_eq i 0) (k0_off7_inb i 0)))
  have K2 := rowStore (m := 256) K1 (k0_off7_eq i 1) (k0_off7_inb i 1) (lastDv_at (H.dW_at (M := M) 1) (H.subs (M := M)) (by simp) (rowLoad (m := 256) K1 (k0_off7_eq i 1) (k0_off7_inb i 1)))
  refine Rep.congr K2 fun j d _ _ => ?_
  unfold upTo
  split
  · rfl
  · rw [h.dv_none _ _ _ (by omega), h.dv_none _ _ _ (by omega)]
end

section
variable {f : BufTy.Contents (Elt Ideal) M.a13.view.ty} {L : List (View.Piece (Elt Ideal) S128x4096 .f32)}
include H

theorem PointIn.dc_all (A : AccAt h (512 * (i 1).val) (512 * (i 1).val + 256) acc)
    (C : Rep (M.a13.view.read (Elt Ideal) (M.a13.view.writes (Elt Ideal) f L))
      (rowTo ((i 0).val + 8) (h.dc (512 * (i 1).val) (512 * (i 1).val + 512)) (h.dc (512 * (i 1).val) (512 * (i 1).val)) F (512 * (i 1).val))) :
    Rep (M.a13.view.read (Elt Ideal) (M.a13.view.writes (Elt Ideal) f (storeC3 i M X f (storeC2 i M X f (storeC1 i M X f L)) acc)))
      (fun j s => if j = (i 0).val + 8 then h.dc (512 * (i 1).val + 512) (512 * (i 1).val + 512) s else F j s) := by
  have hi := block_lt i
  have C1 := colStore C (k0_off9_eq i 0) (k0_off9_inb i 0) (stepDc_at (m := 512 * (i 1).val) (H.dD_at (M := M) 0) ((colLoad C (k0_off9_eq i 0) (k0_off9_inb i 0)).congr fun r s _ _ => by
    unfold rowTo; rw [if_pos rfl, if_neg (by simp)]; simp))
  have C2 := colStore (n := 256) C1 (k0_off9_eq i 1) (k0_off9_inb i 1) (lastDc_at (m := 512 * (i 1).val) (H.dD_at (M := M) 1) (by simp) ((colLoad (n := 256) C1 (k0_off9_eq i 1) (k0_off9_inb i 1)).congr fun r s _ _ => by
    unfold rowTo; rw [if_pos rfl, if_neg (by simp)]; simp))
  have e4 : ∀ t d, t < 512 * (i 1).val + 512 → h.rs 4096 t = h.rs (512 * (i 1).val + 512) t := fun t _ ht => h.rs_stop t _ _ ht (by omega)
  have hold := colLoad (n := 512) C2 (k0_off10_eq i) (k0_off10_inb i)
  have r2 := rsT_rep (t0 := 512 * (i 1).val + 256) (H.dD_at (M := M) 1).w2 A.r2
  have r3 := rsT_rep (t0 := 512 * (i 1).val + 384) (H.dD_at (M := M) 1).w3 A.r3
  refine Rep.congr (store2 C2 ((i 0).val + 8) (512 * (i 1).val) (k0_off10_eq i) (k0_off10_inb i) (rowsT_at (h := h) (n0 := 512 * (i 1).val)
    (A.r0.congr fun r _ hr _ => (h.rs_stop _ _ _ (by omega) (by omega)).symm) (A.r1.congr fun r _ hr _ => (h.rs_stop _ _ _ (by omega) (by omega)).symm)
    (r2.congr fun r _ hr _ => (h.rs_stop _ _ _ (by simp; omega) (by simp; omega)).symm) (r3.congr fun r _ hr _ => (h.rs_stop _ _ _ (by simp; omega) (by simp; omega)).symm)
    (hold.congr fun r l _ hl => ?_))) fun j s hj hs => ?_
  · unfold rowTo; rw [if_pos rfl, if_pos (by simp; omega)]
  · by_cases hja : j = (i 0).val + 8
    · rw [if_pos hja]
      by_cases h1 : 512 * (i 1).val ≤ s ∧ s < 512 * (i 1).val + 512
      · rw [if_pos ⟨by omega, h1⟩, Nat.add_sub_cancel' h1.1]
      · rw [if_neg (fun h => h1 h.2)]
        unfold rowTo Head.dc
        rw [if_pos hja]
        simp only [Fin.val_one, Nat.mul_one]
        by_cases h2 : s < 512 * (i 1).val
        · rw [if_pos (by omega), if_pos h2, if_pos (by omega)]
        · rw [if_neg (by omega), if_neg h2, if_neg (by omega), h.cs_none _ _ (by omega), h.cs_none _ _ (by omega)]
    · rw [if_neg hja, if_neg (fun h => hja (by omega))]
      unfold rowTo
      rw [if_neg hja]
end

/-! ## The query gradient -/

/-- Four stores of 128 rows each fill a 512-row array. -/
theorem four_rows {v : View sig .tc .vmem S512x128 .f32} (f : v.ty.Contents (Elt Ideal)) {w0 w1 w2 w3 : FVec Ideal S128x128 .f32} {W0 W1 W2 W3 F : ℕ → ℕ → ℝ}
    (i0 : ∀ b, (![0, 0] : Fin 2 → ℕ) b + S128x128.size b ≤ S512x128.size b) (i1 : ∀ b, (![128, 0] : Fin 2 → ℕ) b + S128x128.size b ≤ S512x128.size b)
    (i2 : ∀ b, (![256, 0] : Fin 2 → ℕ) b + S128x128.size b ≤ S512x128.size b) (i3 : ∀ b, (![384, 0] : Fin 2 → ℕ) b + S128x128.size b ≤ S512x128.size b)
    (h0 : Rep w0 W0) (h1 : Rep w1 W1) (h2 : Rep w2 W2) (h3 : Rep w3 W3)
    (e0 : ∀ r d, r < 128 → W0 r d = F r d) (e1 : ∀ r d, r < 128 → W1 r d = F (128 + r) d)
    (e2 : ∀ r d, r < 128 → W2 r d = F (256 + r) d) (e3 : ∀ r d, r < 128 → W3 r d = F (384 + r) d) :
    Rep (v.read (Elt Ideal) (v.writes (Elt Ideal) f
      [⟨Rect.unit (s := S512x128) ![384, 0] S128x128.size i3, w3⟩, ⟨Rect.unit (s := S512x128) ![256, 0] S128x128.size i2, w2⟩,
       ⟨Rect.unit (s := S512x128) ![128, 0] S128x128.size i1, w1⟩, ⟨Rect.unit (s := S512x128) ![0, 0] S128x128.size i0, w0⟩])) F := by
  intro j d
  have hj := j.isLt
  by_cases c3 : 384 ≤ j.val
  · rw [View.read_writes_cons_rows_of_mem v f i3 w3 _ (ix2 j d) (ix2 (⟨j.val - 384, by omega⟩ : Fin 128) d) rfl
      (by show j.val = 384 + (j.val - 384); omega) rfl]
    exact (h3 _ _).trans (congrArg _ ((e3 _ _ (by show j.val - 384 < 128; omega)).trans (by rw [show 384 + (j.val - 384) = j.val by omega])))
  rw [View.read_writes_cons_rows_of_not_mem v f i3 w3 _ (ix2 j d) rfl rfl (by show j.val < 384 ∨ _; omega)]
  by_cases c2 : 256 ≤ j.val
  · rw [View.read_writes_cons_rows_of_mem v f i2 w2 _ (ix2 j d) (ix2 (⟨j.val - 256, by omega⟩ : Fin 128) d) rfl
      (by show j.val = 256 + (j.val - 256); omega) rfl]
    exact (h2 _ _).trans (congrArg _ ((e2 _ _ (by show j.val - 256 < 128; omega)).trans (by rw [show 256 + (j.val - 256) = j.val by omega])))
  rw [View.read_writes_cons_rows_of_not_mem v f i2 w2 _ (ix2 j d) rfl rfl (by show j.val < 256 ∨ _; omega)]
  by_cases c1 : 128 ≤ j.val
  · rw [View.read_writes_cons_rows_of_mem v f i1 w1 _ (ix2 j d) (ix2 (⟨j.val - 128, by omega⟩ : Fin 128) d) rfl
      (by show j.val = 128 + (j.val - 128); omega) rfl]
    exact (h1 _ _).trans (congrArg _ ((e1 _ _ (by show j.val - 128 < 128; omega)).trans (by rw [show 128 + (j.val - 128) = j.val by omega])))
  rw [View.read_writes_cons_rows_of_not_mem v f i1 w1 _ (ix2 j d) rfl rfl (by show j.val < 128 ∨ _; omega)]
  rw [View.read_writes_cons_rows_of_mem v f i0 w0 _ (ix2 j d) (ix2 (⟨j.val, by omega⟩ : Fin 128) d) rfl
      (by show j.val = 0 + j.val; omega) rfl]
  exact (h0 _ _).trans (congrArg _ (e0 _ _ (by show j.val < 128; omega)))

include H in
theorem PointIn.dq_all (A : AccAt h (512 * (i 1).val) (512 * (i 1).val + 256) acc) {b : View sig .tc .vmem S512x128 .f32} (f : b.ty.Contents (Elt Ideal)) :
    Rep (b.read (Elt Ideal) (b.writes (Elt Ideal) f (storesQ i M X acc))) (fun r d => h.dq 4096 (512 * (i 1).val + r) d * sc) := by
  have hi := block_lt i
  have q2 := dqT_rep (t0 := 512 * (i 1).val + 256) (H.dTileIn (M := M) 1) (H.dD_at (M := M) 1).w2 A.d2
  have q3 := dqT_rep (t0 := 512 * (i 1).val + 384) (H.dTileIn (M := M) 1) (H.dD_at (M := M) 1).w3 A.d3
  refine four_rows f (F := fun r d => h.dq 4096 (512 * (i 1).val + r) d * sc) _ _ _ _ (finT_rep A.d0) (finT_rep A.d1) (finT_rep q2) (finT_rep q3) ?_ ?_ ?_ ?_
    <;> intro r d hr <;> dsimp only <;> rw [← h.dq_stop _ _ 4096 _ (by simp; omega) (by simp; omega)] <;> (try rw [add_assoc])

end Forgetting
-- ==== Proof.FoxBlocks.lean ====
module
public import proofs.«01_k».proof.Proof.FoxHost
public import proofs.«01_k».proof.Proof.FoxSweep

/-! What the call's input blocks hold at grid point `8·head + row block`. -/

@[expose] public section

set_option maxRecDepth 16384

noncomputable section

namespace Forgetting

open Idealize.ShloMosaic Idealize.ShloMosaic.ValueIdx Idealize.ShloMosaic.TcCoe Idealize.ShloMosaic.Pipeline Cert.Kernel3Ideal Cert.Kernel3Ideal.Gen
open StickBreaking (On Rep sc)

theorem index_in : ∀ t : Fin cfg0.N,
    ((win0_0.index t (0 : Fin 2) = t.val % 8 ∧ win0_0.index t (1 : Fin 2) = t.val / 8)
      ∧ (win0_1.index t (0 : Fin 2) = 0 ∧ win0_1.index t (1 : Fin 2) = t.val / 8)
      ∧ (win0_2.index t (0 : Fin 2) = 0 ∧ win0_2.index t (1 : Fin 2) = t.val / 8)
      ∧ (win0_3.index t (0 : Fin 2) = t.val % 8 ∧ win0_3.index t (1 : Fin 2) = 0))
    ∧ ((win0_4.index t (0 : Fin 2) = 1 ∧ win0_4.index t (1 : Fin 2) = 0)
      ∧ (win0_5.index t (0 : Fin 2) = t.val % 8 ∧ win0_5.index t (1 : Fin 2) = t.val / 8)
      ∧ (win0_6.index t (0 : Fin 2) = t.val % 8 ∧ win0_6.index t (1 : Fin 2) = t.val / 8)
      ∧ (win0_7.index t (0 : Fin 2) = t.val % 8 ∧ win0_7.index t (1 : Fin 2) = t.val / 8)) :=
  (by decide +kernel : ∀ t : Fin grid0.N, _)

theorem coord_row : ∀ t : Fin cfg0.N, (grid0.coords t 1).val = t.val % 8 := (by decide +kernel : ∀ t : Fin grid0.N, _)
theorem coord_head : ∀ t : Fin cfg0.N, (grid0.coords t 0).val = t.val / 8 := (by decide +kernel : ∀ t : Fin grid0.N, _)

variable (m : (ℓ : Loc nD τ sig) → Buf (Elt Ideal) ℓ) (c : Dev nD) {a : Arr}
  (H : Given a (m ((c : Thread nD τ).loc main_arg0)) (m ((c : Thread nD τ).loc main_arg1)) (m ((c : Thread nD τ).loc main_arg2))
    (m ((c : Thread nD τ).loc main_arg3)) (m ((c : Thread nD τ).loc main_arg4)))
  (t : Fin cfg0.N)
include H

theorem in_0 : Rep (iblk m c 0 t : Vec Ideal S512x128 .bf16) (fun r d => a.q (512 * (t.val % 8) + r) (128 * (t.val / 8) + d)) := by
  intro r d
  have e := index_in t
  show V m c main_arg0 ((win0_0.blk t).view.emb (ix2 r d)) = _
  rw [V_main_arg0]
  refine H.q.at _ ?_ ?_
  · refine (win0_0.rect_emb_val t (ix2 r d) 0).trans ?_
    rw [e.1.1.1]; show _ * 512 + r.val = _; omega
  · refine (win0_0.rect_emb_val t (ix2 r d) 1).trans ?_
    rw [e.1.1.2]; show _ * 128 + d.val = _; omega

theorem in_1 : Rep (iblk m c 1 t : Vec Ideal S4096x128 .bf16) (fun r d => a.k r (128 * (t.val / 8) + d)) := by
  intro r d
  have e := index_in t
  show V m c main_arg1 ((win0_1.blk t).view.emb (ix2 r d)) = _
  rw [V_main_arg1]
  refine H.k.at _ ?_ ?_
  · refine (win0_1.rect_emb_val t (ix2 r d) 0).trans ?_
    rw [e.1.2.1.1]; show _ * 4096 + r.val = _; omega
  · refine (win0_1.rect_emb_val t (ix2 r d) 1).trans ?_
    rw [e.1.2.1.2]; show _ * 128 + d.val = _; omega

theorem in_2 : Rep (iblk m c 2 t : Vec Ideal S4096x128 .bf16) (fun r d => a.v r (128 * (t.val / 8) + d)) := by
  intro r d
  have e := index_in t
  show V m c main_arg2 ((win0_2.blk t).view.emb (ix2 r d)) = _
  rw [V_main_arg2]
  refine H.v.at _ ?_ ?_
  · refine (win0_2.rect_emb_val t (ix2 r d) 0).trans ?_
    rw [e.1.2.2.1.1]; show _ * 4096 + r.val = _; omega
  · refine (win0_2.rect_emb_val t (ix2 r d) 1).trans ?_
    rw [e.1.2.2.1.2]; show _ * 128 + d.val = _; omega

theorem in_3 (r : Fin 512) (l : Fin 128) (hl : l.val = 8 + t.val / 8) :
    (iblk m c 3 t : Vec Ideal S512x128 .f32) (ix2 r l) = ((a.c (512 * (t.val % 8) + r.val) (t.val / 8) : ℝ) : EReal) := by
  have e := index_in t
  have ht : t.val < 32 := N_0 ▸ t.isLt
  have e0 : ((win0_3.blk t).view.emb (ix2 r l) 0).val = 512 * (t.val % 8) + r.val := by
    refine (win0_3.rect_emb_val t (ix2 r l) 0).trans ?_
    rw [e.1.2.2.2.1]; show _ * 512 + r.val = _; omega
  have e1 : ((win0_3.blk t).view.emb (ix2 r l) 1).val = 8 + t.val / 8 := by
    refine (win0_3.rect_emb_val t (ix2 r l) 1).trans ?_
    rw [e.1.2.2.2.2]; show 0 * 128 + l.val = _; omega
  show V m c main_arg3 ((win0_3.blk t).view.emb (ix2 r l)) = _
  rw [V_main_arg3]
  refine (H.c _ (by rw [e1]; omega) (by rw [e1]; omega)).trans ?_
  rw [e0, e1, Nat.add_sub_cancel_left]

theorem in_4 (b : Fin 8) (s : Fin 4096) (hb : b.val = t.val / 8) :
    (iblk m c 4 t : Vec Ideal S8x4096 .f32) (ix2 b s) = ((a.c s.val (t.val / 8) : ℝ) : EReal) := by
  have e := index_in t
  have ht : t.val < 32 := N_0 ▸ t.isLt
  have e0 : ((win0_4.blk t).view.emb (ix2 b s) 0).val = 8 + t.val / 8 := by
    refine (win0_4.rect_emb_val t (ix2 b s) 0).trans ?_
    rw [e.2.1.1]; show 1 * 8 + b.val = _; omega
  have e1 : ((win0_4.blk t).view.emb (ix2 b s) 1).val = s.val := by
    refine (win0_4.rect_emb_val t (ix2 b s) 1).trans ?_
    rw [e.2.1.2]; show 0 * 4096 + s.val = _; omega
  show V m c main_v50 ((win0_4.blk t).view.emb (ix2 b s)) = _
  rw [V_ct]
  generalize hj : (win0_4.blk t).view.emb (ix2 b s) = j at e0 e1 ⊢
  rw [transpose_apply (s := S4096x128) (t := S128x4096) [1, 0] _ _ j (ix2 (j 1 : Fin 4096) (j 0 : Fin 128)) (fun b => match b with | ⟨0, _⟩ => rfl | ⟨1, _⟩ => rfl)]
  refine (H.c _ (by show 8 ≤ (j 0).val; omega) (by show (j 0).val < 12; omega)).trans ?_
  show ((a.c (j 1).val ((j 0).val - 8) : ℝ) : EReal) = _
  rw [e0, e1, Nat.add_sub_cancel_left]

theorem in_5 : Rep (iblk m c 5 t : Vec Ideal S512x128 .f32)
    (fun r d => ∑ s ∈ Finset.range 4096, (a.head (t.val / 8)).w (512 * (t.val % 8) + r) s * (a.base (t.val / 8)).v s d) := by
  intro r d
  have e := index_in t
  have hq : (128 * (t.val / 8) + d.val) / 128 = t.val / 8 := by omega
  have hm : (128 * (t.val / 8) + d.val) % 128 = d.val := by omega
  show V m c main_v40 ((win0_5.blk t).view.emb (ix2 r d)) = _
  rw [V_o]
  refine ((ref_out H).at (a := 512 * (t.val % 8) + r.val) (b := 128 * (t.val / 8) + d.val) _ ?_ ?_).trans ?_
  · refine (win0_5.rect_emb_val t (ix2 r d) 0).trans ?_
    rw [e.2.2.1.1]; show _ * 512 + r.val = _; omega
  · refine (win0_5.rect_emb_val t (ix2 r d) 1).trans ?_
    rw [e.2.2.1.2]; show _ * 128 + d.val = _; omega
  · rw [hq, hm]

omit H in
theorem ls_block (x : Vec Ideal S4096x512 .f32) (hx : Rep x (fun t n => (a.head (n / 128)).ls t)) (r : Fin 512) (d : Fin 128) :
    x ((win0_6.blk t).view.emb (ix2 r d)) = (((a.head (t.val / 8)).ls (512 * (t.val % 8) + r.val) : ℝ) : EReal) := by
  have e := index_in t
  have hq : (128 * (t.val / 8) + d.val) / 128 = t.val / 8 := by omega
  have e0 : ((win0_6.blk t).view.emb (ix2 r d) 0).val = 512 * (t.val % 8) + r.val := by
    refine (win0_6.rect_emb_val t (ix2 r d) 0).trans ?_
    rw [e.2.2.2.1.1]; show _ * 512 + r.val = _; omega
  have e1 : ((win0_6.blk t).view.emb (ix2 r d) 1).val = 128 * (t.val / 8) + d.val := by
    refine (win0_6.rect_emb_val t (ix2 r d) 1).trans ?_
    rw [e.2.2.2.1.2]; show _ * 128 + d.val = _; omega
  refine (hx.at _ e0 e1).trans ?_
  rw [hq]

omit H in
theorem ls_read (x : Vec Ideal S4096x512 .f32) (hx : Rep x (fun t n => (a.head (n / 128)).ls t)) :
    Rep (((cfg0.win 6).blk t).view.read (Elt Ideal) x : Vec Ideal S512x128 .f32) (fun r _ => (a.head (t.val / 8)).ls (512 * (t.val % 8) + r)) :=
  fun r d => ls_block t x hx r d

theorem in_6 : Rep (iblk m c 6 t : Vec Ideal S512x128 .f32) (fun r _ => (a.head (t.val / 8)).ls (512 * (t.val % 8) + r)) :=
  ls_read t (V m c main_v53) (V_ls_rep m c H)

theorem in_7 : Rep (iblk m c 7 t : Vec Ideal S512x128 .f32) (fun r d => a.g (512 * (t.val % 8) + r) (128 * (t.val / 8) + d)) := by
  intro r d
  have e := index_in t
  show V m c main_arg4 ((win0_7.blk t).view.emb (ix2 r d)) = _
  rw [V_main_arg4]
  refine H.g.at _ ?_ ?_
  · refine (win0_7.rect_emb_val t (ix2 r d) 0).trans ?_
    rw [e.2.2.2.2.1]; show _ * 512 + r.val = _; omega
  · refine (win0_7.rect_emb_val t (ix2 r d) 1).trans ?_
    rw [e.2.2.2.2.2]; show _ * 128 + d.val = _; omega

omit H in
/-- A point's inputs from its blocks' entries, the point's coordinates known. -/
theorem PointIn.of {i : grid0.Coords} {n : ℕ} (h1 : (i 1).val = n % 8) (h0 : (i 0).val = n / 8) {q : Vec Ideal S512x128 .bf16} {k v : Vec Ideal S4096x128 .bf16}
    {x : Vec Ideal S512x128 .f32} {xt : Vec Ideal S8x4096 .f32} {o ls g : Vec Ideal S512x128 .f32}
    (hq : Rep q (fun r d => a.q (512 * (n % 8) + r) (128 * (n / 8) + d))) (hk : Rep k (fun r d => a.k r (128 * (n / 8) + d)))
    (hv : Rep v (fun r d => a.v r (128 * (n / 8) + d)))
    (hc : ∀ (r : Fin 512) (l : Fin 128), l.val = 8 + n / 8 → x (ix2 r l) = ((a.c (512 * (n % 8) + r.val) (n / 8) : ℝ) : EReal))
    (ht : ∀ (b : Fin 8) (s : Fin 4096), b.val = n / 8 → xt (ix2 b s) = ((a.c s.val (n / 8) : ℝ) : EReal))
    (ho : Rep o (fun r d => ∑ s ∈ Finset.range 4096, (a.head (n / 8)).w (512 * (n % 8) + r) s * (a.base (n / 8)).v s d))
    (hl : Rep ls (fun r _ => (a.head (n / 8)).ls (512 * (n % 8) + r))) (hg : Rep g (fun r d => a.g (512 * (n % 8) + r) (128 * (n / 8) + d))) :
    PointIn (a.head (n / 8)) i ⟨q, k, v, x, xt, o, ls, g⟩ := by
  refine ⟨?_, hk, hv, fun r => ?_, fun s => ht _ s h0, ⟨fun r d => ∑ s ∈ Finset.range 4096, (a.head (n / 8)).w (512 * (n % 8) + r) s * (a.base (n / 8)).v s d, ho, fun r _ => ?_⟩, ?_, ?_⟩
  · rw [h1]; exact hq
  · refine (hc r _ (congrArg (8 + ·) h0)).trans ?_
    rw [h1]; rfl
  · rw [h1]
    show (∑ d ∈ Finset.range 128, (a.base (n / 8)).g (512 * (n % 8) + r) d
      * ∑ s ∈ Finset.range 4096, (a.base (n / 8)).u (512 * (n % 8) + r) s / (a.base (n / 8)).norm (512 * (n % 8) + r) * (a.base (n / 8)).v s d) = _
    refine Finset.sum_congr rfl fun d _ => congrArg (fun y : ℝ => (a.base (n / 8)).g (512 * (n % 8) + r) d * y) (Finset.sum_congr rfl fun s _ => ?_)
    exact congrArg (fun y : ℝ => y * (a.base (n / 8)).v s d) ((a.base (n / 8)).full_w (512 * (n % 8) + r) s).symm
  · rw [h1]; exact hl
  · rw [h1]; exact hg

/-- All eight, as the point's program wants them. -/
theorem pointIn : PointIn (a.head (t.val / 8)) (grid0.coords t)
    ⟨iblk m c 0 t, iblk m c 1 t, iblk m c 2 t, iblk m c 3 t, iblk m c 4 t, iblk m c 5 t, iblk m c 6 t, iblk m c 7 t⟩ :=
  PointIn.of (coord_row t) (coord_head t) (in_0 m c H t) (in_1 m c H t) (in_2 m c H t) (in_3 m c H t) (in_4 m c H t) (in_5 m c H t) (in_6 m c H t) (in_7 m c H t)

end Forgetting
-- ==== Proof.FoxCaseA.lean ====
module
public import proofs.«01_k».proof.Proof.FoxPoint

/-! A point at the first point of all, where every gradient starts at zero: its run, and what its sweep leaves. -/

@[expose] public section

set_option maxRecDepth 16384

noncomputable section

namespace Forgetting

open Idealize.ShloMosaic Idealize.ShloMosaic.ValueIdx Idealize.ShloMosaic.TcCoe Idealize.ShloMosaic.Tactic Cert.Kernel3Ideal Cert.Kernel3Ideal.Gen

variable (c : Dev nD) (i : grid0.Coords) (M : Mems) (X : Ins) (hc0 : cond0_0 i) (hc1 : cond0_1 i)

/-- The run of the body. -/
abbrev runA := kernelRun0_A (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 hc0 hc1
  X.q X.k X.v X.c X.ct X.o X.ls X.g
/-- What the sweep leaves over the first zeros, and its remainder. -/
abbrev sweptA := swept c i M X (M.a11.view.writes (Elt Ideal) M.a11.view.junk [⟨Rect.unit (s := S4096x128) ![0, 0] S4096x128.size inb_S4096x128_S4096x128_0_0, (k0_pay58 (F := Ideal))⟩]) (M.a12.view.writes (Elt Ideal) M.a12.view.junk [⟨Rect.unit (s := S4096x128) ![0, 0] S4096x128.size inb_S4096x128_S4096x128_0_0, (k0_pay59 (F := Ideal))⟩]) (M.a13.view.writes (Elt Ideal) M.a13.view.junk [⟨Rect.unit (s := S128x4096) ![0, 0] S128x4096.size inb_S128x4096_S128x4096_0_0, (k0_pay60 (F := Ideal))⟩])
abbrev restA := rest c i M X (M.a11.view.writes (Elt Ideal) M.a11.view.junk [⟨Rect.unit (s := S4096x128) ![0, 0] S4096x128.size inb_S4096x128_S4096x128_0_0, (k0_pay58 (F := Ideal))⟩]) (M.a12.view.writes (Elt Ideal) M.a12.view.junk [⟨Rect.unit (s := S4096x128) ![0, 0] S4096x128.size inb_S4096x128_S4096x128_0_0, (k0_pay59 (F := Ideal))⟩]) (M.a13.view.writes (Elt Ideal) M.a13.view.junk [⟨Rect.unit (s := S128x4096) ![0, 0] S128x4096.size inb_S128x4096_S128x4096_0_0, (k0_pay60 (F := Ideal))⟩])
/-- The remainder with the sweep's stores and the zeros in one list. -/
def restA' : Left := restFrom c i M X (M.a11.view.writes (Elt Ideal) M.a11.view.junk ((sweptA c i M X).2.1 ++ [⟨Rect.unit (s := S4096x128) ![0, 0] S4096x128.size inb_S4096x128_S4096x128_0_0, (k0_pay58 (F := Ideal))⟩]))
  (M.a12.view.writes (Elt Ideal) M.a12.view.junk ((sweptA c i M X).2.2.1 ++ [⟨Rect.unit (s := S4096x128) ![0, 0] S4096x128.size inb_S4096x128_S4096x128_0_0, (k0_pay59 (F := Ideal))⟩]))
  (M.a13.view.writes (Elt Ideal) M.a13.view.junk ((sweptA c i M X).2.2.2 ++ [⟨Rect.unit (s := S128x4096) ![0, 0] S128x4096.size inb_S128x4096_S128x4096_0_0, (k0_pay60 (F := Ideal))⟩])) (sweptA c i M X).1

theorem restA_eq : restA' c i M X = restA c i M X := by
  unfold restA' restA rest
  rw [View.writes_append, View.writes_append, View.writes_append]

end Forgetting
-- ==== Proof.FoxAQ.lean ====
module
public import proofs.«01_k».proof.Proof.FoxCaseA

/-! A point at the first point of all, where every gradient starts at zero: its stores to the query gradient array. -/

@[expose] public section

set_option maxRecDepth 16384

noncomputable section

namespace Forgetting

open Idealize.ShloMosaic Idealize.ShloMosaic.ValueIdx Idealize.ShloMosaic.TcCoe Idealize.ShloMosaic.Tactic Cert.Kernel3Ideal Cert.Kernel3Ideal.Gen

variable (c : Dev nD) (i : grid0.Coords) (M : Mems) (X : Ins) (hc0 : cond0_0 i) (hc1 : cond0_1 i)

set_option maxHeartbeats 4000000 in
/-- The query gradient's stores are those of `FoxPoint`. -/
theorem runA_Q : (runA c i M X hc0 hc1).1
    = allQ i M X (restA c i M X) := by
  rw [← restA_eq]
  unfold runA kernelRun0_A; dsimp only [allQ, allK, allV, allC, storesQ, storeK1, storeK2, storeV1, storeV2, storeC1, storeC2, storeC3, fAcc, sQ2, sQ3, sR2, sR3, stepAcc, stepDk, stepDv, stepDc, lastDk, lastDv, lastDc, dD, dW, dK, dV, dC, grad, maskW, restA', sweptA, rest, restFrom, swept, sweep, subsAt, subAt, rows, wT, selT, dT, dqT, rsT, upT, up4, up2, csT, dn4, dn2, rowsT, lanesT, finT, sqT, headT, dl1, dlT, pickT, okT, fullW, acc0]; sl_unfold_words; rfl

end Forgetting
-- ==== Proof.FoxAK.lean ====
module
public import proofs.«01_k».proof.Proof.FoxCaseA

/-! A point at the first point of all, where every gradient starts at zero: its stores to the key gradient array. -/

@[expose] public section

set_option maxRecDepth 16384

noncomputable section

namespace Forgetting

open Idealize.ShloMosaic Idealize.ShloMosaic.ValueIdx Idealize.ShloMosaic.TcCoe Idealize.ShloMosaic.Tactic Cert.Kernel3Ideal Cert.Kernel3Ideal.Gen

variable (c : Dev nD) (i : grid0.Coords) (M : Mems) (X : Ins) (hc0 : cond0_0 i) (hc1 : cond0_1 i)

set_option maxHeartbeats 4000000 in
/-- The key gradient's stores are those of `FoxPoint`. -/
theorem runA_K : (runA c i M X hc0 hc1).2.1
    = allK i M X (restA c i M X) M.a11.view.junk ((sweptA c i M X).2.1 ++ [⟨Rect.unit (s := S4096x128) ![0, 0] S4096x128.size inb_S4096x128_S4096x128_0_0, (k0_pay58 (F := Ideal))⟩]) := by
  rw [← restA_eq]
  unfold runA kernelRun0_A; dsimp only [allQ, allK, allV, allC, storesQ, storeK1, storeK2, storeV1, storeV2, storeC1, storeC2, storeC3, fAcc, sQ2, sQ3, sR2, sR3, stepAcc, stepDk, stepDv, stepDc, lastDk, lastDv, lastDc, dD, dW, dK, dV, dC, grad, maskW, restA', sweptA, rest, restFrom, swept, sweep, subsAt, subAt, rows, wT, selT, dT, dqT, rsT, upT, up4, up2, csT, dn4, dn2, rowsT, lanesT, finT, sqT, headT, dl1, dlT, pickT, okT, fullW, acc0]; sl_unfold_words; rfl

end Forgetting
-- ==== Proof.FoxAV.lean ====
module
public import proofs.«01_k».proof.Proof.FoxCaseA

/-! A point at the first point of all, where every gradient starts at zero: its stores to the value gradient array. -/

@[expose] public section

set_option maxRecDepth 16384

noncomputable section

namespace Forgetting

open Idealize.ShloMosaic Idealize.ShloMosaic.ValueIdx Idealize.ShloMosaic.TcCoe Idealize.ShloMosaic.Tactic Cert.Kernel3Ideal Cert.Kernel3Ideal.Gen

variable (c : Dev nD) (i : grid0.Coords) (M : Mems) (X : Ins) (hc0 : cond0_0 i) (hc1 : cond0_1 i)

set_option maxHeartbeats 4000000 in
/-- The value gradient's stores are those of `FoxPoint`. -/
theorem runA_V : (runA c i M X hc0 hc1).2.2.1
    = allV i M X (restA c i M X) M.a12.view.junk ((sweptA c i M X).2.2.1 ++ [⟨Rect.unit (s := S4096x128) ![0, 0] S4096x128.size inb_S4096x128_S4096x128_0_0, (k0_pay59 (F := Ideal))⟩]) := by
  rw [← restA_eq]
  unfold runA kernelRun0_A; dsimp only [allQ, allK, allV, allC, storesQ, storeK1, storeK2, storeV1, storeV2, storeC1, storeC2, storeC3, fAcc, sQ2, sQ3, sR2, sR3, stepAcc, stepDk, stepDv, stepDc, lastDk, lastDv, lastDc, dD, dW, dK, dV, dC, grad, maskW, restA', sweptA, rest, restFrom, swept, sweep, subsAt, subAt, rows, wT, selT, dT, dqT, rsT, upT, up4, up2, csT, dn4, dn2, rowsT, lanesT, finT, sqT, headT, dl1, dlT, pickT, okT, fullW, acc0]; sl_unfold_words; rfl

end Forgetting
-- ==== Proof.FoxAC.lean ====
module
public import proofs.«01_k».proof.Proof.FoxCaseA

/-! A point at the first point of all, where every gradient starts at zero: its stores to the running sums' gradient array. -/

@[expose] public section

set_option maxRecDepth 16384

noncomputable section

namespace Forgetting

open Idealize.ShloMosaic Idealize.ShloMosaic.ValueIdx Idealize.ShloMosaic.TcCoe Idealize.ShloMosaic.Tactic Cert.Kernel3Ideal Cert.Kernel3Ideal.Gen

variable (c : Dev nD) (i : grid0.Coords) (M : Mems) (X : Ins) (hc0 : cond0_0 i) (hc1 : cond0_1 i)

set_option maxHeartbeats 4000000 in
/-- The running sums' gradient's stores are those of `FoxPoint`. -/
theorem runA_C : (runA c i M X hc0 hc1).2.2.2.1
    = allC i M X (restA c i M X) M.a13.view.junk ((sweptA c i M X).2.2.2 ++ [⟨Rect.unit (s := S128x4096) ![0, 0] S128x4096.size inb_S128x4096_S128x4096_0_0, (k0_pay60 (F := Ideal))⟩]) := by
  rw [← restA_eq]
  unfold runA kernelRun0_A; dsimp only [allQ, allK, allV, allC, storesQ, storeK1, storeK2, storeV1, storeV2, storeC1, storeC2, storeC3, fAcc, sQ2, sQ3, sR2, sR3, stepAcc, stepDk, stepDv, stepDc, lastDk, lastDv, lastDc, dD, dW, dK, dV, dC, grad, maskW, restA', sweptA, rest, restFrom, swept, sweep, subsAt, subAt, rows, wT, selT, dT, dqT, rsT, upT, up4, up2, csT, dn4, dn2, rowsT, lanesT, finT, sqT, headT, dl1, dlT, pickT, okT, fullW, acc0]; sl_unfold_words; rfl

end Forgetting
-- ==== Proof.FoxCaseB.lean ====
module
public import proofs.«01_k».proof.Proof.FoxPoint

/-! A point where every gradient goes on from the point before: its run, and what its sweep leaves. -/

@[expose] public section

set_option maxRecDepth 16384

noncomputable section

namespace Forgetting

open Idealize.ShloMosaic Idealize.ShloMosaic.ValueIdx Idealize.ShloMosaic.TcCoe Idealize.ShloMosaic.Tactic Cert.Kernel3Ideal Cert.Kernel3Ideal.Gen

variable (c : Dev nD) (i : grid0.Coords) (M : Mems) (X : Ins) (hc0 : ¬cond0_0 i) (hc1 : ¬cond0_1 i) (xo9 xo10 : Vec Ideal S4096x128 .f32) (xo11 : Vec Ideal S128x4096 .f32)

/-- The run of the body. -/
abbrev runB := kernelRun0_B (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 hc0 hc1
  X.q X.k X.v X.c X.ct X.o X.ls X.g xo9 xo10 xo11
/-- What the sweep leaves, and its remainder. -/
abbrev sweptB := swept c i M X (M.h11.unread xo9) (M.h12.unread xo10) (M.h13.unread xo11)
abbrev restB := rest c i M X (M.h11.unread xo9) (M.h12.unread xo10) (M.h13.unread xo11)

end Forgetting
-- ==== Proof.FoxBQ.lean ====
module
public import proofs.«01_k».proof.Proof.FoxCaseB

/-! A point where every gradient goes on from the point before: its stores to the query gradient array. -/

@[expose] public section

set_option maxRecDepth 16384

noncomputable section

namespace Forgetting

open Idealize.ShloMosaic Idealize.ShloMosaic.ValueIdx Idealize.ShloMosaic.TcCoe Idealize.ShloMosaic.Tactic Cert.Kernel3Ideal Cert.Kernel3Ideal.Gen

variable (c : Dev nD) (i : grid0.Coords) (M : Mems) (X : Ins) (hc0 : ¬cond0_0 i) (hc1 : ¬cond0_1 i) (xo9 xo10 : Vec Ideal S4096x128 .f32) (xo11 : Vec Ideal S128x4096 .f32)

set_option maxHeartbeats 4000000 in
/-- The query gradient's stores are those of `FoxPoint`. -/
theorem runB_Q : (runB c i M X hc0 hc1 xo9 xo10 xo11).1 = allQ i M X (restB c i M X xo9 xo10 xo11) := by
  unfold runB kernelRun0_B; dsimp only [allQ, allK, allV, allC, storesQ, storeK1, storeK2, storeV1, storeV2, storeC1, storeC2, storeC3, fAcc, sQ2, sQ3, sR2, sR3, stepAcc, stepDk, stepDv, stepDc, lastDk, lastDv, lastDc, dD, dW, dK, dV, dC, grad, maskW, restB, rest, restFrom, swept, sweep, subsAt, subAt, rows, wT, selT, dT, dqT, rsT, upT, up4, up2, csT, dn4, dn2, rowsT, lanesT, finT, sqT, headT, dl1, dlT, pickT, okT, fullW, acc0]; sl_unfold_words; rfl

end Forgetting
-- ==== Proof.FoxBK.lean ====
module
public import proofs.«01_k».proof.Proof.FoxCaseB

/-! A point where every gradient goes on from the point before: its stores to the key gradient array. -/

@[expose] public section

set_option maxRecDepth 16384

noncomputable section

namespace Forgetting

open Idealize.ShloMosaic Idealize.ShloMosaic.ValueIdx Idealize.ShloMosaic.TcCoe Idealize.ShloMosaic.Tactic Cert.Kernel3Ideal Cert.Kernel3Ideal.Gen

variable (c : Dev nD) (i : grid0.Coords) (M : Mems) (X : Ins) (hc0 : ¬cond0_0 i) (hc1 : ¬cond0_1 i) (xo9 xo10 : Vec Ideal S4096x128 .f32) (xo11 : Vec Ideal S128x4096 .f32)

set_option maxHeartbeats 4000000 in
/-- The key gradient's stores are those of `FoxPoint`. -/
theorem runB_K : (runB c i M X hc0 hc1 xo9 xo10 xo11).2.1
    = allK i M X (restB c i M X xo9 xo10 xo11) (M.h11.unread xo9) (sweptB c i M X xo9 xo10 xo11).2.1 := by
  unfold runB kernelRun0_B; dsimp only [allQ, allK, allV, allC, storesQ, storeK1, storeK2, storeV1, storeV2, storeC1, storeC2, storeC3, fAcc, sQ2, sQ3, sR2, sR3, stepAcc, stepDk, stepDv, stepDc, lastDk, lastDv, lastDc, dD, dW, dK, dV, dC, grad, maskW, restB, rest, restFrom, swept, sweep, subsAt, subAt, rows, wT, selT, dT, dqT, rsT, upT, up4, up2, csT, dn4, dn2, rowsT, lanesT, finT, sqT, headT, dl1, dlT, pickT, okT, fullW, acc0]; sl_unfold_words; rfl

end Forgetting
-- ==== Proof.FoxBV.lean ====
module
public import proofs.«01_k».proof.Proof.FoxCaseB

/-! A point where every gradient goes on from the point before: its stores to the value gradient array. -/

@[expose] public section

set_option maxRecDepth 16384

noncomputable section

namespace Forgetting

open Idealize.ShloMosaic Idealize.ShloMosaic.ValueIdx Idealize.ShloMosaic.TcCoe Idealize.ShloMosaic.Tactic Cert.Kernel3Ideal Cert.Kernel3Ideal.Gen

variable (c : Dev nD) (i : grid0.Coords) (M : Mems) (X : Ins) (hc0 : ¬cond0_0 i) (hc1 : ¬cond0_1 i) (xo9 xo10 : Vec Ideal S4096x128 .f32) (xo11 : Vec Ideal S128x4096 .f32)

set_option maxHeartbeats 4000000 in
/-- The value gradient's stores are those of `FoxPoint`. -/
theorem runB_V : (runB c i M X hc0 hc1 xo9 xo10 xo11).2.2.1
    = allV i M X (restB c i M X xo9 xo10 xo11) (M.h12.unread xo10) (sweptB c i M X xo9 xo10 xo11).2.2.1 := by
  unfold runB kernelRun0_B; dsimp only [allQ, allK, allV, allC, storesQ, storeK1, storeK2, storeV1, storeV2, storeC1, storeC2, storeC3, fAcc, sQ2, sQ3, sR2, sR3, stepAcc, stepDk, stepDv, stepDc, lastDk, lastDv, lastDc, dD, dW, dK, dV, dC, grad, maskW, restB, rest, restFrom, swept, sweep, subsAt, subAt, rows, wT, selT, dT, dqT, rsT, upT, up4, up2, csT, dn4, dn2, rowsT, lanesT, finT, sqT, headT, dl1, dlT, pickT, okT, fullW, acc0]; sl_unfold_words; rfl

end Forgetting
-- ==== Proof.FoxOwn.lean ====
module
public import proofs.«01_k».proof.Proof.FoxPoint

/-! A point's read of its own rows' place in the running sums' gradient: the two diagonal stores before it cover that place, so the
read does not depend on what the array held. -/

@[expose] public section

set_option maxRecDepth 16384

noncomputable section

namespace Forgetting

open Idealize.ShloMosaic Idealize.ShloMosaic.ValueIdx Idealize.ShloMosaic.TcCoe Idealize.ShloMosaic.Tactic Cert.Kernel3Ideal Cert.Kernel3Ideal.Gen

variable (i : grid0.Coords) (M : Mems) (X : Ins) (f : BufTy.Contents (Elt Ideal) M.a13.view.ty) (L : List (View.Piece (Elt Ideal) S128x4096 .f32)) (acc : Acc)

/-- The store of the own rows' sums, its read stated over the stores alone. -/
def ownC : List (View.Piece (Elt Ideal) S128x4096 .f32) :=
  ⟨dOwn i, rowsT acc.2.2.2.2.1 acc.2.2.2.2.2.1 (sR2 i M X acc) (sR3 i M X acc) (M.a13.view.readCov L (dOwn i).toLoadRect)⟩ :: L

theorem own_covered (j : (dOwn i).toLoadRect.shape.Idx) :
    ∃ p ∈ storeC2 i M X f (storeC1 i M X f L), (dOwn i).toLoadRect.idx j ∈ p.1.set := by
  have h0 : (((dOwn i).toLoadRect.idx j) 0).val = (i 0).val + 8 + 1 * (j 0).val := congrArg (· + 1 * (j 0).val) (congrFun (k0_off10_eq i) 0)
  have h1 : (((dOwn i).toLoadRect.idx j) 1).val = 512 * (i 1).val + 1 * (j 1).val := congrArg (· + 1 * (j 1).val) (congrFun (k0_off10_eq i) 1)
  have j0 : (j 0).val < 1 := (j 0).isLt
  have j1 : (j 1).val < 512 := (j 1).isLt
  by_cases h : (j 1).val < 256
  · refine ⟨_, List.mem_cons_of_mem _ List.mem_cons_self, ?_⟩
    show (dOwn i).toLoadRect.idx j ∈ (dOut i 0).set
    refine (Rect.mem_set_unit (s := S128x4096) (inb := k0_off9_inb i 0)).mpr (Fin.forall_fin_two.mpr ⟨?_, ?_⟩)
    · rw [h0, congrFun (k0_off9_eq i 0) 0]; show _ + 8 ≤ _ ∧ _ < _ + 8 + 1; omega
    · rw [h1, congrFun (k0_off9_eq i 0) 1]; show 512 * _ + 256 * 0 ≤ _ ∧ _ < 512 * _ + 256 * 0 + 256; omega
  · refine ⟨_, List.mem_cons_self, ?_⟩
    show (dOwn i).toLoadRect.idx j ∈ (dOut i 1).set
    refine (Rect.mem_set_unit (s := S128x4096) (inb := k0_off9_inb i 1)).mpr (Fin.forall_fin_two.mpr ⟨?_, ?_⟩)
    · rw [h0, congrFun (k0_off9_eq i 1) 0]; show _ + 8 ≤ _ ∧ _ < _ + 8 + 1; omega
    · rw [h1, congrFun (k0_off9_eq i 1) 1]; show 512 * _ + 256 * 1 ≤ _ ∧ _ < 512 * _ + 256 * 1 + 256; omega

theorem allC_own (R : Left) : allC i M X R f L = ownC i M X (storeC2 i M X f (storeC1 i M X f (R.2.2.2 ++ L))) (fAcc i M X R.1) := by
  unfold allC storeC3 ownC
  rw [View.readAt_writes_of_cover M.a13.view f _ (dOwn i).toLoadRect (own_covered i M X f (R.2.2.2 ++ L))]

end Forgetting
-- ==== Proof.FoxBC.lean ====
module
public import proofs.«01_k».proof.Proof.FoxCaseB
public import proofs.«01_k».proof.Proof.FoxOwn

/-! A point where every gradient goes on from the point before: its stores to the running sums' gradient array. -/

@[expose] public section

set_option maxRecDepth 16384

noncomputable section

namespace Forgetting

open Idealize.ShloMosaic Idealize.ShloMosaic.ValueIdx Idealize.ShloMosaic.TcCoe Idealize.ShloMosaic.Tactic Cert.Kernel3Ideal Cert.Kernel3Ideal.Gen

variable (c : Dev nD) (i : grid0.Coords) (M : Mems) (X : Ins) (hc0 : ¬cond0_0 i) (hc1 : ¬cond0_1 i) (xo9 xo10 : Vec Ideal S4096x128 .f32) (xo11 : Vec Ideal S128x4096 .f32)

set_option maxHeartbeats 4000000 in
/-- The running sums' gradient's stores are those of `FoxPoint`. -/
theorem runB_C : (runB c i M X hc0 hc1 xo9 xo10 xo11).2.2.2.1
    = allC i M X (restB c i M X xo9 xo10 xo11) (M.h13.unread xo11) (sweptB c i M X xo9 xo10 xo11).2.2.2 := by
  rw [allC_own]
  unfold runB kernelRun0_B; dsimp only [allQ, allK, allV, allC, storesQ, storeK1, storeK2, storeV1, storeV2, storeC1, storeC2, ownC, View.readCov, fAcc, sQ2, sQ3, sR2, sR3, stepAcc, stepDk, stepDv, stepDc, lastDk, lastDv, lastDc, dD, dW, dK, dV, dC, grad, maskW, restB, rest, restFrom, swept, sweep, subsAt, subAt, rows, wT, selT, dT, dqT, rsT, upT, up4, up2, csT, dn4, dn2, rowsT, lanesT, finT, sqT, headT, dl1, dlT, pickT, okT, fullW, acc0]; sl_unfold_words; rfl

end Forgetting
-- ==== Proof.FoxCaseC.lean ====
module
public import proofs.«01_k».proof.Proof.FoxPoint

/-! A point at a later head's first point, where the keys' and values' gradients start at zero and the running sums' go on: its run, and what its sweep leaves. -/

@[expose] public section

set_option maxRecDepth 16384

noncomputable section

namespace Forgetting

open Idealize.ShloMosaic Idealize.ShloMosaic.ValueIdx Idealize.ShloMosaic.TcCoe Idealize.ShloMosaic.Tactic Cert.Kernel3Ideal Cert.Kernel3Ideal.Gen

variable (c : Dev nD) (i : grid0.Coords) (M : Mems) (X : Ins) (hc0 : cond0_0 i) (hc1 : ¬cond0_1 i) (xo11 : Vec Ideal S128x4096 .f32)

/-- The run of the body. -/
abbrev runC := kernelRun0_C (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 hc0 hc1
  X.q X.k X.v X.c X.ct X.o X.ls X.g xo11
/-- What the sweep leaves over the first zeros, and its remainder. -/
abbrev sweptC := swept c i M X (M.a11.view.writes (Elt Ideal) M.a11.view.junk [⟨Rect.unit (s := S4096x128) ![0, 0] S4096x128.size inb_S4096x128_S4096x128_0_0, (k0_pay58 (F := Ideal))⟩]) (M.a12.view.writes (Elt Ideal) M.a12.view.junk [⟨Rect.unit (s := S4096x128) ![0, 0] S4096x128.size inb_S4096x128_S4096x128_0_0, (k0_pay59 (F := Ideal))⟩]) (M.h13.unread xo11)
abbrev restC := rest c i M X (M.a11.view.writes (Elt Ideal) M.a11.view.junk [⟨Rect.unit (s := S4096x128) ![0, 0] S4096x128.size inb_S4096x128_S4096x128_0_0, (k0_pay58 (F := Ideal))⟩]) (M.a12.view.writes (Elt Ideal) M.a12.view.junk [⟨Rect.unit (s := S4096x128) ![0, 0] S4096x128.size inb_S4096x128_S4096x128_0_0, (k0_pay59 (F := Ideal))⟩]) (M.h13.unread xo11)
/-- The remainder with the sweep's stores and the zeros in one list. -/
def restC' : Left := restFrom c i M X (M.a11.view.writes (Elt Ideal) M.a11.view.junk ((sweptC c i M X xo11).2.1 ++ [⟨Rect.unit (s := S4096x128) ![0, 0] S4096x128.size inb_S4096x128_S4096x128_0_0, (k0_pay58 (F := Ideal))⟩]))
  (M.a12.view.writes (Elt Ideal) M.a12.view.junk ((sweptC c i M X xo11).2.2.1 ++ [⟨Rect.unit (s := S4096x128) ![0, 0] S4096x128.size inb_S4096x128_S4096x128_0_0, (k0_pay59 (F := Ideal))⟩]))
  (M.a13.view.writes (Elt Ideal) (M.h13.unread xo11) ((sweptC c i M X xo11).2.2.2)) (sweptC c i M X xo11).1

theorem restC_eq : restC' c i M X xo11 = restC c i M X xo11 := by
  unfold restC' restC rest
  rw [View.writes_append, View.writes_append]

end Forgetting
-- ==== Proof.FoxCQ.lean ====
module
public import proofs.«01_k».proof.Proof.FoxCaseC

/-! A point at a later head's first point, where the keys' and values' gradients start at zero and the running sums' go on: its stores to the query gradient array. -/

@[expose] public section

set_option maxRecDepth 16384

noncomputable section

namespace Forgetting

open Idealize.ShloMosaic Idealize.ShloMosaic.ValueIdx Idealize.ShloMosaic.TcCoe Idealize.ShloMosaic.Tactic Cert.Kernel3Ideal Cert.Kernel3Ideal.Gen

variable (c : Dev nD) (i : grid0.Coords) (M : Mems) (X : Ins) (hc0 : cond0_0 i) (hc1 : ¬cond0_1 i) (xo11 : Vec Ideal S128x4096 .f32)

set_option maxHeartbeats 4000000 in
/-- The query gradient's stores are those of `FoxPoint`. -/
theorem runC_Q : (runC c i M X hc0 hc1 xo11).1
    = allQ i M X (restC c i M X xo11) := by
  rw [← restC_eq]
  unfold runC kernelRun0_C; dsimp only [allQ, allK, allV, allC, storesQ, storeK1, storeK2, storeV1, storeV2, storeC1, storeC2, storeC3, fAcc, sQ2, sQ3, sR2, sR3, stepAcc, stepDk, stepDv, stepDc, lastDk, lastDv, lastDc, dD, dW, dK, dV, dC, grad, maskW, restC', sweptC, rest, restFrom, swept, sweep, subsAt, subAt, rows, wT, selT, dT, dqT, rsT, upT, up4, up2, csT, dn4, dn2, rowsT, lanesT, finT, sqT, headT, dl1, dlT, pickT, okT, fullW, acc0]; sl_unfold_words; rfl

end Forgetting
-- ==== Proof.FoxCK.lean ====
module
public import proofs.«01_k».proof.Proof.FoxCaseC

/-! A point at a later head's first point, where the keys' and values' gradients start at zero and the running sums' go on: its stores to the key gradient array. -/

@[expose] public section

set_option maxRecDepth 16384

noncomputable section

namespace Forgetting

open Idealize.ShloMosaic Idealize.ShloMosaic.ValueIdx Idealize.ShloMosaic.TcCoe Idealize.ShloMosaic.Tactic Cert.Kernel3Ideal Cert.Kernel3Ideal.Gen

variable (c : Dev nD) (i : grid0.Coords) (M : Mems) (X : Ins) (hc0 : cond0_0 i) (hc1 : ¬cond0_1 i) (xo11 : Vec Ideal S128x4096 .f32)

set_option maxHeartbeats 4000000 in
/-- The key gradient's stores are those of `FoxPoint`. -/
theorem runC_K : (runC c i M X hc0 hc1 xo11).2.1
    = allK i M X (restC c i M X xo11) M.a11.view.junk ((sweptC c i M X xo11).2.1 ++ [⟨Rect.unit (s := S4096x128) ![0, 0] S4096x128.size inb_S4096x128_S4096x128_0_0, (k0_pay58 (F := Ideal))⟩]) := by
  rw [← restC_eq]
  unfold runC kernelRun0_C; dsimp only [allQ, allK, allV, allC, storesQ, storeK1, storeK2, storeV1, storeV2, storeC1, storeC2, storeC3, fAcc, sQ2, sQ3, sR2, sR3, stepAcc, stepDk, stepDv, stepDc, lastDk, lastDv, lastDc, dD, dW, dK, dV, dC, grad, maskW, restC', sweptC, rest, restFrom, swept, sweep, subsAt, subAt, rows, wT, selT, dT, dqT, rsT, upT, up4, up2, csT, dn4, dn2, rowsT, lanesT, finT, sqT, headT, dl1, dlT, pickT, okT, fullW, acc0]; sl_unfold_words; rfl

end Forgetting
-- ==== Proof.FoxCV.lean ====
module
public import proofs.«01_k».proof.Proof.FoxCaseC

/-! A point at a later head's first point, where the keys' and values' gradients start at zero and the running sums' go on: its stores to the value gradient array. -/

@[expose] public section

set_option maxRecDepth 16384

noncomputable section

namespace Forgetting

open Idealize.ShloMosaic Idealize.ShloMosaic.ValueIdx Idealize.ShloMosaic.TcCoe Idealize.ShloMosaic.Tactic Cert.Kernel3Ideal Cert.Kernel3Ideal.Gen

variable (c : Dev nD) (i : grid0.Coords) (M : Mems) (X : Ins) (hc0 : cond0_0 i) (hc1 : ¬cond0_1 i) (xo11 : Vec Ideal S128x4096 .f32)

set_option maxHeartbeats 4000000 in
/-- The value gradient's stores are those of `FoxPoint`. -/
theorem runC_V : (runC c i M X hc0 hc1 xo11).2.2.1
    = allV i M X (restC c i M X xo11) M.a12.view.junk ((sweptC c i M X xo11).2.2.1 ++ [⟨Rect.unit (s := S4096x128) ![0, 0] S4096x128.size inb_S4096x128_S4096x128_0_0, (k0_pay59 (F := Ideal))⟩]) := by
  rw [← restC_eq]
  unfold runC kernelRun0_C; dsimp only [allQ, allK, allV, allC, storesQ, storeK1, storeK2, storeV1, storeV2, storeC1, storeC2, storeC3, fAcc, sQ2, sQ3, sR2, sR3, stepAcc, stepDk, stepDv, stepDc, lastDk, lastDv, lastDc, dD, dW, dK, dV, dC, grad, maskW, restC', sweptC, rest, restFrom, swept, sweep, subsAt, subAt, rows, wT, selT, dT, dqT, rsT, upT, up4, up2, csT, dn4, dn2, rowsT, lanesT, finT, sqT, headT, dl1, dlT, pickT, okT, fullW, acc0]; sl_unfold_words; rfl

end Forgetting
-- ==== Proof.FoxCC.lean ====
module
public import proofs.«01_k».proof.Proof.FoxCaseC
public import proofs.«01_k».proof.Proof.FoxOwn

/-! A point at a later head's first point, where the keys' and values' gradients start at zero and the running sums' go on: its stores to the running sums' gradient array. -/

@[expose] public section

set_option maxRecDepth 16384

noncomputable section

namespace Forgetting

open Idealize.ShloMosaic Idealize.ShloMosaic.ValueIdx Idealize.ShloMosaic.TcCoe Idealize.ShloMosaic.Tactic Cert.Kernel3Ideal Cert.Kernel3Ideal.Gen

variable (c : Dev nD) (i : grid0.Coords) (M : Mems) (X : Ins) (hc0 : cond0_0 i) (hc1 : ¬cond0_1 i) (xo11 : Vec Ideal S128x4096 .f32)

set_option maxHeartbeats 4000000 in
/-- The running sums' gradient's stores are those of `FoxPoint`. -/
theorem runC_C : (runC c i M X hc0 hc1 xo11).2.2.2.1
    = allC i M X (restC c i M X xo11) (M.h13.unread xo11) ((sweptC c i M X xo11).2.2.2) := by
  rw [← restC_eq, allC_own]
  unfold runC kernelRun0_C; dsimp only [allQ, allK, allV, allC, storesQ, storeK1, storeK2, storeV1, storeV2, storeC1, storeC2, ownC, View.readCov, fAcc, sQ2, sQ3, sR2, sR3, stepAcc, stepDk, stepDv, stepDc, lastDk, lastDv, lastDc, dD, dW, dK, dV, dC, grad, maskW, restC', sweptC, rest, restFrom, swept, sweep, subsAt, subAt, rows, wT, selT, dT, dqT, rsT, upT, up4, up2, csT, dn4, dn2, rowsT, lanesT, finT, sqT, headT, dl1, dlT, pickT, okT, fullW, acc0]; sl_unfold_words; rfl

end Forgetting
-- ==== Proof.FoxOuts.lean ====
module
public import proofs.«01_k».proof.Proof.FoxSweep
public import proofs.«01_k».proof.Proof.FoxAQ
public import proofs.«01_k».proof.Proof.FoxAK
public import proofs.«01_k».proof.Proof.FoxAV
public import proofs.«01_k».proof.Proof.FoxAC
public import proofs.«01_k».proof.Proof.FoxBQ
public import proofs.«01_k».proof.Proof.FoxBK
public import proofs.«01_k».proof.Proof.FoxBV
public import proofs.«01_k».proof.Proof.FoxBC
public import proofs.«01_k».proof.Proof.FoxCQ
public import proofs.«01_k».proof.Proof.FoxCK
public import proofs.«01_k».proof.Proof.FoxCV
public import proofs.«01_k».proof.Proof.FoxCC
public import proofs.«01_k».proof.Proof.Gen.Kernel3Ideal.Frame

/-! What a grid point leaves in its four output blocks. -/

@[expose] public section

set_option maxRecDepth 16384

noncomputable section

namespace Forgetting

open Idealize.ShloMosaic Idealize.ShloMosaic.ValueIdx Idealize.ShloMosaic.TcCoe Idealize.ShloMosaic.Tactic Cert.Kernel3Ideal Cert.Kernel3Ideal.Gen
open StickBreaking (Rep sc)

/-- A point's results: its queries' gradient, the head's key and value gradients over the queries so far, and the head's row
of the running sums' gradient, the other rows as they were. -/
structure Outs (h : Head) (i : grid0.Coords) (F : ℕ → ℕ → ℝ) (o8 : Vec Ideal S512x128 .f32) (o9 o10 : Vec Ideal S4096x128 .f32) (o11 : Vec Ideal S128x4096 .f32) : Prop where
  q : Rep o8 (fun r d => h.dq 4096 (512 * (i 1).val + r) d * sc)
  k : Rep o9 (h.dk (512 * (i 1).val + 512))
  v : Rep o10 (h.dv (512 * (i 1).val + 512))
  c : Rep o11 (fun j s => if j = (i 0).val + 8 then h.dc (512 * (i 1).val + 512) (512 * (i 1).val + 512) s else F j s)

variable {h : Head} (c : Dev nD) (i : grid0.Coords) (M : Mems) {X : Ins} (H : PointIn h i X) {F : ℕ → ℕ → ℝ}
  {f11 : BufTy.Contents (Elt Ideal) M.a11.view.ty} {f12 : BufTy.Contents (Elt Ideal) M.a12.view.ty} {f13 : BufTy.Contents (Elt Ideal) M.a13.view.ty}

include H in
/-- All of a point's stores read back. -/
theorem PointIn.all (S : Sofar h i M F 0 f11 f12 f13) :
    (∀ (b : View sig .tc .vmem S512x128 .f32) (f : b.ty.Contents (Elt Ideal)),
      Rep (b.read (Elt Ideal) (b.writes (Elt Ideal) f (allQ i M X (rest c i M X f11 f12 f13)))) (fun r d => h.dq 4096 (512 * (i 1).val + r) d * sc))
    ∧ (∀ f L, M.a11.view.writes (Elt Ideal) f L = M.a11.view.writes (Elt Ideal) f11 (swept c i M X f11 f12 f13).2.1 →
      Rep (M.a11.view.read (Elt Ideal) (M.a11.view.writes (Elt Ideal) f (allK i M X (rest c i M X f11 f12 f13) f L))) (h.dk (512 * (i 1).val + 512)))
    ∧ (∀ f L, M.a12.view.writes (Elt Ideal) f L = M.a12.view.writes (Elt Ideal) f12 (swept c i M X f11 f12 f13).2.2.1 →
      Rep (M.a12.view.read (Elt Ideal) (M.a12.view.writes (Elt Ideal) f (allV i M X (rest c i M X f11 f12 f13) f L))) (h.dv (512 * (i 1).val + 512)))
    ∧ (∀ f L, M.a13.view.writes (Elt Ideal) f L = M.a13.view.writes (Elt Ideal) f13 (swept c i M X f11 f12 f13).2.2.2 →
      Rep (M.a13.view.read (Elt Ideal) (M.a13.view.writes (Elt Ideal) f (allC i M X (rest c i M X f11 f12 f13) f L)))
        (fun j s => if j = (i 0).val + 8 then h.dc (512 * (i 1).val + 512) (512 * (i 1).val + 512) s else F j s)) := by
  have ht : 256 * (k0_t1_loop i).trips = 512 * (i 1).val := by rw [trips_sweep]; omega
  obtain ⟨A, K, V, C⟩ := H.sweep_rep c S (k0_t1_loop i).trips le_rfl
  rw [ht] at A K V C
  have B := H.fAcc_at (M := M) A
  rw [rest_eq]
  exact ⟨fun b f => H.dq_all B f, fun f L e => H.dk_all (by rw [List.nil_append, e]; exact K), fun f L e => H.dv_all (by rw [List.nil_append, e]; exact V),
    fun f L e => H.dc_all B (by rw [List.nil_append, e]; exact C)⟩

/-- One store to a whole array. -/
theorem zero_all {m n : ℕ} {b : View sig .tc .vmem ⟨2, ![m, n]⟩ .f32} (f : b.ty.Contents (Elt Ideal)) (w : (⟨2, ![m, n]⟩ : Shape).Idx → EReal)
    (inb : ∀ a, (![0, 0] : Fin 2 → ℕ) a + (⟨2, ![m, n]⟩ : Shape).size a ≤ (⟨2, ![m, n]⟩ : Shape).size a) (hw : Rep w (fun _ _ => 0)) :
    Rep (b.read (Elt Ideal) (b.writes (Elt Ideal) f [⟨Rect.unit (s := ⟨2, ![m, n]⟩) ![0, 0] (⟨2, ![m, n]⟩ : Shape).size inb, w⟩])) (fun _ _ => 0) := by
  intro j d
  rw [View.read_writes_cons_rows_of_mem b f inb w [] (ix2 j d) (ix2 j d) rfl (Nat.zero_add _).symm rfl]
  exact hw j d

theorem dk_start (h : Head) (j d : ℕ) : h.dk 0 j d = 0 := by unfold Head.dk; rw [Finset.sum_range_zero]
theorem dv_start (h : Head) (j d : ℕ) : h.dv 0 j d = 0 := by unfold Head.dv; rw [Finset.sum_range_zero]
theorem dc_start (h : Head) (s : ℕ) : h.dc 0 0 s = 0 := by
  unfold Head.dc Head.cs
  rw [Finset.sum_range_zero, if_neg (Nat.not_lt_zero _), sub_zero]

include H

/-- A later point of a head. -/
theorem outB (hc0 : ¬cond0_0 i) (hc1 : ¬cond0_1 i) (xo9 xo10 : Vec Ideal S4096x128 .f32) (xo11 : Vec Ideal S128x4096 .f32)
    (h9 : Rep xo9 (h.dk (512 * (i 1).val))) (h10 : Rep xo10 (h.dv (512 * (i 1).val))) (h11 : Rep xo11 F)
    (hF : ∀ s, F ((i 0).val + 8) s = h.dc (512 * (i 1).val) (512 * (i 1).val) s) :
    Outs h i F
      (out0_B_8 c i M.a2 M.h2 M.a3 M.h3 M.a4 M.h4 M.a5 M.h5 M.a6 M.h6 M.a7 M.h7 M.a8 M.h8 M.a9 M.h9 M.a10 M.h10 M.a11 M.h11 M.a12 M.h12 M.a13 M.h13 hc0 hc1 X.q X.k X.v X.c X.ct X.o X.ls X.g xo9 xo10 xo11)
      (out0_B_9 c i M.a2 M.h2 M.a3 M.h3 M.a4 M.h4 M.a5 M.h5 M.a6 M.h6 M.a7 M.h7 M.a8 M.h8 M.a9 M.h9 M.a10 M.h10 M.a11 M.h11 M.a12 M.h12 M.a13 M.h13 hc0 hc1 X.q X.k X.v X.c X.ct X.o X.ls X.g xo9 xo10 xo11)
      (out0_B_10 c i M.a2 M.h2 M.a3 M.h3 M.a4 M.h4 M.a5 M.h5 M.a6 M.h6 M.a7 M.h7 M.a8 M.h8 M.a9 M.h9 M.a10 M.h10 M.a11 M.h11 M.a12 M.h12 M.a13 M.h13 hc0 hc1 X.q X.k X.v X.c X.ct X.o X.ls X.g xo9 xo10 xo11)
      (out0_B_11 c i M.a2 M.h2 M.a3 M.h3 M.a4 M.h4 M.a5 M.h5 M.a6 M.h6 M.a7 M.h7 M.a8 M.h8 M.a9 M.h9 M.a10 M.h10 M.a11 M.h11 M.a12 M.h12 M.a13 M.h13 hc0 hc1 X.q X.k X.v X.c X.ct X.o X.ls X.g xo9 xo10 xo11) := by
  have S : Sofar h i M F 0 (M.h11.unread xo9) (M.h12.unread xo10) (M.h13.unread xo11) := by
    refine ⟨?_, ?_, ?_⟩
    · rw [M.h11.read_unread]; exact h9.congr fun j d _ _ => rfl
    · rw [M.h12.read_unread]; exact h10.congr fun j d _ _ => rfl
    · rw [M.h13.read_unread]
      refine h11.congr fun j s _ _ => ?_
      unfold rowTo
      split_ifs with hj h0
      · omega
      · rw [hj, hF]
      · rfl
  obtain ⟨eq, ek, ev, ec⟩ := H.all c i M S
  refine ⟨?_, ?_, ?_, ?_⟩
  · unfold out0_B_8
    rw [runB_Q]
    exact eq _ _
  · unfold out0_B_9
    rw [runB_K]
    exact ek _ _ rfl
  · unfold out0_B_10
    rw [runB_V]
    exact ev _ _ rfl
  · unfold out0_B_11
    rw [runB_C]
    exact ec _ _ rfl

/-- A later head's first point. -/
theorem outC (hc0 : cond0_0 i) (hc1 : ¬cond0_1 i) (hi : (i 1).val = 0) (xo11 : Vec Ideal S128x4096 .f32) (h11 : Rep xo11 F)
    (hF : ∀ s, F ((i 0).val + 8) s = 0) :
    Outs h i F
      (out0_C_8 c i M.a2 M.h2 M.a3 M.h3 M.a4 M.h4 M.a5 M.h5 M.a6 M.h6 M.a7 M.h7 M.a8 M.h8 M.a9 M.h9 M.a10 M.h10 M.a11 M.h11 M.a12 M.h12 M.a13 M.h13 hc0 hc1 X.q X.k X.v X.c X.ct X.o X.ls X.g xo11)
      (out0_C_9 c i M.a2 M.h2 M.a3 M.h3 M.a4 M.h4 M.a5 M.h5 M.a6 M.h6 M.a7 M.h7 M.a8 M.h8 M.a9 M.h9 M.a10 M.h10 M.a11 M.h11 M.a12 M.h12 M.a13 M.h13 hc0 hc1 X.q X.k X.v X.c X.ct X.o X.ls X.g xo11)
      (out0_C_10 c i M.a2 M.h2 M.a3 M.h3 M.a4 M.h4 M.a5 M.h5 M.a6 M.h6 M.a7 M.h7 M.a8 M.h8 M.a9 M.h9 M.a10 M.h10 M.a11 M.h11 M.a12 M.h12 M.a13 M.h13 hc0 hc1 X.q X.k X.v X.c X.ct X.o X.ls X.g xo11)
      (out0_C_11 c i M.a2 M.h2 M.a3 M.h3 M.a4 M.h4 M.a5 M.h5 M.a6 M.h6 M.a7 M.h7 M.a8 M.h8 M.a9 M.h9 M.a10 M.h10 M.a11 M.h11 M.a12 M.h12 M.a13 M.h13 hc0 hc1 X.q X.k X.v X.c X.ct X.o X.ls X.g xo11) := by
  have S : Sofar h i M F 0 (M.a11.view.writes (Elt Ideal) M.a11.view.junk [⟨Rect.unit (s := S4096x128) ![0, 0] S4096x128.size inb_S4096x128_S4096x128_0_0, (k0_pay58 (F := Ideal))⟩])
      (M.a12.view.writes (Elt Ideal) M.a12.view.junk [⟨Rect.unit (s := S4096x128) ![0, 0] S4096x128.size inb_S4096x128_S4096x128_0_0, (k0_pay59 (F := Ideal))⟩]) (M.h13.unread xo11) := by
    refine ⟨?_, ?_, ?_⟩
    · exact (zero_all _ _ _ Rep.zero).congr fun j d _ _ => by rw [hi]; exact (dk_start h j d).symm
    · exact (zero_all _ _ _ Rep.zero).congr fun j d _ _ => by rw [hi]; exact (dv_start h j d).symm
    · rw [M.h13.read_unread]
      refine h11.congr fun j s _ _ => ?_
      unfold rowTo
      split_ifs with hj h0
      · omega
      · rw [hj, hF, hi]; exact (dc_start h s).symm
      · rfl
  obtain ⟨eq, ek, ev, ec⟩ := H.all c i M S
  refine ⟨?_, ?_, ?_, ?_⟩
  · unfold out0_C_8
    rw [runC_Q]
    exact eq _ _
  · unfold out0_C_9
    rw [View.read_writes_of_cover VO0_9 VO0_9.junk M.a11.view M.a11.view.junk _ (cover0_C_9 c i M.a2 M.h2 M.a3 M.h3 M.a4 M.h4 M.a5 M.h5 M.a6 M.h6 M.a7 M.h7 M.a8 M.h8 M.a9 M.h9 M.a10 M.h10 M.a11 M.h11 M.a12 M.h12 M.a13 M.h13 hc0 hc1 X.q X.k X.v X.c X.ct X.o X.ls X.g xo11), runC_K]
    exact ek _ _ (View.writes_append _ _ _ _)
  · unfold out0_C_10
    rw [View.read_writes_of_cover VO0_10 VO0_10.junk M.a12.view M.a12.view.junk _ (cover0_C_10 c i M.a2 M.h2 M.a3 M.h3 M.a4 M.h4 M.a5 M.h5 M.a6 M.h6 M.a7 M.h7 M.a8 M.h8 M.a9 M.h9 M.a10 M.h10 M.a11 M.h11 M.a12 M.h12 M.a13 M.h13 hc0 hc1 X.q X.k X.v X.c X.ct X.o X.ls X.g xo11), runC_V]
    exact ev _ _ (View.writes_append _ _ _ _)
  · unfold out0_C_11
    rw [runC_C]
    exact ec _ _ rfl

/-- The first point of all. -/
theorem outA (hc0 : cond0_0 i) (hc1 : cond0_1 i) (hi : (i 1).val = 0) :
    Outs h i (fun _ _ => 0)
      (out0_A_8 c i M.a2 M.h2 M.a3 M.h3 M.a4 M.h4 M.a5 M.h5 M.a6 M.h6 M.a7 M.h7 M.a8 M.h8 M.a9 M.h9 M.a10 M.h10 M.a11 M.h11 M.a12 M.h12 M.a13 M.h13 hc0 hc1 X.q X.k X.v X.c X.ct X.o X.ls X.g)
      (out0_A_9 c i M.a2 M.h2 M.a3 M.h3 M.a4 M.h4 M.a5 M.h5 M.a6 M.h6 M.a7 M.h7 M.a8 M.h8 M.a9 M.h9 M.a10 M.h10 M.a11 M.h11 M.a12 M.h12 M.a13 M.h13 hc0 hc1 X.q X.k X.v X.c X.ct X.o X.ls X.g)
      (out0_A_10 c i M.a2 M.h2 M.a3 M.h3 M.a4 M.h4 M.a5 M.h5 M.a6 M.h6 M.a7 M.h7 M.a8 M.h8 M.a9 M.h9 M.a10 M.h10 M.a11 M.h11 M.a12 M.h12 M.a13 M.h13 hc0 hc1 X.q X.k X.v X.c X.ct X.o X.ls X.g)
      (out0_A_11 c i M.a2 M.h2 M.a3 M.h3 M.a4 M.h4 M.a5 M.h5 M.a6 M.h6 M.a7 M.h7 M.a8 M.h8 M.a9 M.h9 M.a10 M.h10 M.a11 M.h11 M.a12 M.h12 M.a13 M.h13 hc0 hc1 X.q X.k X.v X.c X.ct X.o X.ls X.g) := by
  have S : Sofar h i M (fun _ _ => 0) 0 (M.a11.view.writes (Elt Ideal) M.a11.view.junk [⟨Rect.unit (s := S4096x128) ![0, 0] S4096x128.size inb_S4096x128_S4096x128_0_0, (k0_pay58 (F := Ideal))⟩])
      (M.a12.view.writes (Elt Ideal) M.a12.view.junk [⟨Rect.unit (s := S4096x128) ![0, 0] S4096x128.size inb_S4096x128_S4096x128_0_0, (k0_pay59 (F := Ideal))⟩])
      (M.a13.view.writes (Elt Ideal) M.a13.view.junk [⟨Rect.unit (s := S128x4096) ![0, 0] S128x4096.size inb_S128x4096_S128x4096_0_0, (k0_pay60 (F := Ideal))⟩]) := by
    refine ⟨?_, ?_, ?_⟩
    · exact (zero_all _ _ _ Rep.zero).congr fun j d _ _ => by rw [hi]; exact (dk_start h j d).symm
    · exact (zero_all _ _ _ Rep.zero).congr fun j d _ _ => by rw [hi]; exact (dv_start h j d).symm
    · refine (zero_all _ _ _ Rep.zero).congr fun j s _ _ => ?_
      unfold rowTo
      split_ifs with hj h0
      · omega
      · rw [hi]; exact (dc_start h s).symm
      · rfl
  obtain ⟨eq, ek, ev, ec⟩ := H.all c i M S
  refine ⟨?_, ?_, ?_, ?_⟩
  · unfold out0_A_8
    rw [runA_Q]
    exact eq _ _
  · unfold out0_A_9
    rw [View.read_writes_of_cover VO0_9 VO0_9.junk M.a11.view M.a11.view.junk _ (cover0_A_9 c i M.a2 M.h2 M.a3 M.h3 M.a4 M.h4 M.a5 M.h5 M.a6 M.h6 M.a7 M.h7 M.a8 M.h8 M.a9 M.h9 M.a10 M.h10 M.a11 M.h11 M.a12 M.h12 M.a13 M.h13 hc0 hc1 X.q X.k X.v X.c X.ct X.o X.ls X.g), runA_K]
    exact ek _ _ (View.writes_append _ _ _ _)
  · unfold out0_A_10
    rw [View.read_writes_of_cover VO0_10 VO0_10.junk M.a12.view M.a12.view.junk _ (cover0_A_10 c i M.a2 M.h2 M.a3 M.h3 M.a4 M.h4 M.a5 M.h5 M.a6 M.h6 M.a7 M.h7 M.a8 M.h8 M.a9 M.h9 M.a10 M.h10 M.a11 M.h11 M.a12 M.h12 M.a13 M.h13 hc0 hc1 X.q X.k X.v X.c X.ct X.o X.ls X.g), runA_V]
    exact ev _ _ (View.writes_append _ _ _ _)
  · unfold out0_A_11
    rw [View.read_writes_of_cover VO0_11 VO0_11.junk M.a13.view M.a13.view.junk _ (cover0_A_11 c i M.a2 M.h2 M.a3 M.h3 M.a4 M.h4 M.a5 M.h5 M.a6 M.h6 M.a7 M.h7 M.a8 M.h8 M.a9 M.h9 M.a10 M.h10 M.a11 M.h11 M.a12 M.h12 M.a13 M.h13 hc0 hc1 X.q X.k X.v X.c X.ct X.o X.ls X.g), runA_C]
    exact ec _ _ (View.writes_append _ _ _ _)

end Forgetting
-- ==== Proof.FoxArrays.lean ====
module
public import proofs.«01_k».proof.Proof.FoxBlocks
public import proofs.«01_k».proof.Proof.FoxOuts
public import proofs.«01_k».proof.Proof.Gen.Kernel3Ideal.Value
public import Idealize.ShloMosaic.Lib.Pipeline.ValueKit.Geometry

/-! What the gradient call's four output arrays hold after the run. -/

@[expose] public section

set_option maxRecDepth 16384

noncomputable section

namespace Forgetting

open Idealize.ShloMosaic Idealize.ShloMosaic.ValueIdx Idealize.ShloMosaic.TcCoe Idealize.ShloMosaic.Pipeline Cert.Kernel3Ideal Cert.Kernel3Ideal.Gen
open StickBreaking (Rep sc)

/-- The running sums' gradient array after point `n = 8·head + row block`: the earlier heads' rows are done, the head's own row
holds what its queries so far give, the others are zero. -/
def rowsAt (a : Arr) (n j s : ℕ) : ℝ :=
  if j = n / 8 + 8 then (a.head (n / 8)).dc (512 * (n % 8) + 512) (512 * (n % 8) + 512) s else dcRows a (n / 8) j s

theorem rowsAt_own (a : Arr) {n j : ℕ} (s : ℕ) (h : j = n / 8 + 8) : rowsAt a n j s = (a.head (n / 8)).dc (512 * (n % 8) + 512) (512 * (n % 8) + 512) s :=
  if_pos h

theorem rowsAt_other (a : Arr) {n j : ℕ} (s : ℕ) (h : ¬j = n / 8 + 8) : rowsAt a n j s = dcRows a (n / 8) j s := if_neg h

/-- A head's last point leaves its row done. -/
theorem rowsAt_last (a : Arr) {n : ℕ} (h : n % 8 = 7) (j s : ℕ) : rowsAt a n j s = dcRows a (n / 8 + 1) j s := by
  unfold rowsAt dcRows
  rw [h]
  by_cases e : j = n / 8 + 8
  · rw [if_pos e, if_pos (by omega), show j - 8 = n / 8 by omega]
  · rw [if_neg e]
    exact if_congr (by omega) rfl rfl

/-- After point `n`: the block's query gradient, the head's key and value gradients over the queries seen so far, and the running
sums' gradient. -/
structure PointOut (a : Arr) (n : ℕ) (o : Vec Ideal S512x128 .f32 × Vec Ideal S4096x128 .f32 × Vec Ideal S4096x128 .f32 × Vec Ideal S128x4096 .f32) : Prop where
  q : Rep o.1 (fun r d => (a.head (n / 8)).dq 4096 (512 * (n % 8) + r) d * sc)
  k : Rep o.2.1 ((a.head (n / 8)).dk (512 * (n % 8) + 512))
  v : Rep o.2.2.1 ((a.head (n / 8)).dv (512 * (n % 8) + 512))
  c : Rep o.2.2.2 (rowsAt a n)

theorem PointOut.of {a : Arr} {n : ℕ} {i : grid0.Coords} {F : ℕ → ℕ → ℝ} {o8 : Vec Ideal S512x128 .f32} {o9 o10 : Vec Ideal S4096x128 .f32} {o11 : Vec Ideal S128x4096 .f32}
    (h1 : (i 1).val = n % 8) (h0 : (i 0).val = n / 8) (hF : ∀ j s, ¬j = n / 8 + 8 → F j s = dcRows a (n / 8) j s)
    (o : Outs (a.head (n / 8)) i F o8 o9 o10 o11) : PointOut a n (o8, o9, o10, o11) := by
  obtain ⟨q, k, v, c⟩ := o
  rw [h1] at q k v c
  rw [h0] at c
  refine ⟨q, k, v, c.congr fun j s _ _ => ?_⟩
  by_cases e : j = n / 8 + 8
  · rw [if_pos e, rowsAt_own a s e]
  · rw [if_neg e, rowsAt_other a s e, hF j s e]

theorem PointOut.k_at {a : Arr} {n : ℕ} {o : Vec Ideal S512x128 .f32 × Vec Ideal S4096x128 .f32 × Vec Ideal S4096x128 .f32 × Vec Ideal S128x4096 .f32}
    (P : PointOut a n o) {b T : ℕ} (hb : n / 8 = b) (hT : 512 * (n % 8) + 512 = T) : Rep o.2.1 ((a.head b).dk T) := by
  subst hb hT; exact P.k

theorem PointOut.v_at {a : Arr} {n : ℕ} {o : Vec Ideal S512x128 .f32 × Vec Ideal S4096x128 .f32 × Vec Ideal S4096x128 .f32 × Vec Ideal S128x4096 .f32}
    (P : PointOut a n o) {b T : ℕ} (hb : n / 8 = b) (hT : 512 * (n % 8) + 512 = T) : Rep o.2.2.1 ((a.head b).dv T) := by
  subst hb hT; exact P.v

theorem own_at (a : Arr) {n b T j : ℕ} (s : ℕ) (hb : n / 8 = b) (hT : 512 * (n % 8) + 512 = T) (hj : j = b) : rowsAt a n (j + 8) s = (a.head b).dc T T s := by
  subst hb hT hj; exact rowsAt_own a s rfl

variable (m : (ℓ : Loc nD τ sig) → Buf (Elt Ideal) ℓ) (c : Dev nD) {a : Arr}
  (H : Given a (m ((c : Thread nD τ).loc main_arg0)) (m ((c : Thread nD τ).loc main_arg1)) (m ((c : Thread nD τ).loc main_arg2))
    (m ((c : Thread nD τ).loc main_arg3)) (m ((c : Thread nD τ).loc main_arg4)))

include H in
theorem point_first (t : Fin cfg0.N) (h0 : t.val % 8 = 0) (h1 : t.val % 32 = 0) : PointOut a t.val (outsAt0 m c t.val t.isLt) := by
  have ht : t.val < 32 := N_0 ▸ t.isLt
  have hF : ∀ j s, ¬j = t.val / 8 + 8 → (fun _ _ => 0 : ℕ → ℕ → ℝ) j s = dcRows a (t.val / 8) j s := fun j s _ => (if_neg (by omega)).symm
  have o := outA c (grid0.coords t) ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t,
      ms0_8 t, hs0_8 t, ms0_9 t, hs0_9 t, ms0_10 t, hs0_10 t, ms0_11 t, hs0_11 t⟩
    (pointIn m c H t) ((hcond0_0 t).mpr h0) ((hcond0_1 t).mpr h1) ((coord_row t).trans h0)
  dsimp only at o
  rw [outsAt0_A m c t h0 h1]
  exact PointOut.of (coord_row t) (coord_head t) hF o

include H in
theorem point_next (t : Fin cfg0.N) (h0 : ¬t.val % 8 = 0)
    (P : PointOut a (t.val - 1) (outsAt0 m c (t.val - 1) (Nat.lt_of_le_of_lt (Nat.sub_le _ _) t.isLt))) :
    PointOut a t.val (outsAt0 m c t.val t.isLt) := by
  have h1 : ¬t.val % 32 = 0 := by omega
  have q : (t.val - 1) / 8 = t.val / 8 := by omega
  have r : 512 * ((t.val - 1) % 8) + 512 = 512 * (grid0.coords t 1).val := by rw [coord_row]; omega
  have hF : ∀ j s, ¬j = t.val / 8 + 8 → rowsAt a (t.val - 1) j s = dcRows a (t.val / 8) j s := fun j s e => by
    rw [rowsAt_other a s (by rw [q]; exact e), q]
  have o := outB c (grid0.coords t) ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t,
      ms0_8 t, hs0_8 t, ms0_9 t, hs0_9 t, ms0_10 t, hs0_10 t, ms0_11 t, hs0_11 t⟩
    (pointIn m c H t) (fun h => h0 ((hcond0_0 t).mp h)) (fun h => h1 ((hcond0_1 t).mp h)) _ _ _
    (P.k_at q r) (P.v_at q r) P.c (fun s => own_at a s q r (coord_head t))
  dsimp only at o
  rw [outsAt0_B m c t h0 h1]
  exact PointOut.of (coord_row t) (coord_head t) hF o

include H in
theorem point_head (t : Fin cfg0.N) (h0 : t.val % 8 = 0) (h1 : ¬t.val % 32 = 0)
    (P : PointOut a (t.val - 1) (outsAt0 m c (t.val - 1) (Nat.lt_of_le_of_lt (Nat.sub_le _ _) t.isLt))) :
    PointOut a t.val (outsAt0 m c t.val t.isLt) := by
  have l : (t.val - 1) % 8 = 7 := by omega
  have q : (t.val - 1) / 8 + 1 = t.val / 8 := by omega
  have hF : ∀ j s, ¬j = t.val / 8 + 8 → rowsAt a (t.val - 1) j s = dcRows a (t.val / 8) j s := fun j s _ => by rw [rowsAt_last a l, q]
  have hz : ∀ s, rowsAt a (t.val - 1) ((grid0.coords t 0).val + 8) s = 0 := fun s => by
    rw [rowsAt_last a l, q, coord_head]
    exact if_neg (by omega)
  have o := outC c (grid0.coords t) ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t,
      ms0_8 t, hs0_8 t, ms0_9 t, hs0_9 t, ms0_10 t, hs0_10 t, ms0_11 t, hs0_11 t⟩
    (pointIn m c H t) ((hcond0_0 t).mpr h0) (fun h => h1 ((hcond0_1 t).mp h)) ((coord_row t).trans h0) _ P.c hz
  dsimp only at o
  rw [outsAt0_C m c t h0 h1]
  exact PointOut.of (coord_row t) (coord_head t) hF o

include H in
theorem outs_rep (n : ℕ) : ∀ hn : n < cfg0.N, PointOut a n (outsAt0 m c n hn) := by
  induction n with
  | zero => exact fun hn => point_first m c H ⟨0, hn⟩ (Nat.zero_mod 8) (Nat.zero_mod 32)
  | succ n ih =>
    intro hn
    have P := ih (Nat.lt_of_succ_lt hn)
    by_cases h0 : (n + 1) % 8 = 0
    · by_cases h1 : (n + 1) % 32 = 0
      · exact point_first m c H ⟨n + 1, hn⟩ h0 h1
      · exact point_head m c H ⟨n + 1, hn⟩ h0 h1 P
    · exact point_next m c H ⟨n + 1, hn⟩ h0 P

theorem index_out : ∀ t : Fin cfg0.N,
    ((win0_8.index t (0 : Fin 2) = t.val % 8 ∧ win0_8.index t (1 : Fin 2) = t.val / 8)
      ∧ (win0_9.index t (0 : Fin 2) = 0 ∧ win0_9.index t (1 : Fin 2) = t.val / 8)
      ∧ (win0_10.index t (0 : Fin 2) = 0 ∧ win0_10.index t (1 : Fin 2) = t.val / 8)
      ∧ (win0_11.index t (0 : Fin 2) = 0 ∧ win0_11.index t (1 : Fin 2) = 0))
    ∧ (win0_9.flush t = true → t.val % 8 = 7) ∧ (win0_10.flush t = true → t.val % 8 = 7) ∧ (win0_11.flush t = true → t.val = 31) :=
  (by decide +kernel : ∀ t : Fin grid0.N, _)

include H in
theorem arr8 : Rep ((dats m 0 c).arrAt 8 cfg0.N : Vec Ideal S4096x512 .f32) (fun t n => (a.head (n / 128)).dq 4096 t (n % 128) * sc) := by
  intro r n
  refine (dats m 0 c).arrAt_forall_of_covers 8 (fun i v => v = ((((a.head ((i 1).val / 128)).dq 4096 (i 0).val ((i 1).val % 128) * sc : ℝ)) : EReal))
    (by decide +kernel) ?_ (ix2 r n)
  intro t _ y
  have e := (index_out t).1.1
  have e0 : ((((cfg0.win 8).blk t).view.emb y) 0).val = 512 * (t.val % 8) + (y 0).val := by
    refine (win0_8.rect_emb_val t y 0).trans ?_
    rw [e.1]; show _ * 512 + _ = _; omega
  have e1 : ((((cfg0.win 8).blk t).view.emb y) 1).val = 128 * (t.val / 8) + (y 1).val := by
    refine (win0_8.rect_emb_val t y 1).trans ?_
    rw [e.2]; show _ * 128 + _ = _; omega
  have hy : (y 1).val < 128 := (y 1).isLt
  have hq : (128 * (t.val / 8) + (y 1).val) / 128 = t.val / 8 := by omega
  have hm : (128 * (t.val / 8) + (y 1).val) % 128 = (y 1).val := by omega
  dsimp only
  rw [e0, e1, hq, hm, after0_8]
  exact (outs_rep m c H t.val t.isLt).q.at _ rfl rfl

include H in
theorem arr9 : Rep ((dats m 0 c).arrAt 9 cfg0.N : Vec Ideal S4096x512 .f32) (fun t n => (a.head (n / 128)).dk 4096 t (n % 128)) := by
  intro r n
  refine (dats m 0 c).arrAt_forall_of_covers 9 (fun i v => v = ((((a.head ((i 1).val / 128)).dk 4096 (i 0).val ((i 1).val % 128) : ℝ)) : EReal))
    (by decide +kernel) ?_ (ix2 r n)
  intro t hf y
  have e := (index_out t).1.2.1
  have h7 := (index_out t).2.1 hf
  have e0 : ((((cfg0.win 9).blk t).view.emb y) 0).val = (y 0).val := by
    refine (win0_9.rect_emb_val t y 0).trans ?_
    rw [e.1]; show _ * 4096 + _ = _; omega
  have e1 : ((((cfg0.win 9).blk t).view.emb y) 1).val = 128 * (t.val / 8) + (y 1).val := by
    refine (win0_9.rect_emb_val t y 1).trans ?_
    rw [e.2]; show _ * 128 + _ = _; omega
  have hy : (y 1).val < 128 := (y 1).isLt
  have hq : (128 * (t.val / 8) + (y 1).val) / 128 = t.val / 8 := by omega
  have hm : (128 * (t.val / 8) + (y 1).val) % 128 = (y 1).val := by omega
  have o := (outs_rep m c H t.val t.isLt).k_at rfl (show 512 * (t.val % 8) + 512 = 4096 by omega)
  dsimp only
  rw [e0, e1, hq, hm, after0_9]
  exact o.at _ rfl rfl

include H in
theorem arr10 : Rep ((dats m 0 c).arrAt 10 cfg0.N : Vec Ideal S4096x512 .f32) (fun t n => (a.head (n / 128)).dv 4096 t (n % 128)) := by
  intro r n
  refine (dats m 0 c).arrAt_forall_of_covers 10 (fun i v => v = ((((a.head ((i 1).val / 128)).dv 4096 (i 0).val ((i 1).val % 128) : ℝ)) : EReal))
    (by decide +kernel) ?_ (ix2 r n)
  intro t hf y
  have e := (index_out t).1.2.2.1
  have h7 := (index_out t).2.2.1 hf
  have e0 : ((((cfg0.win 10).blk t).view.emb y) 0).val = (y 0).val := by
    refine (win0_10.rect_emb_val t y 0).trans ?_
    rw [e.1]; show _ * 4096 + _ = _; omega
  have e1 : ((((cfg0.win 10).blk t).view.emb y) 1).val = 128 * (t.val / 8) + (y 1).val := by
    refine (win0_10.rect_emb_val t y 1).trans ?_
    rw [e.2]; show _ * 128 + _ = _; omega
  have hy : (y 1).val < 128 := (y 1).isLt
  have hq : (128 * (t.val / 8) + (y 1).val) / 128 = t.val / 8 := by omega
  have hm : (128 * (t.val / 8) + (y 1).val) % 128 = (y 1).val := by omega
  have o := (outs_rep m c H t.val t.isLt).v_at rfl (show 512 * (t.val % 8) + 512 = 4096 by omega)
  dsimp only
  rw [e0, e1, hq, hm, after0_10]
  exact o.at _ rfl rfl

include H in
theorem arr11 : Rep ((dats m 0 c).arrAt 11 cfg0.N : Vec Ideal S128x4096 .f32) (dcRows a 4) := by
  intro j s
  refine (dats m 0 c).arrAt_forall_of_covers 11 (fun i v => v = ((dcRows a 4 (i 0).val (i 1).val : ℝ) : EReal)) (by decide +kernel) ?_ (ix2 j s)
  intro t hf y
  have e := (index_out t).1.2.2.2
  have h31 := (index_out t).2.2.2 hf
  have e0 : ((((cfg0.win 11).blk t).view.emb y) 0).val = (y 0).val := by
    refine (win0_11.rect_emb_val t y 0).trans ?_
    rw [e.1]; show _ * 128 + _ = _; omega
  have e1 : ((((cfg0.win 11).blk t).view.emb y) 1).val = (y 1).val := by
    refine (win0_11.rect_emb_val t y 1).trans ?_
    rw [e.2]; show _ * 4096 + _ = _; omega
  have o := (outs_rep m c H t.val t.isLt).c
  dsimp only
  rw [e0, e1, after0_11, show (4 : ℕ) = t.val / 8 + 1 by omega, ← rowsAt_last a (show t.val % 8 = 7 by omega)]
  exact o.at _ rfl rfl

end Forgetting
-- ==== Proof.FoxFinite.lean ====
module
public import proofs.«01_k».proof.Proof.FoxRef
public import proofs.«01_k».proof.Proof.Finite
public import proofs.«01_k».proof.Proof.Gen.Pre_finite3
public import Idealize.ShloMosaic.Lib.ReduceAll

/-! The precondition, decoded: the queries, keys, values and the arriving gradient are arrays of reals, and so are the heads' lanes
of the running sums. -/

@[expose] public section

set_option maxRecDepth 16384

noncomputable section

namespace Forgetting

open Idealize.ShloMosaic Idealize.ShloMosaic.ValueIdx Cert.Pre_finite3
open StickBreaking (coe_of_lt rep_of_entries ofBits_top Rep)

theorem finite_given (x0 x1 x2 : FVec Ideal S4096x512 .bf16) (x3 : FVec Ideal S4096x128 .f32) (x4 : FVec Ideal S4096x512 .f32)
    (h : @fn Gen.facts Ideal _ x0 x1 x2 x3 x4 = fun _ => 1#1) : ∃ a, Given a x0 x1 x2 x3 x4 := by
  have e := congrFun h (Shape.Idx.first (show 0 < S_.numel by decide))
  obtain ⟨e1, e4⟩ := IntOp.andi_eq_one.mp e
  obtain ⟨e2, e3⟩ := IntOp.andi_eq_one.mp e1
  obtain ⟨e5, e6⟩ := IntOp.andi_eq_one.mp e2
  obtain ⟨e7, e8⟩ := IntOp.andi_eq_one.mp e5
  haveI : Subsingleton S_.Idx := ⟨fun a b => funext fun i => i.elim0⟩
  have k0 := Host.reduce_andi_all _ _ _ _ _ e7
  have k1 := Host.reduce_andi_all _ _ _ _ _ e8
  have k2 := Host.reduce_andi_all _ _ _ _ _ e6
  have k3 := Host.reduce_andi_all _ _ _ _ _ e3
  have k4 := Host.reduce_andi_all _ _ _ _ _ e4
  obtain ⟨A, hA⟩ : ∃ A, Rep x0 A := rep_of_entries fun i => coe_of_lt (by rw [← ofBits_top]; exact k0 i)
  obtain ⟨B, hB⟩ : ∃ B, Rep x1 B := rep_of_entries fun i => coe_of_lt (by rw [← ofBits_top]; exact k1 i)
  obtain ⟨W, hW⟩ : ∃ W, Rep x2 W := rep_of_entries fun i => coe_of_lt (by rw [← ofBits_top]; exact k2 i)
  obtain ⟨C, hC⟩ : ∃ C, Rep (extractStridedSlice (s := S4096x128) S4096x4 ![0, 8] x3 Gen.facts.slices_S4096x128_S4096x4_0_8 : FVec Ideal S4096x4 .f32) C :=
    rep_of_entries fun i => coe_of_lt (by rw [← ofBits_top]; exact k3 i)
  obtain ⟨G, hG⟩ : ∃ G, Rep x4 G := rep_of_entries fun i => coe_of_lt (by rw [← ofBits_top]; exact k4 i)
  refine ⟨⟨A, B, W, C, G⟩, hA, hB, hW, fun j h8 h12 => ?_, hG⟩
  refine Eq.trans ?_ (hC (j 0 : Fin 4096) (⟨(j 1).val - 8, by omega⟩ : Fin 4))
  refine (extractStridedSlice_apply (s := S4096x128) (t := S4096x4) ![0, 8] x3 _ _ j fun b => match b with
    | ⟨0, _⟩ => ?_
    | ⟨1, _⟩ => ?_).symm
  · show (j 0).val = 0 + (j 0).val; omega
  · show (j 1).val = 8 + ((j 1).val - 8); omega

end Forgetting
-- ==== Proof.FoxEqual.lean ====
module
public import proofs.«01_k».proof.Proof.FoxArrays
public import proofs.«01_k».proof.Proof.FoxFinite
public import proofs.«01_k».proof.Proof.Equal

/-! The equation of the forgetting attention: the call's arrays are the reference's gradients, entry by entry. -/

@[expose] public section

set_option maxRecDepth 16384

noncomputable section

namespace Forgetting

open Idealize.ShloMosaic Idealize.ShloMosaic.ValueIdx Idealize.ShloMosaic.TcCoe Cert.Kernel3Ideal Cert.Kernel3Ideal.Gen
open Cert.Reference3Ideal.Read (val_main_v91 val_main_v93 val_main_v95 val_main_v96)

theorem arrays_eq (m : (ℓ : Loc nD τ sig) → Buf (Elt Ideal) ℓ) (c : Dev nD)
    (hfin : @Cert.Pre_finite3.fn Cert.Pre_finite3.Gen.facts Ideal _ (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1) :
    (val_main_v95 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) : Vec Ideal S4096x512 .f32) = (dats m 0 c).arrAt 8 cfg0.N
    ∧ (val_main_v93 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) : Vec Ideal S4096x512 .f32) = (dats m 0 c).arrAt 9 cfg0.N
    ∧ (val_main_v91 (F := Ideal) (m ((c : Thread nD τ).loc main_arg0)) (m ((c : Thread nD τ).loc main_arg1))
        (m ((c : Thread nD τ).loc main_arg3)) (m ((c : Thread nD τ).loc main_arg4)) : Vec Ideal S4096x512 .f32) = (dats m 0 c).arrAt 10 cfg0.N
    ∧ (val_main_v96 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) : Vec Ideal S128x4096 .f32) = (dats m 0 c).arrAt 11 cfg0.N := by
  obtain ⟨a, H⟩ := finite_given _ _ _ _ _ hfin
  exact ⟨(ref_dq H).eq (arr8 m c H), (ref_dk H).eq (arr9 m c H), (ref_dv H).eq (arr10 m c H), (ref_dc H).eq (arr11 m c H)⟩

end Forgetting
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal.Run
public import proofs.«01_k».proof.Proof.Gen.Reference2Ideal.Read
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Reference3Ideal
public import proofs.«01_k».proof.Proof.Gen.Pre_finite3
public import proofs.«01_k».proof.Proof.Equal
public import proofs.«01_k».proof.Proof.FfnLaunch
public import proofs.«01_k».proof.Proof.FfnEqual
public import proofs.«01_k».proof.Proof.FoxEqual
public import Idealize.ShloMosaic.Adequacy
public import Idealize.ShloMosaic.Init

/-! The certificate: the frames are the generated runs, and the value claim sets the call's arrays (Proof/Arrays.lean) beside
the reference's gradients (Proof/Ref.lean) by the equation of Proof/Equal.lean.  The half step's value claim sets its calls' arrays
(Proof/FfnRun.lean) beside its reference's (Proof/FfnRef.lean).  The forgetting attention's value claim is Proof/FoxEqual.lean's
equation of its call's arrays (Proof/FoxArrays.lean) and its reference's gradients (Proof/FoxRef.lean). -/

@[expose] public section

noncomputable section

namespace Cert.Proof

open Idealize.ShloMosaic Idealize.SL.Sem

/-- The reference runs, and it declares no semaphore. -/
theorem frame_reference (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r =>
      (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1))
      ∧ r.2.sem = fun _ => 0) :=
  (θ_run _ _ _).mono (fun r h => ⟨fun c => (h c).2.2.2, sem_eq_zero_of_no_sems (by decide) r.2⟩) (ReferenceIdeal.Value.run m g)

theorem algebraic : @algebraic_KernelIdeal_ReferenceIdeal_pre_finite KernelIdeal.Gen.facts ReferenceIdeal.Gen.facts Pre_finite.Gen.facts := by
  intro m g m' g' hpre hargs
  refine ⟨_, _, _, KernelIdeal.Value.run_blocks m g, (θ_run _ _ _).mono (fun r h c => ?_) (ReferenceIdeal.Value.run m' g')⟩
  obtain ⟨q, k, v⟩ := StickBreaking.arrays_eq m c (hpre c)
  obtain ⟨h0, h1, h2, h3⟩ := h c
  refine ⟨h0.trans ?_, h1.trans ?_, h2.trans ?_, h3⟩
  · rw [ReferenceIdeal.Read.val_main_v55_eq, (hargs c).1, (hargs c).2]; exact q
  · rw [ReferenceIdeal.Read.val_main_v53_eq, (hargs c).1, (hargs c).2]; exact k
  · rw [ReferenceIdeal.Read.val_main_v51_eq, (hargs c).1, (hargs c).2]; exact v

/-- The half step's reference runs, and it declares no semaphore. -/
theorem frame_reference2 (m : (ℓ : Loc Reference2Ideal.nD Reference2Ideal.τ Reference2Ideal.sig) → Buf (Elt Ideal) ℓ) (g : Dev Reference2Ideal.nD → PrngReg) :
    θ_run (Reference2Ideal.defs (F := Ideal)) (onTc (τ := Reference2Ideal.τ) (Reference2Ideal.main (F := Ideal))) ⟨m, fun _ => 0, g⟩ (fun r =>
      (∀ c : Dev Reference2Ideal.nD,
        r.2.mem ((c.tc : Thread Reference2Ideal.nD Reference2Ideal.τ).loc Reference2Ideal.main_arg0) = m ((c.tc : Thread Reference2Ideal.nD Reference2Ideal.τ).loc Reference2Ideal.main_arg0)
        ∧ r.2.mem ((c.tc : Thread Reference2Ideal.nD Reference2Ideal.τ).loc Reference2Ideal.main_arg1) = m ((c.tc : Thread Reference2Ideal.nD Reference2Ideal.τ).loc Reference2Ideal.main_arg1)
        ∧ r.2.mem ((c.tc : Thread Reference2Ideal.nD Reference2Ideal.τ).loc Reference2Ideal.main_arg2) = m ((c.tc : Thread Reference2Ideal.nD Reference2Ideal.τ).loc Reference2Ideal.main_arg2)
        ∧ r.2.mem ((c.tc : Thread Reference2Ideal.nD Reference2Ideal.τ).loc Reference2Ideal.main_arg3) = m ((c.tc : Thread Reference2Ideal.nD Reference2Ideal.τ).loc Reference2Ideal.main_arg3)
        ∧ r.2.mem ((c.tc : Thread Reference2Ideal.nD Reference2Ideal.τ).loc Reference2Ideal.main_arg4) = m ((c.tc : Thread Reference2Ideal.nD Reference2Ideal.τ).loc Reference2Ideal.main_arg4))
      ∧ r.2.sem = fun _ => 0) :=
  (θ_run _ _ _).mono (fun r h => ⟨fun c => (h c).2.2.2.2.2, sem_eq_zero_of_no_sems (by decide) r.2⟩) (Reference2Ideal.Value.run m g)

theorem algebraic2 : @algebraic_Kernel2Ideal_Reference2Ideal Kernel2Ideal.Gen.facts Reference2Ideal.Gen.facts := by
  intro m g m' g' _ hargs
  refine ⟨_, _, _, _, _, HalfStep.run m g, (θ_run _ _ _).mono (fun r h c => ?_) (Reference2Ideal.Value.run m' g')⟩
  obtain ⟨a0, a1, a2, a3, a4⟩ := hargs c
  obtain ⟨h0, h1, h2, h3, h4, h5⟩ := h c
  refine ⟨h0.trans ?_, h1.trans ?_, h2.trans ?_, h3.trans ?_, h4.trans ?_, h5⟩
  · rw [Reference2Ideal.Read.val_main_v25_eq, a0, a1, a2, a3]; exact HalfStep.out_eq m g c
  · rw [Reference2Ideal.Read.val_main_v58_eq, a0, a1, a2, a3, a4]; exact HalfStep.dX_eq m g c
  · rw [Reference2Ideal.Read.val_main_v41_eq, a0, a1, a2, a3, a4]; exact HalfStep.dG_eq m g c
  · rw [Reference2Ideal.Read.val_main_v59_eq, a0, a1, a2, a3, a4]; exact HalfStep.dU_eq m g c
  · rw [Reference2Ideal.Read.val_main_v60_eq, a0, a1, a2, a4]; exact HalfStep.dD_eq m g c

/-- The forgetting attention's reference runs, and it declares no semaphore. -/
theorem frame_reference3 (m : (ℓ : Loc Reference3Ideal.nD Reference3Ideal.τ Reference3Ideal.sig) → Buf (Elt Ideal) ℓ) (g : Dev Reference3Ideal.nD → PrngReg) :
    θ_run (Reference3Ideal.defs (F := Ideal)) (onTc (τ := Reference3Ideal.τ) (Reference3Ideal.main (F := Ideal))) ⟨m, fun _ => 0, g⟩ (fun r =>
      (∀ c : Dev Reference3Ideal.nD,
        r.2.mem ((c.tc : Thread Reference3Ideal.nD Reference3Ideal.τ).loc Reference3Ideal.main_arg0) = m ((c.tc : Thread Reference3Ideal.nD Reference3Ideal.τ).loc Reference3Ideal.main_arg0)
        ∧ r.2.mem ((c.tc : Thread Reference3Ideal.nD Reference3Ideal.τ).loc Reference3Ideal.main_arg1) = m ((c.tc : Thread Reference3Ideal.nD Reference3Ideal.τ).loc Reference3Ideal.main_arg1)
        ∧ r.2.mem ((c.tc : Thread Reference3Ideal.nD Reference3Ideal.τ).loc Reference3Ideal.main_arg2) = m ((c.tc : Thread Reference3Ideal.nD Reference3Ideal.τ).loc Reference3Ideal.main_arg2)
        ∧ r.2.mem ((c.tc : Thread Reference3Ideal.nD Reference3Ideal.τ).loc Reference3Ideal.main_arg3) = m ((c.tc : Thread Reference3Ideal.nD Reference3Ideal.τ).loc Reference3Ideal.main_arg3)
        ∧ r.2.mem ((c.tc : Thread Reference3Ideal.nD Reference3Ideal.τ).loc Reference3Ideal.main_arg4) = m ((c.tc : Thread Reference3Ideal.nD Reference3Ideal.τ).loc Reference3Ideal.main_arg4))
      ∧ r.2.sem = fun _ => 0) :=
  (θ_run _ _ _).mono (fun r h => ⟨fun c => (h c).2.2.2.2, sem_eq_zero_of_no_sems (by decide) r.2⟩) (Reference3Ideal.Value.run m g)

theorem algebraic3 : @algebraic_Kernel3Ideal_Reference3Ideal_pre_finite3 Kernel3Ideal.Gen.facts Reference3Ideal.Gen.facts Pre_finite3.Gen.facts := by
  intro m g m' g' hpre hargs
  refine ⟨_, _, _, _, Kernel3Ideal.Value.run_blocks m g, (θ_run _ _ _).mono (fun r h c => ?_) (Reference3Ideal.Value.run m' g')⟩
  obtain ⟨q, k, v, d⟩ := Forgetting.arrays_eq m c (hpre c)
  obtain ⟨a0, a1, a2, a3, a4⟩ := hargs c
  obtain ⟨h0, h1, h2, h3, h4⟩ := h c
  refine ⟨h0.trans ?_, h1.trans ?_, h2.trans ?_, h3.trans ?_, h4⟩
  · rw [Reference3Ideal.Read.val_main_v95_eq, a0, a1, a2, a3, a4]; exact q
  · rw [Reference3Ideal.Read.val_main_v93_eq, a0, a1, a2, a3, a4]; exact k
  · rw [Reference3Ideal.Read.val_main_v91_eq, a0, a1, a3, a4]; exact v
  · rw [Reference3Ideal.Read.val_main_v96_eq, a0, a1, a2, a3, a4]; exact d

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Pre_finite.Gen.facts, Cert.Pre_finite3.Gen.facts,
    fun m g _ => Kernel.Gen.frame m g, fun m g _ => KernelIdeal.Gen.frame m g, fun m g _ => KernelIdeal.Gen.frame m g,
    fun m g _ => frame_reference m g, fun m g _ => frame_reference m g,
    fun m g _ => Kernel2.Gen.frame m g, fun m g _ => Kernel2Ideal.Gen.frame m g, fun m g _ => frame_reference2 m g,
    fun m g _ => Kernel3.Gen.frame m g, fun m g _ => Kernel3Ideal.Gen.frame m g, fun m g _ => Kernel3Ideal.Gen.frame m g,
    fun m g _ => frame_reference3 m g, fun m g _ => frame_reference3 m g,
    trivial, algebraic, trivial, algebraic2, trivial, algebraic3⟩

end Cert.Proof

end
